-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_ConvProj (m : (ℓ : Loc Cert.ConvProj.nD Cert.ConvProj.τ Cert.ConvProj.sig) → Buf (Elt Bits) ℓ) : Prop :=
  True

def Pre_ConvProjIdeal (m : (ℓ : Loc Cert.ConvProjIdeal.nD Cert.ConvProjIdeal.τ Cert.ConvProjIdeal.sig) → Buf (Elt Ideal) ℓ) : Prop :=
  True

def Pre_ConvProjReferenceIdeal (m : (ℓ : Loc Cert.ConvProjReferenceIdeal.nD Cert.ConvProjReferenceIdeal.τ Cert.ConvProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_AttnProj (m : (ℓ : Loc Cert.AttnProj.nD Cert.AttnProj.τ Cert.AttnProj.sig) → Buf (Elt Bits) ℓ) : Prop :=
  True

def Pre_AttnProjIdeal (m : (ℓ : Loc Cert.AttnProjIdeal.nD Cert.AttnProjIdeal.τ Cert.AttnProjIdeal.sig) → Buf (Elt Ideal) ℓ) : Prop :=
  True

def Pre_AttnProjReferenceIdeal (m : (ℓ : Loc Cert.AttnProjReferenceIdeal.nD Cert.AttnProjReferenceIdeal.τ Cert.AttnProjReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_CtxProj (m : (ℓ : Loc Cert.CtxProj.nD Cert.CtxProj.τ Cert.CtxProj.sig) → Buf (Elt Bits) ℓ) : Prop :=
  True

def Pre_CtxProjIdeal (m : (ℓ : Loc Cert.CtxProjIdeal.nD Cert.CtxProjIdeal.τ Cert.CtxProjIdeal.sig) → Buf (Elt Ideal) ℓ) : Prop :=
  True

def Pre_CtxProjReferenceIdeal (m : (ℓ : Loc Cert.CtxProjReferenceIdeal.nD Cert.CtxProjReferenceIdeal.τ Cert.CtxProjReferenceIdeal.sig) → Buf (Elt Ideal) ℓ) : Prop :=
  True

def Pre_CombineInner (m : (ℓ : Loc Cert.CombineInner.nD Cert.CombineInner.τ Cert.CombineInner.sig) → Buf (Elt Bits) ℓ) : Prop :=
  True

def Pre_CombineInnerIdeal (m : (ℓ : Loc Cert.CombineInnerIdeal.nD Cert.CombineInnerIdeal.τ Cert.CombineInnerIdeal.sig) → Buf (Elt Ideal) ℓ) : Prop :=
  True

def Pre_CombineInnerReferenceIdeal (m : (ℓ : Loc Cert.CombineInnerReferenceIdeal.nD Cert.CombineInnerReferenceIdeal.τ Cert.CombineInnerReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_ConvProj [hConvProj : Cert.ConvProj.Facts] : Prop :=
  ∀ (m : (ℓ : Loc Cert.ConvProj.nD Cert.ConvProj.τ Cert.ConvProj.sig) → Buf (Elt Bits) ℓ) (g : Dev Cert.ConvProj.nD → PrngReg), Pre_ConvProj m →
    θ_run (Cert.ConvProj.defs (F := Bits)) (onTc (τ := Cert.ConvProj.τ) (Cert.ConvProj.main (F := Bits))) ⟨m, fun _ => 0, g⟩ (fun r => (∀ c : Dev Cert.ConvProj.nD,
      r.2.mem ((c.tc : Thread Cert.ConvProj.nD Cert.ConvProj.τ).loc Cert.ConvProj.main_arg0) = m ((c.tc : Thread Cert.ConvProj.nD Cert.ConvProj.τ).loc Cert.ConvProj.main_arg0)
      ∧ r.2.mem ((c.tc : Thread Cert.ConvProj.nD Cert.ConvProj.τ).loc Cert.ConvProj.main_arg1) = m ((c.tc : Thread Cert.ConvProj.nD Cert.ConvProj.τ).loc Cert.ConvProj.main_arg1)
      ∧ r.2.mem ((c.tc : Thread Cert.ConvProj.nD Cert.ConvProj.τ).loc Cert.ConvProj.main_arg2) = m ((c.tc : Thread Cert.ConvProj.nD Cert.ConvProj.τ).loc Cert.ConvProj.main_arg2)
      ∧ r.2.mem ((c.tc : Thread Cert.ConvProj.nD Cert.ConvProj.τ).loc Cert.ConvProj.main_arg3) = m ((c.tc : Thread Cert.ConvProj.nD Cert.ConvProj.τ).loc Cert.ConvProj.main_arg3)
      ∧ r.2.mem ((c.tc : Thread Cert.ConvProj.nD Cert.ConvProj.τ).loc Cert.ConvProj.main_arg4) = m ((c.tc : Thread Cert.ConvProj.nD Cert.ConvProj.τ).loc Cert.ConvProj.main_arg4))
      ∧ r.2.sem = fun _ => 0)

def quiescent_ConvProjIdeal [hConvProjIdeal : Cert.ConvProjIdeal.Facts] : Prop :=
  ∀ (m : (ℓ : Loc Cert.ConvProjIdeal.nD Cert.ConvProjIdeal.τ Cert.ConvProjIdeal.sig) → Buf (Elt Ideal) ℓ) (g : Dev Cert.ConvProjIdeal.nD → PrngReg), Pre_ConvProjIdeal m →
    θ_run (Cert.ConvProjIdeal.defs (F := Ideal)) (onTc (τ := Cert.ConvProjIdeal.τ) (Cert.ConvProjIdeal.main (F := Ideal))) ⟨m, fun _ => 0, g⟩ (fun r => (∀ c : Dev Cert.ConvProjIdeal.nD,
      r.2.mem ((c.tc : Thread Cert.ConvProjIdeal.nD Cert.ConvProjIdeal.τ).loc Cert.ConvProjIdeal.main_arg0) = m ((c.tc : Thread Cert.ConvProjIdeal.nD Cert.ConvProjIdeal.τ).loc Cert.ConvProjIdeal.main_arg0)
      ∧ r.2.mem ((c.tc : Thread Cert.ConvProjIdeal.nD Cert.ConvProjIdeal.τ).loc Cert.ConvProjIdeal.main_arg1) = m ((c.tc : Thread Cert.ConvProjIdeal.nD Cert.ConvProjIdeal.τ).loc Cert.ConvProjIdeal.main_arg1)
      ∧ r.2.mem ((c.tc : Thread Cert.ConvProjIdeal.nD Cert.ConvProjIdeal.τ).loc Cert.ConvProjIdeal.main_arg2) = m ((c.tc : Thread Cert.ConvProjIdeal.nD Cert.ConvProjIdeal.τ).loc Cert.ConvProjIdeal.main_arg2)
      ∧ r.2.mem ((c.tc : Thread Cert.ConvProjIdeal.nD Cert.ConvProjIdeal.τ).loc Cert.ConvProjIdeal.main_arg3) = m ((c.tc : Thread Cert.ConvProjIdeal.nD Cert.ConvProjIdeal.τ).loc Cert.ConvProjIdeal.main_arg3)
      ∧ r.2.mem ((c.tc : Thread Cert.ConvProjIdeal.nD Cert.ConvProjIdeal.τ).loc Cert.ConvProjIdeal.main_arg4) = m ((c.tc : Thread Cert.ConvProjIdeal.nD Cert.ConvProjIdeal.τ).loc Cert.ConvProjIdeal.main_arg4))
      ∧ r.2.sem = fun _ => 0)

def quiescent_ConvProjReferenceIdeal [hConvProjReferenceIdeal : Cert.ConvProjReferenceIdeal.Facts] : Prop :=
  ∀ (m : (ℓ : Loc Cert.ConvProjReferenceIdeal.nD Cert.ConvProjReferenceIdeal.τ Cert.ConvProjReferenceIdeal.sig) → Buf (Elt Ideal) ℓ) (g : Dev Cert.ConvProjReferenceIdeal.nD → PrngReg), Pre_ConvProjReferenceIdeal m →
    θ_run (Cert.ConvProjReferenceIdeal.defs (F := Ideal)) (onTc (τ := Cert.ConvProjReferenceIdeal.τ) (Cert.ConvProjReferenceIdeal.main (F := Ideal))) ⟨m, fun _ => 0, g⟩ (fun r => (∀ c : Dev Cert.ConvProjReferenceIdeal.nD,
      r.2.mem ((c.tc : Thread Cert.ConvProjReferenceIdeal.nD Cert.ConvProjReferenceIdeal.τ).loc Cert.ConvProjReferenceIdeal.main_arg0) = m ((c.tc : Thread Cert.ConvProjReferenceIdeal.nD Cert.ConvProjReferenceIdeal.τ).loc Cert.ConvProjReferenceIdeal.main_arg0)
      ∧ r.2.mem ((c.tc : Thread Cert.ConvProjReferenceIdeal.nD Cert.ConvProjReferenceIdeal.τ).loc Cert.ConvProjReferenceIdeal.main_arg1) = m ((c.tc : Thread Cert.ConvProjReferenceIdeal.nD Cert.ConvProjReferenceIdeal.τ).loc Cert.ConvProjReferenceIdeal.main_arg1)
      ∧ r.2.mem ((c.tc : Thread Cert.ConvProjReferenceIdeal.nD Cert.ConvProjReferenceIdeal.τ).loc Cert.ConvProjReferenceIdeal.main_arg2) = m ((c.tc : Thread Cert.ConvProjReferenceIdeal.nD Cert.ConvProjReferenceIdeal.τ).loc Cert.ConvProjReferenceIdeal.main_arg2)
      ∧ r.2.mem ((c.tc : Thread Cert.ConvProjReferenceIdeal.nD Cert.ConvProjReferenceIdeal.τ).loc Cert.ConvProjReferenceIdeal.main_arg3) = m ((c.tc : Thread Cert.ConvProjReferenceIdeal.nD Cert.ConvProjReferenceIdeal.τ).loc Cert.ConvProjReferenceIdeal.main_arg3)
      ∧ r.2.mem ((c.tc : Thread Cert.ConvProjReferenceIdeal.nD Cert.ConvProjReferenceIdeal.τ).loc Cert.ConvProjReferenceIdeal.main_arg4) = m ((c.tc : Thread Cert.ConvProjReferenceIdeal.nD Cert.ConvProjReferenceIdeal.τ).loc Cert.ConvProjReferenceIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6)
      ∧ r.2.mem ((c.tc : Thread Cert.OutProjReferenceIdeal.nD Cert.OutProjReferenceIdeal.τ).loc Cert.OutProjReferenceIdeal.main_arg7) = m ((c.tc : Thread Cert.OutProjReferenceIdeal.nD Cert.OutProjReferenceIdeal.τ).loc Cert.OutProjReferenceIdeal.main_arg7)
      ∧ r.2.mem ((c.tc : Thread Cert.OutProjReferenceIdeal.nD Cert.OutProjReferenceIdeal.τ).loc Cert.OutProjReferenceIdeal.main_arg8) = m ((c.tc : Thread Cert.OutProjReferenceIdeal.nD Cert.OutProjReferenceIdeal.τ).loc Cert.OutProjReferenceIdeal.main_arg8))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4))
      ∧ r.2.sem = fun _ => 0)

def quiescent_AttnProj [hAttnProj : Cert.AttnProj.Facts] : Prop :=
  ∀ (m : (ℓ : Loc Cert.AttnProj.nD Cert.AttnProj.τ Cert.AttnProj.sig) → Buf (Elt Bits) ℓ) (g : Dev Cert.AttnProj.nD → PrngReg), Pre_AttnProj m →
    θ_run (Cert.AttnProj.defs (F := Bits)) (onTc (τ := Cert.AttnProj.τ) (Cert.AttnProj.main (F := Bits))) ⟨m, fun _ => 0, g⟩ (fun r => (∀ c : Dev Cert.AttnProj.nD,
      r.2.mem ((c.tc : Thread Cert.AttnProj.nD Cert.AttnProj.τ).loc Cert.AttnProj.main_arg0) = m ((c.tc : Thread Cert.AttnProj.nD Cert.AttnProj.τ).loc Cert.AttnProj.main_arg0)
      ∧ r.2.mem ((c.tc : Thread Cert.AttnProj.nD Cert.AttnProj.τ).loc Cert.AttnProj.main_arg1) = m ((c.tc : Thread Cert.AttnProj.nD Cert.AttnProj.τ).loc Cert.AttnProj.main_arg1)
      ∧ r.2.mem ((c.tc : Thread Cert.AttnProj.nD Cert.AttnProj.τ).loc Cert.AttnProj.main_arg2) = m ((c.tc : Thread Cert.AttnProj.nD Cert.AttnProj.τ).loc Cert.AttnProj.main_arg2)
      ∧ r.2.mem ((c.tc : Thread Cert.AttnProj.nD Cert.AttnProj.τ).loc Cert.AttnProj.main_arg3) = m ((c.tc : Thread Cert.AttnProj.nD Cert.AttnProj.τ).loc Cert.AttnProj.main_arg3)
      ∧ r.2.mem ((c.tc : Thread Cert.AttnProj.nD Cert.AttnProj.τ).loc Cert.AttnProj.main_arg4) = m ((c.tc : Thread Cert.AttnProj.nD Cert.AttnProj.τ).loc Cert.AttnProj.main_arg4)
      ∧ r.2.mem ((c.tc : Thread Cert.AttnProj.nD Cert.AttnProj.τ).loc Cert.AttnProj.main_arg5) = m ((c.tc : Thread Cert.AttnProj.nD Cert.AttnProj.τ).loc Cert.AttnProj.main_arg5)
      ∧ r.2.mem ((c.tc : Thread Cert.AttnProj.nD Cert.AttnProj.τ).loc Cert.AttnProj.main_arg6) = m ((c.tc : Thread Cert.AttnProj.nD Cert.AttnProj.τ).loc Cert.AttnProj.main_arg6)
      ∧ r.2.mem ((c.tc : Thread Cert.AttnProj.nD Cert.AttnProj.τ).loc Cert.AttnProj.main_arg7) = m ((c.tc : Thread Cert.AttnProj.nD Cert.AttnProj.τ).loc Cert.AttnProj.main_arg7)
      ∧ r.2.mem ((c.tc : Thread Cert.AttnProj.nD Cert.AttnProj.τ).loc Cert.AttnProj.main_arg8) = m ((c.tc : Thread Cert.AttnProj.nD Cert.AttnProj.τ).loc Cert.AttnProj.main_arg8))
      ∧ r.2.sem = fun _ => 0)

def quiescent_AttnProjIdeal [hAttnProjIdeal : Cert.AttnProjIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg), Pre_AttnProjIdeal m →
    θ_run (Cert.AttnProjIdeal.defs (F := Ideal)) (onTc (τ := Cert.AttnProjIdeal.τ) (Cert.AttnProjIdeal.main (F := Ideal))) ⟨m, fun _ => 0, g⟩ (fun r => (∀ c : Dev Cert.AttnProjIdeal.nD,
      r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
      ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
      ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2)
      ∧ r.2.mem ((c.tc : Thread Cert.AttnProjIdeal.nD Cert.AttnProjIdeal.τ).loc Cert.AttnProjIdeal.main_arg3) = m ((c.tc : Thread Cert.AttnProjIdeal.nD Cert.AttnProjIdeal.τ).loc Cert.AttnProjIdeal.main_arg3)
      ∧ r.2.mem ((c.tc : Thread Cert.AttnProjIdeal.nD Cert.AttnProjIdeal.τ).loc Cert.AttnProjIdeal.main_arg4) = m ((c.tc : Thread Cert.AttnProjIdeal.nD Cert.AttnProjIdeal.τ).loc Cert.AttnProjIdeal.main_arg4)
      ∧ r.2.mem ((c.tc : Thread Cert.AttnProjIdeal.nD Cert.AttnProjIdeal.τ).loc Cert.AttnProjIdeal.main_arg5) = m ((c.tc : Thread Cert.AttnProjIdeal.nD Cert.AttnProjIdeal.τ).loc Cert.AttnProjIdeal.main_arg5)
      ∧ r.2.mem ((c.tc : Thread Cert.AttnProjIdeal.nD Cert.AttnProjIdeal.τ).loc Cert.AttnProjIdeal.main_arg6) = m ((c.tc : Thread Cert.AttnProjIdeal.nD Cert.AttnProjIdeal.τ).loc Cert.AttnProjIdeal.main_arg6)
      ∧ r.2.mem ((c.tc : Thread Cert.AttnProjIdeal.nD Cert.AttnProjIdeal.τ).loc Cert.AttnProjIdeal.main_arg7) = m ((c.tc : Thread Cert.AttnProjIdeal.nD Cert.AttnProjIdeal.τ).loc Cert.AttnProjIdeal.main_arg7)
      ∧ r.2.mem ((c.tc : Thread Cert.AttnProjIdeal.nD Cert.AttnProjIdeal.τ).loc Cert.AttnProjIdeal.main_arg8) = m ((c.tc : Thread Cert.AttnProjIdeal.nD Cert.AttnProjIdeal.τ).loc Cert.AttnProjIdeal.main_arg8))
      ∧ r.2.sem = fun _ => 0)

def quiescent_AttnProjReferenceIdeal [hAttnProjReferenceIdeal : Cert.AttnProjReferenceIdeal.Facts] : Prop :=
  ∀ (m : (ℓ : Loc Cert.AttnProjReferenceIdeal.nD Cert.AttnProjReferenceIdeal.τ Cert.AttnProjReferenceIdeal.sig) → Buf (Elt Ideal) ℓ) (g : Dev Cert.AttnProjReferenceIdeal.nD → PrngReg), Pre_AttnProjReferenceIdeal m →
    θ_run (Cert.AttnProjReferenceIdeal.defs (F := Ideal)) (onTc (τ := Cert.AttnProjReferenceIdeal.τ) (Cert.AttnProjReferenceIdeal.main (F := Ideal))) ⟨m, fun _ => 0, g⟩ (fun r => (∀ c : Dev Cert.AttnProjReferenceIdeal.nD,
      r.2.mem ((c.tc : Thread Cert.AttnProjReferenceIdeal.nD Cert.AttnProjReferenceIdeal.τ).loc Cert.AttnProjReferenceIdeal.main_arg0) = m ((c.tc : Thread Cert.AttnProjReferenceIdeal.nD Cert.AttnProjReferenceIdeal.τ).loc Cert.AttnProjReferenceIdeal.main_arg0)
      ∧ r.2.mem ((c.tc : Thread Cert.AttnProjReferenceIdeal.nD Cert.AttnProjReferenceIdeal.τ).loc Cert.AttnProjReferenceIdeal.main_arg1) = m ((c.tc : Thread Cert.AttnProjReferenceIdeal.nD Cert.AttnProjReferenceIdeal.τ).loc Cert.AttnProjReferenceIdeal.main_arg1)
      ∧ r.2.mem ((c.tc : Thread Cert.AttnProjReferenceIdeal.nD Cert.AttnProjReferenceIdeal.τ).loc Cert.AttnProjReferenceIdeal.main_arg2) = m ((c.tc : Thread Cert.AttnProjReferenceIdeal.nD Cert.AttnProjReferenceIdeal.τ).loc Cert.AttnProjReferenceIdeal.main_arg2)
      ∧ r.2.mem ((c.tc : Thread Cert.AttnProjReferenceIdeal.nD Cert.AttnProjReferenceIdeal.τ).loc Cert.AttnProjReferenceIdeal.main_arg3) = m ((c.tc : Thread Cert.AttnProjReferenceIdeal.nD Cert.AttnProjReferenceIdeal.τ).loc Cert.AttnProjReferenceIdeal.main_arg3)
      ∧ r.2.mem ((c.tc : Thread Cert.AttnProjReferenceIdeal.nD Cert.AttnProjReferenceIdeal.τ).loc Cert.AttnProjReferenceIdeal.main_arg4) = m ((c.tc : Thread Cert.AttnProjReferenceIdeal.nD Cert.AttnProjReferenceIdeal.τ).loc Cert.AttnProjReferenceIdeal.main_arg4)
      ∧ r.2.mem ((c.tc : Thread Cert.AttnProjReferenceIdeal.nD Cert.AttnProjReferenceIdeal.τ).loc Cert.AttnProjReferenceIdeal.main_arg5) = m ((c.tc : Thread Cert.AttnProjReferenceIdeal.nD Cert.AttnProjReferenceIdeal.τ).loc Cert.AttnProjReferenceIdeal.main_arg5)
      ∧ r.2.mem ((c.tc : Thread Cert.AttnProjReferenceIdeal.nD Cert.AttnProjReferenceIdeal.τ).loc Cert.AttnProjReferenceIdeal.main_arg6) = m ((c.tc : Thread Cert.AttnProjReferenceIdeal.nD Cert.AttnProjReferenceIdeal.τ).loc Cert.AttnProjReferenceIdeal.main_arg6)
      ∧ r.2.mem ((c.tc : Thread Cert.AttnProjReferenceIdeal.nD Cert.AttnProjReferenceIdeal.τ).loc Cert.AttnProjReferenceIdeal.main_arg7) = m ((c.tc : Thread Cert.AttnProjReferenceIdeal.nD Cert.AttnProjReferenceIdeal.τ).loc Cert.AttnProjReferenceIdeal.main_arg7)
      ∧ r.2.mem ((c.tc : Thread Cert.AttnProjReferenceIdeal.nD Cert.AttnProjReferenceIdeal.τ).loc Cert.AttnProjReferenceIdeal.main_arg8) = m ((c.tc : Thread Cert.AttnProjReferenceIdeal.nD Cert.AttnProjReferenceIdeal.τ).loc Cert.AttnProjReferenceIdeal.main_arg8))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3))
      ∧ r.2.sem = fun _ => 0)

def quiescent_CtxProj [hCtxProj : Cert.CtxProj.Facts] : Prop :=
  ∀ (m : (ℓ : Loc Cert.CtxProj.nD Cert.CtxProj.τ Cert.CtxProj.sig) → Buf (Elt Bits) ℓ) (g : Dev Cert.CtxProj.nD → PrngReg), Pre_CtxProj m →
    θ_run (Cert.CtxProj.defs (F := Bits)) (onTc (τ := Cert.CtxProj.τ) (Cert.CtxProj.main (F := Bits))) ⟨m, fun _ => 0, g⟩ (fun r => (∀ c : Dev Cert.CtxProj.nD,
      r.2.mem ((c.tc : Thread Cert.CtxProj.nD Cert.CtxProj.τ).loc Cert.CtxProj.main_arg0) = m ((c.tc : Thread Cert.CtxProj.nD Cert.CtxProj.τ).loc Cert.CtxProj.main_arg0)
      ∧ r.2.mem ((c.tc : Thread Cert.CtxProj.nD Cert.CtxProj.τ).loc Cert.CtxProj.main_arg1) = m ((c.tc : Thread Cert.CtxProj.nD Cert.CtxProj.τ).loc Cert.CtxProj.main_arg1)
      ∧ r.2.mem ((c.tc : Thread Cert.CtxProj.nD Cert.CtxProj.τ).loc Cert.CtxProj.main_arg2) = m ((c.tc : Thread Cert.CtxProj.nD Cert.CtxProj.τ).loc Cert.CtxProj.main_arg2)
      ∧ r.2.mem ((c.tc : Thread Cert.CtxProj.nD Cert.CtxProj.τ).loc Cert.CtxProj.main_arg3) = m ((c.tc : Thread Cert.CtxProj.nD Cert.CtxProj.τ).loc Cert.CtxProj.main_arg3)
      ∧ r.2.mem ((c.tc : Thread Cert.CtxProj.nD Cert.CtxProj.τ).loc Cert.CtxProj.main_arg4) = m ((c.tc : Thread Cert.CtxProj.nD Cert.CtxProj.τ).loc Cert.CtxProj.main_arg4)
      ∧ r.2.mem ((c.tc : Thread Cert.CtxProj.nD Cert.CtxProj.τ).loc Cert.CtxProj.main_arg5) = m ((c.tc : Thread Cert.CtxProj.nD Cert.CtxProj.τ).loc Cert.CtxProj.main_arg5)
      ∧ r.2.mem ((c.tc : Thread Cert.CtxProj.nD Cert.CtxProj.τ).loc Cert.CtxProj.main_arg6) = m ((c.tc : Thread Cert.CtxProj.nD Cert.CtxProj.τ).loc Cert.CtxProj.main_arg6))
      ∧ r.2.sem = fun _ => 0)

def quiescent_CtxProjIdeal [hCtxProjIdeal : Cert.CtxProjIdeal.Facts] : Prop :=
  ∀ (m : (ℓ : Loc Cert.CtxProjIdeal.nD Cert.CtxProjIdeal.τ Cert.CtxProjIdeal.sig) → Buf (Elt Ideal) ℓ) (g : Dev Cert.CtxProjIdeal.nD → PrngReg), Pre_CtxProjIdeal m →
    θ_run (Cert.CtxProjIdeal.defs (F := Ideal)) (onTc (τ := Cert.CtxProjIdeal.τ) (Cert.CtxProjIdeal.main (F := Ideal))) ⟨m, fun _ => 0, g⟩ (fun r => (∀ c : Dev Cert.CtxProjIdeal.nD,
      r.2.mem ((c.tc : Thread Cert.CtxProjIdeal.nD Cert.CtxProjIdeal.τ).loc Cert.CtxProjIdeal.main_arg0) = m ((c.tc : Thread Cert.CtxProjIdeal.nD Cert.CtxProjIdeal.τ).loc Cert.CtxProjIdeal.main_arg0)
      ∧ r.2.mem ((c.tc : Thread Cert.CtxProjIdeal.nD Cert.CtxProjIdeal.τ).loc Cert.CtxProjIdeal.main_arg1) = m ((c.tc : Thread Cert.CtxProjIdeal.nD Cert.CtxProjIdeal.τ).loc Cert.CtxProjIdeal.main_arg1)
      ∧ r.2.mem ((c.tc : Thread Cert.CtxProjIdeal.nD Cert.CtxProjIdeal.τ).loc Cert.CtxProjIdeal.main_arg2) = m ((c.tc : Thread Cert.CtxProjIdeal.nD Cert.CtxProjIdeal.τ).loc Cert.CtxProjIdeal.main_arg2)
      ∧ r.2.mem ((c.tc : Thread Cert.CtxProjIdeal.nD Cert.CtxProjIdeal.τ).loc Cert.CtxProjIdeal.main_arg3) = m ((c.tc : Thread Cert.CtxProjIdeal.nD Cert.CtxProjIdeal.τ).loc Cert.CtxProjIdeal.main_arg3)
      ∧ r.2.mem ((c.tc : Thread Cert.CtxProjIdeal.nD Cert.CtxProjIdeal.τ).loc Cert.CtxProjIdeal.main_arg4) = m ((c.tc : Thread Cert.CtxProjIdeal.nD Cert.CtxProjIdeal.τ).loc Cert.CtxProjIdeal.main_arg4)
      ∧ r.2.mem ((c.tc : Thread Cert.CtxProjIdeal.nD Cert.CtxProjIdeal.τ).loc Cert.CtxProjIdeal.main_arg5) = m ((c.tc : Thread Cert.CtxProjIdeal.nD Cert.CtxProjIdeal.τ).loc Cert.CtxProjIdeal.main_arg5)
      ∧ r.2.mem ((c.tc : Thread Cert.CtxProjIdeal.nD Cert.CtxProjIdeal.τ).loc Cert.CtxProjIdeal.main_arg6) = m ((c.tc : Thread Cert.CtxProjIdeal.nD Cert.CtxProjIdeal.τ).loc Cert.CtxProjIdeal.main_arg6))
      ∧ r.2.sem = fun _ => 0)

def quiescent_CtxProjReferenceIdeal [hCtxProjReferenceIdeal : Cert.CtxProjReferenceIdeal.Facts] : Prop :=
  ∀ (m : (ℓ : Loc Cert.CtxProjReferenceIdeal.nD Cert.CtxProjReferenceIdeal.τ Cert.CtxProjReferenceIdeal.sig) → Buf (Elt Ideal) ℓ) (g : Dev Cert.CtxProjReferenceIdeal.nD → PrngReg), Pre_CtxProjReferenceIdeal m →
    θ_run (Cert.CtxProjReferenceIdeal.defs (F := Ideal)) (onTc (τ := Cert.CtxProjReferenceIdeal.τ) (Cert.CtxProjReferenceIdeal.main (F := Ideal))) ⟨m, fun _ => 0, g⟩ (fun r => (∀ c : Dev Cert.CtxProjReferenceIdeal.nD,
      r.2.mem ((c.tc : Thread Cert.CtxProjReferenceIdeal.nD Cert.CtxProjReferenceIdeal.τ).loc Cert.CtxProjReferenceIdeal.main_arg0) = m ((c.tc : Thread Cert.CtxProjReferenceIdeal.nD Cert.CtxProjReferenceIdeal.τ).loc Cert.CtxProjReferenceIdeal.main_arg0)
      ∧ r.2.mem ((c.tc : Thread Cert.CtxProjReferenceIdeal.nD Cert.CtxProjReferenceIdeal.τ).loc Cert.CtxProjReferenceIdeal.main_arg1) = m ((c.tc : Thread Cert.CtxProjReferenceIdeal.nD Cert.CtxProjReferenceIdeal.τ).loc Cert.CtxProjReferenceIdeal.main_arg1)
      ∧ r.2.mem ((c.tc : Thread Cert.CtxProjReferenceIdeal.nD Cert.CtxProjReferenceIdeal.τ).loc Cert.CtxProjReferenceIdeal.main_arg2) = m ((c.tc : Thread Cert.CtxProjReferenceIdeal.nD Cert.CtxProjReferenceIdeal.τ).loc Cert.CtxProjReferenceIdeal.main_arg2)
      ∧ r.2.mem ((c.tc : Thread Cert.CtxProjReferenceIdeal.nD Cert.CtxProjReferenceIdeal.τ).loc Cert.CtxProjReferenceIdeal.main_arg3) = m ((c.tc : Thread Cert.CtxProjReferenceIdeal.nD Cert.CtxProjReferenceIdeal.τ).loc Cert.CtxProjReferenceIdeal.main_arg3)
      ∧ r.2.mem ((c.tc : Thread Cert.CtxProjReferenceIdeal.nD Cert.CtxProjReferenceIdeal.τ).loc Cert.CtxProjReferenceIdeal.main_arg4) = m ((c.tc : Thread Cert.CtxProjReferenceIdeal.nD Cert.CtxProjReferenceIdeal.τ).loc Cert.CtxProjReferenceIdeal.main_arg4)
      ∧ r.2.mem ((c.tc : Thread Cert.CtxProjReferenceIdeal.nD Cert.CtxProjReferenceIdeal.τ).loc Cert.CtxProjReferenceIdeal.main_arg5) = m ((c.tc : Thread Cert.CtxProjReferenceIdeal.nD Cert.CtxProjReferenceIdeal.τ).loc Cert.CtxProjReferenceIdeal.main_arg5)
      ∧ r.2.mem ((c.tc : Thread Cert.CtxProjReferenceIdeal.nD Cert.CtxProjReferenceIdeal.τ).loc Cert.CtxProjReferenceIdeal.main_arg6) = m ((c.tc : Thread Cert.CtxProjReferenceIdeal.nD Cert.CtxProjReferenceIdeal.τ).loc Cert.CtxProjReferenceIdeal.main_arg6))
      ∧ r.2.sem = fun _ => 0)

def quiescent_CombineInner [hCombineInner : Cert.CombineInner.Facts] : Prop :=
  ∀ (m : (ℓ : Loc Cert.CombineInner.nD Cert.CombineInner.τ Cert.CombineInner.sig) → Buf (Elt Bits) ℓ) (g : Dev Cert.CombineInner.nD → PrngReg), Pre_CombineInner m →
    θ_run (Cert.CombineInner.defs (F := Bits)) (onTc (τ := Cert.CombineInner.τ) (Cert.CombineInner.main (F := Bits))) ⟨m, fun _ => 0, g⟩ (fun r => (∀ c : Dev Cert.CombineInner.nD,
      r.2.mem ((c.tc : Thread Cert.CombineInner.nD Cert.CombineInner.τ).loc Cert.CombineInner.main_arg0) = m ((c.tc : Thread Cert.CombineInner.nD Cert.CombineInner.τ).loc Cert.CombineInner.main_arg0)
      ∧ r.2.mem ((c.tc : Thread Cert.CombineInner.nD Cert.CombineInner.τ).loc Cert.CombineInner.main_arg1) = m ((c.tc : Thread Cert.CombineInner.nD Cert.CombineInner.τ).loc Cert.CombineInner.main_arg1)
      ∧ r.2.mem ((c.tc : Thread Cert.CombineInner.nD Cert.CombineInner.τ).loc Cert.CombineInner.main_arg2) = m ((c.tc : Thread Cert.CombineInner.nD Cert.CombineInner.τ).loc Cert.CombineInner.main_arg2)
      ∧ r.2.mem ((c.tc : Thread Cert.CombineInner.nD Cert.CombineInner.τ).loc Cert.CombineInner.main_arg3) = m ((c.tc : Thread Cert.CombineInner.nD Cert.CombineInner.τ).loc Cert.CombineInner.main_arg3)
      ∧ r.2.mem ((c.tc : Thread Cert.CombineInner.nD Cert.CombineInner.τ).loc Cert.CombineInner.main_arg4) = m ((c.tc : Thread Cert.CombineInner.nD Cert.CombineInner.τ).loc Cert.CombineInner.main_arg4))
      ∧ r.2.sem = fun _ => 0)

def quiescent_CombineInnerIdeal [hCombineInnerIdeal : Cert.CombineInnerIdeal.Facts] : Prop :=
  ∀ (m : (ℓ : Loc Cert.CombineInnerIdeal.nD Cert.CombineInnerIdeal.τ Cert.CombineInnerIdeal.sig) → Buf (Elt Ideal) ℓ) (g : Dev Cert.CombineInnerIdeal.nD → PrngReg), Pre_CombineInnerIdeal m →
    θ_run (Cert.CombineInnerIdeal.defs (F := Ideal)) (onTc (τ := Cert.CombineInnerIdeal.τ) (Cert.CombineInnerIdeal.main (F := Ideal))) ⟨m, fun _ => 0, g⟩ (fun r => (∀ c : Dev Cert.CombineInnerIdeal.nD,
      r.2.mem ((c.tc : Thread Cert.CombineInnerIdeal.nD Cert.CombineInnerIdeal.τ).loc Cert.CombineInnerIdeal.main_arg0) = m ((c.tc : Thread Cert.CombineInnerIdeal.nD Cert.CombineInnerIdeal.τ).loc Cert.CombineInnerIdeal.main_arg0)
      ∧ r.2.mem ((c.tc : Thread Cert.CombineInnerIdeal.nD Cert.CombineInnerIdeal.τ).loc Cert.CombineInnerIdeal.main_arg1) = m ((c.tc : Thread Cert.CombineInnerIdeal.nD Cert.CombineInnerIdeal.τ).loc Cert.CombineInnerIdeal.main_arg1)
      ∧ r.2.mem ((c.tc : Thread Cert.CombineInnerIdeal.nD Cert.CombineInnerIdeal.τ).loc Cert.CombineInnerIdeal.main_arg2) = m ((c.tc : Thread Cert.CombineInnerIdeal.nD Cert.CombineInnerIdeal.τ).loc Cert.CombineInnerIdeal.main_arg2)
      ∧ r.2.mem ((c.tc : Thread Cert.CombineInnerIdeal.nD Cert.CombineInnerIdeal.τ).loc Cert.CombineInnerIdeal.main_arg3) = m ((c.tc : Thread Cert.CombineInnerIdeal.nD Cert.CombineInnerIdeal.τ).loc Cert.CombineInnerIdeal.main_arg3)
      ∧ r.2.mem ((c.tc : Thread Cert.CombineInnerIdeal.nD Cert.CombineInnerIdeal.τ).loc Cert.CombineInnerIdeal.main_arg4) = m ((c.tc : Thread Cert.CombineInnerIdeal.nD Cert.CombineInnerIdeal.τ).loc Cert.CombineInnerIdeal.main_arg4))
      ∧ r.2.sem = fun _ => 0)

def quiescent_CombineInnerReferenceIdeal [hCombineInnerReferenceIdeal : Cert.CombineInnerReferenceIdeal.Facts] : Prop :=
  ∀ (m : (ℓ : Loc Cert.CombineInnerReferenceIdeal.nD Cert.CombineInnerReferenceIdeal.τ Cert.CombineInnerReferenceIdeal.sig) → Buf (Elt Ideal) ℓ) (g : Dev Cert.CombineInnerReferenceIdeal.nD → PrngReg), Pre_CombineInnerReferenceIdeal m →
    θ_run (Cert.CombineInnerReferenceIdeal.defs (F := Ideal)) (onTc (τ := Cert.CombineInnerReferenceIdeal.τ) (Cert.CombineInnerReferenceIdeal.main (F := Ideal))) ⟨m, fun _ => 0, g⟩ (fun r => (∀ c : Dev Cert.CombineInnerReferenceIdeal.nD,
      r.2.mem ((c.tc : Thread Cert.CombineInnerReferenceIdeal.nD Cert.CombineInnerReferenceIdeal.τ).loc Cert.CombineInnerReferenceIdeal.main_arg0) = m ((c.tc : Thread Cert.CombineInnerReferenceIdeal.nD Cert.CombineInnerReferenceIdeal.τ).loc Cert.CombineInnerReferenceIdeal.main_arg0)
      ∧ r.2.mem ((c.tc : Thread Cert.CombineInnerReferenceIdeal.nD Cert.CombineInnerReferenceIdeal.τ).loc Cert.CombineInnerReferenceIdeal.main_arg1) = m ((c.tc : Thread Cert.CombineInnerReferenceIdeal.nD Cert.CombineInnerReferenceIdeal.τ).loc Cert.CombineInnerReferenceIdeal.main_arg1)
      ∧ r.2.mem ((c.tc : Thread Cert.CombineInnerReferenceIdeal.nD Cert.CombineInnerReferenceIdeal.τ).loc Cert.CombineInnerReferenceIdeal.main_arg2) = m ((c.tc : Thread Cert.CombineInnerReferenceIdeal.nD Cert.CombineInnerReferenceIdeal.τ).loc Cert.CombineInnerReferenceIdeal.main_arg2)
      ∧ r.2.mem ((c.tc : Thread Cert.CombineInnerReferenceIdeal.nD Cert.CombineInnerReferenceIdeal.τ).loc Cert.CombineInnerReferenceIdeal.main_arg3) = m ((c.tc : Thread Cert.CombineInnerReferenceIdeal.nD Cert.CombineInnerReferenceIdeal.τ).loc Cert.CombineInnerReferenceIdeal.main_arg3)
      ∧ r.2.mem ((c.tc : Thread Cert.CombineInnerReferenceIdeal.nD Cert.CombineInnerReferenceIdeal.τ).loc Cert.CombineInnerReferenceIdeal.main_arg4) = m ((c.tc : Thread Cert.CombineInnerReferenceIdeal.nD Cert.CombineInnerReferenceIdeal.τ).loc Cert.CombineInnerReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v9) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_ConvProj_ConvProjIdeal : Prop :=
  True

def algebraic_ConvProjIdeal_ConvProjReferenceIdeal [hConvProjIdeal : Cert.ConvProjIdeal.Facts] [hConvProjReferenceIdeal : Cert.ConvProjReferenceIdeal.Facts] : Prop :=
  ∀ (m : (ℓ : Loc Cert.ConvProjIdeal.nD Cert.ConvProjIdeal.τ Cert.ConvProjIdeal.sig) → Buf (Elt Ideal) ℓ) (g : Dev Cert.ConvProjIdeal.nD → PrngReg)
    (m' : (ℓ : Loc Cert.ConvProjReferenceIdeal.nD Cert.ConvProjReferenceIdeal.τ Cert.ConvProjReferenceIdeal.sig) → Buf (Elt Ideal) ℓ) (g' : Dev Cert.ConvProjReferenceIdeal.nD → PrngReg), Pre_ConvProjIdeal m →
    (∀ c : Dev Cert.ConvProjIdeal.nD,
      m' ((c.tc : Thread Cert.ConvProjReferenceIdeal.nD Cert.ConvProjReferenceIdeal.τ).loc Cert.ConvProjReferenceIdeal.main_arg0) = m ((c.tc : Thread Cert.ConvProjIdeal.nD Cert.ConvProjIdeal.τ).loc Cert.ConvProjIdeal.main_arg0)
      ∧ m' ((c.tc : Thread Cert.ConvProjReferenceIdeal.nD Cert.ConvProjReferenceIdeal.τ).loc Cert.ConvProjReferenceIdeal.main_arg1) = m ((c.tc : Thread Cert.ConvProjIdeal.nD Cert.ConvProjIdeal.τ).loc Cert.ConvProjIdeal.main_arg1)
      ∧ m' ((c.tc : Thread Cert.ConvProjReferenceIdeal.nD Cert.ConvProjReferenceIdeal.τ).loc Cert.ConvProjReferenceIdeal.main_arg2) = m ((c.tc : Thread Cert.ConvProjIdeal.nD Cert.ConvProjIdeal.τ).loc Cert.ConvProjIdeal.main_arg2)
      ∧ m' ((c.tc : Thread Cert.ConvProjReferenceIdeal.nD Cert.ConvProjReferenceIdeal.τ).loc Cert.ConvProjReferenceIdeal.main_arg3) = m ((c.tc : Thread Cert.ConvProjIdeal.nD Cert.ConvProjIdeal.τ).loc Cert.ConvProjIdeal.main_arg3)
      ∧ m' ((c.tc : Thread Cert.ConvProjReferenceIdeal.nD Cert.ConvProjReferenceIdeal.τ).loc Cert.ConvProjReferenceIdeal.main_arg4) = m ((c.tc : Thread Cert.ConvProjIdeal.nD Cert.ConvProjIdeal.τ).loc Cert.ConvProjIdeal.main_arg4)) →
    ∃ (v0 : (c : Dev Cert.ConvProjIdeal.nD) → Buf (Elt Ideal) ((c.tc : Thread Cert.ConvProjIdeal.nD Cert.ConvProjIdeal.τ).loc Cert.ConvProjIdeal.main_v4_0)) (v1 : (c : Dev Cert.ConvProjIdeal.nD) → Buf (Elt Ideal) ((c.tc : Thread Cert.ConvProjIdeal.nD Cert.ConvProjIdeal.τ).loc Cert.ConvProjIdeal.main_v4_1)) (v2 : (c : Dev Cert.ConvProjIdeal.nD) → Buf (Elt Ideal) ((c.tc : Thread Cert.ConvProjIdeal.nD Cert.ConvProjIdeal.τ).loc Cert.ConvProjIdeal.main_v4_2)),
      θ_run (Cert.ConvProjIdeal.defs (F := Ideal)) (onTc (τ := Cert.ConvProjIdeal.τ) (Cert.ConvProjIdeal.main (F := Ideal))) ⟨m, fun _ => 0, g⟩ (fun r => ∀ c : Dev Cert.ConvProjIdeal.nD,
          r.2.mem ((c.tc : Thread Cert.ConvProjIdeal.nD Cert.ConvProjIdeal.τ).loc Cert.ConvProjIdeal.main_v4_0) = v0 c
          ∧ r.2.mem ((c.tc : Thread Cert.ConvProjIdeal.nD Cert.ConvProjIdeal.τ).loc Cert.ConvProjIdeal.main_v4_1) = v1 c
          ∧ r.2.mem ((c.tc : Thread Cert.ConvProjIdeal.nD Cert.ConvProjIdeal.τ).loc Cert.ConvProjIdeal.main_v4_2) = v2 c
          ∧ r.2.mem ((c.tc : Thread Cert.ConvProjIdeal.nD Cert.ConvProjIdeal.τ).loc Cert.ConvProjIdeal.main_arg0) = m ((c.tc : Thread Cert.ConvProjIdeal.nD Cert.ConvProjIdeal.τ).loc Cert.ConvProjIdeal.main_arg0)
          ∧ r.2.mem ((c.tc : Thread Cert.ConvProjIdeal.nD Cert.ConvProjIdeal.τ).loc Cert.ConvProjIdeal.main_arg1) = m ((c.tc : Thread Cert.ConvProjIdeal.nD Cert.ConvProjIdeal.τ).loc Cert.ConvProjIdeal.main_arg1)
          ∧ r.2.mem ((c.tc : Thread Cert.ConvProjIdeal.nD Cert.ConvProjIdeal.τ).loc Cert.ConvProjIdeal.main_arg2) = m ((c.tc : Thread Cert.ConvProjIdeal.nD Cert.ConvProjIdeal.τ).loc Cert.ConvProjIdeal.main_arg2)
          ∧ r.2.mem ((c.tc : Thread Cert.ConvProjIdeal.nD Cert.ConvProjIdeal.τ).loc Cert.ConvProjIdeal.main_arg3) = m ((c.tc : Thread Cert.ConvProjIdeal.nD Cert.ConvProjIdeal.τ).loc Cert.ConvProjIdeal.main_arg3)
          ∧ r.2.mem ((c.tc : Thread Cert.ConvProjIdeal.nD Cert.ConvProjIdeal.τ).loc Cert.ConvProjIdeal.main_arg4) = m ((c.tc : Thread Cert.ConvProjIdeal.nD Cert.ConvProjIdeal.τ).loc Cert.ConvProjIdeal.main_arg4))
      ∧ θ_run (Cert.ConvProjReferenceIdeal.defs (F := Ideal)) (onTc (τ := Cert.ConvProjReferenceIdeal.τ) (Cert.ConvProjReferenceIdeal.main (F := Ideal))) ⟨m', fun _ => 0, g'⟩ (fun r => ∀ c : Dev Cert.ConvProjReferenceIdeal.nD,
          r.2.mem ((c.tc : Thread Cert.ConvProjReferenceIdeal.nD Cert.ConvProjReferenceIdeal.τ).loc Cert.ConvProjReferenceIdeal.main_v27) = v0 c
          ∧ r.2.mem ((c.tc : Thread Cert.ConvProjReferenceIdeal.nD Cert.ConvProjReferenceIdeal.τ).loc Cert.ConvProjReferenceIdeal.main_v23) = v1 c
          ∧ r.2.mem ((c.tc : Thread Cert.ConvProjReferenceIdeal.nD Cert.ConvProjReferenceIdeal.τ).loc Cert.ConvProjReferenceIdeal.main_v34) = v2 c
          ∧ r.2.mem ((c.tc : Thread Cert.ConvProjReferenceIdeal.nD Cert.ConvProjReferenceIdeal.τ).loc Cert.ConvProjReferenceIdeal.main_arg0) = m' ((c.tc : Thread Cert.ConvProjReferenceIdeal.nD Cert.ConvProjReferenceIdeal.τ).loc Cert.ConvProjReferenceIdeal.main_arg0)
          ∧ r.2.mem ((c.tc : Thread Cert.ConvProjReferenceIdeal.nD Cert.ConvProjReferenceIdeal.τ).loc Cert.ConvProjReferenceIdeal.main_arg1) = m' ((c.tc : Thread Cert.ConvProjReferenceIdeal.nD Cert.ConvProjReferenceIdeal.τ).loc Cert.ConvProjReferenceIdeal.main_arg1)
          ∧ r.2.mem ((c.tc : Thread Cert.ConvProjReferenceIdeal.nD Cert.ConvProjReferenceIdeal.τ).loc Cert.ConvProjReferenceIdeal.main_arg2) = m' ((c.tc : Thread Cert.ConvProjReferenceIdeal.nD Cert.ConvProjReferenceIdeal.τ).loc Cert.ConvProjReferenceIdeal.main_arg2)
          ∧ r.2.mem ((c.tc : Thread Cert.ConvProjReferenceIdeal.nD Cert.ConvProjReferenceIdeal.τ).loc Cert.ConvProjReferenceIdeal.main_arg3) = m' ((c.tc : Thread Cert.ConvProjReferenceIdeal.nD Cert.ConvProjReferenceIdeal.τ).loc Cert.ConvProjReferenceIdeal.main_arg3)
          ∧ r.2.mem ((c.tc : Thread Cert.ConvProjReferenceIdeal.nD Cert.ConvProjReferenceIdeal.τ).loc Cert.ConvProjReferenceIdeal.main_arg4) = m' ((c.tc : Thread Cert.ConvProjReferenceIdeal.nD Cert.ConvProjReferenceIdeal.τ).loc Cert.ConvProjReferenceIdeal.main_arg4))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)
      ∧ m' ((c.tc : Thread Cert.OutProjReferenceIdeal.nD Cert.OutProjReferenceIdeal.τ).loc Cert.OutProjReferenceIdeal.main_arg7) = m ((c.tc : Thread Cert.OutProjIdeal.nD Cert.OutProjIdeal.τ).loc Cert.OutProjIdeal.main_arg7)
      ∧ m' ((c.tc : Thread Cert.OutProjReferenceIdeal.nD Cert.OutProjReferenceIdeal.τ).loc Cert.OutProjReferenceIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v7_0)) (v1 : (c : Dev Cert.OutProjIdeal.nD) → Buf (Elt Ideal) ((c.tc : Thread Cert.OutProjIdeal.nD Cert.OutProjIdeal.τ).loc Cert.OutProjIdeal.main_v7_1)) (v2 : (c : Dev Cert.OutProjIdeal.nD) → Buf (Elt Ideal) ((c.tc : Thread Cert.OutProjIdeal.nD Cert.OutProjIdeal.τ).loc Cert.OutProjIdeal.main_v7_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v7_0) = v0 c
          ∧ r.2.mem ((c.tc : Thread Cert.OutProjIdeal.nD Cert.OutProjIdeal.τ).loc Cert.OutProjIdeal.main_v7_1) = v1 c
          ∧ r.2.mem ((c.tc : Thread Cert.OutProjIdeal.nD Cert.OutProjIdeal.τ).loc Cert.OutProjIdeal.main_v7_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v6) = v0 c
          ∧ r.2.mem ((c.tc : Thread Cert.OutProjReferenceIdeal.nD Cert.OutProjReferenceIdeal.τ).loc Cert.OutProjReferenceIdeal.main_v40) = v1 c
          ∧ r.2.mem ((c.tc : Thread Cert.OutProjReferenceIdeal.nD Cert.OutProjReferenceIdeal.τ).loc Cert.OutProjReferenceIdeal.main_v41) = v2 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6)
          ∧ r.2.mem ((c.tc : Thread Cert.OutProjReferenceIdeal.nD Cert.OutProjReferenceIdeal.τ).loc Cert.OutProjReferenceIdeal.main_arg7) = m' ((c.tc : Thread Cert.OutProjReferenceIdeal.nD Cert.OutProjReferenceIdeal.τ).loc Cert.OutProjReferenceIdeal.main_arg7)
          ∧ r.2.mem ((c.tc : Thread Cert.OutProjReferenceIdeal.nD Cert.OutProjReferenceIdeal.τ).loc Cert.OutProjReferenceIdeal.main_arg8) = m' ((c.tc : Thread Cert.OutProjReferenceIdeal.nD Cert.OutProjReferenceIdeal.τ).loc Cert.OutProjReferenceIdeal.main_arg8))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v29) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4))

def preserves_AttnProj_AttnProjIdeal : Prop :=
  True

def algebraic_AttnProjIdeal_AttnProjReferenceIdeal [hAttnProjIdeal : Cert.AttnProjIdeal.Facts] [hAttnProjReferenceIdeal : Cert.AttnProjReferenceIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg)
    (m' : (ℓ : Loc Cert.AttnProjReferenceIdeal.nD Cert.AttnProjReferenceIdeal.τ Cert.AttnProjReferenceIdeal.sig) → Buf (Elt Ideal) ℓ) (g' : Dev Cert.AttnProjReferenceIdeal.nD → PrngReg), Pre_AttnProjIdeal m →
    (∀ c : Dev Cert.AttnProjIdeal.nD,
      m' ((c.tc : Thread Cert.AttnProjReferenceIdeal.nD Cert.AttnProjReferenceIdeal.τ).loc Cert.AttnProjReferenceIdeal.main_arg0) = m ((c.tc : Thread Cert.AttnProjIdeal.nD Cert.AttnProjIdeal.τ).loc Cert.AttnProjIdeal.main_arg0)
      ∧ m' ((c.tc : Thread Cert.AttnProjReferenceIdeal.nD Cert.AttnProjReferenceIdeal.τ).loc Cert.AttnProjReferenceIdeal.main_arg1) = m ((c.tc : Thread Cert.AttnProjIdeal.nD Cert.AttnProjIdeal.τ).loc Cert.AttnProjIdeal.main_arg1)
      ∧ m' ((c.tc : Thread Cert.AttnProjReferenceIdeal.nD Cert.AttnProjReferenceIdeal.τ).loc Cert.AttnProjReferenceIdeal.main_arg2) = m ((c.tc : Thread Cert.AttnProjIdeal.nD Cert.AttnProjIdeal.τ).loc Cert.AttnProjIdeal.main_arg2)
      ∧ m' ((c.tc : Thread Cert.AttnProjReferenceIdeal.nD Cert.AttnProjReferenceIdeal.τ).loc Cert.AttnProjReferenceIdeal.main_arg3) = m ((c.tc : Thread Cert.AttnProjIdeal.nD Cert.AttnProjIdeal.τ).loc Cert.AttnProjIdeal.main_arg3)
      ∧ m' ((c.tc : Thread Cert.AttnProjReferenceIdeal.nD Cert.AttnProjReferenceIdeal.τ).loc Cert.AttnProjReferenceIdeal.main_arg4) = m ((c.tc : Thread Cert.AttnProjIdeal.nD Cert.AttnProjIdeal.τ).loc Cert.AttnProjIdeal.main_arg4)
      ∧ m' ((c.tc : Thread Cert.AttnProjReferenceIdeal.nD Cert.AttnProjReferenceIdeal.τ).loc Cert.AttnProjReferenceIdeal.main_arg5) = m ((c.tc : Thread Cert.AttnProjIdeal.nD Cert.AttnProjIdeal.τ).loc Cert.AttnProjIdeal.main_arg5)
      ∧ m' ((c.tc : Thread Cert.AttnProjReferenceIdeal.nD Cert.AttnProjReferenceIdeal.τ).loc Cert.AttnProjReferenceIdeal.main_arg6) = m ((c.tc : Thread Cert.AttnProjIdeal.nD Cert.AttnProjIdeal.τ).loc Cert.AttnProjIdeal.main_arg6)
      ∧ m' ((c.tc : Thread Cert.AttnProjReferenceIdeal.nD Cert.AttnProjReferenceIdeal.τ).loc Cert.AttnProjReferenceIdeal.main_arg7) = m ((c.tc : Thread Cert.AttnProjIdeal.nD Cert.AttnProjIdeal.τ).loc Cert.AttnProjIdeal.main_arg7)
      ∧ m' ((c.tc : Thread Cert.AttnProjReferenceIdeal.nD Cert.AttnProjReferenceIdeal.τ).loc Cert.AttnProjReferenceIdeal.main_arg8) = m ((c.tc : Thread Cert.AttnProjIdeal.nD Cert.AttnProjIdeal.τ).loc Cert.AttnProjIdeal.main_arg8)) →
    ∃ (v0 : (c : Dev Cert.AttnProjIdeal.nD) → Buf (Elt Ideal) ((c.tc : Thread Cert.AttnProjIdeal.nD Cert.AttnProjIdeal.τ).loc Cert.AttnProjIdeal.main_v10)),
      θ_run (Cert.AttnProjIdeal.defs (F := Ideal)) (onTc (τ := Cert.AttnProjIdeal.τ) (Cert.AttnProjIdeal.main (F := Ideal))) ⟨m, fun _ => 0, g⟩ (fun r => ∀ c : Dev Cert.AttnProjIdeal.nD,
          r.2.mem ((c.tc : Thread Cert.AttnProjIdeal.nD Cert.AttnProjIdeal.τ).loc Cert.AttnProjIdeal.main_v10) = v0 c
          ∧ r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
          ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
          ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2)
          ∧ r.2.mem ((c.tc : Thread Cert.AttnProjIdeal.nD Cert.AttnProjIdeal.τ).loc Cert.AttnProjIdeal.main_arg3) = m ((c.tc : Thread Cert.AttnProjIdeal.nD Cert.AttnProjIdeal.τ).loc Cert.AttnProjIdeal.main_arg3)
          ∧ r.2.mem ((c.tc : Thread Cert.AttnProjIdeal.nD Cert.AttnProjIdeal.τ).loc Cert.AttnProjIdeal.main_arg4) = m ((c.tc : Thread Cert.AttnProjIdeal.nD Cert.AttnProjIdeal.τ).loc Cert.AttnProjIdeal.main_arg4)
          ∧ r.2.mem ((c.tc : Thread Cert.AttnProjIdeal.nD Cert.AttnProjIdeal.τ).loc Cert.AttnProjIdeal.main_arg5) = m ((c.tc : Thread Cert.AttnProjIdeal.nD Cert.AttnProjIdeal.τ).loc Cert.AttnProjIdeal.main_arg5)
          ∧ r.2.mem ((c.tc : Thread Cert.AttnProjIdeal.nD Cert.AttnProjIdeal.τ).loc Cert.AttnProjIdeal.main_arg6) = m ((c.tc : Thread Cert.AttnProjIdeal.nD Cert.AttnProjIdeal.τ).loc Cert.AttnProjIdeal.main_arg6)
          ∧ r.2.mem ((c.tc : Thread Cert.AttnProjIdeal.nD Cert.AttnProjIdeal.τ).loc Cert.AttnProjIdeal.main_arg7) = m ((c.tc : Thread Cert.AttnProjIdeal.nD Cert.AttnProjIdeal.τ).loc Cert.AttnProjIdeal.main_arg7)
          ∧ r.2.mem ((c.tc : Thread Cert.AttnProjIdeal.nD Cert.AttnProjIdeal.τ).loc Cert.AttnProjIdeal.main_arg8) = m ((c.tc : Thread Cert.AttnProjIdeal.nD Cert.AttnProjIdeal.τ).loc Cert.AttnProjIdeal.main_arg8))
      ∧ θ_run (Cert.AttnProjReferenceIdeal.defs (F := Ideal)) (onTc (τ := Cert.AttnProjReferenceIdeal.τ) (Cert.AttnProjReferenceIdeal.main (F := Ideal))) ⟨m', fun _ => 0, g'⟩ (fun r => ∀ c : Dev Cert.AttnProjReferenceIdeal.nD,
          r.2.mem ((c.tc : Thread Cert.AttnProjReferenceIdeal.nD Cert.AttnProjReferenceIdeal.τ).loc Cert.AttnProjReferenceIdeal.main_v119) = v0 c
          ∧ r.2.mem ((c.tc : Thread Cert.AttnProjReferenceIdeal.nD Cert.AttnProjReferenceIdeal.τ).loc Cert.AttnProjReferenceIdeal.main_arg0) = m' ((c.tc : Thread Cert.AttnProjReferenceIdeal.nD Cert.AttnProjReferenceIdeal.τ).loc Cert.AttnProjReferenceIdeal.main_arg0)
          ∧ r.2.mem ((c.tc : Thread Cert.AttnProjReferenceIdeal.nD Cert.AttnProjReferenceIdeal.τ).loc Cert.AttnProjReferenceIdeal.main_arg1) = m' ((c.tc : Thread Cert.AttnProjReferenceIdeal.nD Cert.AttnProjReferenceIdeal.τ).loc Cert.AttnProjReferenceIdeal.main_arg1)
          ∧ r.2.mem ((c.tc : Thread Cert.AttnProjReferenceIdeal.nD Cert.AttnProjReferenceIdeal.τ).loc Cert.AttnProjReferenceIdeal.main_arg2) = m' ((c.tc : Thread Cert.AttnProjReferenceIdeal.nD Cert.AttnProjReferenceIdeal.τ).loc Cert.AttnProjReferenceIdeal.main_arg2)
          ∧ r.2.mem ((c.tc : Thread Cert.AttnProjReferenceIdeal.nD Cert.AttnProjReferenceIdeal.τ).loc Cert.AttnProjReferenceIdeal.main_arg3) = m' ((c.tc : Thread Cert.AttnProjReferenceIdeal.nD Cert.AttnProjReferenceIdeal.τ).loc Cert.AttnProjReferenceIdeal.main_arg3)
          ∧ r.2.mem ((c.tc : Thread Cert.AttnProjReferenceIdeal.nD Cert.AttnProjReferenceIdeal.τ).loc Cert.AttnProjReferenceIdeal.main_arg4) = m' ((c.tc : Thread Cert.AttnProjReferenceIdeal.nD Cert.AttnProjReferenceIdeal.τ).loc Cert.AttnProjReferenceIdeal.main_arg4)
          ∧ r.2.mem ((c.tc : Thread Cert.AttnProjReferenceIdeal.nD Cert.AttnProjReferenceIdeal.τ).loc Cert.AttnProjReferenceIdeal.main_arg5) = m' ((c.tc : Thread Cert.AttnProjReferenceIdeal.nD Cert.AttnProjReferenceIdeal.τ).loc Cert.AttnProjReferenceIdeal.main_arg5)
          ∧ r.2.mem ((c.tc : Thread Cert.AttnProjReferenceIdeal.nD Cert.AttnProjReferenceIdeal.τ).loc Cert.AttnProjReferenceIdeal.main_arg6) = m' ((c.tc : Thread Cert.AttnProjReferenceIdeal.nD Cert.AttnProjReferenceIdeal.τ).loc Cert.AttnProjReferenceIdeal.main_arg6)
          ∧ r.2.mem ((c.tc : Thread Cert.AttnProjReferenceIdeal.nD Cert.AttnProjReferenceIdeal.τ).loc Cert.AttnProjReferenceIdeal.main_arg7) = m' ((c.tc : Thread Cert.AttnProjReferenceIdeal.nD Cert.AttnProjReferenceIdeal.τ).loc Cert.AttnProjReferenceIdeal.main_arg7)
          ∧ r.2.mem ((c.tc : Thread Cert.AttnProjReferenceIdeal.nD Cert.AttnProjReferenceIdeal.τ).loc Cert.AttnProjReferenceIdeal.main_arg8) = m' ((c.tc : Thread Cert.AttnProjReferenceIdeal.nD Cert.AttnProjReferenceIdeal.τ).loc Cert.AttnProjReferenceIdeal.main_arg8))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)
      ∧ m' ((c.tc : Thread Cert.ModulationReferenceIdeal.nD Cert.ModulationReferenceIdeal.τ).loc Cert.ModulationReferenceIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v4)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v4) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v7) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2)
          ∧ r.2.mem ((c.tc : Thread Cert.ModulationReferenceIdeal.nD Cert.ModulationReferenceIdeal.τ).loc Cert.ModulationReferenceIdeal.main_arg3) = m' ((c.tc : Thread Cert.ModulationReferenceIdeal.nD Cert.ModulationReferenceIdeal.τ).loc Cert.ModulationReferenceIdeal.main_arg3))

def preserves_CtxProj_CtxProjIdeal : Prop :=
  True

def algebraic_CtxProjIdeal_CtxProjReferenceIdeal [hCtxProjIdeal : Cert.CtxProjIdeal.Facts] [hCtxProjReferenceIdeal : Cert.CtxProjReferenceIdeal.Facts] : Prop :=
  ∀ (m : (ℓ : Loc Cert.CtxProjIdeal.nD Cert.CtxProjIdeal.τ Cert.CtxProjIdeal.sig) → Buf (Elt Ideal) ℓ) (g : Dev Cert.CtxProjIdeal.nD → PrngReg)
    (m' : (ℓ : Loc Cert.CtxProjReferenceIdeal.nD Cert.CtxProjReferenceIdeal.τ Cert.CtxProjReferenceIdeal.sig) → Buf (Elt Ideal) ℓ) (g' : Dev Cert.CtxProjReferenceIdeal.nD → PrngReg), Pre_CtxProjIdeal m →
    (∀ c : Dev Cert.CtxProjIdeal.nD,
      m' ((c.tc : Thread Cert.CtxProjReferenceIdeal.nD Cert.CtxProjReferenceIdeal.τ).loc Cert.CtxProjReferenceIdeal.main_arg0) = m ((c.tc : Thread Cert.CtxProjIdeal.nD Cert.CtxProjIdeal.τ).loc Cert.CtxProjIdeal.main_arg0)
      ∧ m' ((c.tc : Thread Cert.CtxProjReferenceIdeal.nD Cert.CtxProjReferenceIdeal.τ).loc Cert.CtxProjReferenceIdeal.main_arg1) = m ((c.tc : Thread Cert.CtxProjIdeal.nD Cert.CtxProjIdeal.τ).loc Cert.CtxProjIdeal.main_arg1)
      ∧ m' ((c.tc : Thread Cert.CtxProjReferenceIdeal.nD Cert.CtxProjReferenceIdeal.τ).loc Cert.CtxProjReferenceIdeal.main_arg2) = m ((c.tc : Thread Cert.CtxProjIdeal.nD Cert.CtxProjIdeal.τ).loc Cert.CtxProjIdeal.main_arg2)
      ∧ m' ((c.tc : Thread Cert.CtxProjReferenceIdeal.nD Cert.CtxProjReferenceIdeal.τ).loc Cert.CtxProjReferenceIdeal.main_arg3) = m ((c.tc : Thread Cert.CtxProjIdeal.nD Cert.CtxProjIdeal.τ).loc Cert.CtxProjIdeal.main_arg3)
      ∧ m' ((c.tc : Thread Cert.CtxProjReferenceIdeal.nD Cert.CtxProjReferenceIdeal.τ).loc Cert.CtxProjReferenceIdeal.main_arg4) = m ((c.tc : Thread Cert.CtxProjIdeal.nD Cert.CtxProjIdeal.τ).loc Cert.CtxProjIdeal.main_arg4)
      ∧ m' ((c.tc : Thread Cert.CtxProjReferenceIdeal.nD Cert.CtxProjReferenceIdeal.τ).loc Cert.CtxProjReferenceIdeal.main_arg5) = m ((c.tc : Thread Cert.CtxProjIdeal.nD Cert.CtxProjIdeal.τ).loc Cert.CtxProjIdeal.main_arg5)
      ∧ m' ((c.tc : Thread Cert.CtxProjReferenceIdeal.nD Cert.CtxProjReferenceIdeal.τ).loc Cert.CtxProjReferenceIdeal.main_arg6) = m ((c.tc : Thread Cert.CtxProjIdeal.nD Cert.CtxProjIdeal.τ).loc Cert.CtxProjIdeal.main_arg6)) →
    ∃ (v0 : (c : Dev Cert.CtxProjIdeal.nD) → Buf (Elt Ideal) ((c.tc : Thread Cert.CtxProjIdeal.nD Cert.CtxProjIdeal.τ).loc Cert.CtxProjIdeal.main_v7)),
      θ_run (Cert.CtxProjIdeal.defs (F := Ideal)) (onTc (τ := Cert.CtxProjIdeal.τ) (Cert.CtxProjIdeal.main (F := Ideal))) ⟨m, fun _ => 0, g⟩ (fun r => ∀ c : Dev Cert.CtxProjIdeal.nD,
          r.2.mem ((c.tc : Thread Cert.CtxProjIdeal.nD Cert.CtxProjIdeal.τ).loc Cert.CtxProjIdeal.main_v7) = v0 c
          ∧ r.2.mem ((c.tc : Thread Cert.CtxProjIdeal.nD Cert.CtxProjIdeal.τ).loc Cert.CtxProjIdeal.main_arg0) = m ((c.tc : Thread Cert.CtxProjIdeal.nD Cert.CtxProjIdeal.τ).loc Cert.CtxProjIdeal.main_arg0)
          ∧ r.2.mem ((c.tc : Thread Cert.CtxProjIdeal.nD Cert.CtxProjIdeal.τ).loc Cert.CtxProjIdeal.main_arg1) = m ((c.tc : Thread Cert.CtxProjIdeal.nD Cert.CtxProjIdeal.τ).loc Cert.CtxProjIdeal.main_arg1)
          ∧ r.2.mem ((c.tc : Thread Cert.CtxProjIdeal.nD Cert.CtxProjIdeal.τ).loc Cert.CtxProjIdeal.main_arg2) = m ((c.tc : Thread Cert.CtxProjIdeal.nD Cert.CtxProjIdeal.τ).loc Cert.CtxProjIdeal.main_arg2)
          ∧ r.2.mem ((c.tc : Thread Cert.CtxProjIdeal.nD Cert.CtxProjIdeal.τ).loc Cert.CtxProjIdeal.main_arg3) = m ((c.tc : Thread Cert.CtxProjIdeal.nD Cert.CtxProjIdeal.τ).loc Cert.CtxProjIdeal.main_arg3)
          ∧ r.2.mem ((c.tc : Thread Cert.CtxProjIdeal.nD Cert.CtxProjIdeal.τ).loc Cert.CtxProjIdeal.main_arg4) = m ((c.tc : Thread Cert.CtxProjIdeal.nD Cert.CtxProjIdeal.τ).loc Cert.CtxProjIdeal.main_arg4)
          ∧ r.2.mem ((c.tc : Thread Cert.CtxProjIdeal.nD Cert.CtxProjIdeal.τ).loc Cert.CtxProjIdeal.main_arg5) = m ((c.tc : Thread Cert.CtxProjIdeal.nD Cert.CtxProjIdeal.τ).loc Cert.CtxProjIdeal.main_arg5)
          ∧ r.2.mem ((c.tc : Thread Cert.CtxProjIdeal.nD Cert.CtxProjIdeal.τ).loc Cert.CtxProjIdeal.main_arg6) = m ((c.tc : Thread Cert.CtxProjIdeal.nD Cert.CtxProjIdeal.τ).loc Cert.CtxProjIdeal.main_arg6))
      ∧ θ_run (Cert.CtxProjReferenceIdeal.defs (F := Ideal)) (onTc (τ := Cert.CtxProjReferenceIdeal.τ) (Cert.CtxProjReferenceIdeal.main (F := Ideal))) ⟨m', fun _ => 0, g'⟩ (fun r => ∀ c : Dev Cert.CtxProjReferenceIdeal.nD,
          r.2.mem ((c.tc : Thread Cert.CtxProjReferenceIdeal.nD Cert.CtxProjReferenceIdeal.τ).loc Cert.CtxProjReferenceIdeal.main_v25) = v0 c
          ∧ r.2.mem ((c.tc : Thread Cert.CtxProjReferenceIdeal.nD Cert.CtxProjReferenceIdeal.τ).loc Cert.CtxProjReferenceIdeal.main_arg0) = m' ((c.tc : Thread Cert.CtxProjReferenceIdeal.nD Cert.CtxProjReferenceIdeal.τ).loc Cert.CtxProjReferenceIdeal.main_arg0)
          ∧ r.2.mem ((c.tc : Thread Cert.CtxProjReferenceIdeal.nD Cert.CtxProjReferenceIdeal.τ).loc Cert.CtxProjReferenceIdeal.main_arg1) = m' ((c.tc : Thread Cert.CtxProjReferenceIdeal.nD Cert.CtxProjReferenceIdeal.τ).loc Cert.CtxProjReferenceIdeal.main_arg1)
          ∧ r.2.mem ((c.tc : Thread Cert.CtxProjReferenceIdeal.nD Cert.CtxProjReferenceIdeal.τ).loc Cert.CtxProjReferenceIdeal.main_arg2) = m' ((c.tc : Thread Cert.CtxProjReferenceIdeal.nD Cert.CtxProjReferenceIdeal.τ).loc Cert.CtxProjReferenceIdeal.main_arg2)
          ∧ r.2.mem ((c.tc : Thread Cert.CtxProjReferenceIdeal.nD Cert.CtxProjReferenceIdeal.τ).loc Cert.CtxProjReferenceIdeal.main_arg3) = m' ((c.tc : Thread Cert.CtxProjReferenceIdeal.nD Cert.CtxProjReferenceIdeal.τ).loc Cert.CtxProjReferenceIdeal.main_arg3)
          ∧ r.2.mem ((c.tc : Thread Cert.CtxProjReferenceIdeal.nD Cert.CtxProjReferenceIdeal.τ).loc Cert.CtxProjReferenceIdeal.main_arg4) = m' ((c.tc : Thread Cert.CtxProjReferenceIdeal.nD Cert.CtxProjReferenceIdeal.τ).loc Cert.CtxProjReferenceIdeal.main_arg4)
          ∧ r.2.mem ((c.tc : Thread Cert.CtxProjReferenceIdeal.nD Cert.CtxProjReferenceIdeal.τ).loc Cert.CtxProjReferenceIdeal.main_arg5) = m' ((c.tc : Thread Cert.CtxProjReferenceIdeal.nD Cert.CtxProjReferenceIdeal.τ).loc Cert.CtxProjReferenceIdeal.main_arg5)
          ∧ r.2.mem ((c.tc : Thread Cert.CtxProjReferenceIdeal.nD Cert.CtxProjReferenceIdeal.τ).loc Cert.CtxProjReferenceIdeal.main_arg6) = m' ((c.tc : Thread Cert.CtxProjReferenceIdeal.nD Cert.CtxProjReferenceIdeal.τ).loc Cert.CtxProjReferenceIdeal.main_arg6))

def preserves_CombineInner_CombineInnerIdeal : Prop :=
  True

def algebraic_CombineInnerIdeal_CombineInnerReferenceIdeal [hCombineInnerIdeal : Cert.CombineInnerIdeal.Facts] [hCombineInnerReferenceIdeal : Cert.CombineInnerReferenceIdeal.Facts] : Prop :=
  ∀ (m : (ℓ : Loc Cert.CombineInnerIdeal.nD Cert.CombineInnerIdeal.τ Cert.CombineInnerIdeal.sig) → Buf (Elt Ideal) ℓ) (g : Dev Cert.CombineInnerIdeal.nD → PrngReg)
    (m' : (ℓ : Loc Cert.CombineInnerReferenceIdeal.nD Cert.CombineInnerReferenceIdeal.τ Cert.CombineInnerReferenceIdeal.sig) → Buf (Elt Ideal) ℓ) (g' : Dev Cert.CombineInnerReferenceIdeal.nD → PrngReg), Pre_CombineInnerIdeal m →
    (∀ c : Dev Cert.CombineInnerIdeal.nD,
      m' ((c.tc : Thread Cert.CombineInnerReferenceIdeal.nD Cert.CombineInnerReferenceIdeal.τ).loc Cert.CombineInnerReferenceIdeal.main_arg0) = m ((c.tc : Thread Cert.CombineInnerIdeal.nD Cert.CombineInnerIdeal.τ).loc Cert.CombineInnerIdeal.main_arg0)
      ∧ m' ((c.tc : Thread Cert.CombineInnerReferenceIdeal.nD Cert.CombineInnerReferenceIdeal.τ).loc Cert.CombineInnerReferenceIdeal.main_arg1) = m ((c.tc : Thread Cert.CombineInnerIdeal.nD Cert.CombineInnerIdeal.τ).loc Cert.CombineInnerIdeal.main_arg1)
      ∧ m' ((c.tc : Thread Cert.CombineInnerReferenceIdeal.nD Cert.CombineInnerReferenceIdeal.τ).loc Cert.CombineInnerReferenceIdeal.main_arg2) = m ((c.tc : Thread Cert.CombineInnerIdeal.nD Cert.CombineInnerIdeal.τ).loc Cert.CombineInnerIdeal.main_arg2)
      ∧ m' ((c.tc : Thread Cert.CombineInnerReferenceIdeal.nD Cert.CombineInnerReferenceIdeal.τ).loc Cert.CombineInnerReferenceIdeal.main_arg3) = m ((c.tc : Thread Cert.CombineInnerIdeal.nD Cert.CombineInnerIdeal.τ).loc Cert.CombineInnerIdeal.main_arg3)
      ∧ m' ((c.tc : Thread Cert.CombineInnerReferenceIdeal.nD Cert.CombineInnerReferenceIdeal.τ).loc Cert.CombineInnerReferenceIdeal.main_arg4) = m ((c.tc : Thread Cert.CombineInnerIdeal.nD Cert.CombineInnerIdeal.τ).loc Cert.CombineInnerIdeal.main_arg4)) →
    ∃ (v0 : (c : Dev Cert.CombineInnerIdeal.nD) → Buf (Elt Ideal) ((c.tc : Thread Cert.CombineInnerIdeal.nD Cert.CombineInnerIdeal.τ).loc Cert.CombineInnerIdeal.main_v2)),
      θ_run (Cert.CombineInnerIdeal.defs (F := Ideal)) (onTc (τ := Cert.CombineInnerIdeal.τ) (Cert.CombineInnerIdeal.main (F := Ideal))) ⟨m, fun _ => 0, g⟩ (fun r => ∀ c : Dev Cert.CombineInnerIdeal.nD,
          r.2.mem ((c.tc : Thread Cert.CombineInnerIdeal.nD Cert.CombineInnerIdeal.τ).loc Cert.CombineInnerIdeal.main_v2) = v0 c
          ∧ r.2.mem ((c.tc : Thread Cert.CombineInnerIdeal.nD Cert.CombineInnerIdeal.τ).loc Cert.CombineInnerIdeal.main_arg0) = m ((c.tc : Thread Cert.CombineInnerIdeal.nD Cert.CombineInnerIdeal.τ).loc Cert.CombineInnerIdeal.main_arg0)
          ∧ r.2.mem ((c.tc : Thread Cert.CombineInnerIdeal.nD Cert.CombineInnerIdeal.τ).loc Cert.CombineInnerIdeal.main_arg1) = m ((c.tc : Thread Cert.CombineInnerIdeal.nD Cert.CombineInnerIdeal.τ).loc Cert.CombineInnerIdeal.main_arg1)
          ∧ r.2.mem ((c.tc : Thread Cert.CombineInnerIdeal.nD Cert.CombineInnerIdeal.τ).loc Cert.CombineInnerIdeal.main_arg2) = m ((c.tc : Thread Cert.CombineInnerIdeal.nD Cert.CombineInnerIdeal.τ).loc Cert.CombineInnerIdeal.main_arg2)
          ∧ r.2.mem ((c.tc : Thread Cert.CombineInnerIdeal.nD Cert.CombineInnerIdeal.τ).loc Cert.CombineInnerIdeal.main_arg3) = m ((c.tc : Thread Cert.CombineInnerIdeal.nD Cert.CombineInnerIdeal.τ).loc Cert.CombineInnerIdeal.main_arg3)
          ∧ r.2.mem ((c.tc : Thread Cert.CombineInnerIdeal.nD Cert.CombineInnerIdeal.τ).loc Cert.CombineInnerIdeal.main_arg4) = m ((c.tc : Thread Cert.CombineInnerIdeal.nD Cert.CombineInnerIdeal.τ).loc Cert.CombineInnerIdeal.main_arg4))
      ∧ θ_run (Cert.CombineInnerReferenceIdeal.defs (F := Ideal)) (onTc (τ := Cert.CombineInnerReferenceIdeal.τ) (Cert.CombineInnerReferenceIdeal.main (F := Ideal))) ⟨m', fun _ => 0, g'⟩ (fun r => ∀ c : Dev Cert.CombineInnerReferenceIdeal.nD,
          r.2.mem ((c.tc : Thread Cert.CombineInnerReferenceIdeal.nD Cert.CombineInnerReferenceIdeal.τ).loc Cert.CombineInnerReferenceIdeal.main_v16) = v0 c
          ∧ r.2.mem ((c.tc : Thread Cert.CombineInnerReferenceIdeal.nD Cert.CombineInnerReferenceIdeal.τ).loc Cert.CombineInnerReferenceIdeal.main_arg0) = m' ((c.tc : Thread Cert.CombineInnerReferenceIdeal.nD Cert.CombineInnerReferenceIdeal.τ).loc Cert.CombineInnerReferenceIdeal.main_arg0)
          ∧ r.2.mem ((c.tc : Thread Cert.CombineInnerReferenceIdeal.nD Cert.CombineInnerReferenceIdeal.τ).loc Cert.CombineInnerReferenceIdeal.main_arg1) = m' ((c.tc : Thread Cert.CombineInnerReferenceIdeal.nD Cert.CombineInnerReferenceIdeal.τ).loc Cert.CombineInnerReferenceIdeal.main_arg1)
          ∧ r.2.mem ((c.tc : Thread Cert.CombineInnerReferenceIdeal.nD Cert.CombineInnerReferenceIdeal.τ).loc Cert.CombineInnerReferenceIdeal.main_arg2) = m' ((c.tc : Thread Cert.CombineInnerReferenceIdeal.nD Cert.CombineInnerReferenceIdeal.τ).loc Cert.CombineInnerReferenceIdeal.main_arg2)
          ∧ r.2.mem ((c.tc : Thread Cert.CombineInnerReferenceIdeal.nD Cert.CombineInnerReferenceIdeal.τ).loc Cert.CombineInnerReferenceIdeal.main_arg3) = m' ((c.tc : Thread Cert.CombineInnerReferenceIdeal.nD Cert.CombineInnerReferenceIdeal.τ).loc Cert.CombineInnerReferenceIdeal.main_arg3)
          ∧ r.2.mem ((c.tc : Thread Cert.CombineInnerReferenceIdeal.nD Cert.CombineInnerReferenceIdeal.τ).loc Cert.CombineInnerReferenceIdeal.main_arg4) = m' ((c.tc : Thread Cert.CombineInnerReferenceIdeal.nD Cert.CombineInnerReferenceIdeal.τ).loc Cert.CombineInnerReferenceIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hConvProj : Cert.ConvProj.Facts) (hConvProjIdeal : Cert.ConvProjIdeal.Facts) (hConvProjReferenceIdeal : Cert.ConvProjReferenceIdeal.Facts) (hOutProj : Cert.OutProj.Facts) (hOutProjIdeal : Cert.OutProjIdeal.Facts) (hOutProjReferenceIdeal : Cert.OutProjReferenceIdeal.Facts) (hCombine : Cert.Combine.Facts) (hCombineIdeal : Cert.CombineIdeal.Facts) (hCombineReferenceIdeal : Cert.CombineReferenceIdeal.Facts) (hAttnProj : Cert.AttnProj.Facts) (hAttnProjIdeal : Cert.AttnProjIdeal.Facts) (hAttnProjReferenceIdeal : Cert.AttnProjReferenceIdeal.Facts) (hModulation : Cert.Modulation.Facts) (hModulationIdeal : Cert.ModulationIdeal.Facts) (hModulationReferenceIdeal : Cert.ModulationReferenceIdeal.Facts) (hCtxProj : Cert.CtxProj.Facts) (hCtxProjIdeal : Cert.CtxProjIdeal.Facts) (hCtxProjReferenceIdeal : Cert.CtxProjReferenceIdeal.Facts) (hCombineInner : Cert.CombineInner.Facts) (hCombineInnerIdeal : Cert.CombineInnerIdeal.Facts) (hCombineInnerReferenceIdeal : Cert.CombineInnerReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Ffn (hFfn := hFfn)
    ∧ quiescent_FfnIdeal (hFfnIdeal := hFfnIdeal)
    ∧ quiescent_FfnReferenceIdeal (hFfnReferenceIdeal := hFfnReferenceIdeal)
    ∧ quiescent_ConvProj (hConvProj := hConvProj)
    ∧ quiescent_ConvProjIdeal (hConvProjIdeal := hConvProjIdeal)
    ∧ quiescent_ConvProjReferenceIdeal (hConvProjReferenceIdeal := hConvProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ quiescent_AttnProj (hAttnProj := hAttnProj)
    ∧ quiescent_AttnProjIdeal (hAttnProjIdeal := hAttnProjIdeal)
    ∧ quiescent_AttnProjReferenceIdeal (hAttnProjReferenceIdeal := hAttnProjReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_CtxProj (hCtxProj := hCtxProj)
    ∧ quiescent_CtxProjIdeal (hCtxProjIdeal := hCtxProjIdeal)
    ∧ quiescent_CtxProjReferenceIdeal (hCtxProjReferenceIdeal := hCtxProjReferenceIdeal)
    ∧ quiescent_CombineInner (hCombineInner := hCombineInner)
    ∧ quiescent_CombineInnerIdeal (hCombineInnerIdeal := hCombineInnerIdeal)
    ∧ quiescent_CombineInnerReferenceIdeal (hCombineInnerReferenceIdeal := hCombineInnerReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Ffn_FfnIdeal
    ∧ algebraic_FfnIdeal_FfnReferenceIdeal (hFfnIdeal := hFfnIdeal) (hFfnReferenceIdeal := hFfnReferenceIdeal)
    ∧ preserves_ConvProj_ConvProjIdeal
    ∧ algebraic_ConvProjIdeal_ConvProjReferenceIdeal (hConvProjIdeal := hConvProjIdeal) (hConvProjReferenceIdeal := hConvProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Combine_CombineIdeal
    ∧ algebraic_CombineIdeal_CombineReferenceIdeal (hCombineIdeal := hCombineIdeal) (hCombineReferenceIdeal := hCombineReferenceIdeal)
    ∧ preserves_AttnProj_AttnProjIdeal
    ∧ algebraic_AttnProjIdeal_AttnProjReferenceIdeal (hAttnProjIdeal := hAttnProjIdeal) (hAttnProjReferenceIdeal := hAttnProjReferenceIdeal)
    ∧ preserves_Modulation_ModulationIdeal
    ∧ algebraic_ModulationIdeal_ModulationReferenceIdeal (hModulationIdeal := hModulationIdeal) (hModulationReferenceIdeal := hModulationReferenceIdeal)
    ∧ preserves_CtxProj_CtxProjIdeal
    ∧ algebraic_CtxProjIdeal_CtxProjReferenceIdeal (hCtxProjIdeal := hCtxProjIdeal) (hCtxProjReferenceIdeal := hCtxProjReferenceIdeal)
    ∧ preserves_CombineInner_CombineInnerIdeal
    ∧ algebraic_CombineInnerIdeal_CombineInnerReferenceIdeal (hCombineInnerIdeal := hCombineInnerIdeal) (hCombineInnerReferenceIdeal := hCombineInnerReferenceIdeal)
-- ==== Pre_finite_inputs.lean ====
abbrev S16x2048x512 : Shape := ⟨3, ![16, 2048, 512]⟩
abbrev S16x256x512 : Shape := ⟨3, ![16, 256, 512]⟩
abbrev S64 : Shape := ⟨1, ![64]⟩
abbrev S128 : Shape := ⟨1, ![128]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S16x256x512 : S_.BroadcastsInDim S16x256x512 (![] : Fin 0 → Fin S16x256x512.rank)
  reducesTo_S16x256x512_S_d0_1_2 : S16x256x512.ReducesTo [0, 1, 2] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S16x256x512 .f32) (main_arg5 : FVec F S64 .f32) (main_arg6 : FVec F S64 .f32) (main_arg7 : FVec F S64 .f32) (main_arg8 : FVec F S64 .f32) (main_v13 : IVec S_ 1) (main_v16 : IVec S16x256x512 1) : IVec S_ 1 :=
  let main_c_5 : IVec S_ 1 := constantI S_ 1 1#1
  let main_v17 : IVec S_ 1 := (fun x v => Host.reduce IntOp.andi x v reducesTo_S16x256x512_S_d0_1_2 h_S_) main_v16 main_c_5
  let main_v18 : IVec S_ 1 := andi main_v13 main_v17
  let main_v19 : FVec F S16x256x512 .f32 := Host.absf main_arg4
  let main_cst_6 : FVec F S_ .f32 := constant S_ .f32 0x7F800000#32
  let main_v20 : FVec F S16x256x512 .f32 := broadcastInDim S16x256x512 ![] bcast_S_S16x256x512 main_cst_6
  let main_v21 : IVec S16x256x512 1 := cmpf .olt main_v19 main_v20
  let main_c_7 : IVec S_ 1 := constantI S_ 1 1#1
  let main_v22 : IVec S_ 1 := (fun x v => Host.reduce IntOp.andi x v reducesTo_S16x256x512_S_d0_1_2 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S16x2048x512 .f32) (main_arg1 : FVec F S16x2048x512 .f32) (main_arg2 : FVec F S16x2048x512 .f32) (main_arg3 : FVec F S16x256x512 .f32) (main_arg4 : FVec F S16x256x512 .f32) (main_arg5 : FVec F S64 .f32) (main_arg6 : FVec F S64 .f32) (main_arg7 : FVec F S64 .f32) (main_arg8 : FVec F S64 .f32) (main_arg9 : FVec F S128 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  let main_v9 : FVec F S16x2048x512 .f32 := Host.absf main_arg2
  let main_cst_2 : FVec F S_ .f32 := constant S_ .f32 0x7F800000#32
  let main_v10 : FVec F S16x2048x512 .f32 := broadcastInDim S16x2048x512 ![] bcast_S_S16x2048x512 main_cst_2
  let main_v11 : IVec S16x2048x512 1 := cmpf .olt main_v9 main_v10
  let main_c_3 : IVec S_ 1 := constantI S_ 1 1#1
  let main_v12 : IVec S_ 1 := (fun x v => Host.reduce IntOp.andi x v reducesTo_S16x2048x512_S_d0_1_2 h_S_) main_v11 main_c_3
  let main_v13 : IVec S_ 1 := andi main_v8 main_v12
  let main_v14 : FVec F S16x256x512 .f32 := Host.absf main_arg3
  let main_cst_4 : FVec F S_ .f32 := constant S_ .f32 0x7F800000#32
  let main_v15 : FVec F S16x256x512 .f32 := broadcastInDim S16x256x512 ![] bcast_S_S16x256x512 main_cst_4
  let main_v16 : IVec S16x256x512 1 := cmpf .olt main_v14 main_v15
  fn_part1 (F := F) main_arg4 main_arg5 main_arg6 main_arg7 main_arg8 main_v13 main_v16
-- ==== Kernel.lean ====
abbrev S16x2048x512 : Shape := ⟨3, ![16, 2048, 512]⟩
abbrev S16x256x512 : Shape := ⟨3, ![16, 256, 512]⟩
abbrev S64 : Shape := ⟨1, ![64]⟩
abbrev S128 : Shape := ⟨1, ![128]⟩
abbrev S_ : Shape := ⟨0, ![]⟩
abbrev S16x2048x3072 : Shape := ⟨3, ![16, 2048, 3072]⟩
abbrev S16x256x2048 : Shape := ⟨3, ![16, 256, 2048]⟩
abbrev S1x64 : Shape := ⟨2, ![1, 64]⟩
abbrev S1x128 : Shape := ⟨2, ![1, 128]⟩
abbrev S1x512x512 : Shape := ⟨3, ![1, 512, 512]⟩
abbrev S1x2048x512 : Shape := ⟨3, ![1, 2048, 512]⟩
abbrev S1x256x512 : Shape := ⟨3, ![1, 256, 512]⟩
abbrev S1 : Shape := ⟨1, ![1]⟩
abbrev S1x1 : Shape := ⟨2, ![1, 1]⟩
abbrev S512x128 : Shape := ⟨2, ![512, 128]⟩
abbrev S1x512x128 : Shape := ⟨3, ![1, 512, 128]⟩
abbrev S1x2048x128 : Shape := ⟨3, ![1, 2048, 128]⟩
abbrev S2048x128 : Shape := ⟨2, ![2048, 128]⟩
abbrev S512x2048 : Shape := ⟨2, ![512, 2048]⟩
abbrev S1x256x128 : Shape := ⟨3, ![1, 256, 128]⟩
abbrev S256x128 : Shape := ⟨2, ![256, 128]⟩
abbrev S512x256 : Shape := ⟨2, ![512, 256]⟩
abbrev S2048x256 : Shape := ⟨2, ![2048, 256]⟩
abbrev S256x256 : Shape := ⟨2, ![256, 256]⟩
abbrev S512 : Shape := ⟨1, ![512]⟩
abbrev S512x1 : Shape := ⟨2, ![512, 1]⟩

abbrev nBuf : Space → Nat
  | .hbm => 26
  | .vmem => 17
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x256x512, .f32⟩
  | .hbm, ⟨4, _⟩ => ⟨S16x256x512, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16x2048x512, .f32⟩
  | .hbm, ⟨15, _⟩ => ⟨S16x2048x512, .f32⟩
  | .hbm, ⟨16, _⟩ => ⟨S16x2048x3072, .f32⟩
  | .hbm, ⟨17, _⟩ => ⟨S16x2048x3072, .bf16⟩
  | .hbm, ⟨18, _⟩ => ⟨S16x256x2048, .f32⟩
  | .hbm, ⟨19, _⟩ => ⟨S16x256x2048, .bf16⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x128, .f32⟩
  | .hbm, ⟨25, _⟩ => ⟨S16x2048x512, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S1x512x512, .bf16⟩
  | .local _ .vmem, ⟨6, _⟩ => ⟨S1x512x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x512x512, .bf16⟩
  | .local _ .vmem, ⟨16, _⟩ => ⟨S1x512x512, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16x2048x512 : Shape := ⟨3, ![16, 2048, 512]⟩
abbrev S16x256x512 : Shape := ⟨3, ![16, 256, 512]⟩
abbrev S64 : Shape := ⟨1, ![64]⟩
abbrev S128 : Shape := ⟨1, ![128]⟩
abbrev S16x2048x4x2x64 : Shape := ⟨5, ![16, 2048, 4, 2, 64]⟩
abbrev S16x2304x512 : Shape := ⟨3, ![16, 2304, 512]⟩
abbrev S16x2304x4x2x64 : Shape := ⟨5, ![16, 2304, 4, 2, 64]⟩
abbrev S16x2304x4x128 : Shape := ⟨4, ![16, 2304, 4, 128]⟩
abbrev S_ : Shape := ⟨0, ![]⟩
abbrev S16x4x2x2048x2304 : Shape := ⟨5, ![16, 4, 2, 2048, 2304]⟩
abbrev S16x4x2x2048 : Shape := ⟨4, ![16, 4, 2, 2048]⟩
abbrev S16x4x2x2048x1 : Shape := ⟨5, ![16, 4, 2, 2048, 1]⟩
abbrev S16x4x1x2048x2304 : Shape := ⟨5, ![16, 4, 1, 2048, 2304]⟩
abbrev S16x4x2048x2304 : Shape := ⟨4, ![16, 4, 2048, 2304]⟩
abbrev S16x4x128x2048 : Shape := ⟨4, ![16, 4, 128, 2048]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩

abbrev nBuf : Space → Nat
  | .hbm => 74
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x256x512, .f32⟩
  | .hbm, ⟨4, _⟩ => ⟨S16x256x512, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S16x2048x4x2x64, .f32⟩
  | .hbm, ⟨11, _⟩ => ⟨S16x2304x512, .f32⟩
  | .hbm, ⟨12, _⟩ => ⟨S16x2304x4x2x64, .f32⟩
  | .hbm, ⟨13, _⟩ => ⟨S16x2304x512, .f32⟩
  | .hbm, ⟨14, _⟩ => ⟨S16x2304x4x128, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16x4x2x2048x2304, .f32⟩
  | .hbm, ⟨27, _⟩ => ⟨S_, .f32⟩
  | .hbm, ⟨28, _⟩ => ⟨S16x4x2x2048x2304, .f32⟩
  | .hbm, ⟨29, _⟩ => ⟨S16x4x2x2048x2304, .f32⟩
  | .hbm, ⟨30, _⟩ => ⟨S_, .f32⟩
  | .hbm, ⟨31, _⟩ => ⟨S16x4x2x2048, .f32⟩
  | .hbm, ⟨32, _⟩ => ⟨S_, .f32⟩
  | .hbm, ⟨33, _⟩ => ⟨S16x4x2x2048, .f32⟩
  | .hbm, ⟨34, _⟩ => ⟨S16x4x2x2048, .f32⟩
  | .hbm, ⟨35, _⟩ => ⟨S16x4x2x2048x1, .f32⟩
  | .hbm, ⟨36, _⟩ => ⟨S16x4x2x2048x2304, .f32⟩
  | .hbm, ⟨37, _⟩ => ⟨S16x4x2x2048x2304, .f32⟩
  | .hbm, ⟨38, _⟩ => ⟨S16x4x2x2048x2304, .f32⟩
  | .hbm, ⟨39, _⟩ => ⟨S_, .f32⟩
  | .hbm, ⟨40, _⟩ => ⟨S16x4x2x2048, .f32⟩
  | .hbm, ⟨41, _⟩ => ⟨S16x4x2x2048x1, .f32⟩
  | .hbm, ⟨42, _⟩ => ⟨S16x4x2x2048x2304, .f32⟩
  | .hbm, ⟨43, _⟩ => ⟨S16x4x2x2048x2304, .f32⟩
  | .hbm, ⟨44, _⟩ => ⟨S16x4x1x2048x2304, .f32⟩
  | .hbm, ⟨45, _⟩ => ⟨S16x4x2048x2304, .f32⟩
  | .hbm, ⟨46, _⟩ => ⟨S16x4x1x2048x2304, .f32⟩
  | .hbm, ⟨47, _⟩ => ⟨S16x4x2048x2304, .f32⟩
  | .hbm, ⟨48, _⟩ => ⟨S16x4x2048x2304, .f32⟩
  | .hbm, ⟨49, _⟩ => ⟨S16x4x2048x2304, .f32⟩
  | .hbm, ⟨50, _⟩ => ⟨S16x4x2048x2304, .f32⟩
  | .hbm, ⟨51, _⟩ => ⟨S16x4x128x2048, .f32⟩
  | .hbm, ⟨52, _⟩ => ⟨S16x2048x4x128, .f32⟩
  | .hbm, ⟨53, _⟩ => ⟨S16x2048x4x128, .f32⟩
  | .hbm, ⟨54, _⟩ => ⟨S_, .f32⟩
  | .hbm, ⟨55, _⟩ => ⟨S16x2048x4, .f32⟩
  | .hbm, ⟨56, _⟩ => ⟨S16x2048x4x1, .f32⟩
  | .hbm, ⟨57, _⟩ => ⟨S_, .f32⟩
  | .hbm, ⟨58, _⟩ => ⟨S16x2048x4x1, .f32⟩
  | .hbm, ⟨59, _⟩ => ⟨S16x2048x4x1, .f32⟩
  | .hbm, ⟨60, _⟩ => ⟨S_, .f32⟩
  | .hbm, ⟨61, _⟩ => ⟨S16x2048x4x1, .f32⟩
  | .hbm, ⟨62, _⟩ => ⟨S16x2048x4x1, .f32⟩
  | .hbm, ⟨63, _⟩ => ⟨S16x2048x4x1, .f32⟩
  | .hbm, ⟨64, _⟩ => ⟨S16x2048x4x128, .f32⟩
  | .hbm, ⟨65, _⟩ => ⟨S16x2048x4x128, .f32⟩
  | .hbm, ⟨66, _⟩ => ⟨S1x1x1x128, .f32⟩
  | .hbm, ⟨67, _⟩ => ⟨S16x2048x4x128, .f32⟩
  | .hbm, ⟨68, _⟩ => ⟨S16x2048x4x128, .f32⟩
  | .hbm, ⟨69, _⟩ => ⟨S_, .f32⟩
  | .hbm, ⟨70, _⟩ => ⟨S16x2048x4x128, .f32⟩
  | .hbm, ⟨71, _⟩ => ⟨S16x2048x4x128, .f32⟩
  | .hbm, ⟨72, _⟩ => ⟨S16x2048x512, .f32⟩
  | .hbm, ⟨73, _⟩ => ⟨S16x2048x512, .bf16⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]
-- ==== Ffn.lean ====
abbrev S16x4096x1024 : Shape := ⟨3, ![16, 4096, 1024]⟩
abbrev S16x4096 : Shape := ⟨2, ![16, 4096]⟩
abbrev S16x1024x2816 : Shape := ⟨3, ![16, 1024, 2816]⟩
abbrev S16x2816x1024 : Shape := ⟨3, ![16, 2816, 1024]⟩
abbrev S16x4096x1 : Shape := ⟨3, ![16, 4096, 1]⟩
abbrev S16x4096x128 : Shape := ⟨3, ![16, 4096, 128]⟩
abbrev S1x2048x1024 : Shape := ⟨3, ![1, 2048, 1024]⟩
abbrev S1x2048x128 : Shape := ⟨3, ![1, 2048, 128]⟩
abbrev S1x1024x256 : Shape := ⟨3, ![1, 1024, 256]⟩
abbrev S1x256x1024 : Shape := ⟨3, ![1, 256, 1024]⟩
abbrev S2048x1024 : Shape := ⟨2, ![2048, 1024]⟩
abbrev S1024x256 : Shape := ⟨2, ![1024, 256]⟩
abbrev S256x1024 : Shape := ⟨2, ![256, 1024]⟩
abbrev S1x1024x1024 : Shape := ⟨3, ![1, 1024, 1024]⟩
abbrev S1024x1024 : Shape := ⟨2, ![1024, 1024]⟩
abbrev S1x1024x128 : Shape := ⟨3, ![1, 1024, 128]⟩
abbrev S1024x128 : Shape := ⟨2, ![1024, 128]⟩

abbrev nBuf : Space → Nat
  | .hbm => 8
  | .vmem => 13
  | .smem => 0
  | _ => 0

abbrev bufTy : (tb : Table) → Fin (tcTables nBuf tb) → BufTy
  | .hbm, ⟨0, _⟩ => ⟨S16x4096x1024, .bf16⟩
  | .hbm, ⟨1, _⟩ => ⟨S16x4096, .f32⟩
  | .hbm, ⟨2, _⟩ => ⟨S16x1024x2816, .f32⟩
  | .hbm, ⟨3, _⟩ => ⟨S16x1024x2816, .f32⟩
  | .hbm, ⟨4, _⟩ => ⟨S16x2816x1024, .f32⟩
  | .hbm, ⟨5, _⟩ => ⟨S16x4096x1, .f32⟩
  | .hbm, ⟨6, _⟩ => ⟨S16x4096x128, .f32⟩
  | .hbm, ⟨7, _⟩ => ⟨S16x4096x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x128, .f32⟩
  | .local _ .vmem, ⟨3, _⟩ => ⟨S1x2048x128, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x256x1024, .f32⟩
  | .local _ .vmem, ⟨9, _⟩ => ⟨S1x256x1024, .f32⟩
  | .local _ .vmem, ⟨10, _⟩ => ⟨S1x2048x1024, .bf16⟩
  | .local _ .vmem, ⟨11, _⟩ => ⟨S1x2048x1024, .bf16⟩
  | .local _ .vmem, ⟨12, _⟩ => ⟨S2048x1024, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 11], ![false, false, false]⟩

def k0_cond3 (i : grid0.Coords) : BitVec 1 :=
  let arg2 : BitVec 32 := BitVec.ofNat 32 (i 2).val
  let c10_i32_3 : BitVec 32 := 10#32
  let v8 : BitVec 1 := Scalar.cmpi .eq arg2 c10_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnReferenceIdeal.lean ====
abbrev S16x4096x1024 : Shape := ⟨3, ![16, 4096, 1024]⟩
abbrev S16x4096 : Shape := ⟨2, ![16, 4096]⟩
abbrev S16x1024x2816 : Shape := ⟨3, ![16, 1024, 2816]⟩
abbrev S16x2816x1024 : Shape := ⟨3, ![16, 2816, 1024]⟩
abbrev S16x4096x2816 : Shape := ⟨3, ![16, 4096, 2816]⟩
abbrev S_ : Shape := ⟨0, ![]⟩
abbrev S16x4096x1 : Shape := ⟨3, ![16, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x4096, .f32⟩
  | .hbm, ⟨2, _⟩ => ⟨S16x1024x2816, .f32⟩
  | .hbm, ⟨3, _⟩ => ⟨S16x1024x2816, .f32⟩
  | .hbm, ⟨4, _⟩ => ⟨S16x2816x1024, .f32⟩
  | .hbm, ⟨5, _⟩ => ⟨S16x4096x1024, .f32⟩
  | .hbm, ⟨6, _⟩ => ⟨S16x4096x2816, .f32⟩
  | .hbm, ⟨7, _⟩ => ⟨S16x4096x2816, .f32⟩
  | .hbm, ⟨8, _⟩ => ⟨S16x4096x2816, .f32⟩
  | .hbm, ⟨9, _⟩ => ⟨S_, .f32⟩
  | .hbm, ⟨10, _⟩ => ⟨S16x4096x2816, .f32⟩
  | .hbm, ⟨11, _⟩ => ⟨S16x4096x2816, .f32⟩
  | .hbm, ⟨12, _⟩ => ⟨S_, .f32⟩
  | .hbm, ⟨13, _⟩ => ⟨S16x4096x2816, .f32⟩
  | .hbm, ⟨14, _⟩ => ⟨S16x4096x2816, .f32⟩
  | .hbm, ⟨15, _⟩ => ⟨S16x4096x2816, .f32⟩
  | .hbm, ⟨16, _⟩ => ⟨S16x4096x2816, .f32⟩
  | .hbm, ⟨17, _⟩ => ⟨S16x4096x2816, .f32⟩
  | .hbm, ⟨18, _⟩ => ⟨S16x4096x1024, .f32⟩
  | .hbm, ⟨19, _⟩ => ⟨S16x4096x1, .f32⟩
  | .hbm, ⟨20, _⟩ => ⟨S16x4096x1024, .f32⟩
  | .hbm, ⟨21, _⟩ => ⟨S16x4096x1024, .f32⟩
  | .hbm, ⟨22, _⟩ => ⟨S16x4096x1024, .bf16⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== ConvProj.lean ====
abbrev S16x2048x1024 : Shape := ⟨3, ![16, 2048, 1024]⟩
abbrev S1024 : Shape := ⟨1, ![1024]⟩
abbrev S16x1024 : Shape := ⟨2, ![16, 1024]⟩
abbrev S1024x2560 : Shape := ⟨2, ![1024, 2560]⟩
abbrev S16x1x1024 : Shape := ⟨3, ![16, 1, 1024]⟩
abbrev S1x1024 : Shape := ⟨2, ![1, 1024]⟩
abbrev S16x2048x512 : Shape := ⟨3, ![16, 2048, 512]⟩
abbrev S1x1024x1024 : Shape := ⟨3, ![1, 1024, 1024]⟩
abbrev S1x1x1024 : Shape := ⟨3, ![1, 1, 1024]⟩
abbrev S1x1024x512 : Shape := ⟨3, ![1, 1024, 512]⟩
abbrev S1024x1024 : Shape := ⟨2, ![1024, 1024]⟩
abbrev S1024x1 : Shape := ⟨2, ![1024, 1]⟩
abbrev S1024x512 : Shape := ⟨2, ![1024, 512]⟩

abbrev nBuf : Space → Nat
  | .hbm => 12
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x2560, .f32⟩
  | .hbm, ⟨5, _⟩ => ⟨S16x1x1024, .f32⟩
  | .hbm, ⟨6, _⟩ => ⟨S16x1x1024, .f32⟩
  | .hbm, ⟨7, _⟩ => ⟨S1024x2560, .bf16⟩
  | .hbm, ⟨8, _⟩ => ⟨S1x1024, .f32⟩
  | .hbm, ⟨9, _⟩ => ⟨S16x2048x512, .f32⟩
  | .hbm, ⟨10, _⟩ => ⟨S16x2048x512, .f32⟩
  | .hbm, ⟨11, _⟩ => ⟨S16x2048x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .bf16⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvProjReferenceIdeal.lean ====
abbrev S16x2048x1024 : Shape := ⟨3, ![16, 2048, 1024]⟩
abbrev S1024 : Shape := ⟨1, ![1024]⟩
abbrev S16x1024 : Shape := ⟨2, ![16, 1024]⟩
abbrev S1024x2560 : Shape := ⟨2, ![1024, 2560]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x2560 : Shape := ⟨3, ![16, 2048, 2560]⟩
abbrev S16x2048x512 : Shape := ⟨3, ![16, 2048, 512]⟩

abbrev nBuf : Space → Nat
  | .hbm => 46
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x2560, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x1x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S16x2048x1024, .f32⟩
  | .hbm, ⟨26, _⟩ => ⟨S16x2048x1024, .f32⟩
  | .hbm, ⟨27, _⟩ => ⟨S16x1x1024, .f32⟩
  | .hbm, ⟨28, _⟩ => ⟨S16x2048x1024, .f32⟩
  | .hbm, ⟨29, _⟩ => ⟨S16x2048x1024, .f32⟩
  | .hbm, ⟨30, _⟩ => ⟨S16x2048x2560, .f32⟩
  | .hbm, ⟨31, _⟩ => ⟨S16x2048x512, .f32⟩
  | .hbm, ⟨32, _⟩ => ⟨S16x2048x512, .f32⟩
  | .hbm, ⟨33, _⟩ => ⟨S16x2048x512, .f32⟩
  | .hbm, ⟨34, _⟩ => ⟨S16x2048x512, .f32⟩
  | .hbm, ⟨35, _⟩ => ⟨S16x2048x512, .f32⟩
  | .hbm, ⟨36, _⟩ => ⟨S16x2048x512, .f32⟩
  | .hbm, ⟨37, _⟩ => ⟨S16x2048x512, .f32⟩
  | .hbm, ⟨38, _⟩ => ⟨S16x2048x512, .f32⟩
  | .hbm, ⟨39, _⟩ => ⟨S_, .f32⟩
  | .hbm, ⟨40, _⟩ => ⟨S16x2048x512, .f32⟩
  | .hbm, ⟨41, _⟩ => ⟨S16x2048x512, .f32⟩
  | .hbm, ⟨42, _⟩ => ⟨S_, .f32⟩
  | .hbm, ⟨43, _⟩ => ⟨S16x2048x512, .f32⟩
  | .hbm, ⟨44, _⟩ => ⟨S16x2048x512, .f32⟩
  | .hbm, ⟨45, _⟩ => ⟨S16x2048x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== OutProj.lean ====
abbrev S16x2048x1024 : Shape := ⟨3, ![16, 2048, 1024]⟩
abbrev S16x2048x512 : Shape := ⟨3, ![16, 2048, 512]⟩
abbrev S1024x1024 : Shape := ⟨2, ![1024, 1024]⟩
abbrev S16x1024 : Shape := ⟨2, ![16, 1024]⟩
abbrev S1024 : Shape := ⟨1, ![1024]⟩
abbrev S1024x16 : Shape := ⟨2, ![1024, 16]⟩
abbrev S16x1x1024 : Shape := ⟨3, ![16, 1, 1024]⟩
abbrev S1x1024 : Shape := ⟨2, ![1, 1024]⟩
abbrev S16x16x2048 : Shape := ⟨3, ![16, 16, 2048]⟩
abbrev S1x1024x1024 : Shape := ⟨3, ![1, 1024, 1024]⟩
abbrev S1x1024x512 : Shape := ⟨3, ![1, 1024, 512]⟩
abbrev S1x1x1024 : Shape := ⟨3, ![1, 1, 1024]⟩
abbrev S1x16x1024 : Shape := ⟨3, ![1, 16, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 19
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S1024x1024, .f32⟩
  | .hbm, ⟨4, _⟩ => ⟨S16x1024, .f32⟩
  | .hbm, ⟨5, _⟩ => ⟨S1024, .f32⟩
  | .hbm, ⟨6, _⟩ => ⟨S16x1024, .f32⟩
  | .hbm, ⟨7, _⟩ => ⟨S16x1024, .f32⟩
  | .hbm, ⟨8, _⟩ => ⟨S1024x16, .f32⟩
  | .hbm, ⟨9, _⟩ => ⟨S1024x1024, .bf16⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1024, .f32⟩
  | .hbm, ⟨14, _⟩ => ⟨S16x1024, .bf16⟩
  | .hbm, ⟨15, _⟩ => ⟨S1x1024, .f32⟩
  | .hbm, ⟨16, _⟩ => ⟨S16x2048x1024, .f32⟩
  | .hbm, ⟨17, _⟩ => ⟨S16x2048x1024, .bf16⟩
  | .hbm, ⟨18, _⟩ => ⟨S16x16x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S16x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S1x1024x1024, .bf16⟩
  | .local _ .vmem, ⟨18, _⟩ => ⟨S1x1024x1024, .bf16⟩
  | .local _ .vmem, ⟨19, _⟩ => ⟨S1x16x1024, .f32⟩
  | .local _ .vmem, ⟨20, _⟩ => ⟨S1x16x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S16x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutProjReferenceIdeal.lean ====
abbrev S16x2048x1024 : Shape := ⟨3, ![16, 2048, 1024]⟩
abbrev S16x2048x512 : Shape := ⟨3, ![16, 2048, 512]⟩
abbrev S1024x1024 : Shape := ⟨2, ![1024, 1024]⟩
abbrev S16x1024 : Shape := ⟨2, ![16, 1024]⟩
abbrev S1024 : Shape := ⟨1, ![1024]⟩
abbrev S1024x16 : Shape := ⟨2, ![1024, 16]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x16 : Shape := ⟨3, ![16, 2048, 16]⟩
abbrev S16x16x2048 : Shape := ⟨3, ![16, 16, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S1024x1024, .f32⟩
  | .hbm, ⟨4, _⟩ => ⟨S16x1024, .f32⟩
  | .hbm, ⟨5, _⟩ => ⟨S1024, .f32⟩
  | .hbm, ⟨6, _⟩ => ⟨S16x1024, .f32⟩
  | .hbm, ⟨7, _⟩ => ⟨S16x1024, .f32⟩
  | .hbm, ⟨8, _⟩ => ⟨S1024x16, .f32⟩
  | .hbm, ⟨9, _⟩ => ⟨S16x2048x1024, .bf16⟩
  | .hbm, ⟨10, _⟩ => ⟨S16x2048x1024, .f32⟩
  | .hbm, ⟨11, _⟩ => ⟨S16x2048x1024, .f32⟩
  | .hbm, ⟨12, _⟩ => ⟨S16x1x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S1x1x1024, .f32⟩
  | .hbm, ⟨30, _⟩ => ⟨S16x2048x1024, .f32⟩
  | .hbm, ⟨31, _⟩ => ⟨S16x2048x1024, .f32⟩
  | .hbm, ⟨32, _⟩ => ⟨S16x1x1024, .f32⟩
  | .hbm, ⟨33, _⟩ => ⟨S_, .f32⟩
  | .hbm, ⟨34, _⟩ => ⟨S16x1x1024, .f32⟩
  | .hbm, ⟨35, _⟩ => ⟨S16x1x1024, .f32⟩
  | .hbm, ⟨36, _⟩ => ⟨S16x2048x1024, .f32⟩
  | .hbm, ⟨37, _⟩ => ⟨S16x2048x1024, .f32⟩
  | .hbm, ⟨38, _⟩ => ⟨S16x1x1024, .f32⟩
  | .hbm, ⟨39, _⟩ => ⟨S16x2048x1024, .f32⟩
  | .hbm, ⟨40, _⟩ => ⟨S16x2048x1024, .f32⟩
  | .hbm, ⟨41, _⟩ => ⟨S16x2048x16, .f32⟩
  | .hbm, ⟨42, _⟩ => ⟨S_, .f32⟩
  | .hbm, ⟨43, _⟩ => ⟨S16x2048, .f32⟩
  | .hbm, ⟨44, _⟩ => ⟨S_, .f32⟩
  | .hbm, ⟨45, _⟩ => ⟨S16x2048, .f32⟩
  | .hbm, ⟨46, _⟩ => ⟨S16x2048, .f32⟩
  | .hbm, ⟨47, _⟩ => ⟨S16x2048x1, .f32⟩
  | .hbm, ⟨48, _⟩ => ⟨S16x2048x16, .f32⟩
  | .hbm, ⟨49, _⟩ => ⟨S16x2048x16, .f32⟩
  | .hbm, ⟨50, _⟩ => ⟨S16x2048x16, .f32⟩
  | .hbm, ⟨51, _⟩ => ⟨S_, .f32⟩
  | .hbm, ⟨52, _⟩ => ⟨S16x2048, .f32⟩
  | .hbm, ⟨53, _⟩ => ⟨S16x2048x1, .f32⟩
  | .hbm, ⟨54, _⟩ => ⟨S16x2048x16, .f32⟩
  | .hbm, ⟨55, _⟩ => ⟨S16x2048x16, .f32⟩
  | .hbm, ⟨56, _⟩ => ⟨S16x2048x1024, .bf16⟩
  | .hbm, ⟨57, _⟩ => ⟨S16x16x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Combine.lean ====
abbrev S16x2048x128 : Shape := ⟨3, ![16, 2048, 128]⟩
abbrev S16x4096x1024 : Shape := ⟨3, ![16, 4096, 1024]⟩
abbrev S16x2048x1024 : Shape := ⟨3, ![16, 2048, 1024]⟩
abbrev S16x1024 : Shape := ⟨2, ![16, 1024]⟩
abbrev S1024 : Shape := ⟨1, ![1024]⟩
abbrev S16x1x1024 : Shape := ⟨3, ![16, 1, 1024]⟩
abbrev S1x1024 : Shape := ⟨2, ![1, 1024]⟩
abbrev S1x1024x128 : Shape := ⟨3, ![1, 1024, 128]⟩
abbrev S16x256x1024 : Shape := ⟨3, ![16, 256, 1024]⟩
abbrev S1x1024x1024 : Shape := ⟨3, ![1, 1024, 1024]⟩
abbrev S1x1x1024 : Shape := ⟨3, ![1, 1, 1024]⟩
abbrev S1024x256 : Shape := ⟨2, ![1024, 256]⟩
abbrev S1x1024x1 : Shape := ⟨3, ![1, 1024, 1]⟩
abbrev S1024x1 : Shape := ⟨2, ![1024, 1]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 8
  | .vmem => 11
  | .smem => 0
  | _ => 0

abbrev bufTy : (tb : Table) → Fin (tcTables nBuf tb) → BufTy
  | .hbm, ⟨0, _⟩ => ⟨S16x2048x128, .i32⟩
  | .hbm, ⟨1, _⟩ => ⟨S16x4096x1024, .bf16⟩
  | .hbm, ⟨2, _⟩ => ⟨S16x2048x1024, .f32⟩
  | .hbm, ⟨3, _⟩ => ⟨S16x1024, .f32⟩
  | .hbm, ⟨4, _⟩ => ⟨S1024, .f32⟩
  | .hbm, ⟨5, _⟩ => ⟨S16x1x1024, .f32⟩
  | .hbm, ⟨6, _⟩ => ⟨S1x1024, .f32⟩
  | .hbm, ⟨7, _⟩ => ⟨S16x2048x1024, .f32⟩
  | .local _ .vmem, ⟨0, _⟩ => ⟨S1x1024x128, .i32⟩
  | .local _ .vmem, ⟨1, _⟩ => ⟨S1x1024x128, .i32⟩
  | .local _ .vmem, ⟨2, _⟩ => ⟨S16x256x1024, .bf16⟩
  | .local _ .vmem, ⟨3, _⟩ => ⟨S16x256x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S16x2048x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CombineReferenceIdeal.lean ====
abbrev S16x2048x128 : Shape := ⟨3, ![16, 2048, 128]⟩
abbrev S16x4096x1024 : Shape := ⟨3, ![16, 4096, 1024]⟩
abbrev S16x2048x1024 : Shape := ⟨3, ![16, 2048, 1024]⟩
abbrev S16x1024 : Shape := ⟨2, ![16, 1024]⟩
abbrev S1024 : Shape := ⟨1, ![1024]⟩
abbrev S16x2048x16 : Shape := ⟨3, ![16, 2048, 16]⟩
abbrev S16x16x2048 : Shape := ⟨3, ![16, 16, 2048]⟩
abbrev S16x16x256x1024 : Shape := ⟨4, ![16, 16, 256, 1024]⟩
abbrev S16x16x2048x1 : Shape := ⟨4, ![16, 16, 2048, 1]⟩
abbrev S256 : Shape := ⟨1, ![256]⟩
abbrev S1x1x1x256 : Shape := ⟨4, ![1, 1, 1, 256]⟩
abbrev S16x16x2048x256 : Shape := ⟨4, ![16, 16, 2048, 256]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16x2048x128, .i32⟩
  | .hbm, ⟨1, _⟩ => ⟨S16x4096x1024, .bf16⟩
  | .hbm, ⟨2, _⟩ => ⟨S16x2048x1024, .f32⟩
  | .hbm, ⟨3, _⟩ => ⟨S16x1024, .f32⟩
  | .hbm, ⟨4, _⟩ => ⟨S1024, .f32⟩
  | .hbm, ⟨5, _⟩ => ⟨S16x2048x16, .i32⟩
  | .hbm, ⟨6, _⟩ => ⟨S16x16x2048, .i32⟩
  | .hbm, ⟨7, _⟩ => ⟨S16x4096x1024, .f32⟩
  | .hbm, ⟨8, _⟩ => ⟨S16x16x256x1024, .f32⟩
  | .hbm, ⟨9, _⟩ => ⟨S16x16x256x1024, .f32⟩
  | .hbm, ⟨10, _⟩ => ⟨S16x16x2048x1, .i32⟩
  | .hbm, ⟨11, _⟩ => ⟨S256, .i32⟩
  | .hbm, ⟨12, _⟩ => ⟨S1x1x1x256, .i32⟩
  | .hbm, ⟨13, _⟩ => ⟨S16x16x2048x256, .i32⟩
  | .hbm, ⟨14, _⟩ => ⟨S16x16x2048x256, .i32⟩
  | .hbm, ⟨15, _⟩ => ⟨S16x16x2048x256, .i1⟩
  | .hbm, ⟨16, _⟩ => ⟨S16x16x2048x256, .f32⟩
  | .hbm, ⟨17, _⟩ => ⟨S16x2048x1024, .f32⟩
  | .hbm, ⟨18, _⟩ => ⟨S16x1x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x2048, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S_, .f32⟩
  | .hbm, ⟨30, _⟩ => ⟨S16x2048x1, .f32⟩
  | .hbm, ⟨31, _⟩ => ⟨S16x2048x1, .f32⟩
  | .hbm, ⟨32, _⟩ => ⟨S16x2048x1, .f32⟩
  | .hbm, ⟨33, _⟩ => ⟨S16x2048x1024, .f32⟩
  | .hbm, ⟨34, _⟩ => ⟨S16x2048x1024, .f32⟩
  | .hbm, ⟨35, _⟩ => ⟨S1x1x1024, .f32⟩
  | .hbm, ⟨36, _⟩ => ⟨S16x2048x1024, .f32⟩
  | .hbm, ⟨37, _⟩ => ⟨S16x2048x1024, .f32⟩
  | _, _ => ⟨S16x2048x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== AttnProj.lean ====
abbrev S16x2048x1024 : Shape := ⟨3, ![16, 2048, 1024]⟩
abbrev S1024 : Shape := ⟨1, ![1024]⟩
abbrev S16x1024 : Shape := ⟨2, ![16, 1024]⟩
abbrev S1024x3072 : Shape := ⟨2, ![1024, 3072]⟩
abbrev S2048x16 : Shape := ⟨2, ![2048, 16]⟩
abbrev S2048x64 : Shape := ⟨2, ![2048, 64]⟩
abbrev S16x1x1024 : Shape := ⟨3, ![16, 1, 1024]⟩
abbrev S2048x128 : Shape := ⟨2, ![2048, 128]⟩
abbrev S1x1024 : Shape := ⟨2, ![1, 1024]⟩
abbrev S16x2048x3072 : Shape := ⟨3, ![16, 2048, 3072]⟩
abbrev S1x1024x1024 : Shape := ⟨3, ![1, 1024, 1024]⟩
abbrev S1x1x1024 : Shape := ⟨3, ![1, 1, 1024]⟩
abbrev S1024x128 : Shape := ⟨2, ![1024, 128]⟩
abbrev S1x1024x3072 : Shape := ⟨3, ![1, 1024, 3072]⟩
abbrev S1024x1024 : Shape := ⟨2, ![1024, 1024]⟩
abbrev S1024x1 : Shape := ⟨2, ![1024, 1]⟩
abbrev S1024x512 : Shape := ⟨2, ![1024, 512]⟩
abbrev S1x1024x128 : Shape := ⟨3, ![1, 1024, 128]⟩

abbrev nBuf : Space → Nat
  | .hbm => 20
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x3072, .f32⟩
  | .hbm, ⟨5, _⟩ => ⟨S2048x16, .f32⟩
  | .hbm, ⟨6, _⟩ => ⟨S2048x16, .f32⟩
  | .hbm, ⟨7, _⟩ => ⟨S2048x16, .f32⟩
  | .hbm, ⟨8, _⟩ => ⟨S2048x16, .f32⟩
  | .hbm, ⟨9, _⟩ => ⟨S2048x64, .f32⟩
  | .hbm, ⟨10, _⟩ => ⟨S2048x16, .f32⟩
  | .hbm, ⟨11, _⟩ => ⟨S2048x16, .f32⟩
  | .hbm, ⟨12, _⟩ => ⟨S2048x64, .f32⟩
  | .hbm, ⟨13, _⟩ => ⟨S16x1x1024, .f32⟩
  | .hbm, ⟨14, _⟩ => ⟨S16x1x1024, .f32⟩
  | .hbm, ⟨15, _⟩ => ⟨S1024x3072, .bf16⟩
  | .hbm, ⟨16, _⟩ => ⟨S2048x128, .f32⟩
  | .hbm, ⟨17, _⟩ => ⟨S2048x128, .f32⟩
  | .hbm, ⟨18, _⟩ => ⟨S1x1024, .f32⟩
  | .hbm, ⟨19, _⟩ => ⟨S16x2048x3072, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1024x3072, .bf16⟩
  | .local _ .vmem, ⟨13, _⟩ => ⟨S1x1024x3072, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnProjReferenceIdeal.lean ====
abbrev S16x2048x1024 : Shape := ⟨3, ![16, 2048, 1024]⟩
abbrev S1024 : Shape := ⟨1, ![1024]⟩
abbrev S16x1024 : Shape := ⟨2, ![16, 1024]⟩
abbrev S1024x3072 : Shape := ⟨2, ![1024, 3072]⟩
abbrev S2048x16 : Shape := ⟨2, ![2048, 16]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S16x2048x3072 : Shape := ⟨3, ![16, 2048, 3072]⟩
abbrev S16x2048x512 : Shape := ⟨3, ![16, 2048, 512]⟩
abbrev S16x2048x8x64 : Shape := ⟨4, ![16, 2048, 8, 64]⟩
abbrev S16x2048x8x32 : Shape := ⟨4, ![16, 2048, 8, 32]⟩
abbrev S2048x1x16 : Shape := ⟨3, ![2048, 1, 16]⟩
abbrev S16x2048x8x16 : Shape := ⟨4, ![16, 2048, 8, 16]⟩
abbrev S1x2048x1x16 : Shape := ⟨4, ![1, 2048, 1, 16]⟩

abbrev nBuf : Space → Nat
  | .hbm => 135
  | .vmem => 0
  | .smem => 0
  | _ => 0

abbrev hbmTy0_0 (i : Nat) : BufTy := match i % 128 with
  | 0 => ⟨S16x2048x1024, .f32⟩
  | 1 => ⟨S1024, .f32⟩
  | 2 => ⟨S16x1024, .f32⟩
  | 3 => ⟨S16x1024, .f32⟩
  | 4 => ⟨S1024x3072, .f32⟩
  | 5 => ⟨S2048x16, .f32⟩
  | 6 => ⟨S2048x16, .f32⟩
  | 7 => ⟨S2048x16, .f32⟩
  | 8 => ⟨S2048x16, .f32⟩
  | 9 => ⟨S16x2048x1024, .f32⟩
  | 10 => ⟨S_, .f32⟩
  | 11 => ⟨S16x2048, .f32⟩
  | 12 => ⟨S16x2048x1, .f32⟩
  | 13 => ⟨S_, .f32⟩
  | 14 => ⟨S16x2048x1, .f32⟩
  | 15 => ⟨S16x2048x1, .f32⟩
  | 16 => ⟨S_, .f32⟩
  | 17 => ⟨S16x2048x1, .f32⟩
  | 18 => ⟨S16x2048x1, .f32⟩
  | 19 => ⟨S16x2048x1, .f32⟩
  | 20 => ⟨S16x2048x1024, .f32⟩
  | 21 => ⟨S16x2048x1024, .f32⟩
  | 22 => ⟨S1x1x1024, .f32⟩
  | 23 => ⟨S16x2048x1024, .f32⟩
  | 24 => ⟨S16x2048x1024, .f32⟩
  | 25 => ⟨S16x1x1024, .f32⟩
  | 26 => ⟨S_, .f32⟩
  | 27 => ⟨S16x1x1024, .f32⟩
  | 28 => ⟨S16x1x1024, .f32⟩
  | 29 => ⟨S16x2048x1024, .f32⟩
  | 30 => ⟨S16x2048x1024, .f32⟩
  | 31 => ⟨S16x1x1024, .f32⟩
  | 32 => ⟨S16x2048x1024, .f32⟩
  | 33 => ⟨S16x2048x1024, .f32⟩
  | 34 => ⟨S16x2048x3072, .f32⟩
  | 35 => ⟨S16x2048x512, .f32⟩
  | 36 => ⟨S16x2048x512, .f32⟩
  | 37 => ⟨S16x2048x512, .f32⟩
  | 38 => ⟨S16x2048x512, .f32⟩
  | 39 => ⟨S16x2048x512, .f32⟩
  | 40 => ⟨S16x2048x512, .f32⟩
  | 41 => ⟨S_, .f32⟩
  | 42 => ⟨S16x2048x512, .f32⟩
  | 43 => ⟨S16x2048x512, .f32⟩
  | 44 => ⟨S16x2048x8x64, .f32⟩
  | 45 => ⟨S16x2048x8x32, .f32⟩
  | 46 => ⟨S16x2048x8x32, .f32⟩
  | 47 => ⟨S2048x1x16, .f32⟩
  | 48 => ⟨S2048x1x16, .f32⟩
  | 49 => ⟨S16x2048x8x16, .f32⟩
  | 50 => ⟨S16x2048x8x16, .f32⟩
  | 51 => ⟨S1x2048x1x16, .f32⟩
  | 52 => ⟨S16x2048x8x16, .f32⟩
  | 53 => ⟨S16x2048x8x16, .f32⟩
  | 54 => ⟨S1x2048x1x16, .f32⟩
  | 55 => ⟨S16x2048x8x16, .f32⟩
  | 56 => ⟨S16x2048x8x16, .f32⟩
  | 57 => ⟨S16x2048x8x16, .f32⟩
  | 58 => ⟨S1x2048x1x16, .f32⟩
  | 59 => ⟨S16x2048x8x16, .f32⟩
  | 60 => ⟨S16x2048x8x16, .f32⟩
  | 61 => ⟨S1x2048x1x16, .f32⟩
  | 62 => ⟨S16x2048x8x16, .f32⟩
  | 63 => ⟨S16x2048x8x16, .f32⟩
  | 64 => ⟨S16x2048x8x16, .f32⟩
  | 65 => ⟨S16x2048x8x32, .f32⟩
  | 66 => ⟨S2048x1x16, .f32⟩
  | 67 => ⟨S2048x1x16, .f32⟩
  | 68 => ⟨S16x2048x8x16, .f32⟩
  | 69 => ⟨S16x2048x8x16, .f32⟩
  | 70 => ⟨S1x2048x1x16, .f32⟩
  | 71 => ⟨S16x2048x8x16, .f32⟩
  | 72 => ⟨S16x2048x8x16, .f32⟩
  | 73 => ⟨S1x2048x1x16, .f32⟩
  | 74 => ⟨S16x2048x8x16, .f32⟩
  | 75 => ⟨S16x2048x8x16, .f32⟩
  | 76 => ⟨S16x2048x8x16, .f32⟩
  | 77 => ⟨S1x2048x1x16, .f32⟩
  | 78 => ⟨S16x2048x8x16, .f32⟩
  | 79 => ⟨S16x2048x8x16, .f32⟩
  | 80 => ⟨S1x2048x1x16, .f32⟩
  | 81 => ⟨S16x2048x8x16, .f32⟩
  | 82 => ⟨S16x2048x8x16, .f32⟩
  | 83 => ⟨S16x2048x8x16, .f32⟩
  | 84 => ⟨S16x2048x8x32, .f32⟩
  | 85 => ⟨S16x2048x8x64, .f32⟩
  | 86 => ⟨S16x2048x512, .f32⟩
  | 87 => ⟨S_, .f32⟩
  | 88 => ⟨S16x2048x512, .f32⟩
  | 89 => ⟨S16x2048x512, .f32⟩
  | 90 => ⟨S16x2048x8x64, .f32⟩
  | 91 => ⟨S16x2048x8x32, .f32⟩
  | 92 => ⟨S16x2048x8x32, .f32⟩
  | 93 => ⟨S2048x1x16, .f32⟩
  | 94 => ⟨S2048x1x16, .f32⟩
  | 95 => ⟨S16x2048x8x16, .f32⟩
  | 96 => ⟨S16x2048x8x16, .f32⟩
  | 97 => ⟨S1x2048x1x16, .f32⟩
  | 98 => ⟨S16x2048x8x16, .f32⟩
  | 99 => ⟨S16x2048x8x16, .f32⟩
  | 100 => ⟨S1x2048x1x16, .f32⟩
  | 101 => ⟨S16x2048x8x16, .f32⟩
  | 102 => ⟨S16x2048x8x16, .f32⟩
  | 103 => ⟨S16x2048x8x16, .f32⟩
  | 104 => ⟨S1x2048x1x16, .f32⟩
  | 105 => ⟨S16x2048x8x16, .f32⟩
  | 106 => ⟨S16x2048x8x16, .f32⟩
  | 107 => ⟨S1x2048x1x16, .f32⟩
  | 108 => ⟨S16x2048x8x16, .f32⟩
  | 109 => ⟨S16x2048x8x16, .f32⟩
  | 110 => ⟨S16x2048x8x16, .f32⟩
  | 111 => ⟨S16x2048x8x32, .f32⟩
  | 112 => ⟨S2048x1x16, .f32⟩
  | 113 => ⟨S2048x1x16, .f32⟩
  | 114 => ⟨S16x2048x8x16, .f32⟩
  | 115 => ⟨S16x2048x8x16, .f32⟩
  | 116 => ⟨S1x2048x1x16, .f32⟩
  | 117 => ⟨S16x2048x8x16, .f32⟩
  | 118 => ⟨S16x2048x8x16, .f32⟩
  | 119 => ⟨S1x2048x1x16, .f32⟩
  | 120 => ⟨S16x2048x8x16, .f32⟩
  | 121 => ⟨S16x2048x8x16, .f32⟩
  | 122 => ⟨S16x2048x8x16, .f32⟩
  | 123 => ⟨S1x2048x1x16, .f32⟩
  | 124 => ⟨S16x2048x8x16, .f32⟩
  | 125 => ⟨S16x2048x8x16, .f32⟩
  | 126 => ⟨S1x2048x1x16, .f32⟩
  | 127 => ⟨S16x2048x8x16, .f32⟩
  | _ => ⟨S16x2048x1024, .f32⟩

abbrev hbmTy0_1 (i : Nat) : BufTy := match i % 128 with
  | 0 => ⟨S16x2048x8x16, .f32⟩
  | 1 => ⟨S16x2048x8x16, .f32⟩
  | 2 => ⟨S16x2048x8x32, .f32⟩
  | 3 => ⟨S16x2048x8x64, .f32⟩
  | 4 => ⟨S16x2048x512, .f32⟩
  | 5 => ⟨S16x2048x3072, .f32⟩
  | 6 => ⟨S16x2048x3072, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_4 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩

abbrev nD : Nat := 1
abbrev τ : Topo := Topo.v7x

variable {F : FTy → Type} [FloatOps F]
-- ==== Modulation.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S24x1024 : Shape := ⟨2, ![24, 1024]⟩
abbrev S1x6144 : Shape := ⟨2, ![1, 6144]⟩
abbrev S24x6144 : Shape := ⟨2, ![24, 6144]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S24x1024, .f32⟩
  | .hbm, ⟨8, _⟩ => ⟨S1x6144, .f32⟩
  | .hbm, ⟨9, _⟩ => ⟨S24x6144, .f32⟩
  | .local _ .vmem, ⟨0, _⟩ => ⟨S24x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S24x1024, .f32⟩
  | .local _ .vmem, ⟨6, _⟩ => ⟨S24x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationReferenceIdeal.lean ====
abbrev S16x1024 : Shape := ⟨2, ![16, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S24x1024 : Shape := ⟨2, ![24, 1024]⟩
abbrev S24x6144 : Shape := ⟨2, ![24, 6144]⟩
abbrev S1x6144 : Shape := ⟨2, ![1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S24x1024, .f32⟩
  | .hbm, ⟨8, _⟩ => ⟨S24x1024, .f32⟩
  | .hbm, ⟨9, _⟩ => ⟨S24x1024, .f32⟩
  | .hbm, ⟨10, _⟩ => ⟨S_, .f32⟩
  | .hbm, ⟨11, _⟩ => ⟨S24x1024, .f32⟩
  | .hbm, ⟨12, _⟩ => ⟨S24x1024, .f32⟩
  | .hbm, ⟨13, _⟩ => ⟨S_, .f32⟩
  | .hbm, ⟨14, _⟩ => ⟨S24x1024, .f32⟩
  | .hbm, ⟨15, _⟩ => ⟨S24x1024, .f32⟩
  | .hbm, ⟨16, _⟩ => ⟨S24x1024, .f32⟩
  | .hbm, ⟨17, _⟩ => ⟨S24x6144, .f32⟩
  | .hbm, ⟨18, _⟩ => ⟨S1x6144, .f32⟩
  | .hbm, ⟨19, _⟩ => ⟨S24x6144, .f32⟩
  | .hbm, ⟨20, _⟩ => ⟨S24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== CtxProj.lean ====
abbrev S16x256x1024 : Shape := ⟨3, ![16, 256, 1024]⟩
abbrev S1024 : Shape := ⟨1, ![1024]⟩
abbrev S1024x3072 : Shape := ⟨2, ![1024, 3072]⟩
abbrev S256x128 : Shape := ⟨2, ![256, 128]⟩
abbrev S1x1x1024 : Shape := ⟨3, ![1, 1, 1024]⟩
abbrev S16x1x1024 : Shape := ⟨3, ![16, 1, 1024]⟩
abbrev S1024x2048 : Shape := ⟨2, ![1024, 2048]⟩
abbrev S1x1024 : Shape := ⟨2, ![1, 1024]⟩
abbrev S16x256x2048 : Shape := ⟨3, ![16, 256, 2048]⟩
abbrev S1x256x1024 : Shape := ⟨3, ![1, 256, 1024]⟩
abbrev S1x256x2048 : Shape := ⟨3, ![1, 256, 2048]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x256x128 : Shape := ⟨3, ![1, 256, 128]⟩

abbrev nBuf : Space → Nat
  | .hbm => 15
  | .vmem => 12
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3072, .f32⟩
  | .hbm, ⟨5, _⟩ => ⟨S256x128, .f32⟩
  | .hbm, ⟨6, _⟩ => ⟨S256x128, .f32⟩
  | .hbm, ⟨7, _⟩ => ⟨S1x1x1024, .f32⟩
  | .hbm, ⟨8, _⟩ => ⟨S16x1x1024, .f32⟩
  | .hbm, ⟨9, _⟩ => ⟨S1x1x1024, .f32⟩
  | .hbm, ⟨10, _⟩ => ⟨S16x1x1024, .f32⟩
  | .hbm, ⟨11, _⟩ => ⟨S1024x3072, .bf16⟩
  | .hbm, ⟨12, _⟩ => ⟨S1024x2048, .bf16⟩
  | .hbm, ⟨13, _⟩ => ⟨S1x1024, .f32⟩
  | .hbm, ⟨14, _⟩ => ⟨S16x256x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S256x128, .f32⟩
  | .local _ .vmem, ⟨9, _⟩ => ⟨S256x128, .f32⟩
  | .local _ .vmem, ⟨10, _⟩ => ⟨S1x256x2048, .bf16⟩
  | .local _ .vmem, ⟨11, _⟩ => ⟨S1x256x2048, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== CtxProjReferenceIdeal.lean ====
abbrev S16x256x1024 : Shape := ⟨3, ![16, 256, 1024]⟩
abbrev S1024 : Shape := ⟨1, ![1024]⟩
abbrev S1024x3072 : Shape := ⟨2, ![1024, 3072]⟩
abbrev S256x128 : Shape := ⟨2, ![256, 128]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1x1024 : Shape := ⟨2, ![1, 1024]⟩
abbrev S1024x2048 : Shape := ⟨2, ![1024, 2048]⟩
abbrev S16x256x2048 : Shape := ⟨3, ![16, 256, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3072, .f32⟩
  | .hbm, ⟨5, _⟩ => ⟨S256x128, .f32⟩
  | .hbm, ⟨6, _⟩ => ⟨S256x128, .f32⟩
  | .hbm, ⟨7, _⟩ => ⟨S16x256x1024, .f32⟩
  | .hbm, ⟨8, _⟩ => ⟨S_, .f32⟩
  | .hbm, ⟨9, _⟩ => ⟨S16x256, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S16x256x1, .f32⟩
  | .hbm, ⟨18, _⟩ => ⟨S16x256x1024, .f32⟩
  | .hbm, ⟨19, _⟩ => ⟨S16x256x1024, .f32⟩
  | .hbm, ⟨20, _⟩ => ⟨S1x1x1024, .f32⟩
  | .hbm, ⟨21, _⟩ => ⟨S16x256x1024, .f32⟩
  | .hbm, ⟨22, _⟩ => ⟨S16x256x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1x1024, .f32⟩
  | .hbm, ⟨28, _⟩ => ⟨S16x256x1024, .f32⟩
  | .hbm, ⟨29, _⟩ => ⟨S16x256x1024, .f32⟩
  | .hbm, ⟨30, _⟩ => ⟨S1x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S1024x2048, .f32⟩
  | .hbm, ⟨35, _⟩ => ⟨S16x256x2048, .f32⟩
  | .hbm, ⟨36, _⟩ => ⟨S16x256x2048, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== CombineInner.lean ====
abbrev S16x2048x128 : Shape := ⟨3, ![16, 2048, 128]⟩
abbrev S16x4096x1024 : Shape := ⟨3, ![16, 4096, 1024]⟩
abbrev S16x2048x1024 : Shape := ⟨3, ![16, 2048, 1024]⟩
abbrev S16x1024 : Shape := ⟨2, ![16, 1024]⟩
abbrev S1024 : Shape := ⟨1, ![1024]⟩
abbrev S16x1x1024 : Shape := ⟨3, ![16, 1, 1024]⟩
abbrev S1x1024 : Shape := ⟨2, ![1, 1024]⟩
abbrev S1x1024x128 : Shape := ⟨3, ![1, 1024, 128]⟩
abbrev S16x256x1024 : Shape := ⟨3, ![16, 256, 1024]⟩
abbrev S1x1024x1024 : Shape := ⟨3, ![1, 1024, 1024]⟩
abbrev S1x1x1024 : Shape := ⟨3, ![1, 1, 1024]⟩
abbrev S1024x256 : Shape := ⟨2, ![1024, 256]⟩
abbrev S1x1024x1 : Shape := ⟨3, ![1, 1024, 1]⟩
abbrev S1024x1 : Shape := ⟨2, ![1024, 1]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 8
  | .vmem => 11
  | .smem => 0
  | _ => 0

abbrev bufTy : (tb : Table) → Fin (tcTables nBuf tb) → BufTy
  | .hbm, ⟨0, _⟩ => ⟨S16x2048x128, .i32⟩
  | .hbm, ⟨1, _⟩ => ⟨S16x4096x1024, .bf16⟩
  | .hbm, ⟨2, _⟩ => ⟨S16x2048x1024, .f32⟩
  | .hbm, ⟨3, _⟩ => ⟨S16x1024, .f32⟩
  | .hbm, ⟨4, _⟩ => ⟨S1024, .f32⟩
  | .hbm, ⟨5, _⟩ => ⟨S16x1x1024, .f32⟩
  | .hbm, ⟨6, _⟩ => ⟨S1x1024, .f32⟩
  | .hbm, ⟨7, _⟩ => ⟨S16x2048x1024, .f32⟩
  | .local _ .vmem, ⟨0, _⟩ => ⟨S1x1024x128, .i32⟩
  | .local _ .vmem, ⟨1, _⟩ => ⟨S1x1024x128, .i32⟩
  | .local _ .vmem, ⟨2, _⟩ => ⟨S16x256x1024, .bf16⟩
  | .local _ .vmem, ⟨3, _⟩ => ⟨S16x256x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S16x2048x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CombineInnerReferenceIdeal.lean ====
abbrev S16x2048x128 : Shape := ⟨3, ![16, 2048, 128]⟩
abbrev S16x4096x1024 : Shape := ⟨3, ![16, 4096, 1024]⟩
abbrev S16x2048x1024 : Shape := ⟨3, ![16, 2048, 1024]⟩
abbrev S16x1024 : Shape := ⟨2, ![16, 1024]⟩
abbrev S1024 : Shape := ⟨1, ![1024]⟩
abbrev S16x2048x16 : Shape := ⟨3, ![16, 2048, 16]⟩
abbrev S16x16x2048 : Shape := ⟨3, ![16, 16, 2048]⟩
abbrev S16x16x256x1024 : Shape := ⟨4, ![16, 16, 256, 1024]⟩
abbrev S16x16x2048x1 : Shape := ⟨4, ![16, 16, 2048, 1]⟩
abbrev S256 : Shape := ⟨1, ![256]⟩
abbrev S1x1x1x256 : Shape := ⟨4, ![1, 1, 1, 256]⟩
abbrev S16x16x2048x256 : Shape := ⟨4, ![16, 16, 2048, 256]⟩
abbrev S16x1x1024 : Shape := ⟨3, ![16, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x128, .i32⟩
  | .hbm, ⟨1, _⟩ => ⟨S16x4096x1024, .bf16⟩
  | .hbm, ⟨2, _⟩ => ⟨S16x2048x1024, .f32⟩
  | .hbm, ⟨3, _⟩ => ⟨S16x1024, .f32⟩
  | .hbm, ⟨4, _⟩ => ⟨S1024, .f32⟩
  | .hbm, ⟨5, _⟩ => ⟨S16x2048x16, .i32⟩
  | .hbm, ⟨6, _⟩ => ⟨S16x16x2048, .i32⟩
  | .hbm, ⟨7, _⟩ => ⟨S16x4096x1024, .f32⟩
  | .hbm, ⟨8, _⟩ => ⟨S16x16x256x1024, .f32⟩
  | .hbm, ⟨9, _⟩ => ⟨S16x16x256x1024, .f32⟩
  | .hbm, ⟨10, _⟩ => ⟨S16x16x2048x1, .i32⟩
  | .hbm, ⟨11, _⟩ => ⟨S256, .i32⟩
  | .hbm, ⟨12, _⟩ => ⟨S1x1x1x256, .i32⟩
  | .hbm, ⟨13, _⟩ => ⟨S16x16x2048x256, .i32⟩
  | .hbm, ⟨14, _⟩ => ⟨S16x16x2048x256, .i32⟩
  | .hbm, ⟨15, _⟩ => ⟨S16x16x2048x256, .i1⟩
  | .hbm, ⟨16, _⟩ => ⟨S16x16x2048x256, .f32⟩
  | .hbm, ⟨17, _⟩ => ⟨S16x1x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S16x2048x1024, .f32⟩
  | _, _ => ⟨S16x2048x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Proof.Ffn.Core.lean ====
/- One step of the expert network on 1024 rows: the hidden columns `silu(x·w1)·(x·w3)` of one block of 256, times the
   matching rows of `w2`. Every case of the kernel computes this expression; here it is read at an index. -/
module

public import proofs.«01_k».proof.Proof.Gen.FfnIdeal.Skeleton
public import Idealize.ShloMosaic.Lib.Pointwise
public import Idealize.ShloMosaic.Lib.IdealHost

@[expose] public section

noncomputable section

namespace Cert.Proof.Ffn

open Idealize.ShloMosaic Idealize.SL.Sem Cert.FfnIdeal Cert.FfnIdeal.Gen

/-- `x · sigmoid x` over the extended reals. -/
def silu (a : EReal) : EReal := a * Ideal.div 1 (1 + Ideal.exp (0 - a))

/-- The hidden value of a row at one column: `silu(x·w1)·(x·w3)`. -/
def hidden (x w1 w3 : Fin 1024 → EReal) : EReal :=
  silu (∑ k, x k * w1 k) * ∑ k, x k * w3 k

/-- The part of a row's output column that one block of 256 hidden columns gives. -/
def part (x : Fin 1024 → EReal) (w1 w3 : Vec Ideal S1x1024x256 .f32) (w2 : Vec Ideal S1x256x1024 .f32) (d : Fin 1024) : EReal :=
  ∑ f : Fin 256, hidden x (fun k => w1 (ix3 0 k f)) (fun k => w3 (ix3 0 k f)) * w2 (ix3 0 f d)

section
variable {F : FTy → Type} [FloatOps F]

/-- The hidden columns of 1024 rows, as the kernel's vector expression. -/
def hidOf (x : FVec F S1024x1024 .bf16) (w1 w3 : FVec F S1024x256 .bf16) : FVec F S1024x256 .f32 :=
  mulf (mulf (matmul dot_S1024x1024_S1024x256_S1024x256_1_0_0_1_n_n none x w1 (constant S1024x256 .f32 0x00000000#32))
    (divf (broadcast S1024x256 (Scalar.ofBits .f32 0x3F800000#32)) (addf (broadcast S1024x256 (Scalar.ofBits .f32 0x3F800000#32))
      (exp (subf (broadcast S1024x256 (Scalar.ofBits .f32 0x00000000#32))
        (matmul dot_S1024x1024_S1024x256_S1024x256_1_0_0_1_n_n none x w1 (constant S1024x256 .f32 0x00000000#32)))))))
    (matmul dot_S1024x1024_S1024x256_S1024x256_1_0_0_1_n_n none x w3 (constant S1024x256 .f32 0x00000000#32))

/-- The step on 1024 rows, as the kernel's vector expression. -/
def core (x : FVec F S1024x1024 .bf16) (w1 w3 : FVec F S1024x256 .bf16) (w2 : FVec F S256x1024 .bf16) : FVec F S1024x1024 .f32 :=
  matmul dot_S1024x256_S256x1024_S1024x1024_1_0_0_1_n_n none (truncf .bf16 (hidOf x w1 w3) bitsLt_bf16_f32) w2 (constant S1024x1024 .f32 0x00000000#32)

/-- The step from the four blocks as they are loaded. -/
def step (w1 w3 : Vec F S1x1024x256 .f32) (w2 : Vec F S1x256x1024 .f32) (x : Vec F S1x1024x1024 .bf16) : FVec F S1024x1024 .f32 :=
  core (k0_pay7 x) (k0_pay3 w1) (k0_pay4 w3) (k0_pay5 w2)

/-- One stored group of 128 columns: the accumulator's group plus the step's, times the gates' block. -/
def group (off : Fin S1024x1024.rank → Nat) (h : S1024x1024.Slices off S1024x128) (y : FVec F S1024x1024 .f32) (g : FVec F S1024x128 .f32)
    (a : FVec F S1024x128 .f32) : FVec F S1x1024x128 .bf16 :=
  shapeCast S1x1024x128 (truncf .bf16 (mulf (addf a (extractStridedSlice S1024x128 off y h)) g) bitsLt_bf16_f32) shapeCasts_S1024x128_S1x1024x128

end

/-- The hidden columns at an index. -/
theorem hidOf_apply (x : FVec Ideal S1024x1024 .bf16) (w1 w3 : FVec Ideal S1024x256 .bf16) (r : Fin 1024) (f : Fin 256) :
    hidOf x w1 w3 (ix2 r f) = hidden (fun k => x (ix2 r k)) (fun k => w1 (ix2 k f)) (fun k => w3 (ix2 k f)) := by
  pointwise [hidOf, hidden, silu, zero_add, Ideal.ofBits_one_f32]

/-- The step at an index, from the casts' own matrices. -/
theorem core_apply (x : FVec Ideal S1024x1024 .bf16) (w1 w3 : FVec Ideal S1024x256 .bf16) (w2 : FVec Ideal S256x1024 .bf16) (r d : Fin 1024) :
    core x w1 w3 w2 (ix2 r d) = ∑ f : Fin 256,
      hidden (fun k => x (ix2 r k)) (fun k => w1 (ix2 k f)) (fun k => w3 (ix2 k f)) * w2 (ix2 f d) := by
  pointwise [core, zero_add]
  simp only [hidOf_apply]

/-- The step at an index, from the loaded blocks. -/
theorem step_apply (w1 w3 : Vec Ideal S1x1024x256 .f32) (w2 : Vec Ideal S1x256x1024 .f32) (x : Vec Ideal S1x1024x1024 .bf16) (r d : Fin 1024) :
    step w1 w3 w2 x (ix2 r d) = part (fun k => x (ix3 0 r k)) w1 w3 w2 d := by
  unfold step part
  rw [core_apply]
  pointwise [k0_pay7, k0_pay3, k0_pay4, k0_pay5]

/-- The stored group at an index. -/
theorem group_apply (o : Nat) (h : S1024x1024.Slices ![0, o] S1024x128) (y : FVec Ideal S1024x1024 .f32) (g a : FVec Ideal S1024x128 .f32)
    (r : Fin 1024) (l : Fin 128) (ho : o + l.val < 1024) :
    group ![0, o] h y g a (ix3 0 r l) = (a (ix2 r l) + y (ix2 r ⟨o + l.val, ho⟩)) * g (ix2 r l) := by
  unfold group
  rw [show (ix3 0 r l : S1x1024x128.Idx) = Fin.cons ⟨0, Nat.one_pos⟩ (ix2 r l) from by
    funext a; match a with | ⟨0, _⟩ => rfl | ⟨1, _⟩ => rfl | ⟨2, _⟩ => rfl]
  rw [shapeCast_addUnit_apply]
  show (a (ix2 r l) + extractStridedSlice S1024x128 ![0, o] y h (ix2 r l)) * g (ix2 r l) = _
  rw [extractStridedSlice_apply ![0, o] y h (ix2 r l) (ix2 r ⟨o + l.val, ho⟩)]
  intro a
  match a with
  | ⟨0, _⟩ => show r.val = 0 + r.val; omega
  | ⟨1, _⟩ => rfl

end Cert.Proof.Ffn

end
-- ==== Proof.Ffn.Blocks.lean ====
/- What each case of the grid leaves behind, read at an index: the first block of hidden columns starts the
   accumulator, each next one adds to it, and the last one adds, scales by the gates and stores the result. -/
module

public import proofs.«01_k».proof.Proof.Ffn.Core
public import proofs.«01_k».proof.Proof.Gen.FfnIdeal.Value
public import Idealize.ShloMosaic.Lib.Pipeline.ValueKit

@[expose] public section

set_option maxRecDepth 16384

noncomputable section

namespace Cert.Proof.Ffn

open Idealize.ShloMosaic Idealize.ShloMosaic.TcCoe Idealize.ShloMosaic.Tactic Idealize.SL.Sem Cert.FfnIdeal Cert.FfnIdeal.Gen

section Payloads
variable {F : FTy → Type} [FloatOps F]

/-- The first case's stored value on the lower rows is the step. -/
theorem pay6_eq (w1 w3 : Vec F S1x1024x256 .f32) (w2 : Vec F S1x256x1024 .f32) (x : Vec F S1x1024x1024 .bf16) :
    k0_pay6 w1 w3 w2 x = step w1 w3 w2 x := shapeCast_self (step w1 w3 w2 x) _

/-- The first case's stored value on the upper rows is the step. -/
theorem pay1_eq (w1 w3 : Vec F S1x1024x256 .f32) (w2 : Vec F S1x256x1024 .f32) (x : Vec F S1x1024x1024 .bf16) :
    k0_pay1 (k0_pay4 w3) (k0_pay5 w2) (k0_pay7 x) (k0_pay8 w1 x) (k0_pay9 w1 x) (Scalar.ofBits .f32 0x3F800000#32) = step w1 w3 w2 x :=
  shapeCast_self (step w1 w3 w2 x) _

/-- A middle case's stored value on the lower rows is the accumulator plus the step. -/
theorem pay13_eq (w1 w3 : Vec F S1x1024x256 .f32) (w2 : Vec F S1x256x1024 .f32) (x : Vec F S1x1024x1024 .bf16) (a : Vec F S1024x1024 .f32) :
    k0_pay13 w1 w3 w2 x a = addf a (step w1 w3 w2 x) := shapeCast_self (addf a (step w1 w3 w2 x)) _

/-- A middle case's stored value on the upper rows is the accumulator plus the step. -/
theorem pay2_eq (w1 w3 : Vec F S1x1024x256 .f32) (w2 : Vec F S1x256x1024 .f32) (x : Vec F S1x1024x1024 .bf16) (a : Vec F S1024x1024 .f32) :
    k0_pay2 (k0_pay11 w3) (k0_pay12 w2) (k0_pay14 x) (k0_pay15 w1 x) (Scalar.ofBits .f32 0x00000000#32) a = addf a (step w1 w3 w2 x) :=
  shapeCast_self (addf a (step w1 w3 w2 x)) _

end Payloads

/-- The step on 1024 rows of the block, from row `o` on. -/
theorem step_ld (w1 w3 : Vec Ideal S1x1024x256 .f32) (w2 : Vec Ideal S1x256x1024 .f32) (X : Vec Ideal S1x2048x1024 .bf16) (o : Nat)
    (inb : ∀ a : Fin S1x2048x1024.rank, (![0, o, 0] : Fin 3 → Nat) a + (![1, 1024, 1024] : Fin 3 → Nat) a ≤ S1x2048x1024.size a)
    (x : S1024x1024.Idx) (r : Fin 2048) (d : Fin 1024) (hr : r.val = o + (x 0).val) (hd : d.val = 0 + (x 1).val) :
    step w1 w3 w2 (View.ld X (Rect.unit ![0, o, 0] ![1, 1024, 1024] inb)) x = part (fun k => X (ix3 0 r k)) w1 w3 w2 d := by
  obtain ⟨a, b, rfl⟩ : ∃ a b : Fin 1024, x = ix2 a b :=
    ⟨x 0, x 1, by funext a; match a with | ⟨0, _⟩ => rfl | ⟨1, _⟩ => rfl⟩
  obtain rfl : d = b := Fin.ext (hd.trans (Nat.zero_add _))
  rw [step_apply]
  refine congrArg (fun q => part q w1 w3 w2 d) (funext fun k => ?_)
  refine View.ld_unit_apply_of X _ _ inb _ _ ?_
  intro a
  match a with
  | ⟨0, _⟩ => rfl
  | ⟨1, _⟩ => exact hr
  | ⟨2, _⟩ => exact (Nat.zero_add _).symm

/-- The whole 1024 rows of the accumulator from row `o` on, plus a step. -/
theorem acc_ld (y : FVec Ideal S1024x1024 .f32) (A : Vec Ideal S2048x1024 .f32) (o : Nat)
    (inb : ∀ a : Fin S2048x1024.rank, (![o, 0] : Fin 2 → Nat) a + (![1024, 1024] : Fin 2 → Nat) a ≤ S2048x1024.size a)
    (x : S1024x1024.Idx) (r : Fin 2048) (d : Fin 1024) (hr : r.val = o + (x 0).val) (hd : d.val = 0 + (x 1).val) :
    addf (F := Ideal) (View.ld A (Rect.unit ![o, 0] ![1024, 1024] inb)) y x = A (ix2 r d) + y x := by
  refine congrArg (· + y x) (View.ld_unit_apply_of A _ _ inb _ _ ?_)
  intro a
  match a with
  | ⟨0, _⟩ => exact hr
  | ⟨1, _⟩ => exact hd

/-- One stored group of the result: rows from `R` on, columns from `o` on. -/
theorem group_tile (x0 : Vec Ideal S1x2048x1024 .bf16) (x1 : Vec Ideal S1x2048x128 .f32) (x2 x3 : Vec Ideal S1x1024x256 .f32)
    (x4 : Vec Ideal S1x256x1024 .f32) (xs0 : Vec Ideal S2048x1024 .f32) (r : Fin 2048) (d : Fin 1024) (R o : Nat)
    (h : S1024x1024.Slices ![0, o] S1024x128) (ho : o % 128 = 0)
    (inb0 : ∀ a : Fin S1x2048x1024.rank, (![0, R, 0] : Fin 3 → Nat) a + (![1, 1024, 1024] : Fin 3 → Nat) a ≤ S1x2048x1024.size a)
    (inb1 : ∀ a : Fin S1x2048x128.rank, (![0, R, 0] : Fin 3 → Nat) a + (![1, 1024, 128] : Fin 3 → Nat) a ≤ S1x2048x128.size a)
    (inbs : ∀ a : Fin S2048x1024.rank, (![R, o] : Fin 2 → Nat) a + (![1024, 128] : Fin 2 → Nat) a ≤ S2048x1024.size a) :
    View.TileAt (Val := Elt Ideal) (e := .bf16) (ix3 0 r d : S1x2048x1024.Idx) ![0, R, o] ![1, 1024, 128]
      (group ![0, o] h (step x2 x3 x4 (View.ld x0 (Rect.unit ![0, R, 0] ![1, 1024, 1024] inb0)))
        (k0_pay20 (View.ld x1 (Rect.unit ![0, R, 0] ![1, 1024, 128] inb1))) (View.ld xs0 (Rect.unit ![R, o] ![1024, 128] inbs)))
      ((xs0 (ix2 r d) + part (fun k => x0 (ix3 0 r k)) x2 x3 x4 d) * x1 (ix3 0 r ⟨d.val % 128, Nat.mod_lt _ (by decide)⟩)) := by
  intro x hx
  obtain ⟨p, q, rfl⟩ : ∃ (p : Fin 1024) (q : Fin 128), x = (ix3 (0 : Fin 1) p q : S1x1024x128.Idx) :=
    ⟨x 1, x 2, by
      funext a
      match a with
      | ⟨0, _⟩ => exact Subsingleton.elim (α := Fin 1) _ _
      | ⟨1, _⟩ => rfl
      | ⟨2, _⟩ => rfl⟩
  have hr : r.val = R + p.val := hx 1
  have hd : d.val = o + q.val := hx 2
  have hq := q.isLt
  have hdlt := d.isLt
  refine (group_apply o h _ _ _ p q (by omega)).trans ?_
  have e1 : (View.ld xs0 (Rect.unit ![R, o] ![1024, 128] inbs)) (ix2 p q) = xs0 (ix2 r d) := by
    refine View.ld_unit_apply_of xs0 _ _ inbs _ _ ?_
    intro a
    match a with
    | ⟨0, _⟩ => exact hr
    | ⟨1, _⟩ => exact hd
  have e2 : step x2 x3 x4 (View.ld x0 (Rect.unit ![0, R, 0] ![1, 1024, 1024] inb0)) (ix2 p (⟨o + q.val, by omega⟩ : Fin 1024)) =
      part (fun k => x0 (ix3 0 r k)) x2 x3 x4 d :=
    step_ld x2 x3 x4 x0 R inb0 _ r d hr (by show d.val = 0 + (o + q.val); omega)
  have e3 : k0_pay20 (View.ld x1 (Rect.unit ![0, R, 0] ![1, 1024, 128] inb1)) (ix2 p q) =
      x1 (ix3 0 r ⟨d.val % 128, Nat.mod_lt _ (by decide)⟩) := by
    unfold k0_pay20
    refine (shapeCast_dropUnit_apply ![1024, 128] _ _ _).trans (View.ld_unit_apply_of x1 _ _ inb1 _ _ ?_)
    intro a
    match a with
    | ⟨0, _⟩ => rfl
    | ⟨1, _⟩ => exact hr
    | ⟨2, _⟩ => show d.val % 128 = 0 + q.val; omega
  rw [e1, e2, e3]

theorem hz3 : (![0, 0, 0] : Fin 3 → Nat) = fun _ => 0 := by
  funext a; match a with | ⟨0, _⟩ => rfl | ⟨1, _⟩ => rfl | ⟨2, _⟩ => rfl

section
variable (c : Dev nD) (i : grid0.Coords) (arg3 : Memref sig .tc .vmem S1x2048x1024 .bf16) (harg3 : arg3.IsWhole) (arg4 : Memref sig .tc .vmem S1x2048x128 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S1x2048x1024 .bf16) (harg8 : arg8.IsWhole) (arg9 : Memref sig .tc .vmem S2048x1024 .f32) (harg9 : arg9.IsWhole)
  (x0 : Vec Ideal S1x2048x1024 .bf16) (x1 : Vec Ideal S1x2048x128 .f32) (x2 x3 : Vec Ideal S1x1024x256 .f32) (x4 : Vec Ideal S1x256x1024 .f32) (xs0 : Vec Ideal S2048x1024 .f32)

/-- The first block of hidden columns starts the accumulator. -/
theorem sout_A (hc0 : cond0_0 i) (hc1 : ¬cond0_1 i) (hc2 : ¬cond0_2 i) (r : Fin 2048) (d : Fin 1024) :
    sout0_A_0 c i arg3 harg3 arg4 harg4 arg5 harg5 arg6 harg6 arg7 harg7 arg8 harg8 arg9 harg9 hc0 hc1 hc2 x0 x1 x2 x3 x4 (ix2 r d) =
      part (fun k => x0 (ix3 0 r k)) x2 x3 x4 d := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3 x4)]
  refine View.canon_eq_of_allAt _ _ _ (scover0_A_0 c i arg3 harg3 arg4 harg4 arg5 harg5 arg6 harg6 arg7 harg7 arg8 harg8 arg9 harg9 hc0 hc1 hc2 x0 x1 x2 x3 x4 _) ?_
  unfold kernelRun0_A
  dsimp only
  sl_unfold_words
  simp only [View.readAt_eq_ld, harg3.read_unread, harg5.read_unread, harg6.read_unread, harg7.read_unread,
    View.ld_unit_zero (S := S1x1024x256) hz3, View.ld_unit_zero (S := S1x256x1024) hz3]
  rw [pay6_eq, pay1_eq]
  refine View.allAt_cons_unit _ _ _ _ _ (fun x hx => step_ld _ _ _ _ _ _ x r d (hx 0) (hx 1))
    (View.allAt_cons_unit _ _ _ _ _ (fun x hx => step_ld _ _ _ _ _ _ x r d (hx 0) (hx 1)) (View.allAt_nil _ _))

/-- A middle block of hidden columns is added to the accumulator. -/
theorem sout_B (hc0 : ¬cond0_0 i) (hc1 : cond0_1 i) (hc2 : ¬cond0_2 i) (r : Fin 2048) (d : Fin 1024) :
    sout0_B_0 c i arg3 harg3 arg4 harg4 arg5 harg5 arg6 harg6 arg7 harg7 arg8 harg8 arg9 harg9 hc0 hc1 hc2 x0 x1 x2 x3 x4 xs0 (ix2 r d) =
      xs0 (ix2 r d) + part (fun k => x0 (ix3 0 r k)) x2 x3 x4 d := by
  unfold sout0_B_0
  rw [View.read_writes_eq_canon _ _ _ (scover0_B_0 c i arg3 harg3 arg4 harg4 arg5 harg5 arg6 harg6 arg7 harg7 arg8 harg8 arg9 harg9 hc0 hc1 hc2 x0 x1 x2 x3 x4 xs0)]
  refine View.canon_eq_of_allAt _ _ _ (scover0_B_0 c i arg3 harg3 arg4 harg4 arg5 harg5 arg6 harg6 arg7 harg7 arg8 harg8 arg9 harg9 hc0 hc1 hc2 x0 x1 x2 x3 x4 xs0 _) ?_
  unfold kernelRun0_B
  dsimp only
  sl_unfold_words
  simp only [View.readAt_eq_ld, harg3.read_unread, harg5.read_unread, harg6.read_unread, harg7.read_unread, harg9.read_unread,
    View.ld_unit_zero (S := S1x1024x256) hz3, View.ld_unit_zero (S := S1x256x1024) hz3]
  rw [pay13_eq, pay2_eq]
  refine View.allAt_cons_unit _ _ _ _ _ (fun x hx => (acc_ld _ _ _ _ x r d (hx 0) (hx 1)).trans (congrArg (xs0 (ix2 r d) + ·) (step_ld _ _ _ _ _ _ x r d (hx 0) (hx 1))))
    (View.allAt_cons_unit _ _ _ _ _ (fun x hx => (acc_ld _ _ _ _ x r d (hx 0) (hx 1)).trans (congrArg (xs0 (ix2 r d) + ·) (step_ld _ _ _ _ _ _ x r d (hx 0) (hx 1)))) (View.allAt_nil _ _))

/-- The last block of hidden columns is added and the sum scaled by the row's gate. -/
theorem out_C (hc0 : ¬cond0_0 i) (hc1 : ¬cond0_1 i) (hc2 : cond0_2 i) (r : Fin 2048) (d : Fin 1024) :
    out0_C_5 c i arg3 harg3 arg4 harg4 arg5 harg5 arg6 harg6 arg7 harg7 arg8 harg8 arg9 harg9 hc0 hc1 hc2 x0 x1 x2 x3 x4 xs0 (ix3 0 r d) =
      (xs0 (ix2 r d) + part (fun k => x0 (ix3 0 r k)) x2 x3 x4 d) * x1 (ix3 0 r ⟨d.val % 128, Nat.mod_lt _ (by decide)⟩) := by
  unfold out0_C_5
  rw [View.read_writes_eq_canon _ _ _ (cover0_C_5 c i arg3 harg3 arg4 harg4 arg5 harg5 arg6 harg6 arg7 harg7 arg8 harg8 arg9 harg9 hc0 hc1 hc2 x0 x1 x2 x3 x4 xs0)]
  refine View.canon_eq_of_allAt _ _ _ (cover0_C_5 c i arg3 harg3 arg4 harg4 arg5 harg5 arg6 harg6 arg7 harg7 arg8 harg8 arg9 harg9 hc0 hc1 hc2 x0 x1 x2 x3 x4 xs0 _) ?_
  unfold kernelRun0_C
  dsimp only
  sl_unfold_words
  simp only [View.readAt_eq_ld, harg3.read_unread, harg4.read_unread, harg5.read_unread, harg6.read_unread, harg7.read_unread, harg9.read_unread,
    View.ld_unit_zero (S := S1x1024x256) hz3, View.ld_unit_zero (S := S1x256x1024) hz3]
  repeat refine View.allAt_cons_unit _ _ _ _ _ (group_tile x0 x1 x2 x3 x4 xs0 r d _ _ (by decide) rfl _ _ _) ?_
  exact View.allAt_nil _ _

end

end Cert.Proof.Ffn

end
-- ==== Proof.Ffn.Sum.lean ====
/- The blocks each grid point stages, as parts of the launched arrays, and the accumulator after each point: the sum over
   the hidden columns seen so far. -/
module

public import proofs.«01_k».proof.Proof.Ffn.Blocks

@[expose] public section

noncomputable section

namespace Cert.Proof.Ffn

open Idealize.ShloMosaic Idealize.ShloMosaic.TcCoe Idealize.ShloMosaic.Tactic Idealize.SL.Sem Cert.FfnIdeal Cert.FfnIdeal.Gen

variable (m : (ℓ : Loc nD τ sig) → Buf (Elt Ideal) ℓ) (c : Dev nD)

/-- The dispatched rows `[e, r, d]`. -/
abbrev argX : Vec Ideal S16x4096x1024 .bf16 := m ((c : Thread nD τ).loc main_arg0)
/-- The gates `[e, r]`. -/
abbrev argG : Vec Ideal S16x4096 .f32 := m ((c : Thread nD τ).loc main_arg1)
/-- The first weights `[e, d, f]`. -/
abbrev argW1 : Vec Ideal S16x1024x2816 .f32 := m ((c : Thread nD τ).loc main_arg2)
/-- The gate weights `[e, d, f]`. -/
abbrev argW3 : Vec Ideal S16x1024x2816 .f32 := m ((c : Thread nD τ).loc main_arg3)
/-- The output weights `[e, f, d]`. -/
abbrev argW2 : Vec Ideal S16x2816x1024 .f32 := m ((c : Thread nD τ).loc main_arg4)

/-- One hidden column's contribution to one output element. -/
def term (e : Fin 16) (r : Fin 4096) (d : Fin 1024) (f : Fin 2816) : EReal :=
  hidden (fun k => argX m c (ix3 e r k)) (fun k => argW1 m c (ix3 e k f)) (fun k => argW3 m c (ix3 e k f)) * argW2 m c (ix3 e f d)

/-- The 256 contributions of one block of hidden columns. -/
def blockSum (e : Fin 16) (r : Fin 4096) (d : Fin 1024) (j : Fin 11) : EReal :=
  ∑ f : Fin 256, term m c e r d ⟨j.val * 256 + f.val, by have := j.isLt; have := f.isLt; omega⟩

/-- Every window's block indices at a point: expert, row half and column block read off the point's number. -/
theorem index_facts : ∀ t : Fin cfg0.N,
    (win0_0.index t (0 : Fin 3) = t.val / 22 ∧ win0_0.index t (1 : Fin 3) = t.val / 11 % 2 ∧ win0_0.index t (2 : Fin 3) = 0)
    ∧ (win0_1.index t (0 : Fin 3) = t.val / 22 ∧ win0_1.index t (1 : Fin 3) = t.val / 11 % 2 ∧ win0_1.index t (2 : Fin 3) = 0)
    ∧ (win0_2.index t (0 : Fin 3) = t.val / 22 ∧ win0_2.index t (1 : Fin 3) = 0 ∧ win0_2.index t (2 : Fin 3) = t.val % 11)
    ∧ (win0_3.index t (0 : Fin 3) = t.val / 22 ∧ win0_3.index t (1 : Fin 3) = 0 ∧ win0_3.index t (2 : Fin 3) = t.val % 11)
    ∧ (win0_4.index t (0 : Fin 3) = t.val / 22 ∧ win0_4.index t (1 : Fin 3) = t.val % 11 ∧ win0_4.index t (2 : Fin 3) = 0) :=
  (by decide +kernel : ∀ t : Fin grid0.N, _)

section
variable (t : Fin cfg0.N) (e : Fin 16) (he : e.val = t.val / 22)
include he

theorem iblk0_apply (r : Fin 2048) (k : Fin 1024) (R : Fin 4096) (hR : R.val = t.val / 11 % 2 * 2048 + r.val) :
    (iblk m c 0 t : Vec Ideal S1x2048x1024 .bf16) (ix3 0 r k) = argX m c (ix3 e R k) := by
  obtain ⟨⟨h0, h1, h2⟩, -⟩ := index_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 1 + 1 * 0 = e.val; omega
  | ⟨1, _⟩ => show win0_0.index t (1 : Fin 3) * 2048 + 1 * r.val = R.val; omega
  | ⟨2, _⟩ => show win0_0.index t (2 : Fin 3) * 1024 + 1 * k.val = k.val; omega

theorem iblk2_apply (k : Fin 1024) (f : Fin 256) (f' : Fin 2816) (hf : f'.val = t.val % 11 * 256 + f.val) :
    (iblk m c 2 t : Vec Ideal S1x1024x256 .f32) (ix3 0 k f) = argW1 m c (ix3 e k f') := by
  obtain ⟨-, -, ⟨h0, h1, h2⟩, -⟩ := index_facts t
  unfold iblk
  rw [View.read_apply]
  show V m c main_arg2 _ = m ((c : Thread nD τ).loc main_arg2) _
  rw [V_main_arg2]
  congr 1
  funext a
  apply Fin.ext
  match a with
  | ⟨0, _⟩ => show win0_2.index t (0 : Fin 3) * 1 + 1 * 0 = e.val; omega
  | ⟨1, _⟩ => show win0_2.index t (1 : Fin 3) * 1024 + 1 * k.val = k.val; omega
  | ⟨2, _⟩ => show win0_2.index t (2 : Fin 3) * 256 + 1 * f.val = f'.val; omega

theorem iblk3_apply (k : Fin 1024) (f : Fin 256) (f' : Fin 2816) (hf : f'.val = t.val % 11 * 256 + f.val) :
    (iblk m c 3 t : Vec Ideal S1x1024x256 .f32) (ix3 0 k f) = argW3 m c (ix3 e k f') := by
  obtain ⟨-, -, -, ⟨h0, h1, h2⟩, -⟩ := index_facts t
  unfold iblk
  rw [View.read_apply]
  show V m c main_arg3 _ = m ((c : Thread nD τ).loc main_arg3) _
  rw [V_main_arg3]
  congr 1
  funext a
  apply Fin.ext
  match a with
  | ⟨0, _⟩ => show win0_3.index t (0 : Fin 3) * 1 + 1 * 0 = e.val; omega
  | ⟨1, _⟩ => show win0_3.index t (1 : Fin 3) * 1024 + 1 * k.val = k.val; omega
  | ⟨2, _⟩ => show win0_3.index t (2 : Fin 3) * 256 + 1 * f.val = f'.val; omega

theorem iblk4_apply (f : Fin 256) (d : Fin 1024) (f' : Fin 2816) (hf : f'.val = t.val % 11 * 256 + f.val) :
    (iblk m c 4 t : Vec Ideal S1x256x1024 .f32) (ix3 0 f d) = argW2 m c (ix3 e f' d) := by
  obtain ⟨-, -, -, -, ⟨h0, h1, h2⟩⟩ := index_facts t
  unfold iblk
  rw [View.read_apply]
  show V m c main_arg4 _ = m ((c : Thread nD τ).loc main_arg4) _
  rw [V_main_arg4]
  congr 1
  funext a
  apply Fin.ext
  match a with
  | ⟨0, _⟩ => show win0_4.index t (0 : Fin 3) * 1 + 1 * 0 = e.val; omega
  | ⟨1, _⟩ => show win0_4.index t (1 : Fin 3) * 256 + 1 * f.val = f'.val; omega
  | ⟨2, _⟩ => show win0_4.index t (2 : Fin 3) * 1024 + 1 * d.val = d.val; omega

/-- The gates' block: every lane of a row holds the row's gate. -/
theorem iblk1_apply (r : Fin 2048) (l : Fin 128) (R : Fin 4096) (hR : R.val = t.val / 11 % 2 * 2048 + r.val) :
    (iblk m c 1 t : Vec Ideal S1x2048x128 .f32) (ix3 0 r l) = argG m c (ix2 e R) := by
  obtain ⟨-, ⟨h0, h1, h2⟩, -⟩ := index_facts t
  have hV : V m c main_v1 = broadcastInDim S16x4096x128 ![0, 1, 2] bcast_S16x4096x1_S16x4096x128_0_1_2
      (broadcastInDim S16x4096x1 ![0, 1] bcast_S16x4096_S16x4096x1_0_1 (argG m c)) := by
    unfold_abbrev_sides
    after_results
  unfold iblk
  rw [View.read_apply]
  show V m c main_v1 _ = argG m c _
  rw [hV, broadcastInDim_apply _ bcast_S16x4096x1_S16x4096x128_0_1_2 _ _ (ix3 e R (0 : Fin 1)) (fun a => match a with
    | ⟨0, _⟩ => by show e.val = if (16 : Nat) = 1 then 0 else win0_1.index t (0 : Fin 3) * 1 + 1 * 0; rw [if_neg (by decide)]; omega
    | ⟨1, _⟩ => by show R.val = if (4096 : Nat) = 1 then 0 else win0_1.index t (1 : Fin 3) * 2048 + 1 * r.val; rw [if_neg (by decide)]; omega
    | ⟨2, _⟩ => by show 0 = if (1 : Nat) = 1 then 0 else _; rw [if_pos rfl]),
    broadcastInDim_apply _ bcast_S16x4096_S16x4096x1_0_1 _ _ (ix2 e R) (fun a => match a with
    | ⟨0, _⟩ => by show e.val = if (16 : Nat) = 1 then 0 else e.val; rw [if_neg (by decide)]
    | ⟨1, _⟩ => by show R.val = if (4096 : Nat) = 1 then 0 else R.val; rw [if_neg (by decide)])]

/-- The step on a point's blocks is the block's sum of contributions. -/
theorem part_iblk (r : Fin 2048) (d : Fin 1024) (R : Fin 4096) (hR : R.val = t.val / 11 % 2 * 2048 + r.val) (j : Fin 11) (hj : j.val = t.val % 11) :
    part (fun k => (iblk m c 0 t : Vec Ideal S1x2048x1024 .bf16) (ix3 0 r k)) (iblk m c 2 t) (iblk m c 3 t) (iblk m c 4 t) d = blockSum m c e R d j := by
  unfold part blockSum term
  refine Finset.sum_congr rfl fun f _ => ?_
  obtain ⟨f', hf'⟩ : ∃ f' : Fin 2816, f' = ⟨j.val * 256 + f.val, by have := j.isLt; have := f.isLt; omega⟩ := ⟨_, rfl⟩
  have hf : f'.val = t.val % 11 * 256 + f.val := by rw [hf', ← hj]
  rw [← hf']
  simp only [iblk0_apply m c t e he r _ R hR, iblk2_apply m c t e he _ f f' hf, iblk3_apply m c t e he _ f f' hf, iblk4_apply m c t e he f d f' hf]

end

/-- A run's first point stores its block's sum into the accumulator. -/
theorem scratch_first (t : Fin cfg0.N) (h0 : t.val % 11 = 0) (r : Fin 2048) (d : Fin 1024) :
    (outsAt0 m c t.val t.isLt).2 (ix2 r d)
      = part (fun k => (iblk m c 0 t : Vec Ideal S1x2048x1024 .bf16) (ix3 0 r k)) (iblk m c 2 t) (iblk m c 3 t) (iblk m c 4 t) d := by
  rw [outsAt0_A m c t h0 (by omega) (by omega)]
  dsimp only
  rw [sout_A]

/-- A point inside a run adds its block's sum to the accumulator. -/
theorem scratch_next (t : Fin cfg0.N) (h1 : 1 ≤ t.val % 11 ∧ t.val % 11 ≤ 9) (r : Fin 2048) (d : Fin 1024) :
    (outsAt0 m c t.val t.isLt).2 (ix2 r d)
      = (outsAt0 m c (t.val - 1) (Nat.lt_of_le_of_lt (Nat.sub_le _ _) t.isLt)).2 (ix2 r d)
        + part (fun k => (iblk m c 0 t : Vec Ideal S1x2048x1024 .bf16) (ix3 0 r k)) (iblk m c 2 t) (iblk m c 3 t) (iblk m c 4 t) d := by
  rw [outsAt0_B m c t (by omega) h1 (by omega)]
  dsimp only
  rw [sout_B]

/-- A run's last point stores the accumulator with its block's sum added, times the gate. -/
theorem out_last (t : Fin cfg0.N) (h2 : t.val % 11 = 10) (r : Fin 2048) (d : Fin 1024) :
    (outsAt0 m c t.val t.isLt).1 (ix3 0 r d)
      = ((outsAt0 m c (t.val - 1) (Nat.lt_of_le_of_lt (Nat.sub_le _ _) t.isLt)).2 (ix2 r d)
        + part (fun k => (iblk m c 0 t : Vec Ideal S1x2048x1024 .bf16) (ix3 0 r k)) (iblk m c 2 t) (iblk m c 3 t) (iblk m c 4 t) d)
        * (iblk m c 1 t : Vec Ideal S1x2048x128 .f32) (ix3 0 r ⟨d.val % 128, Nat.mod_lt _ (by decide)⟩) := by
  rw [outsAt0_C m c t (by omega) (by omega) h2]
  dsimp only
  rw [out_C]

/-- The accumulator after the first `k + 1` blocks of run `q`: the sum of those blocks' contributions. -/
theorem scratch_eq (q : ℕ) (e : Fin 16) (r : Fin 2048) (d : Fin 1024) (R : Fin 4096) (he : e.val = q / 2) (hR : R.val = q % 2 * 2048 + r.val)
    (k : ℕ) : ∀ (hk : k ≤ 9) (t : Fin cfg0.N) (_ : t.val = 11 * q + k),
      (outsAt0 m c t.val t.isLt).2 (ix2 r d) = ∑ j : Fin (k + 1), blockSum m c e R d ⟨j.val, by have := j.isLt; omega⟩ := by
  induction k with
  | zero =>
    intro hk t ht
    rw [scratch_first m c t (by omega), part_iblk m c t e (by omega) r d R (by omega) ⟨0, by omega⟩ (by show 0 = _; omega), Fin.sum_univ_one]
    rfl
  | succ k ih =>
    intro hk t ht
    rw [scratch_next m c t (by omega), part_iblk m c t e (by omega) r d R (by omega) ⟨k + 1, by omega⟩ (by show k + 1 = _; omega),
      ih (by omega) ⟨t.val - 1, Nat.lt_of_le_of_lt (Nat.sub_le _ _) t.isLt⟩ (by show t.val - 1 = _; omega), Fin.sum_univ_castSucc (n := k + 1)]
    rfl

/-- The stored result at the last point of run `q`: all the hidden columns' contributions, times the row's gate. -/
theorem out_eq (q : ℕ) (e : Fin 16) (r : Fin 2048) (d : Fin 1024) (R : Fin 4096) (he : e.val = q / 2) (hR : R.val = q % 2 * 2048 + r.val)
    (t : Fin cfg0.N) (ht : t.val = 11 * q + 10) :
    (outsAt0 m c t.val t.isLt).1 (ix3 0 r d) = (∑ f : Fin 2816, term m c e R d f) * argG m c (ix2 e R) := by
  rw [out_last m c t (by omega), part_iblk m c t e (by omega) r d R (by omega) ⟨10, by omega⟩ (by show 10 = _; omega),
    iblk1_apply m c t e (by omega) r _ R (by omega),
    scratch_eq m c q e r d R he hR 9 (le_refl _) ⟨t.val - 1, Nat.lt_of_le_of_lt (Nat.sub_le _ _) t.isLt⟩ (by show t.val - 1 = _; omega),
    Fin.sum_univ_tiles 11 256 rfl, Fin.sum_univ_castSucc (n := 10)]
  rfl

end Cert.Proof.Ffn

end
-- ==== Proof.Ffn.Value.lean ====
/- The expert layer: the kernel's result array and the reference's agree element by element. -/
module

public import proofs.«01_k».proof.Proof.Ffn.Sum
public import proofs.«01_k».proof.Defs
public import proofs.«01_k».proof.Proof.Gen.FfnReferenceIdeal.Run
public import proofs.«01_k».proof.Proof.Gen.FfnReferenceIdeal.Read

@[expose] public section

noncomputable section

namespace Cert.Proof.Ffn

open Idealize.ShloMosaic Idealize.ShloMosaic.TcCoe Idealize.ShloMosaic.Tactic Idealize.SL.Sem Cert.FfnIdeal Cert.FfnIdeal.Gen

variable (m : (ℓ : Loc nD τ sig) → Buf (Elt Ideal) ℓ) (c : Dev nD)

/-- The kernel's result at an element: the hidden columns' contributions, times the row's gate. -/
theorem result_apply (e : Fin 16) (R : Fin 4096) (d : Fin 1024) :
    Value.G5 m c (ix3 e R d) = (∑ f : Fin 2816, term m c e R d f) * argG m c (ix2 e R) := by
  have hq : Value.run5Of (ix3 e R d) = 2 * e.val + R.val / 2048 := by
    show 2 * (e.val / 1 - 0) + 1 * (R.val / 2048 - 0) + 1 * (d.val / 1024 - 0) = _
    have := d.isLt
    omega
  have hlt : Value.pt5Of (ix3 e R d) < cfg0.N := by
    show 11 * Value.run5Of (ix3 e R d) + 10 < cfg0.N
    rw [hq, show cfg0.N = 352 from N_0]
    have := e.isLt
    have := R.isLt
    omega
  unfold Value.G5
  rw [dif_pos hlt, ← Value.outsAt0_sweep m c _ hlt]
  have hloc : Value.loc5Of (ix3 e R d) = ix3 (0 : Fin 1) (⟨R.val % 2048, Nat.mod_lt _ (by decide)⟩ : Fin 2048) d := by
    funext a
    apply Fin.ext
    match a with
    | ⟨0, _⟩ => exact Nat.mod_one _
    | ⟨1, _⟩ => rfl
    | ⟨2, _⟩ => exact Nat.mod_eq_of_lt d.isLt
  rw [hloc]
  have hR := R.isLt
  exact out_eq m c (2 * e.val + R.val / 2048) e ⟨R.val % 2048, Nat.mod_lt _ (by decide)⟩ d R (by omega)
    (by show R.val = (2 * e.val + R.val / 2048) % 2 * 2048 + R.val % 2048; omega) ⟨Value.pt5Of (ix3 e R d), hlt⟩
    (by show 11 * Value.run5Of (ix3 e R d) + 10 = _; rw [hq])

open Cert.FfnReferenceIdeal.Read in
/-- The reference's result at the same element is the same sum. -/
theorem reference_apply (e : Fin 16) (R : Fin 4096) (d : Fin 1024) :
    val_main_v9 (F := Ideal) (argX m c) (argG m c) (argW1 m c) (argW3 m c) (argW2 m c) (ix3 e R d)
      = (∑ f : Fin 2816, term m c e R d f) * argG m c (ix2 e R) := by
  have hx (f : Fin 2816) (k : Fin 1024) : lidx_main_v1 (ix3 e R f) k = ix3 e R k := by
    funext a; match a with | ⟨0, _⟩ => rfl | ⟨1, _⟩ => rfl | ⟨2, _⟩ => rfl
  have hw (f : Fin 2816) (k : Fin 1024) : ridx_main_v1 (ix3 e R f) k = ix3 e k f := by
    funext a; match a with | ⟨0, _⟩ => rfl | ⟨1, _⟩ => rfl | ⟨2, _⟩ => rfl
  have hx' (f : Fin 2816) (k : Fin 1024) : lidx_main_v3 (ix3 e R f) k = ix3 e R k := hx f k
  have hw' (f : Fin 2816) (k : Fin 1024) : ridx_main_v3 (ix3 e R f) k = ix3 e k f := hw f k
  have hl (f : Fin 2816) : lidx_main_v5 (ix3 e R d) f = ix3 e R f := by
    funext a; match a with | ⟨0, _⟩ => rfl | ⟨1, _⟩ => rfl | ⟨2, _⟩ => rfl
  have hr (f : Fin 2816) : ridx_main_v5 (ix3 e R d) f = ix3 e f d := by
    funext a; match a with | ⟨0, _⟩ => rfl | ⟨1, _⟩ => rfl | ⟨2, _⟩ => rfl
  have hg : idx_main_v6 (idx_main_v7 (ix3 e R d)) = ix2 e R := by
    funext a; match a with | ⟨0, _⟩ => rfl | ⟨1, _⟩ => rfl
  rw [val_main_v9_apply, val_main_v8_apply, val_main_v7_apply, val_main_v6_apply, hg, val_main_v5_apply]
  refine congrArg (· * argG m c (ix2 e R)) (Finset.sum_congr rfl fun f _ => ?_)
  rw [hl, hr, val_main_v4_apply, val_main_v2_apply, val_main_v1_apply, val_main_v3_apply, val_main_call0_v5_apply, val_main_call0_v4_apply,
    val_main_call0_cst_0_apply, val_main_call0_v3_apply, val_main_call0_v2_apply, val_main_call0_cst_apply, val_main_call0_v1_apply,
    val_main_call0_v0_apply, val_main_v1_apply]
  simp only [hx, hw, hx', hw', val_main_v0_apply, Ideal.ofBits_def, Ideal.ofBits_one_f32]
  unfold term hidden silu
  rw [zero_sub]
  rfl

/-- The kernel's result array is the reference's. -/
theorem result_eq : Value.G5 m c = Cert.FfnReferenceIdeal.Read.val_main_v9 (F := Ideal) (argX m c) (argG m c) (argW1 m c) (argW3 m c) (argW2 m c) := by
  funext i
  obtain ⟨e, R, d, rfl⟩ : ∃ (e : Fin 16) (R : Fin 4096) (d : Fin 1024), i = ix3 e R d :=
    ⟨i 0, i 1, i 2, by funext a; match a with | ⟨0, _⟩ => rfl | ⟨1, _⟩ => rfl | ⟨2, _⟩ => rfl⟩
  exact (result_apply m c e R d).trans (reference_apply m c e R d).symm

/-- The expert layer's value claim: from equal arguments the two programs end with equal results and unchanged arguments. -/
theorem algebraic : Cert.algebraic_FfnIdeal_FfnReferenceIdeal := by
  intro m g m' g' _ hagree
  refine ⟨fun c => Value.G5 m c, Value.run m g, ?_⟩
  refine (θ_run Cert.FfnReferenceIdeal.defs _ _).mono (fun _ h c => ⟨(h c).1.trans ?_, (h c).2⟩) (Cert.FfnReferenceIdeal.Value.run m' g')
  obtain ⟨h0, h1, h2, h3, h4⟩ := hagree c
  show _ = Value.G5 m c
  rw [h0, h1, h2, h3, h4, result_eq]
  exact Cert.FfnReferenceIdeal.Read.val_main_v9_eq ..

end Cert.Proof.Ffn

end
-- ==== Proof.Diff.Softmax.lean ====
/- The softmax maps of the differential attention over the reals: base two with the scale folded into the queries,
   against the natural base over the joined keys. -/
module

public import Idealize.ShloMosaic.Lib.Pointwise
public import Idealize.ShloMosaic.Lib.IdealHost
public import Idealize.ShloMosaic.PureOps.Ideal.Laws

@[expose] public section

noncomputable section

namespace Cert.Proof.Diff

open Idealize.ShloMosaic

/-- The largest score of a query row, over the latent keys and the context keys. -/
def rowMax (s : Fin 2048 → EReal) (sc : Fin 256 → EReal) : EReal :=
  max (Finset.fold max (Ideal.ofBits .f32 0xFF800000#32) s Finset.univ) (Finset.fold max (Ideal.ofBits .f32 0xFF800000#32) sc Finset.univ)

/-- One softmax map applied to one column of values, in base two: the weighted sum over the sum of the weights. -/
def weighted (s : Fin 2048 → EReal) (sc : Fin 256 → EReal) (v : Fin 2048 → EReal) (vc : Fin 256 → EReal) : EReal :=
  Ideal.div (∑ j, Ideal.exp2 (s j - rowMax s sc) * v j + ∑ j, Ideal.exp2 (sc j - rowMax s sc) * vc j)
    (∑ j, Ideal.exp2 (s j - rowMax s sc) + ∑ j, Ideal.exp2 (sc j - rowMax s sc))

/-- The normalised head output: over the root of the mean square, times the gain and the fixed factor. -/
def normed (o : Fin 128 → EReal) (g : EReal) (e : Fin 128) : EReal :=
  o e * Ideal.rsqrt (Ideal.div (∑ x, o x * o x) (Ideal.ofBits .f32 0x43000000#32) + Ideal.ofBits .f32 0x358637BD#32) * g
    * Ideal.ofBits .f32 0x3F4CCCCD#32

/-- The weight of the second map. -/
def lamOf (a b c d : Fin 64 → EReal) : EReal :=
  Ideal.exp (∑ x, a x * b x) - Ideal.exp (∑ x, c x * d x) + Ideal.ofBits .f32 0x3E4CCCCD#32

/-- The score of the first map: the first 64 lanes. -/
def dotLow (a b : Fin 128 → EReal) : EReal := ∑ d : Fin 64, a ⟨d.val, by omega⟩ * b ⟨d.val, by omega⟩

/-- The score of the second map: the last 64 lanes. -/
def dotHigh (a b : Fin 128 → EReal) : EReal := ∑ d : Fin 64, a ⟨64 + d.val, by omega⟩ * b ⟨64 + d.val, by omega⟩

/-- One row of one head: the two maps' difference, normalised. -/
def attnRow (lam : EReal) (q : Fin 128 → EReal) (k : Fin 2048 → Fin 128 → EReal) (kc : Fin 256 → Fin 128 → EReal)
    (v : Fin 2048 → Fin 128 → EReal) (vc : Fin 256 → Fin 128 → EReal) (g : EReal) (e : Fin 128) : EReal :=
  normed (fun x => weighted (fun j => dotLow q (k j)) (fun j => dotLow q (kc j)) (fun j => v j x) (fun j => vc j x)
    - lam * weighted (fun j => dotHigh q (k j)) (fun j => dotHigh q (kc j)) (fun j => v j x) (fun j => vc j x)) g e

/-- A sum of finite values is finite. -/
theorem coe_sum {n : Nat} (f : Fin n → ℝ) : ((∑ j, f j : ℝ) : EReal) = ∑ j, (f j : EReal) := by
  induction n with
  | zero => simp
  | succ n ih => rw [Fin.sum_univ_succ, Fin.sum_univ_succ, EReal.coe_add, ih]

theorem ofBits_negInf : Ideal.ofBits .f32 0xFF800000#32 = ⊥ := by simp [Ideal.ofBits, Ideal.ieee]

/-- The running maximum of finite scores, from minus infinity, is finite. -/
theorem fold_max_coe {n : Nat} (hn : 0 < n) (u : Fin n → ℝ) :
    ∃ M : ℝ, Finset.fold max (Ideal.ofBits .f32 0xFF800000#32) (fun j => (u j : EReal)) Finset.univ = M := by
  set y := Finset.fold max (Ideal.ofBits .f32 0xFF800000#32) (fun j => (u j : EReal)) Finset.univ with hy
  have ht : y < ⊤ := by
    rw [hy, Finset.fold_max_lt, ofBits_negInf]
    exact ⟨bot_lt_top, fun j _ => EReal.coe_lt_top _⟩
  have hb : ⊥ < y := by
    rw [hy, Finset.lt_fold_max]
    exact Or.inr ⟨⟨0, hn⟩, Finset.mem_univ _, EReal.bot_lt_coe _⟩
  exact ⟨y.toReal, (EReal.coe_toReal ht.ne hb.ne').symm⟩

theorem rowMax_coe (u : Fin 2048 → ℝ) (uc : Fin 256 → ℝ) : ∃ M : ℝ, rowMax (fun j => (u j : EReal)) (fun j => (uc j : EReal)) = M := by
  obtain ⟨a, ha⟩ := fold_max_coe (by decide) u
  obtain ⟨b, hb⟩ := fold_max_coe (by decide) uc
  exact ⟨max a b, by rw [rowMax, ha, hb]; exact (EReal.coe_strictMono.monotone.map_max).symm⟩

/-- The quotient of two finite values with a nonzero divisor. -/
theorem div_real (a b : ℝ) (h : b ≠ 0) : Ideal.div (a : EReal) (b : EReal) = ((a / b : ℝ) : EReal) := by
  rw [Ideal.div_coe h, ← EReal.coe_mul, mul_one_div]

/-- The softmax average over the real numbers, of the latent and the context keys together. -/
def avg (t : Fin 2048 → ℝ) (tc : Fin 256 → ℝ) (y : Fin 2048 → ℝ) (yc : Fin 256 → ℝ) : ℝ :=
  (∑ j, Real.exp (t j) * y j + ∑ j, Real.exp (tc j) * yc j) / (∑ j, Real.exp (t j) + ∑ j, Real.exp (tc j))

/-- A power of two at a scaled and shifted score. -/
theorem two_rpow (t M : ℝ) : Real.rpow 2 (t / Real.log 2 - M) = Real.exp t * Real.exp (-(M * Real.log 2)) := by
  have h : Real.log 2 ≠ 0 := (Real.log_pos (by norm_num)).ne'
  show (2 : ℝ) ^ (t / Real.log 2 - M) = _
  rw [Real.rpow_def_of_pos (by norm_num), ← Real.exp_add]
  congr 1
  field_simp
  ring

theorem exp2_sub (t M : ℝ) : Ideal.exp2 (((t / Real.log 2 : ℝ) : EReal) - (M : EReal)) = ((Real.exp t * Real.exp (-(M * Real.log 2)) : ℝ) : EReal) := by
  rw [← EReal.coe_sub, Ideal.exp2_coe, two_rpow]

theorem exp_sub (t M : ℝ) : Ideal.exp ((t : EReal) - (M : EReal)) = ((Real.exp t * Real.exp (-M) : ℝ) : EReal) := by
  rw [← EReal.coe_sub, Ideal.exp_coe, sub_eq_add_neg, Real.exp_add]

/-- The kernel's map: whatever finite shift is subtracted, the base-two average of the scaled scores is the average. -/
theorem weighted_eq (t : Fin 2048 → ℝ) (tc : Fin 256 → ℝ) (y : Fin 2048 → ℝ) (yc : Fin 256 → ℝ) :
    weighted (fun j => ((t j / Real.log 2 : ℝ) : EReal)) (fun j => ((tc j / Real.log 2 : ℝ) : EReal)) (fun j => (y j : EReal)) (fun j => (yc j : EReal))
      = (avg t tc y yc : EReal) := by
  obtain ⟨M, hM⟩ := rowMax_coe (fun j => t j / Real.log 2) (fun j => tc j / Real.log 2)
  have hpos : 0 < ∑ j, Real.exp (t j) + ∑ j, Real.exp (tc j) :=
    add_pos (Finset.sum_pos (fun j _ => Real.exp_pos _) ⟨0, Finset.mem_univ _⟩) (Finset.sum_pos (fun j _ => Real.exp_pos _) ⟨0, Finset.mem_univ _⟩)
  have hE : 0 < Real.exp (-(M * Real.log 2)) := Real.exp_pos _
  unfold weighted
  simp only [hM, exp2_sub, ← EReal.coe_mul, ← coe_sum, ← EReal.coe_add]
  generalize Real.exp (-(M * Real.log 2)) = E at hE
  have h1 : ∑ j, Real.exp (t j) * E + ∑ j, Real.exp (tc j) * E = (∑ j, Real.exp (t j) + ∑ j, Real.exp (tc j)) * E := by
    rw [add_mul, Finset.sum_mul, Finset.sum_mul]
  have h2 : ∑ j, Real.exp (t j) * E * y j + ∑ j, Real.exp (tc j) * E * yc j = (∑ j, Real.exp (t j) * y j + ∑ j, Real.exp (tc j) * yc j) * E := by
    rw [add_mul, Finset.sum_mul, Finset.sum_mul]
    exact congrArg₂ (· + ·) (Finset.sum_congr rfl fun j _ => mul_right_comm _ _ _) (Finset.sum_congr rfl fun j _ => mul_right_comm _ _ _)
  rw [h1, h2, div_real _ _ (mul_pos hpos hE).ne']
  rw [mul_div_mul_right _ _ hE.ne']
  rfl

/-- One softmax weight of the joined keys, in the natural base. -/
def prob (s : Fin 2304 → EReal) (j : Fin 2304) : EReal :=
  Ideal.div (Ideal.exp (s j - max (Ideal.ofBits .f32 0xFF800000#32) (Finset.fold max (Ideal.ofBits .f32 0xFF800000#32) s Finset.univ)))
    (∑ i, Ideal.exp (s i - max (Ideal.ofBits .f32 0xFF800000#32) (Finset.fold max (Ideal.ofBits .f32 0xFF800000#32) s Finset.univ)))

theorem prob_eq (u : Fin 2304 → ℝ) (j : Fin 2304) :
    prob (fun i => (u i : EReal)) j = ((Real.exp (u j) / ∑ i, Real.exp (u i) : ℝ) : EReal) := by
  obtain ⟨M, hM⟩ := fold_max_coe (by decide) u
  have hpos : 0 < ∑ j, Real.exp (u j) := Finset.sum_pos (fun j _ => Real.exp_pos _) ⟨0, Finset.mem_univ _⟩
  have hE : 0 < Real.exp (-M) := Real.exp_pos _
  unfold prob
  simp only [hM]
  simp only [ofBits_negInf, bot_le, max_eq_right, exp_sub, ← coe_sum]
  rw [← Finset.sum_mul, div_real _ _ (mul_pos hpos hE).ne', mul_div_mul_right _ _ hE.ne']

/-- The joined real row: the latent keys, then the context keys. -/
def join (t : Fin 2048 → ℝ) (tc : Fin 256 → ℝ) (j : Fin 2304) : ℝ :=
  if h : j.val < 2048 then t ⟨j.val, h⟩ else tc ⟨j.val - 2048, by omega⟩

theorem sum_join (F : ℝ → ℝ → ℝ → ℝ) (t : Fin 2048 → ℝ) (tc : Fin 256 → ℝ) (t' : Fin 2048 → ℝ) (tc' : Fin 256 → ℝ) (y : Fin 2048 → ℝ) (yc : Fin 256 → ℝ) :
    ∑ j, F (join t tc j) (join t' tc' j) (join y yc j) = ∑ j, F (t j) (t' j) (y j) + ∑ j, F (tc j) (tc' j) (yc j) := by
  rw [Fin.sum_univ_two_halves 2048 256 rfl]
  refine congrArg₂ (· + ·) (Finset.sum_congr rfl fun j _ => ?_) (Finset.sum_congr rfl fun j _ => ?_)
  · simp [join]
  · simp [join]

/-- The reference's attention: the difference of the two maps' weights applied to the values is the difference of the averages. -/
theorem difference_eq (t0 : Fin 2048 → ℝ) (tc0 : Fin 256 → ℝ) (t1 : Fin 2048 → ℝ) (tc1 : Fin 256 → ℝ) (y : Fin 2048 → ℝ) (yc : Fin 256 → ℝ) (lam : ℝ) :
    ∑ j, (join y yc j : EReal) * (prob (fun i => (join t0 tc0 i : EReal)) j - lam * prob (fun i => (join t1 tc1 i : EReal)) j)
      = ((avg t0 tc0 y yc - lam * avg t1 tc1 y yc : ℝ) : EReal) := by
  have h0 : ∑ i, Real.exp (join t0 tc0 i) = ∑ j, Real.exp (t0 j) + ∑ j, Real.exp (tc0 j) := sum_join (fun a _ _ => Real.exp a) t0 tc0 t1 tc1 y yc
  have h1 : ∑ i, Real.exp (join t1 tc1 i) = ∑ j, Real.exp (t1 j) + ∑ j, Real.exp (tc1 j) := sum_join (fun _ b _ => Real.exp b) t0 tc0 t1 tc1 y yc
  simp only [prob_eq, ← EReal.coe_mul, ← EReal.coe_sub, ← coe_sum]
  rw [h0, h1]
  congr 1
  unfold avg
  generalize ∑ j, Real.exp (t0 j) + ∑ j, Real.exp (tc0 j) = D0
  generalize ∑ j, Real.exp (t1 j) + ∑ j, Real.exp (tc1 j) = D1
  rw [sum_join (fun a b w => w * (a.exp / D0 - lam * (b.exp / D1)))]
  rw [add_div, add_div, Finset.sum_div, Finset.sum_div, Finset.sum_div, Finset.sum_div, mul_add, Finset.mul_sum, Finset.mul_sum,
    add_sub_add_comm, ← Finset.sum_sub_distrib, ← Finset.sum_sub_distrib]
  refine congrArg₂ (· + ·) (Finset.sum_congr rfl fun j _ => ?_) (Finset.sum_congr rfl fun j _ => ?_)
  · ring
  · ring

end Cert.Proof.Diff

end
-- ==== Proof.Diff.Core.lean ====
/- One head of the differential attention, as the kernel's vector expression, read at an index. -/
module

public import proofs.«01_k».proof.Proof.Gen.KernelIdeal.Skeleton
public import proofs.«01_k».proof.Proof.Diff.Softmax
public import Idealize.ShloMosaic.Lib.Pointwise
public import Idealize.ShloMosaic.Lib.IdealHost

@[expose] public section

noncomputable section

namespace Cert.Proof.Diff

open Idealize.ShloMosaic Idealize.SL.Sem Cert.KernelIdeal Cert.KernelIdeal.Gen

/-- One head, as the kernel's vector expression. -/
def head {F : FTy → Type} [FloatOps F] (lam : FVec F S1x1 .f32) (q : Vec F S1x512x128 .bf16) (k : Vec F S1x2048x128 .bf16)
    (kc : Vec F S1x256x128 .bf16) (v : Vec F S1x2048x128 .bf16) (vc : Vec F S1x256x128 .bf16) (g : Vec F S1x128 .f32) : FVec F S1x512x128 .bf16 :=
  k0_pay23 lam (k0_pay21 (k0_pay6 q k) (k0_pay7 q kc) v vc)
    (k0_pay22 (k0_pay10 (k0_pay4 q) k0_pay8 k) (k0_pay11 (k0_pay4 q) k0_pay8 kc) v vc) g

/-- The lane mask at a lane: the first 64 lanes are on. -/
theorem mask_low : ∀ l : Fin 128, IntOp.cmpi .slt (BitVec.ofNat 32 l.val) 64#32 = if l.val < 64 then 1#1 else 0#1 := by
  decide +kernel

/-- Its complement: the last 64 lanes are on. -/
theorem mask_high : ∀ l : Fin 128, IntOp.xori (IntOp.cmpi .slt (BitVec.ofNat 32 l.val) 64#32) 1#1 = if l.val < 64 then 0#1 else 1#1 := by
  decide +kernel

/-- A sum over the lanes the mask keeps is the sum over the first 64. -/
theorem sum_low (f : Fin 128 → EReal) :
    ∑ l : Fin 128, Scalar.select (IntOp.cmpi .slt (BitVec.ofNat 32 l.val) 64#32) (f l) 0 = ∑ d : Fin 64, f ⟨d.val, by omega⟩ := by
  have h (l : Fin 128) : Scalar.select (IntOp.cmpi .slt (BitVec.ofNat 32 l.val) 64#32) (f l) 0 = if l.val < 64 then f l else 0 := by
    rw [mask_low]
    split <;> rfl
  simp only [h]
  rw [Fin.sum_univ_two_halves 64 64 rfl]
  simp

/-- A sum over the lanes the complement keeps is the sum over the last 64. -/
theorem sum_high (f : Fin 128 → EReal) :
    ∑ l : Fin 128, Scalar.select (IntOp.xori (IntOp.cmpi .slt (BitVec.ofNat 32 l.val) 64#32) 1#1) (f l) 0 = ∑ d : Fin 64, f ⟨64 + d.val, by omega⟩ := by
  have h (l : Fin 128) : Scalar.select (IntOp.xori (IntOp.cmpi .slt (BitVec.ofNat 32 l.val) 64#32) 1#1) (f l) 0 = if l.val < 64 then 0 else f l := by
    rw [mask_high]
    split <;> rfl
  simp only [h]
  rw [Fin.sum_univ_two_halves 64 64 rfl]
  simp

theorem pay6_apply (q : Vec Ideal S1x512x128 .bf16) (k : Vec Ideal S1x2048x128 .bf16) (r : Fin 512) (j : Fin 2048) :
    k0_pay6 q k (ix2 r j) = dotLow (fun l => q (ix3 0 r l)) (fun l => k (ix3 0 j l)) := by
  pointwise [k0_pay6, k0_pay5, k0_pay4, k0_pay3, zero_add]
  exact sum_low fun l => q (ix3 0 r l) * k (ix3 0 j l)

theorem pay7_apply (q : Vec Ideal S1x512x128 .bf16) (k : Vec Ideal S1x256x128 .bf16) (r : Fin 512) (j : Fin 256) :
    k0_pay7 q k (ix2 r j) = dotLow (fun l => q (ix3 0 r l)) (fun l => k (ix3 0 j l)) := by
  pointwise [k0_pay7, k0_pay5, k0_pay4, k0_pay3, zero_add]
  exact sum_low fun l => q (ix3 0 r l) * k (ix3 0 j l)

theorem pay10_apply (q : Vec Ideal S1x512x128 .bf16) (k : Vec Ideal S1x2048x128 .bf16) (r : Fin 512) (j : Fin 2048) :
    k0_pay10 (k0_pay4 q) k0_pay8 k (ix2 r j) = dotHigh (fun l => q (ix3 0 r l)) (fun l => k (ix3 0 j l)) := by
  pointwise [k0_pay10, k0_pay9, k0_pay8, k0_pay4, k0_pay3, zero_add]
  exact sum_high fun l => q (ix3 0 r l) * k (ix3 0 j l)

theorem pay11_apply (q : Vec Ideal S1x512x128 .bf16) (k : Vec Ideal S1x256x128 .bf16) (r : Fin 512) (j : Fin 256) :
    k0_pay11 (k0_pay4 q) k0_pay8 k (ix2 r j) = dotHigh (fun l => q (ix3 0 r l)) (fun l => k (ix3 0 j l)) := by
  pointwise [k0_pay11, k0_pay9, k0_pay8, k0_pay4, k0_pay3, zero_add]
  exact sum_high fun l => q (ix3 0 r l) * k (ix3 0 j l)

theorem pay21_apply (s : FVec Ideal S512x2048 .f32) (sc : FVec Ideal S512x256 .f32) (v : Vec Ideal S1x2048x128 .bf16) (vc : Vec Ideal S1x256x128 .bf16) (r : Fin 512) (e : Fin 128) :
    k0_pay21 s sc v vc (ix2 r e) = weighted (fun j => s (ix2 r j)) (fun j => sc (ix2 r j)) (fun j => v (ix3 0 j e)) (fun j => vc (ix3 0 j e)) := by
  pointwise [k0_pay21, k0_pay20, k0_pay19, zero_add]
  rfl

/-- The second map is the same expression. -/
theorem pay22_eq {F : FTy → Type} [FloatOps F] (s : FVec F S512x2048 .f32) (sc : FVec F S512x256 .f32) (v : Vec F S1x2048x128 .bf16) (vc : Vec F S1x256x128 .bf16) :
    k0_pay22 s sc v vc = k0_pay21 s sc v vc := rfl

theorem pay23_apply (lam : FVec Ideal S1x1 .f32) (o0 o1 : FVec Ideal S512x128 .f32) (g : Vec Ideal S1x128 .f32) (r : Fin 512) (e : Fin 128) :
    k0_pay23 lam o0 o1 g (ix3 0 r e) = normed (fun x => o0 (ix2 r x) - lam (ix2 0 0) * o1 (ix2 r x)) (g (ix2 0 e)) e := by
  pointwise [k0_pay23, zero_add]
  rfl

theorem pay2_apply (a b c d : Vec Ideal S1x64 .f32) :
    k0_pay2 a b c d (ix2 0 0) = lamOf (fun x => a (ix2 0 x)) (fun x => b (ix2 0 x)) (fun x => c (ix2 0 x)) (fun x => d (ix2 0 x)) := by
  pointwise [k0_pay2, zero_add]
  rfl

/-- A head at an index. -/
theorem head_apply (lam : FVec Ideal S1x1 .f32) (q : Vec Ideal S1x512x128 .bf16) (k : Vec Ideal S1x2048x128 .bf16)
    (kc : Vec Ideal S1x256x128 .bf16) (v : Vec Ideal S1x2048x128 .bf16) (vc : Vec Ideal S1x256x128 .bf16) (g : Vec Ideal S1x128 .f32)
    (r : Fin 512) (e : Fin 128) :
    head lam q k kc v vc g (ix3 0 r e) = attnRow (lam (ix2 0 0)) (fun l => q (ix3 0 r l)) (fun j l => k (ix3 0 j l)) (fun j l => kc (ix3 0 j l))
      (fun j l => v (ix3 0 j l)) (fun j l => vc (ix3 0 j l)) (g (ix2 0 e)) e := by
  unfold head
  simp only [pay23_apply, pay22_eq, pay21_apply, pay6_apply, pay7_apply, pay10_apply, pay11_apply]
  rfl

end Cert.Proof.Diff

end
-- ==== Proof.Diff.Blocks.lean ====
/- One grid point's result block, read at an index: the head of the column, on the head's columns of the staged blocks. -/
module

public import proofs.«01_k».proof.Proof.Diff.Core
public import proofs.«01_k».proof.Proof.Gen.KernelIdeal.Value
public import Idealize.ShloMosaic.Lib.Pipeline.ValueKit

@[expose] public section

set_option maxRecDepth 16384

noncomputable section

namespace Cert.Proof.Diff

open Idealize.ShloMosaic Idealize.ShloMosaic.TcCoe Idealize.ShloMosaic.Tactic Idealize.SL.Sem Cert.KernelIdeal Cert.KernelIdeal.Gen

/-- Lane `l` of the head column `C` belongs to. -/
def col (C : Fin 512) (l : Fin 128) : Fin 512 := ⟨C.val / 128 * 128 + l.val, by have := C.isLt; have := l.isLt; omega⟩

/-- The lane of a column. -/
def lane (C : Fin 512) : Fin 128 := ⟨C.val % 128, Nat.mod_lt _ (by decide)⟩

/-- The columns of one head read out of a block. -/
theorem ld_head {n : Nat} {e : EltTy} (X : Vec Ideal (⟨3, ![1, n, 512]⟩ : Shape) e) (o : Nat) (ho : o % 128 = 0)
    (inb : ∀ a : Fin (⟨3, ![1, n, 512]⟩ : Shape).rank, (![0, 0, o] : Fin 3 → Nat) a + (![1, n, 128] : Fin 3 → Nat) a ≤ (⟨3, ![1, n, 512]⟩ : Shape).size a)
    (j : Fin n) (l q : Fin 128) (C : Fin 512) (hC : C.val = o + q.val) :
    View.ld X (Rect.unit ![0, 0, o] ![1, n, 128] inb) (ix3 0 j l) = X (ix3 0 j (col C l)) := by
  refine View.ld_unit_apply_of X _ _ inb _ _ ?_
  intro a
  match a with
  | ⟨0, _⟩ => rfl
  | ⟨1, _⟩ => exact (Nat.zero_add _).symm
  | ⟨2, _⟩ =>
    show C.val / 128 * 128 + l.val = o + l.val
    have := q.isLt
    omega

section
variable (lam : FVec Ideal S1x1 .f32) (x4 : Vec Ideal S1x128 .f32) (x5 : Vec Ideal S1x512x512 .bf16)
  (x6 x7 : Vec Ideal S1x2048x512 .bf16) (x8 x9 : Vec Ideal S1x256x512 .bf16)

/-- The value at row `r`, column `C` of the block. -/
def blockVal (l : EReal) (r C : Fin 512) : EReal :=
  attnRow l (fun l => x5 (ix3 0 r (col C l))) (fun j l => x6 (ix3 0 j (col C l))) (fun j l => x8 (ix3 0 j (col C l)))
    (fun j l => x7 (ix3 0 j (col C l))) (fun j l => x9 (ix3 0 j (col C l))) (x4 (ix2 0 (lane C))) (lane C)

/-- One head's store holds the block's value wherever it reaches. -/
theorem head_tile (r C : Fin 512) (o : Nat) (ho : o % 128 = 0)
    (inbq : ∀ a : Fin S1x512x512.rank, (![0, 0, o] : Fin 3 → Nat) a + (![1, 512, 128] : Fin 3 → Nat) a ≤ S1x512x512.size a)
    (inbk : ∀ a : Fin S1x2048x512.rank, (![0, 0, o] : Fin 3 → Nat) a + (![1, 2048, 128] : Fin 3 → Nat) a ≤ S1x2048x512.size a)
    (inbc : ∀ a : Fin S1x256x512.rank, (![0, 0, o] : Fin 3 → Nat) a + (![1, 256, 128] : Fin 3 → Nat) a ≤ S1x256x512.size a) :
    View.TileAt (Val := Elt Ideal) (e := .bf16) (ix3 0 r C : S1x512x512.Idx) ![0, 0, o] ![1, 512, 128]
      (head lam (View.ld x5 (Rect.unit ![0, 0, o] ![1, 512, 128] inbq)) (View.ld x6 (Rect.unit ![0, 0, o] ![1, 2048, 128] inbk))
        (View.ld x8 (Rect.unit ![0, 0, o] ![1, 256, 128] inbc)) (View.ld x7 (Rect.unit ![0, 0, o] ![1, 2048, 128] inbk))
        (View.ld x9 (Rect.unit ![0, 0, o] ![1, 256, 128] inbc)) x4)
      (blockVal x4 x5 x6 x7 x8 x9 (lam (ix2 0 0)) r C) := by
  intro x hx
  obtain ⟨p, q, rfl⟩ : ∃ (p : Fin 512) (q : Fin 128), x = (ix3 (0 : Fin 1) p q : S1x512x128.Idx) :=
    ⟨x 1, x 2, by
      funext a
      match a with
      | ⟨0, _⟩ => exact Subsingleton.elim (α := Fin 1) _ _
      | ⟨1, _⟩ => rfl
      | ⟨2, _⟩ => rfl⟩
  have hr : r.val = 0 + p.val := hx 1
  have hC : C.val = o + q.val := hx 2
  obtain rfl : r = p := Fin.ext (hr.trans (Nat.zero_add _))
  have hl : lane C = q := Fin.ext (by show C.val % 128 = q.val; have := q.isLt; omega)
  refine (head_apply _ _ _ _ _ _ _ r q).trans ?_
  unfold blockVal
  rw [hl]
  have e5 (l : Fin 128) := ld_head x5 o ho inbq r l q C hC
  have e6 (j : Fin 2048) (l : Fin 128) := ld_head x6 o ho inbk j l q C hC
  have e7 (j : Fin 2048) (l : Fin 128) := ld_head x7 o ho inbk j l q C hC
  have e8 (j : Fin 256) (l : Fin 128) := ld_head x8 o ho inbc j l q C hC
  have e9 (j : Fin 256) (l : Fin 128) := ld_head x9 o ho inbc j l q C hC
  simp only [e5, e6, e7, e8, e9]

end

theorem zero2 : (![0, 0] : Fin 2 → Nat) = fun _ => 0 := by
  funext a; match a with | ⟨0, _⟩ => rfl | ⟨1, _⟩ => rfl

/-- The result block at an index. -/
theorem out_apply (x0 x1 x2 x3 : Vec Ideal S1x64 .f32) (x4 : Vec Ideal S1x128 .f32) (x5 : Vec Ideal S1x512x512 .bf16)
    (x6 x7 : Vec Ideal S1x2048x512 .bf16) (x8 x9 : Vec Ideal S1x256x512 .bf16) (r C : Fin 512) :
    out0_10 x0 x1 x2 x3 x4 x5 x6 x7 x8 x9 (ix3 0 r C) = blockVal x4 x5 x6 x7 x8 x9
      (lamOf (fun x => x0 (ix2 0 x)) (fun x => x1 (ix2 0 x)) (fun x => x2 (ix2 0 x)) (fun x => x3 (ix2 0 x))) r C := by
  rw [← pay2_apply]
  unfold_out out0_10
  refine View.canon_eq_of_allAt _ _ _ (cover0_10 _ _ _ _ _) ?_
  simp only [View.ld_unit_zero (S := S1x64) zero2, View.ld_unit_zero (S := S1x128) zero2]
  refine View.allAt_cons_unit _ _ _ _ _ (head_tile _ x4 x5 x6 x7 x8 x9 r C 384 rfl _ _ _) ?_
  refine View.allAt_cons_unit _ _ _ _ _ (head_tile _ x4 x5 x6 x7 x8 x9 r C 256 rfl _ _ _) ?_
  refine View.allAt_cons_unit _ _ _ _ _ (head_tile _ x4 x5 x6 x7 x8 x9 r C 128 rfl _ _ _) ?_
  exact View.allAt_cons_unit _ _ _ _ _ (head_tile _ x4 x5 x6 x7 x8 x9 r C 0 rfl _ _ _) (View.allAt_nil _ _)

end Cert.Proof.Diff

end
-- ==== Proof.Diff.Scalars.lean ====
/- The scores of both programs over the real numbers, and the weight of the second map. -/
module

public import proofs.«01_k».proof.Proof.Diff.Softmax

@[expose] public section

noncomputable section

namespace Cert.Proof.Diff

open Idealize.ShloMosaic

theorem ofBits_eighth : Ideal.ofBits .f32 0x3E000000#32 = ((1 / 8 : ℝ) : EReal) := by
  simp [Ideal.ofBits, Ideal.ieee]
  rw [← EReal.coe_mul]
  norm_num

theorem ofBits_two : Ideal.ofBits .f32 0x40000000#32 = ((2 : ℝ) : EReal) := by
  simp [Ideal.ofBits, Ideal.ieee]
  rw [← EReal.coe_mul]
  norm_num

theorem ofBits_fifth : ∃ r : ℝ, Ideal.ofBits .f32 0x3E4CCCCD#32 = (r : EReal) := by
  refine ⟨13421773 / 67108864, ?_⟩
  simp [Ideal.ofBits, Ideal.ieee]
  rw [← EReal.coe_mul]
  norm_num

/-- The factor folded into the queries. -/
def scale : EReal := Ideal.div (Ideal.ofBits .f32 0x3E000000#32) (Ideal.log (Ideal.ofBits .f32 0x40000000#32))

theorem scale_eq : scale = ((1 / 8 / Real.log 2 : ℝ) : EReal) := by
  rw [scale, ofBits_eighth, ofBits_two, Ideal.log_coe, if_neg (by norm_num), div_real _ _ (Real.log_pos (by norm_num)).ne']

/-- The kernel's score: the plain score over the logarithm of two. -/
theorem kernel_score (q k : Fin 64 → ℝ) :
    ∑ d, (q d : EReal) * scale * (k d : EReal) = (((∑ d, q d * k d) * (1 / 8) / Real.log 2 : ℝ) : EReal) := by
  rw [scale_eq]
  simp only [← EReal.coe_mul, ← coe_sum]
  rw [Finset.sum_mul, Finset.sum_div]
  exact congrArg _ (Finset.sum_congr rfl fun d _ => by ring)

/-- The reference's score. -/
theorem reference_score (q k : Fin 64 → ℝ) :
    (∑ d, (q d : EReal) * (k d : EReal)) * Ideal.ofBits .f32 0x3E000000#32 = (((∑ d, q d * k d) * (1 / 8) : ℝ) : EReal) := by
  rw [ofBits_eighth]
  simp only [← EReal.coe_mul, ← coe_sum]

/-- The weight of the second map is a real number when the mixing vectors are. -/
theorem lamOf_coe (a b c d : Fin 64 → ℝ) :
    ∃ r : ℝ, lamOf (fun x => (a x : EReal)) (fun x => (b x : EReal)) (fun x => (c x : EReal)) (fun x => (d x : EReal)) = r := by
  obtain ⟨f, hf⟩ := ofBits_fifth
  refine ⟨Real.exp (∑ x, a x * b x) - Real.exp (∑ x, c x * d x) + f, ?_⟩
  unfold lamOf
  simp only [← EReal.coe_mul, ← coe_sum, Ideal.exp_coe, hf, ← EReal.coe_sub, ← EReal.coe_add]

end Cert.Proof.Diff

end
-- ==== Proof.Diff.Array.lean ====
/- The blocks each grid point stages, as parts of the argument arrays, and the kernel's result array at an index. -/
module

public import proofs.«01_k».proof.Proof.Diff.Blocks
public import proofs.«01_k».proof.Proof.Diff.Scalars

@[expose] public section

set_option maxRecDepth 16384

noncomputable section

namespace Cert.Proof.Diff

open Idealize.ShloMosaic Idealize.ShloMosaic.TcCoe Idealize.ShloMosaic.Tactic Idealize.SL.Sem Cert.KernelIdeal Cert.KernelIdeal.Gen

variable (m : (ℓ : Loc nD τ sig) → Buf (Elt Ideal) ℓ) (c : Dev nD)

/-- The queries. -/
abbrev argQ : Vec Ideal S16x2048x512 .f32 := m ((c : Thread nD τ).loc main_arg0)
/-- The latent keys. -/
abbrev argK : Vec Ideal S16x2048x512 .f32 := m ((c : Thread nD τ).loc main_arg1)
/-- The latent values. -/
abbrev argV : Vec Ideal S16x2048x512 .f32 := m ((c : Thread nD τ).loc main_arg2)
/-- The context keys. -/
abbrev argKc : Vec Ideal S16x256x512 .f32 := m ((c : Thread nD τ).loc main_arg3)
/-- The context values. -/
abbrev argVc : Vec Ideal S16x256x512 .f32 := m ((c : Thread nD τ).loc main_arg4)
/-- The four mixing vectors. -/
abbrev argL0 : Vec Ideal S64 .f32 := m ((c : Thread nD τ).loc main_arg5)
abbrev argL1 : Vec Ideal S64 .f32 := m ((c : Thread nD τ).loc main_arg6)
abbrev argL2 : Vec Ideal S64 .f32 := m ((c : Thread nD τ).loc main_arg7)
abbrev argL3 : Vec Ideal S64 .f32 := m ((c : Thread nD τ).loc main_arg8)
/-- The head gain. -/
abbrev argG : Vec Ideal S128 .f32 := m ((c : Thread nD τ).loc main_arg9)

/-- What the host lays side by side for the latent operands. -/
abbrev latent : List ((s : Shape) × Vec Ideal s .f32) :=
    [⟨S16x2048x512, argQ m c⟩,
     ⟨S16x2048x512, mulf (F := Ideal) (argQ m c) (broadcastInDim S16x2048x512 ![] bcast_S_S16x2048x512 (Host.divf (F := Ideal) (constant S_ .f32 0x3E000000#32) (Host.log (constant S_ .f32 0x40000000#32))))⟩,
     ⟨S16x2048x512, argK m c⟩, ⟨S16x2048x512, argK m c⟩, ⟨S16x2048x512, argV m c⟩, ⟨S16x2048x512, argV m c⟩]

/-- What the host lays side by side for the context operands. -/
abbrev context : List ((s : Shape) × Vec Ideal s .f32) :=
    [⟨S16x256x512, argKc m c⟩, ⟨S16x256x512, argKc m c⟩, ⟨S16x256x512, argVc m c⟩, ⟨S16x256x512, argVc m c⟩]

open StableHlo in
/-- An operation on six operands, at its own result: the operands' contents each at its own buffer. -/
theorem nary6_result {Val : EltTy → Type} {x a b e f g y : Ref sig .tc}
    (o : ((k : Fin 6) → ((![x, a, b, e, f, g] : Fin 6 → Ref sig .tc) k).ty.Contents Val) → y.ty.Contents Val) (hxs hy)
    (F : Valuation τ sig Val) :
    (nary (τ := τ) ![x, a, b, e, f, g] y o hxs hy).result F (Proc.devRef .tc y)
      = o (Fin.cons (F (Proc.devRef .tc x)) (Fin.cons (F (Proc.devRef .tc a)) (Fin.cons (F (Proc.devRef .tc b))
          (Fin.cons (F (Proc.devRef .tc e)) (Fin.cons (F (Proc.devRef .tc f)) (Fin.cons (F (Proc.devRef .tc g)) (fun i => i.elim0))))))) := by
  rw [nary_result]
  congr 1
  funext k
  fin_cases k <;> rfl

open StableHlo in
/-- The staged latent operands, whole. -/
theorem V_main_v5 : V m c main_v5 = truncf (F := Ideal) .bf16 (concatenate S16x2048x3072 2 (latent m c)
    concatenates_S16x2048x512_S16x2048x512_S16x2048x512_S16x2048x512_S16x2048x512_S16x2048x512_S16x2048x3072_d2) bitsLt_bf16_f32 := by
  unfold_abbrev_sides
  simp only [after_cons, after_nil]
  repeat (rw [reshape_result_ne]; rotate_left; decide)
  rw [unary_result_ne]; rotate_left; decide
  rw [nary_result_ne]; rotate_left; decide
  rw [unary_result, nary6_result]
  repeat (first
    | rw [nullary_result] | rw [unary_result] | rw [binary_result]
    | (rw [nullary_result_ne]; rotate_left; decide)
    | (rw [unary_result_ne]; rotate_left; decide)
    | (rw [binary_result_ne]; rotate_left; decide)
    | (rw [nary_result_ne]; rotate_left; decide))
  rfl

open StableHlo in
/-- The staged context operands, whole. -/
theorem V_main_v7 : V m c main_v7 = truncf (F := Ideal) .bf16 (concatenate S16x256x2048 2 (context m c)
    concatenates_S16x256x512_S16x256x512_S16x256x512_S16x256x512_S16x256x2048_d2) bitsLt_bf16_f32 := by
  unfold_abbrev_sides
  simp only [after_cons, after_nil]
  repeat (rw [reshape_result_ne]; rotate_left; decide)
  rw [unary_result, nary4_result]
  repeat (first
    | (rw [nullary_result_ne]; rotate_left; decide)
    | (rw [unary_result_ne]; rotate_left; decide)
    | (rw [binary_result_ne]; rotate_left; decide)
    | (rw [nary_result_ne]; rotate_left; decide))
  rfl

/-- The staged queries: scaled. -/
theorem v5_query (b : Fin 16) (n : Fin 2048) (C : Fin 512) (C' : Fin 3072) (h : C'.val = 512 + C.val) :
    (V m c main_v5 : Vec Ideal S16x2048x3072 .bf16) (ix3 b n C') = argQ m c (ix3 b n C) * scale := by
  rw [V_main_v5]
  refine (concatenate_apply_piece (t := S16x2048x3072) 2 (latent m c) concatenates_S16x2048x512_S16x2048x512_S16x2048x512_S16x2048x512_S16x2048x512_S16x2048x512_S16x2048x3072_d2 (ix3 b n C') 1 (by simp) S16x2048x512 _ rfl rfl 512 rfl (ix3 b n C) ?_ h.symm).trans ?_
  · intro k hk
    match k with
    | ⟨0, _⟩ => rfl
    | ⟨1, _⟩ => rfl
    | ⟨2, _⟩ => exact absurd rfl hk
  · show argQ m c (ix3 b n C) * _ = _
    rw [broadcastInDim_apply _ bcast_S_S16x2048x512 _ _ (fun k => k.elim0) (fun k => k.elim0)]
    rfl

/-- The staged keys. -/
theorem v5_key (b : Fin 16) (n : Fin 2048) (C : Fin 512) (C' : Fin 3072) (h : C'.val = 1536 + C.val) :
    (V m c main_v5 : Vec Ideal S16x2048x3072 .bf16) (ix3 b n C') = argK m c (ix3 b n C) := by
  rw [V_main_v5]
  refine concatenate_apply_piece (t := S16x2048x3072) 2 (latent m c) concatenates_S16x2048x512_S16x2048x512_S16x2048x512_S16x2048x512_S16x2048x512_S16x2048x512_S16x2048x3072_d2 (ix3 b n C') 3 (by simp) S16x2048x512 _ rfl rfl 1536 rfl (ix3 b n C) ?_ h.symm
  intro k hk
  match k with
  | ⟨0, _⟩ => rfl
  | ⟨1, _⟩ => rfl
  | ⟨2, _⟩ => exact absurd rfl hk

/-- The staged values. -/
theorem v5_value (b : Fin 16) (n : Fin 2048) (C : Fin 512) (C' : Fin 3072) (h : C'.val = 2560 + C.val) :
    (V m c main_v5 : Vec Ideal S16x2048x3072 .bf16) (ix3 b n C') = argV m c (ix3 b n C) := by
  rw [V_main_v5]
  refine concatenate_apply_piece (t := S16x2048x3072) 2 (latent m c) concatenates_S16x2048x512_S16x2048x512_S16x2048x512_S16x2048x512_S16x2048x512_S16x2048x512_S16x2048x3072_d2 (ix3 b n C') 5 (by simp) S16x2048x512 _ rfl rfl 2560 rfl (ix3 b n C) ?_ h.symm
  intro k hk
  match k with
  | ⟨0, _⟩ => rfl
  | ⟨1, _⟩ => rfl
  | ⟨2, _⟩ => exact absurd rfl hk

/-- The staged context keys. -/
theorem v7_key (b : Fin 16) (n : Fin 256) (C : Fin 512) (C' : Fin 2048) (h : C'.val = 512 + C.val) :
    (V m c main_v7 : Vec Ideal S16x256x2048 .bf16) (ix3 b n C') = argKc m c (ix3 b n C) := by
  rw [V_main_v7]
  refine concatenate_apply_piece (t := S16x256x2048) 2 (context m c) concatenates_S16x256x512_S16x256x512_S16x256x512_S16x256x512_S16x256x2048_d2 (ix3 b n C') 1 (by simp) S16x256x512 _ rfl rfl 512 rfl (ix3 b n C) ?_ h.symm
  intro k hk
  match k with
  | ⟨0, _⟩ => rfl
  | ⟨1, _⟩ => rfl
  | ⟨2, _⟩ => exact absurd rfl hk

/-- The staged context values. -/
theorem v7_value (b : Fin 16) (n : Fin 256) (C : Fin 512) (C' : Fin 2048) (h : C'.val = 1536 + C.val) :
    (V m c main_v7 : Vec Ideal S16x256x2048 .bf16) (ix3 b n C') = argVc m c (ix3 b n C) := by
  rw [V_main_v7]
  refine concatenate_apply_piece (t := S16x256x2048) 2 (context m c) concatenates_S16x256x512_S16x256x512_S16x256x512_S16x256x512_S16x256x2048_d2 (ix3 b n C') 3 (by simp) S16x256x512 _ rfl rfl 1536 rfl (ix3 b n C) ?_ h.symm
  intro k hk
  match k with
  | ⟨0, _⟩ => rfl
  | ⟨1, _⟩ => rfl
  | ⟨2, _⟩ => exact absurd rfl hk

/-- Every window's block indices at a point: batch and row block read off the point's number, columns fixed. -/
theorem index_facts : ∀ t : Fin cfg0.N,
    ((win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0))
    ∧ (win0_5.index t (0 : Fin 3) = t.val / 4 ∧ win0_5.index t (1 : Fin 3) = t.val % 4 ∧ win0_5.index t (2 : Fin 3) = 1)
    ∧ (win0_6.index t (0 : Fin 3) = t.val / 4 ∧ win0_6.index t (1 : Fin 3) = 0 ∧ win0_6.index t (2 : Fin 3) = 3)
    ∧ (win0_7.index t (0 : Fin 3) = t.val / 4 ∧ win0_7.index t (1 : Fin 3) = 0 ∧ win0_7.index t (2 : Fin 3) = 5)
    ∧ (win0_8.index t (0 : Fin 3) = t.val / 4 ∧ win0_8.index t (1 : Fin 3) = 0 ∧ win0_8.index t (2 : Fin 3) = 1)
    ∧ (win0_9.index t (0 : Fin 3) = t.val / 4 ∧ win0_9.index t (1 : Fin 3) = 0 ∧ win0_9.index t (2 : Fin 3) = 3)
    ∧ (win0_10.index t (0 : Fin 3) = t.val / 4 ∧ win0_10.index t (1 : Fin 3) = t.val % 4 ∧ win0_10.index t (2 : Fin 3) = 0)
    ∧ (cfg0.win 10).flush t = true :=
  (by decide +kernel : ∀ t : Fin grid0.N, _)

section
variable (t : Fin cfg0.N)

theorem iblk0_apply (x : Fin 64) : (iblk m c 0 t : Vec Ideal S1x64 .f32) (ix2 0 x) = argL0 m c (ix1 x) := by
  obtain ⟨⟨⟨h0, h1⟩, -⟩, -⟩ := index_facts t
  have hV : V m c main_v8 = shapeCast S1x64 (argL0 m c) shapeCasts_S64_S1x64 := by
    unfold_abbrev_sides
    after_results
    rfl
  unfold iblk
  rw [View.read_apply]
  show V m c main_v8 _ = _
  rw [hV]
  refine shapeCast_apply _ shapeCasts_S64_S1x64 _ (ix1 x) ?_
  rw [Shape.rowMajor_val_one, Shape.rowMajor_val_two]
  show x.val = (win0_0.index t (0 : Fin 2) * 1 + 1 * 0) * 64 + (win0_0.index t (1 : Fin 2) * 64 + 1 * x.val)
  omega

theorem iblk1_apply (x : Fin 64) : (iblk m c 1 t : Vec Ideal S1x64 .f32) (ix2 0 x) = argL1 m c (ix1 x) := by
  obtain ⟨⟨-, ⟨h0, h1⟩, -⟩, -⟩ := index_facts t
  have hV : V m c main_v9 = shapeCast S1x64 (argL1 m c) shapeCasts_S64_S1x64 := by
    unfold_abbrev_sides
    after_results
    rfl
  unfold iblk
  rw [View.read_apply]
  show V m c main_v9 _ = _
  rw [hV]
  refine shapeCast_apply _ shapeCasts_S64_S1x64 _ (ix1 x) ?_
  rw [Shape.rowMajor_val_one, Shape.rowMajor_val_two]
  show x.val = (win0_1.index t (0 : Fin 2) * 1 + 1 * 0) * 64 + (win0_1.index t (1 : Fin 2) * 64 + 1 * x.val)
  omega

theorem iblk2_apply (x : Fin 64) : (iblk m c 2 t : Vec Ideal S1x64 .f32) (ix2 0 x) = argL2 m c (ix1 x) := by
  obtain ⟨⟨-, -, ⟨h0, h1⟩, -⟩, -⟩ := index_facts t
  have hV : V m c main_v10 = shapeCast S1x64 (argL2 m c) shapeCasts_S64_S1x64 := by
    unfold_abbrev_sides
    after_results
    rfl
  unfold iblk
  rw [View.read_apply]
  show V m c main_v10 _ = _
  rw [hV]
  refine shapeCast_apply _ shapeCasts_S64_S1x64 _ (ix1 x) ?_
  rw [Shape.rowMajor_val_one, Shape.rowMajor_val_two]
  show x.val = (win0_2.index t (0 : Fin 2) * 1 + 1 * 0) * 64 + (win0_2.index t (1 : Fin 2) * 64 + 1 * x.val)
  omega

theorem iblk3_apply (x : Fin 64) : (iblk m c 3 t : Vec Ideal S1x64 .f32) (ix2 0 x) = argL3 m c (ix1 x) := by
  obtain ⟨⟨-, -, -, ⟨h0, h1⟩, -⟩, -⟩ := index_facts t
  have hV : V m c main_v11 = shapeCast S1x64 (argL3 m c) shapeCasts_S64_S1x64 := by
    unfold_abbrev_sides
    after_results
    rfl
  unfold iblk
  rw [View.read_apply]
  show V m c main_v11 _ = _
  rw [hV]
  refine shapeCast_apply _ shapeCasts_S64_S1x64 _ (ix1 x) ?_
  rw [Shape.rowMajor_val_one, Shape.rowMajor_val_two]
  show x.val = (win0_3.index t (0 : Fin 2) * 1 + 1 * 0) * 64 + (win0_3.index t (1 : Fin 2) * 64 + 1 * x.val)
  omega

theorem iblk4_apply (x : Fin 128) : (iblk m c 4 t : Vec Ideal S1x128 .f32) (ix2 0 x) = argG m c (ix1 x) := by
  obtain ⟨⟨-, -, -, -, ⟨h0, h1⟩⟩, -⟩ := index_facts t
  have hV : V m c main_v12 = shapeCast S1x128 (argG m c) shapeCasts_S128_S1x128 := by
    unfold_abbrev_sides
    after_results
    rfl
  unfold iblk
  rw [View.read_apply]
  show V m c main_v12 _ = _
  rw [hV]
  refine shapeCast_apply _ shapeCasts_S128_S1x128 _ (ix1 x) ?_
  rw [Shape.rowMajor_val_one, Shape.rowMajor_val_two]
  show x.val = (win0_4.index t (0 : Fin 2) * 1 + 1 * 0) * 128 + (win0_4.index t (1 : Fin 2) * 128 + 1 * x.val)
  omega

section
variable (b : Fin 16) (hb : b.val = t.val / 4)
include hb

theorem iblk5_apply (r : Fin 512) (C : Fin 512) (n : Fin 2048) (hn : n.val = t.val % 4 * 512 + r.val) :
    (iblk m c 5 t : Vec Ideal S1x512x512 .bf16) (ix3 0 r C) = argQ m c (ix3 b n C) * scale := by
  obtain ⟨-, ⟨h0, h1, h2⟩, -⟩ := index_facts t
  unfold iblk
  rw [View.read_apply]
  refine Eq.trans ?_ (v5_query m c b n C ⟨512 + C.val, by have := C.isLt; omega⟩ rfl)
  show V m c main_v5 _ = V m c main_v5 _
  congr 1
  funext a
  apply Fin.ext
  match a with
  | ⟨0, _⟩ => show win0_5.index t (0 : Fin 3) * 1 + 1 * 0 = b.val; omega
  | ⟨1, _⟩ => show win0_5.index t (1 : Fin 3) * 512 + 1 * r.val = n.val; omega
  | ⟨2, _⟩ => show win0_5.index t (2 : Fin 3) * 512 + 1 * C.val = 512 + C.val; omega

theorem iblk6_apply (j : Fin 2048) (C : Fin 512) : (iblk m c 6 t : Vec Ideal S1x2048x512 .bf16) (ix3 0 j C) = argK m c (ix3 b j C) := by
  obtain ⟨-, -, ⟨h0, h1, h2⟩, -⟩ := index_facts t
  unfold iblk
  rw [View.read_apply]
  refine Eq.trans ?_ (v5_key m c b j C ⟨1536 + C.val, by have := C.isLt; omega⟩ rfl)
  show V m c main_v5 _ = V m c main_v5 _
  congr 1
  funext a
  apply Fin.ext
  match a with
  | ⟨0, _⟩ => show win0_6.index t (0 : Fin 3) * 1 + 1 * 0 = b.val; omega
  | ⟨1, _⟩ => show win0_6.index t (1 : Fin 3) * 2048 + 1 * j.val = j.val; omega
  | ⟨2, _⟩ => show win0_6.index t (2 : Fin 3) * 512 + 1 * C.val = 1536 + C.val; omega

theorem iblk7_apply (j : Fin 2048) (C : Fin 512) : (iblk m c 7 t : Vec Ideal S1x2048x512 .bf16) (ix3 0 j C) = argV m c (ix3 b j C) := by
  obtain ⟨-, -, -, ⟨h0, h1, h2⟩, -⟩ := index_facts t
  unfold iblk
  rw [View.read_apply]
  refine Eq.trans ?_ (v5_value m c b j C ⟨2560 + C.val, by have := C.isLt; omega⟩ rfl)
  show V m c main_v5 _ = V m c main_v5 _
  congr 1
  funext a
  apply Fin.ext
  match a with
  | ⟨0, _⟩ => show win0_7.index t (0 : Fin 3) * 1 + 1 * 0 = b.val; omega
  | ⟨1, _⟩ => show win0_7.index t (1 : Fin 3) * 2048 + 1 * j.val = j.val; omega
  | ⟨2, _⟩ => show win0_7.index t (2 : Fin 3) * 512 + 1 * C.val = 2560 + C.val; omega

theorem iblk8_apply (j : Fin 256) (C : Fin 512) : (iblk m c 8 t : Vec Ideal S1x256x512 .bf16) (ix3 0 j C) = argKc m c (ix3 b j C) := by
  obtain ⟨-, -, -, -, ⟨h0, h1, h2⟩, -⟩ := index_facts t
  unfold iblk
  rw [View.read_apply]
  refine Eq.trans ?_ (v7_key m c b j C ⟨512 + C.val, by have := C.isLt; omega⟩ rfl)
  show V m c main_v7 _ = V m c main_v7 _
  congr 1
  funext a
  apply Fin.ext
  match a with
  | ⟨0, _⟩ => show win0_8.index t (0 : Fin 3) * 1 + 1 * 0 = b.val; omega
  | ⟨1, _⟩ => show win0_8.index t (1 : Fin 3) * 256 + 1 * j.val = j.val; omega
  | ⟨2, _⟩ => show win0_8.index t (2 : Fin 3) * 512 + 1 * C.val = 512 + C.val; omega

theorem iblk9_apply (j : Fin 256) (C : Fin 512) : (iblk m c 9 t : Vec Ideal S1x256x512 .bf16) (ix3 0 j C) = argVc m c (ix3 b j C) := by
  obtain ⟨-, -, -, -, -, ⟨h0, h1, h2⟩, -⟩ := index_facts t
  unfold iblk
  rw [View.read_apply]
  refine Eq.trans ?_ (v7_value m c b j C ⟨1536 + C.val, by have := C.isLt; omega⟩ rfl)
  show V m c main_v7 _ = V m c main_v7 _
  congr 1
  funext a
  apply Fin.ext
  match a with
  | ⟨0, _⟩ => show win0_9.index t (0 : Fin 3) * 1 + 1 * 0 = b.val; omega
  | ⟨1, _⟩ => show win0_9.index t (1 : Fin 3) * 256 + 1 * j.val = j.val; omega
  | ⟨2, _⟩ => show win0_9.index t (2 : Fin 3) * 512 + 1 * C.val = 1536 + C.val; omega

end

end

/-- The value at batch `b`, row `n`, column `C`. -/
def resultVal (b : Fin 16) (n : Fin 2048) (C : Fin 512) : EReal :=
  attnRow (lamOf (fun x => argL0 m c (ix1 x)) (fun x => argL1 m c (ix1 x)) (fun x => argL2 m c (ix1 x)) (fun x => argL3 m c (ix1 x)))
    (fun l => argQ m c (ix3 b n (col C l)) * scale) (fun j l => argK m c (ix3 b j (col C l))) (fun j l => argKc m c (ix3 b j (col C l)))
    (fun j l => argV m c (ix3 b j (col C l))) (fun j l => argVc m c (ix3 b j (col C l))) (argG m c (ix1 (lane C))) (lane C)

/-- The kernel's result array at an index. -/
theorem result_apply (b : Fin 16) (n : Fin 2048) (C : Fin 512) :
    ((dats m 0 c).arrAt 10 cfg0.N : Vec Ideal S16x2048x512 .bf16) (ix3 b n C) = resultVal m c b n C := by
  have hlt : 4 * b.val + n.val / 512 < cfg0.N := by
    rw [show cfg0.N = 64 from N_0]
    have := b.isLt
    have := n.isLt
    omega
  obtain ⟨t, ht⟩ : ∃ t : Fin cfg0.N, t.val = 4 * b.val + n.val / 512 := ⟨⟨_, hlt⟩, rfl⟩
  obtain ⟨-, -, -, -, -, -, ⟨h0, h1, h2⟩, hf⟩ := index_facts t
  have hn := n.isLt
  have hb : b.val = t.val / 4 := by omega
  obtain ⟨r, hr⟩ : ∃ r : Fin 512, r.val = n.val % 512 := ⟨⟨n.val % 512, Nat.mod_lt _ (by decide)⟩, rfl⟩
  have hnr : n.val = t.val % 4 * 512 + r.val := by omega
  have e := congrFun ((Value.blocks10 m c t hf).trans (Value.flushed10 m c t)) (ix3 0 r C : S1x512x512.Idx)
  rw [View.read_apply] at e
  have hi : ((cfg0.win 10).blk t).view.emb (ix3 0 r C : S1x512x512.Idx) = (ix3 b n C : S16x2048x512.Idx) := by
    funext a
    apply Fin.ext
    match a with
    | ⟨0, _⟩ => show win0_10.index t (0 : Fin 3) * 1 + 1 * 0 = b.val; omega
    | ⟨1, _⟩ => show win0_10.index t (1 : Fin 3) * 512 + 1 * r.val = n.val; omega
    | ⟨2, _⟩ => show win0_10.index t (2 : Fin 3) * 512 + 1 * C.val = C.val; omega
  rw [hi] at e
  refine e.trans ?_
  refine (out_apply _ _ _ _ _ _ _ _ _ _ r C).trans ?_
  unfold blockVal resultVal
  simp only [iblk0_apply, iblk1_apply, iblk2_apply, iblk3_apply, iblk4_apply, iblk5_apply m c t b hb r _ n hnr, iblk6_apply m c t b hb,
    iblk7_apply m c t b hb, iblk8_apply m c t b hb, iblk9_apply m c t b hb]

end Cert.Proof.Diff

end
-- ==== Proof.Diff.Reference.lean ====
/- The reference's result at an index: the two softmax maps over all keys, their difference applied to the values, normalised. -/
module

public import proofs.«01_k».proof.Proof.Diff.Softmax
public import proofs.«01_k».proof.Proof.Gen.ReferenceIdeal.Read
public import Idealize.ShloMosaic.Lib.ValueIdx

@[expose] public section

set_option maxRecDepth 16384

noncomputable section

namespace Cert.Proof.Diff

open Idealize.ShloMosaic Idealize.ShloMosaic.TcCoe Idealize.ShloMosaic.Tactic Idealize.SL.Sem Cert.ReferenceIdeal Cert.ReferenceIdeal.Gen Cert.ReferenceIdeal.Read

variable (x0 x1 x2 : Vec Ideal S16x2048x512 .f32) (x3 x4 : Vec Ideal S16x256x512 .f32) (x5 x6 x7 x8 : Vec Ideal S64 .f32) (x9 : Vec Ideal S128 .f32)

/-- The latent rows followed by the context rows. -/
def joined (y : Vec Ideal S16x2048x512 .f32) (yc : Vec Ideal S16x256x512 .f32) (b : Fin 16) (j : Fin 2304) (C : Fin 512) : EReal :=
  if h : j.val < 2048 then y (ix3 b ⟨j.val, h⟩ C) else yc (ix3 b ⟨j.val - 2048, by omega⟩ C)

/-- Lane `d` of map `p` of head `h`, as a column. -/
def halfCol (h : Fin 4) (p : Fin 2) (d : Fin 64) : Fin 512 := ⟨h.val * 128 + p.val * 64 + d.val, by omega⟩

/-- Lane `e` of head `h`, as a column. -/
def headCol (h : Fin 4) (e : Fin 128) : Fin 512 := ⟨h.val * 128 + e.val, by omega⟩

/-- One score of the reference. -/
def score (b : Fin 16) (h : Fin 4) (p : Fin 2) (n : Fin 2048) (j : Fin 2304) : EReal :=
  (∑ d : Fin 64, x0 (ix3 b n (halfCol h p d)) * joined x1 x3 b j (halfCol h p d)) * Ideal.ofBits .f32 0x3E000000#32

/-- The head output before normalisation. -/
def mixed (b : Fin 16) (h : Fin 4) (n : Fin 2048) (e : Fin 128) : EReal :=
  ∑ j : Fin 2304, joined x2 x4 b j (headCol h e)
    * (prob (score x0 x1 x3 b h 0 n) j
      - lamOf (fun x => x5 (ix1 x)) (fun x => x6 (ix1 x)) (fun x => x7 (ix1 x)) (fun x => x8 (ix1 x)) * prob (score x0 x1 x3 b h 1 n) j)

/-- The concatenation along the rows, at an index. -/
theorem joined_apply (b : Fin 16) (j : Fin 2304) (C : Fin 512) : val_main_v1 (F := Ideal) x1 x3 (ix3 b j C) = joined x1 x3 b j C := by
  unfold val_main_v1 joined
  split
  · rename_i h
    refine concatenate_pair_apply_left (t := S16x2304x512) 1 x1 x3 _ (ix3 b j C) rfl (ix3 b ⟨j.val, h⟩ C) ?_
    intro a
    match a with
    | ⟨0, _⟩ => rfl
    | ⟨1, _⟩ => rfl
    | ⟨2, _⟩ => rfl
  · rename_i h
    refine concatenate_pair_apply_right (t := S16x2304x512) 1 x1 x3 _ (ix3 b j C) rfl rfl (ix3 b ⟨j.val - 2048, by omega⟩ C) ?_ ?_
    · intro a ha
      match a with
      | ⟨0, _⟩ => rfl
      | ⟨1, _⟩ => exact absurd rfl ha
      | ⟨2, _⟩ => rfl
    · show j.val - 2048 + 2048 = j.val
      omega

theorem score_apply (b : Fin 16) (h : Fin 4) (p : Fin 2) (n : Fin 2048) (j : Fin 2304) :
    val_main_v15 (F := Ideal) x0 x1 x3 (ix5 b h p n j) = score x0 x1 x3 b h p n j := by
  have hb := b.isLt
  have hh := h.isLt
  have hp := p.isLt
  have hn := n.isLt
  have hj := j.isLt
  rw [val_main_v15_apply, val_main_v13_apply, val_main_v14_apply, val_main_cst_2_apply]
  refine congrArg (· * Ideal.ofBits .f32 0x3E000000#32) (Finset.sum_congr rfl fun d _ => ?_)
  have hd := d.isLt
  have hl : idx_main_v0 (lidx_main_v13 (ix5 b h p n j) d) = ix3 b n (halfCol h p d) := by
    funext a
    apply Fin.ext
    match a with
    | ⟨0, _⟩ => show ((((b.val * 2048 + n.val) * 4 + h.val) * 2 + p.val) * 64 + d.val) / 1048576 = b.val; omega
    | ⟨1, _⟩ => show ((((b.val * 2048 + n.val) * 4 + h.val) * 2 + p.val) * 64 + d.val) / 512 % 2048 = n.val; omega
    | ⟨2, _⟩ => show ((((b.val * 2048 + n.val) * 4 + h.val) * 2 + p.val) * 64 + d.val) % 512 = h.val * 128 + p.val * 64 + d.val; omega
  have hr : idx_main_v2 (ridx_main_v13 (ix5 b h p n j) d) = ix3 b j (halfCol h p d) := by
    funext a
    apply Fin.ext
    match a with
    | ⟨0, _⟩ => show ((((b.val * 2304 + j.val) * 4 + h.val) * 2 + p.val) * 64 + d.val) / 1179648 = b.val; omega
    | ⟨1, _⟩ => show ((((b.val * 2304 + j.val) * 4 + h.val) * 2 + p.val) * 64 + d.val) / 512 % 2304 = j.val; omega
    | ⟨2, _⟩ => show ((((b.val * 2304 + j.val) * 4 + h.val) * 2 + p.val) * 64 + d.val) % 512 = h.val * 128 + p.val * 64 + d.val; omega
  rw [val_main_v0_apply, val_main_v2_apply, hl, hr, joined_apply]

/-- The largest score of a row. -/
theorem max_apply (b : Fin 16) (h : Fin 4) (p : Fin 2) (n : Fin 2048) :
    val_main_v16 (F := Ideal) x0 x1 x3 (ix4 b h p n) = Finset.fold max (Ideal.ofBits .f32 0xFF800000#32) (score x0 x1 x3 b h p n) Finset.univ := by
  have hs : S16x4x2x2048x2304.Reduces [4] S16x4x2x2048 := by decide
  unfold val_main_v16
  refine (Host.reduce_eq_fold_single (α := Ideal .f32) FloatOps.maximumf (val_main_v15 (F := Ideal) x0 x1 x3) _ _ hs h_S_ (ix4 b h p n)).trans ?_
  have hf : (val_main_v15 (F := Ideal) x0 x1 x3 ∘ hs.lift (ix4 b h p n)) = score x0 x1 x3 b h p n := by
    funext j
    refine (congrArg (val_main_v15 (F := Ideal) x0 x1 x3) ?_).trans (score_apply x0 x1 x3 b h p n j)
    funext a
    match a with
    | ⟨0, _⟩ => rfl
    | ⟨1, _⟩ => rfl
    | ⟨2, _⟩ => rfl
    | ⟨3, _⟩ => rfl
    | ⟨4, _⟩ => rfl
  exact congrArg (fun f => Finset.fold max (Ideal.ofBits .f32 0xFF800000#32) f (Finset.univ : Finset (Fin 2304))) hf

/-- The exponential of a shifted score. -/
theorem exp_apply (b : Fin 16) (h : Fin 4) (p : Fin 2) (n : Fin 2048) (j : Fin 2304) :
    val_main_v22 (F := Ideal) x0 x1 x3 (ix5 b h p n j) = Ideal.exp (score x0 x1 x3 b h p n j
      - max (Ideal.ofBits .f32 0xFF800000#32) (Finset.fold max (Ideal.ofBits .f32 0xFF800000#32) (score x0 x1 x3 b h p n) Finset.univ)) := by
  have hi : idx_main_v19 (idx_main_v20 (ix5 b h p n j)) = ix4 b h p n := by
    funext a
    match a with
    | ⟨0, _⟩ => rfl
    | ⟨1, _⟩ => rfl
    | ⟨2, _⟩ => rfl
    | ⟨3, _⟩ => rfl
  rw [val_main_v22_apply, val_main_v21_apply, val_main_v20_apply, val_main_v19_apply, hi, val_main_v18_apply, val_main_v17_apply,
    val_main_cst_4_apply, max_apply, score_apply]
  rfl

/-- One softmax weight. -/
theorem prob_apply (b : Fin 16) (h : Fin 4) (p : Fin 2) (n : Fin 2048) (j : Fin 2304) :
    val_main_v26 (F := Ideal) x0 x1 x3 (ix5 b h p n j) = prob (score x0 x1 x3 b h p n) j := by
  have hi : idx_main_v24 (idx_main_v25 (ix5 b h p n j)) = ix4 b h p n := by
    funext a
    match a with
    | ⟨0, _⟩ => rfl
    | ⟨1, _⟩ => rfl
    | ⟨2, _⟩ => rfl
    | ⟨3, _⟩ => rfl
  have hk (k : Fin 2304) : idx_main_v23 (ix4 b h p n) k = ix5 b h p n k := by
    funext a
    match a with
    | ⟨0, _⟩ => rfl
    | ⟨1, _⟩ => rfl
    | ⟨2, _⟩ => rfl
    | ⟨3, _⟩ => rfl
    | ⟨4, _⟩ => rfl
  rw [val_main_v26_apply, val_main_v25_apply, val_main_v24_apply, hi, val_main_v23_apply, val_main_cst_5_apply, exp_apply]
  simp only [hk, exp_apply, Ideal.ofBits_def, Ideal.ofBits_zero_f32, zero_add]
  rfl

/-- The weight of the second map. -/
theorem lam_apply (i : S_.Idx) : val_main_v12 (F := Ideal) x5 x6 x7 x8 i
    = lamOf (fun x => x5 (ix1 x)) (fun x => x6 (ix1 x)) (fun x => x7 (ix1 x)) (fun x => x8 (ix1 x)) := by
  have hs (f : S64.Idx → EReal) : ∑ j : S64.Idx, f j = ∑ x : Fin 64, f (ix1 x) :=
    (Fintype.sum_equiv (Equiv.mk (fun x : Fin 64 => (ix1 x : S64.Idx)) (fun j => j 0) (fun _ => rfl)
      (fun j => by funext a; match a with | ⟨0, _⟩ => rfl)) (fun x => f (ix1 x)) f (fun _ => rfl)).symm
  rw [val_main_v12_apply, val_main_v11_apply, val_main_v7_apply, val_main_v10_apply, val_main_v6_apply, val_main_v9_apply, val_main_cst_apply,
    val_main_cst_0_apply, val_main_cst_1_apply, hs, hs]
  simp only [Ideal.ofBits_def, Ideal.ofBits_zero_f32, zero_add]
  rfl

/-- The two maps' difference at one key. -/
theorem difference_apply (b : Fin 16) (h : Fin 4) (n : Fin 2048) (j : Fin 2304) :
    val_main_v33 (F := Ideal) x0 x1 x3 x5 x6 x7 x8 (ix4 b h n j) = prob (score x0 x1 x3 b h 0 n) j
      - lamOf (fun x => x5 (ix1 x)) (fun x => x6 (ix1 x)) (fun x => x7 (ix1 x)) (fun x => x8 (ix1 x)) * prob (score x0 x1 x3 b h 1 n) j := by
  have hb := b.isLt
  have hh := h.isLt
  have hn := n.isLt
  have hj := j.isLt
  have h0 : idx_main_v27 (idx_main_v28 (ix4 b h n j)) = ix5 b h 0 n j := by
    funext a
    apply Fin.ext
    match a with
    | ⟨0, _⟩ => show (((b.val * 4 + h.val) * 2048 + n.val) * 2304 + j.val) / 18874368 = b.val; omega
    | ⟨1, _⟩ => show (((b.val * 4 + h.val) * 2048 + n.val) * 2304 + j.val) / 4718592 % 4 = h.val; omega
    | ⟨2, _⟩ => rfl
    | ⟨3, _⟩ => show (((b.val * 4 + h.val) * 2048 + n.val) * 2304 + j.val) / 2304 % 2048 = n.val; omega
    | ⟨4, _⟩ => show (((b.val * 4 + h.val) * 2048 + n.val) * 2304 + j.val) % 2304 = j.val; omega
  have h1 : idx_main_v29 (idx_main_v30 (ix4 b h n j)) = ix5 b h 1 n j := by
    funext a
    apply Fin.ext
    match a with
    | ⟨0, _⟩ => show (((b.val * 4 + h.val) * 2048 + n.val) * 2304 + j.val) / 18874368 = b.val; omega
    | ⟨1, _⟩ => show (((b.val * 4 + h.val) * 2048 + n.val) * 2304 + j.val) / 4718592 % 4 = h.val; omega
    | ⟨2, _⟩ => rfl
    | ⟨3, _⟩ => show (((b.val * 4 + h.val) * 2048 + n.val) * 2304 + j.val) / 2304 % 2048 = n.val; omega
    | ⟨4, _⟩ => show (((b.val * 4 + h.val) * 2048 + n.val) * 2304 + j.val) % 2304 = j.val; omega
  rw [val_main_v33_apply, val_main_v32_apply, val_main_v31_apply, val_main_v30_apply, val_main_v29_apply, val_main_v28_apply, val_main_v27_apply,
    h0, h1, prob_apply, prob_apply, lam_apply]
  rfl

theorem mixed_apply (b : Fin 16) (h : Fin 4) (n : Fin 2048) (e : Fin 128) :
    val_main_v34 (F := Ideal) x0 x1 x2 x3 x4 x5 x6 x7 x8 (ix4 b h e n) = mixed x0 x1 x2 x3 x4 x5 x6 x7 x8 b h n e := by
  have hb := b.isLt
  have hh := h.isLt
  have he := e.isLt
  rw [val_main_v34_apply]
  refine Finset.sum_congr rfl fun j _ => ?_
  have hj := j.isLt
  have hl : idx_main_v4 (lidx_main_v34 (ix4 b h e n) j) = ix3 b j (headCol h e) := by
    funext a
    apply Fin.ext
    match a with
    | ⟨0, _⟩ => show (((b.val * 2304 + j.val) * 4 + h.val) * 128 + e.val) / 1179648 = b.val; omega
    | ⟨1, _⟩ => show (((b.val * 2304 + j.val) * 4 + h.val) * 128 + e.val) / 512 % 2304 = j.val; omega
    | ⟨2, _⟩ => show (((b.val * 2304 + j.val) * 4 + h.val) * 128 + e.val) % 512 = h.val * 128 + e.val; omega
  have hr : ridx_main_v34 (ix4 b h e n) j = ix4 b h n j := by
    funext a
    match a with
    | ⟨0, _⟩ => rfl
    | ⟨1, _⟩ => rfl
    | ⟨2, _⟩ => rfl
    | ⟨3, _⟩ => rfl
  rw [val_main_v4_apply, hl, hr, difference_apply]
  exact congrArg (· * _) (joined_apply x2 x4 b j (headCol h e))

/-- The reference's result at an index. -/
theorem reference_apply (b : Fin 16) (n : Fin 2048) (C : Fin 512) (h : Fin 4) (e : Fin 128) (hC : C.val = h.val * 128 + e.val) :
    val_main_v52 (F := Ideal) x0 x1 x2 x3 x4 x5 x6 x7 x8 x9 (ix3 b n C) = normed (mixed x0 x1 x2 x3 x4 x5 x6 x7 x8 b h n) (x9 (ix1 e)) e := by
  have hb := b.isLt
  have hn := n.isLt
  have hh := h.isLt
  have he := e.isLt
  have h51 : idx_main_v51 (ix3 b n C) = ix4 b n h e := by
    funext a
    apply Fin.ext
    match a with
    | ⟨0, _⟩ => show ((b.val * 2048 + n.val) * 512 + C.val) / 1048576 = b.val; omega
    | ⟨1, _⟩ => show ((b.val * 2048 + n.val) * 512 + C.val) / 512 % 2048 = n.val; omega
    | ⟨2, _⟩ => show ((b.val * 2048 + n.val) * 512 + C.val) / 128 % 4 = h.val; omega
    | ⟨3, _⟩ => show ((b.val * 2048 + n.val) * 512 + C.val) % 128 = e.val; omega
  have h35 (x : Fin 128) : val_main_v35 (F := Ideal) x0 x1 x2 x3 x4 x5 x6 x7 x8 (ix4 b n h x) = mixed x0 x1 x2 x3 x4 x5 x6 x7 x8 b h n x := by
    rw [val_main_v35_apply, ← mixed_apply]
    congr 1
    funext a
    match a with
    | ⟨0, _⟩ => rfl
    | ⟨1, _⟩ => rfl
    | ⟨2, _⟩ => rfl
    | ⟨3, _⟩ => rfl
  have h38 : idx_main_v38 (idx_main_v44 (ix4 b n h e)) = ix3 b n h := by
    funext a
    match a with
    | ⟨0, _⟩ => rfl
    | ⟨1, _⟩ => rfl
    | ⟨2, _⟩ => rfl
  have h37 (x : Fin 128) : idx_main_v37 (ix3 b n h) x = ix4 b n h x := by
    funext a
    match a with
    | ⟨0, _⟩ => rfl
    | ⟨1, _⟩ => rfl
    | ⟨2, _⟩ => rfl
    | ⟨3, _⟩ => rfl
  have h46 : idx_main_v46 (idx_main_v47 (ix4 b n h e)) = ix1 e := by
    funext a
    match a with
    | ⟨0, _⟩ => rfl
  rw [val_main_v52_apply, val_main_v51_apply, h51, val_main_v50_apply, val_main_v49_apply, val_main_cst_9_apply, val_main_v48_apply, val_main_v47_apply,
    val_main_v46_apply, h46, val_main_v45_apply, val_main_v44_apply, val_main_v43_apply, val_main_v42_apply, val_main_v41_apply, val_main_cst_8_apply,
    val_main_v40_apply, val_main_v39_apply, val_main_cst_7_apply, val_main_v38_apply, h38, val_main_v37_apply, val_main_cst_6_apply, h35]
  simp only [h37, val_main_v36_apply, h35, Ideal.ofBits_def, Ideal.ofBits_zero_f32, zero_add]
  rfl

end Cert.Proof.Diff

end
-- ==== Proof.Diff.Finite.lean ====
/- What the precondition gives: every element of the queries, keys, values and mixing vectors is a real number. -/
module

public import proofs.«01_k».proof.Pre_finite_inputs
public import Idealize.ShloMosaic.Lib.ReduceAll
public import Idealize.ShloMosaic.PureOps.Ideal.Laws

@[expose] public section

noncomputable section

namespace Cert.Proof.Diff

open Idealize.ShloMosaic Cert.Pre_finite_inputs

/-- The shape facts the precondition is stated over. -/
theorem pre_facts : Cert.Pre_finite_inputs.Facts where
  bcast_S_S16x2048x512 := by decide
  reducesTo_S16x2048x512_S_d0_1_2 := by decide
  h_S_ := by decide
  bcast_S_S16x256x512 := by decide
  reducesTo_S16x256x512_S_d0_1_2 := by decide
  bcast_S_S64 := by decide
  reducesTo_S64_S_d0 := by decide

theorem ofBits_inf : Ideal.ofBits .f32 0x7F800000#32 = ⊤ := by simp [Ideal.ofBits, Ideal.ieee]

/-- A value below infinity in absolute value is a real number. -/
theorem real_of_lt (a : EReal) (h : Ideal.cmp .olt (max a (-a)) ⊤ = 1#1) : ∃ r : ℝ, a = r := by
  have hlt : max a (-a) < ⊤ := by
    by_contra hn
    rw [Ideal.cmp] at h
    simp [hn] at h
  induction a with
  | bot => simp at hlt
  | top => simp at hlt
  | coe r => exact ⟨r, rfl⟩

/-- One array's test: if all its comparisons hold, its elements are real numbers. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (i : s.Idx) : ∃ r : ℝ, x i = r := by
  haveI : Subsingleton S_.Idx := ⟨fun a b => funext fun k => k.elim0⟩
  refine real_of_lt (x i) ?_
  have := Host.reduce_andi_all _ _ _ _ j h i
  rw [← ofBits_inf]
  exact this

theorem and_one {a b : BitVec 1} (h : a &&& b = 1#1) : a = 1#1 ∧ b = 1#1 := by
  revert a b
  decide

/-- Under the precondition every element of the nine tested arrays is a real number. -/
theorem real_of_pre [Cert.Pre_finite_inputs.Facts] (x0 x1 x2 : FVec Ideal S16x2048x512 .f32) (x3 x4 : FVec Ideal S16x256x512 .f32) (x5 x6 x7 x8 : FVec Ideal S64 .f32)
    (x9 : FVec Ideal S128 .f32) (h : Cert.Pre_finite_inputs.fn (F := Ideal) x0 x1 x2 x3 x4 x5 x6 x7 x8 x9 = fun _ => 1#1) :
    (∀ i, ∃ r : ℝ, x0 i = r) ∧ (∀ i, ∃ r : ℝ, x1 i = r) ∧ (∀ i, ∃ r : ℝ, x2 i = r) ∧ (∀ i, ∃ r : ℝ, x3 i = r) ∧ (∀ i, ∃ r : ℝ, x4 i = r)
      ∧ (∀ i, ∃ r : ℝ, x5 i = r) ∧ (∀ i, ∃ r : ℝ, x6 i = r) ∧ (∀ i, ∃ r : ℝ, x7 i = r) ∧ (∀ i, ∃ r : ℝ, x8 i = r) := by
  have e := congrFun h ((fun k => k.elim0) : S_.Idx)
  unfold fn fn_part1 fn_part2 at e
  dsimp only at e
  obtain ⟨e, h8⟩ := and_one e
  obtain ⟨e, h7⟩ := and_one e
  obtain ⟨e, h6⟩ := and_one e
  obtain ⟨e, h5⟩ := and_one e
  obtain ⟨e, h4⟩ := and_one e
  obtain ⟨e, h3⟩ := and_one e
  obtain ⟨e, h2⟩ := and_one e
  obtain ⟨h0, h1⟩ := and_one e
  exact ⟨real_of_all x0 _ _ _ _ h0, real_of_all x1 _ _ _ _ h1, real_of_all x2 _ _ _ _ h2, real_of_all x3 _ _ _ _ h3, real_of_all x4 _ _ _ _ h4,
    real_of_all x5 _ _ _ _ h5, real_of_all x6 _ _ _ _ h6, real_of_all x7 _ _ _ _ h7, real_of_all x8 _ _ _ _ h8⟩

end Cert.Proof.Diff

end
-- ==== Proof.Diff.Value.lean ====
/- The differential attention: on finite inputs the kernel's result array and the reference's agree element by element. -/
module

public import proofs.«01_k».proof.Proof.Diff.Array
public import proofs.«01_k».proof.Proof.Diff.Reference
public import proofs.«01_k».proof.Proof.Diff.Finite
public import proofs.«01_k».proof.Defs
public import proofs.«01_k».proof.Proof.Gen.ReferenceIdeal.Run

@[expose] public section

set_option maxRecDepth 16384

noncomputable section

namespace Cert.Proof.Diff

open Idealize.ShloMosaic Idealize.ShloMosaic.TcCoe Idealize.ShloMosaic.Tactic Idealize.SL.Sem Cert.KernelIdeal Cert.KernelIdeal.Gen

section
variable (x0 x1 x2 : Vec Ideal S16x2048x512 .f32) (x3 x4 : Vec Ideal S16x256x512 .f32) (x5 x6 x7 x8 : Vec Ideal S64 .f32) (x9 : Vec Ideal S128 .f32)

/-- Over real arrays, joining the rows is joining the real rows. -/
theorem joined_coe (y : S16x2048x512.Idx → ℝ) (yc : S16x256x512.Idx → ℝ) (b : Fin 16) (j : Fin 2304) (C : Fin 512) :
    joined (fun i => (y i : EReal)) (fun i => (yc i : EReal)) b j C = (join (fun j => y (ix3 b j C)) (fun j => yc (ix3 b j C)) j : EReal) := by
  unfold joined join
  split <;> rfl

/-- A real score: map `p` of head `h`, query row `n`, against one key row. -/
def realScore {s : Nat} (q : S16x2048x512.Idx → ℝ) (k : (⟨3, ![16, s, 512]⟩ : Shape).Idx → ℝ) (b : Fin 16) (h : Fin 4) (p : Fin 2) (n : Fin 2048) (j : Fin s) : ℝ :=
  (∑ d : Fin 64, q (ix3 b n (halfCol h p d)) * k (ix3 b j (halfCol h p d))) * (1 / 8)

theorem score_coe (q k : S16x2048x512.Idx → ℝ) (kc : S16x256x512.Idx → ℝ) (b : Fin 16) (h : Fin 4) (p : Fin 2) (n : Fin 2048) :
    score (fun i => (q i : EReal)) (fun i => (k i : EReal)) (fun i => (kc i : EReal)) b h p n
      = fun j => (join (realScore q k b h p n) (realScore q kc b h p n) j : EReal) := by
  funext j
  unfold score
  simp only [joined_coe]
  rw [reference_score]
  unfold join realScore
  split <;> rfl

/-- The kernel's value and the reference's, from real arrays. -/
theorem value_coe (q k v : S16x2048x512.Idx → ℝ) (kc vc : S16x256x512.Idx → ℝ) (l0 l1 l2 l3 : S64.Idx → ℝ)
    (b : Fin 16) (n : Fin 2048) (C : Fin 512) (h : Fin 4) (hC : C.val / 128 = h.val) (lam : ℝ)
    (hlam : lamOf (fun x => (l0 (ix1 x) : EReal)) (fun x => (l1 (ix1 x) : EReal)) (fun x => (l2 (ix1 x) : EReal)) (fun x => (l3 (ix1 x) : EReal)) = lam) :
    attnRow (lamOf (fun x => (l0 (ix1 x) : EReal)) (fun x => (l1 (ix1 x) : EReal)) (fun x => (l2 (ix1 x) : EReal)) (fun x => (l3 (ix1 x) : EReal)))
        (fun l => (q (ix3 b n (col C l)) : EReal) * scale) (fun j l => (k (ix3 b j (col C l)) : EReal)) (fun j l => (kc (ix3 b j (col C l)) : EReal))
        (fun j l => (v (ix3 b j (col C l)) : EReal)) (fun j l => (vc (ix3 b j (col C l)) : EReal)) (x9 (ix1 (lane C))) (lane C)
      = normed (mixed (fun i => (q i : EReal)) (fun i => (k i : EReal)) (fun i => (v i : EReal)) (fun i => (kc i : EReal)) (fun i => (vc i : EReal))
          (fun i => (l0 i : EReal)) (fun i => (l1 i : EReal)) (fun i => (l2 i : EReal)) (fun i => (l3 i : EReal)) b h n) (x9 (ix1 (lane C))) (lane C) := by
  have hlow (d : Fin 64) : col C ⟨d.val, by omega⟩ = halfCol h 0 d := Fin.ext (by show C.val / 128 * 128 + d.val = h.val * 128 + 0 * 64 + d.val; omega)
  have hhigh (d : Fin 64) : col C ⟨64 + d.val, by omega⟩ = halfCol h 1 d :=
    Fin.ext (by show C.val / 128 * 128 + (64 + d.val) = h.val * 128 + 1 * 64 + d.val; omega)
  have hcol (e : Fin 128) : col C e = headCol h e := Fin.ext (by show C.val / 128 * 128 + e.val = h.val * 128 + e.val; omega)
  unfold attnRow
  refine congrArg (fun o => normed o (x9 (ix1 (lane C))) (lane C)) (funext fun e => ?_)
  unfold mixed dotLow dotHigh
  simp only [hlow, hhigh, hcol, kernel_score, joined_coe, score_coe, hlam]
  rw [difference_eq]
  have w (p : Fin 2) := weighted_eq (realScore q k b h p n) (realScore q kc b h p n) (fun j => v (ix3 b j (headCol h e))) (fun j => vc (ix3 b j (headCol h e)))
  rw [EReal.coe_sub, EReal.coe_mul]
  exact congrArg₂ (fun x y => x - (lam : EReal) * y) (w 0) (w 1)

/-- The kernel's value and the reference's, from arrays whose elements are real numbers. -/
theorem value_eq (h0 : ∀ i, ∃ r : ℝ, x0 i = r) (h1 : ∀ i, ∃ r : ℝ, x1 i = r) (h2 : ∀ i, ∃ r : ℝ, x2 i = r) (h3 : ∀ i, ∃ r : ℝ, x3 i = r)
    (h4 : ∀ i, ∃ r : ℝ, x4 i = r) (h5 : ∀ i, ∃ r : ℝ, x5 i = r) (h6 : ∀ i, ∃ r : ℝ, x6 i = r) (h7 : ∀ i, ∃ r : ℝ, x7 i = r)
    (h8 : ∀ i, ∃ r : ℝ, x8 i = r) (b : Fin 16) (n : Fin 2048) (C : Fin 512) :
    attnRow (lamOf (fun x => x5 (ix1 x)) (fun x => x6 (ix1 x)) (fun x => x7 (ix1 x)) (fun x => x8 (ix1 x)))
        (fun l => x0 (ix3 b n (col C l)) * scale) (fun j l => x1 (ix3 b j (col C l))) (fun j l => x3 (ix3 b j (col C l)))
        (fun j l => x2 (ix3 b j (col C l))) (fun j l => x4 (ix3 b j (col C l))) (x9 (ix1 (lane C))) (lane C)
      = Cert.ReferenceIdeal.Read.val_main_v52 (F := Ideal) x0 x1 x2 x3 x4 x5 x6 x7 x8 x9 (ix3 b n C) := by
  have hC := C.isLt
  rw [reference_apply x0 x1 x2 x3 x4 x5 x6 x7 x8 x9 b n C ⟨C.val / 128, by omega⟩ (lane C) (by show C.val = C.val / 128 * 128 + C.val % 128; omega)]
  choose q hq using h0
  choose k hk using h1
  choose v hv using h2
  choose kc hkc using h3
  choose vc hvc using h4
  choose l0 hl0 using h5
  choose l1 hl1 using h6
  choose l2 hl2 using h7
  choose l3 hl3 using h8
  obtain rfl : x0 = fun i => (q i : EReal) := funext hq
  obtain rfl : x1 = fun i => (k i : EReal) := funext hk
  obtain rfl : x2 = fun i => (v i : EReal) := funext hv
  obtain rfl : x3 = fun i => (kc i : EReal) := funext hkc
  obtain rfl : x4 = fun i => (vc i : EReal) := funext hvc
  obtain rfl : x5 = fun i => (l0 i : EReal) := funext hl0
  obtain rfl : x6 = fun i => (l1 i : EReal) := funext hl1
  obtain rfl : x7 = fun i => (l2 i : EReal) := funext hl2
  obtain rfl : x8 = fun i => (l3 i : EReal) := funext hl3
  obtain ⟨lam, hlam⟩ := lamOf_coe (fun x => l0 (ix1 x)) (fun x => l1 (ix1 x)) (fun x => l2 (ix1 x)) (fun x => l3 (ix1 x))
  exact value_coe x9 q k v kc vc l0 l1 l2 l3 b n C ⟨C.val / 128, by omega⟩ rfl lam hlam

end

attribute [local instance] pre_facts

/-- The attention's value claim: from equal arguments, finite but for the gain, the two programs end with equal results and unchanged arguments. -/
theorem algebraic : Cert.algebraic_KernelIdeal_ReferenceIdeal_pre_finite_inputs := by
  intro m g m' g' hpre hagree
  refine ⟨fun c => (dats m 0 c).arrAt 10 cfg0.N, Value.run_blocks m g, ?_⟩
  refine (θ_run Cert.ReferenceIdeal.defs _ _).mono (fun _ h c => ⟨(h c).1.trans ?_, (h c).2⟩) (Cert.ReferenceIdeal.Value.run m' g')
  obtain ⟨h0, h1, h2, h3, h4, h5, h6, h7, h8, h9⟩ := hagree c
  obtain ⟨f0, f1, f2, f3, f4, f5, f6, f7, f8⟩ := real_of_pre _ _ _ _ _ _ _ _ _ _ (hpre c)
  show _ = (dats m 0 c).arrAt 10 cfg0.N
  refine (Cert.ReferenceIdeal.Read.val_main_v52_eq ..).trans ?_
  rw [h0, h1, h2, h3, h4, h5, h6, h7, h8, h9]
  funext i
  obtain ⟨b, n, C, rfl⟩ : ∃ (b : Fin 16) (n : Fin 2048) (C : Fin 512), i = ix3 b n C :=
    ⟨i 0, i 1, i 2, by funext a; match a with | ⟨0, _⟩ => rfl | ⟨1, _⟩ => rfl | ⟨2, _⟩ => rfl⟩
  exact ((result_apply m c b n C).trans (value_eq (argQ m c) (argK m c) (argV m c) (argKc m c) (argVc m c) (argL0 m c) (argL1 m c) (argL2 m c) (argL3 m c) (argG m c)
    f0 f1 f2 f3 f4 f5 f6 f7 f8 b n C)).symm

end Cert.Proof.Diff

end
-- ==== Proof.Layer.Norm.lean ====
/- The layer's scalar formulas over the extended reals: the modulated norm of a row of 1024 and the
   logistic function. -/
module

public import Idealize.ShloMosaic.Lib.Pointwise
public import Idealize.ShloMosaic.Lib.IdealHost

@[expose] public section

noncomputable section

namespace Cert.Proof.Layer

open Idealize.ShloMosaic

/-- One over the root of a row's mean square. -/
def rootMean (x : Fin 1024 → EReal) : EReal :=
  Ideal.rsqrt (Ideal.div (∑ k, x k * x k) (Ideal.ofBits .f32 0x44800000#32) + Ideal.ofBits .f32 0x358637BD#32)

/-- A row normed, times the gain. -/
def normRow (x g : Fin 1024 → EReal) (k : Fin 1024) : EReal := x k * rootMean x * g k

/-- A row normed, scaled and shifted. -/
def normMod (x g sh sc : Fin 1024 → EReal) (k : Fin 1024) : EReal := normRow x g k * (1 + sc k) + sh k

/-- The logistic function. -/
def logistic (a : EReal) : EReal := Ideal.div 1 (1 + Ideal.exp (0 - a))

/-- The softmax of 16 scores. -/
def softmax (l : Fin 16 → EReal) (e : Fin 16) : EReal :=
  Ideal.div (Ideal.exp (l e - Finset.fold max (Ideal.ofBits .f32 0xFF800000#32) l Finset.univ))
    (∑ j, Ideal.exp (l j - Finset.fold max (Ideal.ofBits .f32 0xFF800000#32) l Finset.univ))

/-- A maximum is at least the value it starts from. -/
theorem max_fold (c : EReal) (l : Fin 16 → EReal) : max c (Finset.fold max c l Finset.univ) = Finset.fold max c l Finset.univ :=
  max_eq_right ((Finset.le_fold_max c).mpr (Or.inl le_rfl))

theorem zero2 : (![0, 0] : Fin 2 → Nat) = fun _ => 0 := by
  funext a; match a with | ⟨0, _⟩ => rfl | ⟨1, _⟩ => rfl

theorem zero3 : (![0, 0, 0] : Fin 3 → Nat) = fun _ => 0 := by
  funext a; match a with | ⟨0, _⟩ => rfl | ⟨1, _⟩ => rfl | ⟨2, _⟩ => rfl

end Cert.Proof.Layer

end
-- ==== Proof.ConvProj.Blocks.lean ====
/- The convolution's input projection: one grid point's three result blocks, read at an index. -/
module

public import proofs.«01_k».proof.Proof.Layer.Norm
public import proofs.«01_k».proof.Proof.Gen.ConvProjIdeal.Value
public import Idealize.ShloMosaic.Lib.Pipeline.ValueKit

@[expose] public section

set_option maxRecDepth 16384

noncomputable section

namespace Cert.Proof.ConvProj

open Idealize.ShloMosaic Idealize.ShloMosaic.TcCoe Idealize.ShloMosaic.Tactic Idealize.SL.Sem Cert.ConvProjIdeal Cert.ConvProjIdeal.Gen Cert.Proof.Layer

/-- A row times one column of the projection. -/
def proj (h : Fin 1024 → EReal) (w : Fin 1024 → Fin 2560 → EReal) (j : Fin 2560) : EReal := ∑ k, h k * w k j

/-- Column `C` of the projection's group of 512 that starts at `o`. -/
def part (o : Nat) (ho : o + 512 ≤ 2560) (C : Fin 512) : Fin 2560 := ⟨o + C.val, by omega⟩

section
variable (x0 : Vec Ideal S1x1024x1024 .f32) (x1 : Vec Ideal S1x1024 .f32) (x2 x3 : Vec Ideal S1x1x1024 .f32) (x4 : Vec Ideal S1024x2560 .bf16)

/-- The normed row `r` of a block. -/
def row (r : Fin 1024) : Fin 1024 → EReal :=
  normMod (fun k => x0 (ix3 0 r k)) (fun k => x1 (ix2 0 k)) (fun k => x2 (ix3 0 0 k)) (fun k => x3 (ix3 0 0 k))

theorem pay4_apply (r k : Fin 1024) : k0_pay4 x0 x1 x2 x3 (ix2 r k) = row x0 x1 x2 x3 r k := by
  pointwise [k0_pay4, zero_add, Ideal.ofBits_one_f32]
  rfl

theorem pay5_apply (a b : Vec Ideal S1024x512 .bf16) (r : Fin 1024) (C : Fin 512) :
    k0_pay1 (k0_pay5 x0 x1 x2 x3 a b) (ix3 0 r C)
      = (∑ k, row x0 x1 x2 x3 r k * b (ix2 k C)) * ∑ k, row x0 x1 x2 x3 r k * a (ix2 k C) := by
  pointwise [k0_pay1, k0_pay5, zero_add]
  simp only [pay4_apply]

theorem pay2_apply (h : FVec Ideal S1024x1024 .bf16) (a : Vec Ideal S1024x512 .bf16) (r : Fin 1024) (C : Fin 512) :
    k0_pay2 h a (ix3 0 r C) = ∑ k, h (ix2 r k) * a (ix2 k C) := by
  pointwise [k0_pay2, zero_add]

theorem pay3_apply (h : FVec Ideal S1024x1024 .bf16) (a b : Vec Ideal S1024x512 .bf16) (r : Fin 1024) (C : Fin 512) :
    k0_pay3 h a b (ix3 0 r C) = (∑ k, h (ix2 r k) * a (ix2 k C)) * logistic (∑ k, h (ix2 r k) * b (ix2 k C)) := by
  pointwise [k0_pay3, zero_add, Ideal.ofBits_one_f32]
  rfl

/-- A group of 512 columns read out of the projection's block. -/
theorem ld_part (o : Nat) (ho : o + 512 ≤ 2560)
    (inb : ∀ a : Fin S1024x2560.rank, (![0, o] : Fin 2 → Nat) a + (![1024, 512] : Fin 2 → Nat) a ≤ S1024x2560.size a) (k : Fin 1024) (C : Fin 512) :
    View.ld x4 (Rect.unit ![0, o] ![1024, 512] inb) (ix2 k C) = x4 (ix2 k (part o ho C)) := by
  refine View.ld_unit_apply_of x4 _ _ inb _ _ ?_
  intro a
  match a with
  | ⟨0, _⟩ => exact (Nat.zero_add _).symm
  | ⟨1, _⟩ => rfl

/-- The block of the gated inputs. -/
theorem out5_apply (r : Fin 1024) (C : Fin 512) :
    out0_5 x0 x1 x2 x3 x4 (ix3 0 r C) = proj (row x0 x1 x2 x3 r) (fun k j => x4 (ix2 k j)) (part 1024 (by omega) C)
      * proj (row x0 x1 x2 x3 r) (fun k j => x4 (ix2 k j)) (part 0 (by omega) C) := by
  unfold out0_5
  rw [View.canon_unit_zero (S := S1x1024x512) zero3]
  simp only [View.ld_unit_zero (S := S1x1024x1024) zero3, View.ld_unit_zero (S := S1x1024) zero2, View.ld_unit_zero (S := S1x1x1024) zero3]
  rw [pay5_apply]
  unfold proj
  have e0 (k : Fin 1024) := ld_part x4 0 (by omega) inb_S1024x2560_S1024x512_0_0 k C
  have e1 (k : Fin 1024) := ld_part x4 1024 (by omega) inb_S1024x2560_S1024x512_0_1024 k C
  exact congrArg₂ (· * ·) (Finset.sum_congr rfl fun k _ => congrArg _ (e1 k)) (Finset.sum_congr rfl fun k _ => congrArg _ (e0 k))

/-- The block of the output gates. -/
theorem out6_apply (r : Fin 1024) (C : Fin 512) :
    out0_6 x0 x1 x2 x3 x4 (ix3 0 r C) = proj (row x0 x1 x2 x3 r) (fun k j => x4 (ix2 k j)) (part 512 (by omega) C) := by
  unfold out0_6 k0_pay6
  rw [View.canon_unit_zero (S := S1x1024x512) zero3]
  simp only [View.ld_unit_zero (S := S1x1024x1024) zero3, View.ld_unit_zero (S := S1x1024) zero2, View.ld_unit_zero (S := S1x1x1024) zero3]
  rw [pay2_apply]
  unfold proj
  have e0 (k : Fin 1024) := ld_part x4 512 (by omega) inb_S1024x2560_S1024x512_0_512 k C
  exact Finset.sum_congr rfl fun k _ => congrArg₂ (· * ·) (pay4_apply x0 x1 x2 x3 r k) (e0 k)

/-- The block of the gated linear units. -/
theorem out7_apply (r : Fin 1024) (C : Fin 512) :
    out0_7 x0 x1 x2 x3 x4 (ix3 0 r C) = proj (row x0 x1 x2 x3 r) (fun k j => x4 (ix2 k j)) (part 1536 (by omega) C)
      * logistic (proj (row x0 x1 x2 x3 r) (fun k j => x4 (ix2 k j)) (part 2048 (by omega) C)) := by
  unfold out0_7 k0_pay6
  rw [View.canon_unit_zero (S := S1x1024x512) zero3]
  simp only [View.ld_unit_zero (S := S1x1024x1024) zero3, View.ld_unit_zero (S := S1x1024) zero2, View.ld_unit_zero (S := S1x1x1024) zero3]
  rw [pay3_apply]
  unfold proj
  have e0 (k : Fin 1024) := ld_part x4 1536 (by omega) inb_S1024x2560_S1024x512_0_1536 k C
  have e1 (k : Fin 1024) := ld_part x4 2048 (by omega) inb_S1024x2560_S1024x512_0_2048 k C
  exact congrArg₂ (fun a b => a * logistic b) (Finset.sum_congr rfl fun k _ => congrArg₂ (· * ·) (pay4_apply x0 x1 x2 x3 r k) (e0 k))
    (Finset.sum_congr rfl fun k _ => congrArg₂ (· * ·) (pay4_apply x0 x1 x2 x3 r k) (e1 k))

end

end Cert.Proof.ConvProj

end
-- ==== Proof.ConvProj.Value.lean ====
/- The convolution's input projection: the blocks each grid point stages as parts of the arguments, the three result arrays at
   an index, and their equality with the reference's. -/
module

public import proofs.«01_k».proof.Proof.ConvProj.Blocks
public import proofs.«01_k».proof.Defs
public import proofs.«01_k».proof.Proof.Gen.ConvProjReferenceIdeal.Run
public import proofs.«01_k».proof.Proof.Gen.ConvProjReferenceIdeal.Read

@[expose] public section

set_option maxRecDepth 16384

noncomputable section

namespace Cert.Proof.ConvProj

open Idealize.ShloMosaic Idealize.ShloMosaic.TcCoe Idealize.ShloMosaic.Tactic Idealize.SL.Sem Cert.ConvProjIdeal Cert.ConvProjIdeal.Gen Cert.Proof.Layer

section
variable (X : Vec Ideal S16x2048x1024 .f32) (G : Vec Ideal S1024 .f32) (Sh Sc : Vec Ideal S16x1024 .f32) (W : Vec Ideal S1024x2560 .f32)

/-- Column `j` of the projection of row `n` of batch `b`. -/
def column (b : Fin 16) (n : Fin 2048) (j : Fin 2560) : EReal :=
  proj (normMod (fun k => X (ix3 b n k)) (fun k => G (ix1 k)) (fun k => Sh (ix2 b k)) (fun k => Sc (ix2 b k))) (fun k j => W (ix2 k j)) j

open Cert.ConvProjReferenceIdeal.Read in
/-- The reference's projection at an index. -/
theorem reference_column (b : Fin 16) (n : Fin 2048) (j : Fin 2560) :
    val_main_v21 (F := Ideal) X G Sh Sc W (ix3 b n j) = column X G Sh Sc W b n j := by
  have hl (k : Fin 1024) : lidx_main_v21 (ix3 b n j) k = ix3 b n k := by
    funext a; match a with | ⟨0, _⟩ => rfl | ⟨1, _⟩ => rfl | ⟨2, _⟩ => rfl
  have hr (k : Fin 1024) : ridx_main_v21 (ix3 b n j) k = ix2 k j := by
    funext a; match a with | ⟨0, _⟩ => rfl | ⟨1, _⟩ => rfl
  have hs (k : Fin 1024) : idx_main_v13 (idx_main_v16 (ix3 b n k)) = ix2 b k := by
    funext a; match a with | ⟨0, _⟩ => rfl | ⟨1, _⟩ => rfl
  have hs' (k : Fin 1024) : idx_main_v18 (idx_main_v19 (ix3 b n k)) = ix2 b k := by
    funext a; match a with | ⟨0, _⟩ => rfl | ⟨1, _⟩ => rfl
  have hg (k : Fin 1024) : idx_main_v10 (idx_main_v11 (ix3 b n k)) = ix1 k := by
    funext a; match a with | ⟨0, _⟩ => rfl
  have hq (k q : Fin 1024) : idx_main_v1 (idx_main_v2 (idx_main_v8 (ix3 b n k))) q = ix3 b n q := by
    funext a; match a with | ⟨0, _⟩ => rfl | ⟨1, _⟩ => rfl | ⟨2, _⟩ => rfl
  rw [val_main_v21_apply]
  unfold column proj
  refine Finset.sum_congr rfl fun k _ => ?_
  rw [hl, hr]
  refine congrArg (· * W (ix2 k j)) ?_
  rw [val_main_v20_apply, val_main_v17_apply, val_main_v12_apply, val_main_v9_apply, val_main_v8_apply, val_main_v7_apply, val_main_v6_apply,
    val_main_v5_apply, val_main_cst_1_apply, val_main_v4_apply, val_main_v3_apply, val_main_cst_0_apply, val_main_v2_apply, val_main_v1_apply,
    val_main_cst_apply, val_main_v11_apply, val_main_v10_apply, val_main_v16_apply, val_main_v15_apply, val_main_v14_apply, val_main_cst_2_apply,
    val_main_v13_apply, val_main_v19_apply, val_main_v18_apply]
  simp only [hs, hs', hg, hq, val_main_v0_apply, Ideal.ofBits_def, Ideal.ofBits_one_f32, Ideal.ofBits_zero_f32]
  unfold normMod normRow rootMean
  rw [← zero_add (∑ q : Fin 1024, X (ix3 b n q) * X (ix3 b n q))]
  rfl

end

variable (m : (ℓ : Loc nD τ sig) → Buf (Elt Ideal) ℓ) (c : Dev nD)

/-- The rows. -/
abbrev argX : Vec Ideal S16x2048x1024 .f32 := m ((c : Thread nD τ).loc main_arg0)
/-- The gain. -/
abbrev argG : Vec Ideal S1024 .f32 := m ((c : Thread nD τ).loc main_arg1)
/-- The shifts. -/
abbrev argSh : Vec Ideal S16x1024 .f32 := m ((c : Thread nD τ).loc main_arg2)
/-- The scales. -/
abbrev argSc : Vec Ideal S16x1024 .f32 := m ((c : Thread nD τ).loc main_arg3)
/-- The projection. -/
abbrev argW : Vec Ideal S1024x2560 .f32 := m ((c : Thread nD τ).loc main_arg4)

/-- Every window's block indices at a point: batch and row block read off the point's number. -/
theorem index_facts : ∀ t : Fin cfg0.N,
    (win0_0.index t (0 : Fin 3) = t.val / 2 ∧ win0_0.index t (1 : Fin 3) = t.val % 2 ∧ win0_0.index t (2 : Fin 3) = 0)
    ∧ (win0_1.index t (0 : Fin 2) = 0 ∧ win0_1.index t (1 : Fin 2) = 0)
    ∧ (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = 0 ∧ win0_3.index t (2 : Fin 3) = 0)
    ∧ (win0_4.index t (0 : Fin 2) = 0 ∧ win0_4.index t (1 : Fin 2) = 0)
    ∧ ((win0_5.index t (0 : Fin 3) = t.val / 2 ∧ win0_5.index t (1 : Fin 3) = t.val % 2 ∧ win0_5.index t (2 : Fin 3) = 0) ∧ (cfg0.win 5).flush t = true)
    ∧ ((win0_6.index t (0 : Fin 3) = t.val / 2 ∧ win0_6.index t (1 : Fin 3) = t.val % 2 ∧ win0_6.index t (2 : Fin 3) = 0) ∧ (cfg0.win 6).flush t = true)
    ∧ ((win0_7.index t (0 : Fin 3) = t.val / 2 ∧ win0_7.index t (1 : Fin 3) = t.val % 2 ∧ win0_7.index t (2 : Fin 3) = 0) ∧ (cfg0.win 7).flush t = true) :=
  (by decide +kernel : ∀ t : Fin grid0.N, _)

section
variable (t : Fin cfg0.N)

theorem iblk1_apply (k : Fin 1024) : (iblk m c 1 t : Vec Ideal S1x1024 .f32) (ix2 0 k) = argG m c (ix1 k) := by
  obtain ⟨-, ⟨h0, h1⟩, -⟩ := index_facts t
  have hV : V m c main_v3 = shapeCast S1x1024 (argG m c) shapeCasts_S1024_S1x1024 := by
    unfold_abbrev_sides
    after_results
    rfl
  unfold iblk
  rw [View.read_apply]
  show V m c main_v3 _ = _
  rw [hV]
  refine shapeCast_apply _ shapeCasts_S1024_S1x1024 _ (ix1 k) ?_
  rw [Shape.rowMajor_val_one, Shape.rowMajor_val_two]
  show k.val = (win0_1.index t (0 : Fin 2) * 1 + 1 * 0) * 1024 + (win0_1.index t (1 : Fin 2) * 1024 + 1 * k.val)
  omega

theorem iblk4_apply (k : Fin 1024) (j : Fin 2560) : (iblk m c 4 t : Vec Ideal S1024x2560 .bf16) (ix2 k j) = argW m c (ix2 k j) := by
  obtain ⟨-, -, -, -, ⟨h0, h1⟩, -⟩ := index_facts t
  have hV : V m c main_v2 = truncf (F := Ideal) .bf16 (argW m c) bitsLt_bf16_f32 := by
    unfold_abbrev_sides
    after_results
  unfold iblk
  rw [View.read_apply]
  show V m c main_v2 _ = _
  rw [hV]
  show argW m c _ = argW m c _
  congr 1
  funext a
  apply Fin.ext
  match a with
  | ⟨0, _⟩ => show win0_4.index t (0 : Fin 2) * 1024 + 1 * k.val = k.val; omega
  | ⟨1, _⟩ => show win0_4.index t (1 : Fin 2) * 2560 + 1 * j.val = j.val; omega

section
variable (b : Fin 16) (hb : b.val = t.val / 2)
include hb

theorem iblk2_apply (k : Fin 1024) : (iblk m c 2 t : Vec Ideal S1x1x1024 .f32) (ix3 0 0 k) = argSh m c (ix2 b k) := by
  obtain ⟨-, -, ⟨h0, h1, h2⟩, -⟩ := index_facts t
  have hV : V m c main_v0 = shapeCast S16x1x1024 (argSh m c) shapeCasts_S16x1024_S16x1x1024 := by
    unfold_abbrev_sides
    after_results
    rfl
  unfold iblk
  rw [View.read_apply]
  show V m c main_v0 _ = _
  rw [hV]
  refine shapeCast_apply _ shapeCasts_S16x1024_S16x1x1024 _ (ix2 b k) ?_
  rw [Shape.rowMajor_val_two, Shape.rowMajor_val_three]
  show b.val * 1024 + k.val = ((win0_2.index t (0 : Fin 3) * 1 + 1 * 0) * 1 + (win0_2.index t (1 : Fin 3) * 1 + 1 * 0)) * 1024 + (win0_2.index t (2 : Fin 3) * 1024 + 1 * k.val)
  omega

theorem iblk3_apply (k : Fin 1024) : (iblk m c 3 t : Vec Ideal S1x1x1024 .f32) (ix3 0 0 k) = argSc m c (ix2 b k) := by
  obtain ⟨-, -, -, ⟨h0, h1, h2⟩, -⟩ := index_facts t
  have hV : V m c main_v1 = shapeCast S16x1x1024 (argSc m c) shapeCasts_S16x1024_S16x1x1024 := by
    unfold_abbrev_sides
    after_results
    rfl
  unfold iblk
  rw [View.read_apply]
  show V m c main_v1 _ = _
  rw [hV]
  refine shapeCast_apply _ shapeCasts_S16x1024_S16x1x1024 _ (ix2 b k) ?_
  rw [Shape.rowMajor_val_two, Shape.rowMajor_val_three]
  show b.val * 1024 + k.val = ((win0_3.index t (0 : Fin 3) * 1 + 1 * 0) * 1 + (win0_3.index t (1 : Fin 3) * 1 + 1 * 0)) * 1024 + (win0_3.index t (2 : Fin 3) * 1024 + 1 * k.val)
  omega

variable (n : Fin 2048) (r : Fin 1024) (hn : n.val = t.val % 2 * 1024 + r.val)
include hn

theorem iblk0_apply (k : Fin 1024) : (iblk m c 0 t : Vec Ideal S1x1024x1024 .f32) (ix3 0 r k) = argX m c (ix3 b n k) := by
  obtain ⟨⟨h0, h1, h2⟩, -⟩ := index_facts t
  unfold iblk
  rw [View.read_apply]
  have hV : V m c main_arg0 = argX m c := by
    unfold_abbrev_sides
    after_results
  show V m c main_arg0 _ = _
  rw [hV]
  show argX m c _ = argX m c _
  congr 1
  funext a
  apply Fin.ext
  match a with
  | ⟨0, _⟩ => show win0_0.index t (0 : Fin 3) * 1 + 1 * 0 = b.val; omega
  | ⟨1, _⟩ => show win0_0.index t (1 : Fin 3) * 1024 + 1 * r.val = n.val; omega
  | ⟨2, _⟩ => show win0_0.index t (2 : Fin 3) * 1024 + 1 * k.val = k.val; omega

/-- The staged rows' projection is the arguments' at the point's batch and row. -/
theorem proj_apply (j : Fin 2560) :
    proj (row (iblk m c 0 t) (iblk m c 1 t) (iblk m c 2 t) (iblk m c 3 t) r) (fun k j => (iblk m c 4 t : Vec Ideal S1024x2560 .bf16) (ix2 k j)) j
      = column (argX m c) (argG m c) (argSh m c) (argSc m c) (argW m c) b n j := by
  unfold row column
  simp only [iblk0_apply m c t b hb n r hn, iblk1_apply, iblk2_apply m c t b hb, iblk3_apply m c t b hb, iblk4_apply]

/-- Where a block of a result lies in its array. -/
theorem emb_eq (C : Fin 512) (f : Fin 3 → Nat) (h0 : f 0 = t.val / 2) (h1 : f 1 = t.val % 2) (h2 : f 2 = 0) (i : S16x2048x512.Idx)
    (hi0 : (i 0).val = f 0 * 1 + 1 * 0) (hi1 : (i 1).val = f 1 * 1024 + 1 * r.val) (hi2 : (i 2).val = f 2 * 512 + 1 * C.val) : i = ix3 b n C := by
  funext a
  apply Fin.ext
  match a with
  | ⟨0, _⟩ => show (i 0).val = b.val; omega
  | ⟨1, _⟩ => show (i 1).val = n.val; omega
  | ⟨2, _⟩ => show (i 2).val = C.val; omega

end

end

/-- The point that computes a row. -/
theorem point (b : Fin 16) (n : Fin 2048) : ∃ (t : Fin cfg0.N) (r : Fin 1024), b.val = t.val / 2 ∧ n.val = t.val % 2 * 1024 + r.val := by
  have hb := b.isLt
  have hn := n.isLt
  refine ⟨⟨2 * b.val + n.val / 1024, by rw [show cfg0.N = 32 from N_0]; omega⟩, ⟨n.val % 1024, Nat.mod_lt _ (by decide)⟩, ?_, ?_⟩
  · show b.val = (2 * b.val + n.val / 1024) / 2
    omega
  · show n.val = (2 * b.val + n.val / 1024) % 2 * 1024 + n.val % 1024
    omega

section
variable (b : Fin 16) (n : Fin 2048) (C : Fin 512)

/-- The gated inputs at an index. -/
theorem result5_apply : ((dats m 0 c).arrAt 5 cfg0.N : Vec Ideal S16x2048x512 .f32) (ix3 b n C)
    = column (argX m c) (argG m c) (argSh m c) (argSc m c) (argW m c) b n (part 1024 (by omega) C)
      * column (argX m c) (argG m c) (argSh m c) (argSc m c) (argW m c) b n (part 0 (by omega) C) := by
  obtain ⟨t, r, hb, hn⟩ := point b n
  obtain ⟨-, -, -, -, -, ⟨⟨h0, h1, h2⟩, hf⟩, -⟩ := index_facts t
  have e := congrFun ((Value.blocks5 m c t hf).trans (Value.flushed5 m c t)) (ix3 0 r C : S1x1024x512.Idx)
  rw [View.read_apply, emb_eq t b hb n r hn C (win0_5.index t) h0 h1 h2 (((cfg0.win 5).blk t).view.emb (ix3 0 r C : S1x1024x512.Idx)) rfl rfl rfl] at e
  refine e.trans ((out5_apply _ _ _ _ _ r C).trans ?_)
  rw [proj_apply m c t b hb n r hn, proj_apply m c t b hb n r hn]

/-- The output gates at an index. -/
theorem result6_apply : ((dats m 0 c).arrAt 6 cfg0.N : Vec Ideal S16x2048x512 .f32) (ix3 b n C)
    = column (argX m c) (argG m c) (argSh m c) (argSc m c) (argW m c) b n (part 512 (by omega) C) := by
  obtain ⟨t, r, hb, hn⟩ := point b n
  obtain ⟨-, -, -, -, -, -, ⟨⟨h0, h1, h2⟩, hf⟩, -⟩ := index_facts t
  have e := congrFun ((Value.blocks6 m c t hf).trans (Value.flushed6 m c t)) (ix3 0 r C : S1x1024x512.Idx)
  rw [View.read_apply, emb_eq t b hb n r hn C (win0_6.index t) h0 h1 h2 (((cfg0.win 6).blk t).view.emb (ix3 0 r C : S1x1024x512.Idx)) rfl rfl rfl] at e
  refine e.trans ((out6_apply _ _ _ _ _ r C).trans ?_)
  rw [proj_apply m c t b hb n r hn]

/-- The gated linear units at an index. -/
theorem result7_apply : ((dats m 0 c).arrAt 7 cfg0.N : Vec Ideal S16x2048x512 .f32) (ix3 b n C)
    = column (argX m c) (argG m c) (argSh m c) (argSc m c) (argW m c) b n (part 1536 (by omega) C)
      * logistic (column (argX m c) (argG m c) (argSh m c) (argSc m c) (argW m c) b n (part 2048 (by omega) C)) := by
  obtain ⟨t, r, hb, hn⟩ := point b n
  obtain ⟨-, -, -, -, -, -, -, ⟨⟨h0, h1, h2⟩, hf⟩⟩ := index_facts t
  have e := congrFun ((Value.blocks7 m c t hf).trans (Value.flushed7 m c t)) (ix3 0 r C : S1x1024x512.Idx)
  rw [View.read_apply, emb_eq t b hb n r hn C (win0_7.index t) h0 h1 h2 (((cfg0.win 7).blk t).view.emb (ix3 0 r C : S1x1024x512.Idx)) rfl rfl rfl] at e
  refine e.trans ((out7_apply _ _ _ _ _ r C).trans ?_)
  rw [proj_apply m c t b hb n r hn, proj_apply m c t b hb n r hn]

end

section
variable (X : Vec Ideal S16x2048x1024 .f32) (G : Vec Ideal S1024 .f32) (Sh Sc : Vec Ideal S16x1024 .f32) (W : Vec Ideal S1024x2560 .f32)
  (b : Fin 16) (n : Fin 2048) (C : Fin 512)

open Cert.ConvProjReferenceIdeal.Read

theorem reference5_apply : val_main_v27 (F := Ideal) X G Sh Sc W (ix3 b n C)
    = column X G Sh Sc W b n (part 1024 (by omega) C) * column X G Sh Sc W b n (part 0 (by omega) C) := by
  have h4 : idx_main_v24 (ix3 b n C) = ix3 b n (part 1024 (by omega) C) := by
    funext a; match a with | ⟨0, _⟩ => rfl | ⟨1, _⟩ => rfl | ⟨2, _⟩ => apply Fin.ext; show _ = 1024 + C.val; first | rfl | exact Nat.add_comm _ _
  have h2 : idx_main_v22 (ix3 b n C) = ix3 b n (part 0 (by omega) C) := by
    funext a; match a with | ⟨0, _⟩ => rfl | ⟨1, _⟩ => rfl | ⟨2, _⟩ => apply Fin.ext; exact (Nat.zero_add _).symm
  rw [val_main_v27_apply, val_main_v24_apply, val_main_v22_apply, h4, h2, reference_column, reference_column]
  rfl

theorem reference6_apply : val_main_v23 (F := Ideal) X G Sh Sc W (ix3 b n C) = column X G Sh Sc W b n (part 512 (by omega) C) := by
  have h3 : idx_main_v23 (ix3 b n C) = ix3 b n (part 512 (by omega) C) := by
    funext a; match a with | ⟨0, _⟩ => rfl | ⟨1, _⟩ => rfl | ⟨2, _⟩ => apply Fin.ext; show _ = 512 + C.val; first | rfl | exact Nat.add_comm _ _
  rw [val_main_v23_apply, h3, reference_column]

theorem reference7_apply : val_main_v34 (F := Ideal) X G Sh Sc W (ix3 b n C)
    = column X G Sh Sc W b n (part 1536 (by omega) C) * logistic (column X G Sh Sc W b n (part 2048 (by omega) C)) := by
  have h5 : idx_main_v25 (ix3 b n C) = ix3 b n (part 1536 (by omega) C) := by
    funext a; match a with | ⟨0, _⟩ => rfl | ⟨1, _⟩ => rfl | ⟨2, _⟩ => apply Fin.ext; show _ = 1536 + C.val; first | rfl | exact Nat.add_comm _ _
  have h6 : idx_main_v26 (ix3 b n C) = ix3 b n (part 2048 (by omega) C) := by
    funext a; match a with | ⟨0, _⟩ => rfl | ⟨1, _⟩ => rfl | ⟨2, _⟩ => apply Fin.ext; show _ = 2048 + C.val; first | rfl | exact Nat.add_comm _ _
  rw [val_main_v34_apply, val_main_v33_apply, val_main_v32_apply, val_main_cst_4_apply, val_main_v31_apply, val_main_v30_apply,
    val_main_cst_3_apply, val_main_v29_apply, val_main_v28_apply, val_main_v26_apply, val_main_v25_apply, h5, h6, reference_column, reference_column]
  unfold Layer.logistic
  rw [zero_sub]
  simp only [Ideal.ofBits_def, Ideal.ofBits_one_f32]
  rfl

end

/-- Every index of a result is a batch, a row and a column. -/
theorem idx_eq (i : S16x2048x512.Idx) : ∃ (b : Fin 16) (n : Fin 2048) (C : Fin 512), i = ix3 b n C :=
  ⟨i 0, i 1, i 2, by funext a; match a with | ⟨0, _⟩ => rfl | ⟨1, _⟩ => rfl | ⟨2, _⟩ => rfl⟩

/-- The projection's value claim: from equal arguments the two programs end with equal results and unchanged arguments. -/
theorem algebraic : Cert.algebraic_ConvProjIdeal_ConvProjReferenceIdeal := by
  intro m g m' g' _ hagree
  refine ⟨fun c => (dats m 0 c).arrAt 5 cfg0.N, fun c => (dats m 0 c).arrAt 6 cfg0.N, fun c => (dats m 0 c).arrAt 7 cfg0.N, Value.run_blocks m g, ?_⟩
  refine (θ_run Cert.ConvProjReferenceIdeal.defs _ _).mono
    (fun _ h c => ⟨(h c).1.trans ?_, (h c).2.1.trans ?_, (h c).2.2.1.trans ?_, (h c).2.2.2⟩) (Cert.ConvProjReferenceIdeal.Value.run m' g')
  · obtain ⟨h0, h1, h2, h3, h4⟩ := hagree c
    refine (Cert.ConvProjReferenceIdeal.Read.val_main_v27_eq ..).trans ?_
    rw [h0, h1, h2, h3, h4]
    funext i
    obtain ⟨b, n, C, rfl⟩ := idx_eq i
    exact (reference5_apply ..).trans (result5_apply m c b n C).symm
  · obtain ⟨h0, h1, h2, h3, h4⟩ := hagree c
    refine (Cert.ConvProjReferenceIdeal.Read.val_main_v23_eq ..).trans ?_
    rw [h0, h1, h2, h3, h4]
    funext i
    obtain ⟨b, n, C, rfl⟩ := idx_eq i
    exact (reference6_apply ..).trans (result6_apply m c b n C).symm
  · obtain ⟨h0, h1, h2, h3, h4⟩ := hagree c
    refine (Cert.ConvProjReferenceIdeal.Read.val_main_v34_eq ..).trans ?_
    rw [h0, h1, h2, h3, h4]
    funext i
    obtain ⟨b, n, C, rfl⟩ := idx_eq i
    exact (reference7_apply ..).trans (result7_apply m c b n C).symm

end Cert.Proof.ConvProj

end
-- ==== Proof.OutProj.Blocks.lean ====
/- The output projection, residual, norm and router scores: one grid point's three result blocks, read at an index. -/
module

public import proofs.«01_k».proof.Proof.Layer.Norm
public import proofs.«01_k».proof.Proof.Gen.OutProjIdeal.Value
public import Idealize.ShloMosaic.Lib.Pipeline.ValueKit

@[expose] public section

set_option maxRecDepth 16384

noncomputable section

namespace Cert.Proof.OutProj

open Idealize.ShloMosaic Idealize.ShloMosaic.TcCoe Idealize.ShloMosaic.Tactic Idealize.SL.Sem Cert.OutProjIdeal Cert.OutProjIdeal.Gen Cert.Proof.Layer

/-- Row `l` of the weight's upper half. -/
def upper (l : Fin 512) : Fin 1024 := ⟨l.val, by omega⟩

/-- Row `l` of the weight's lower half. -/
def lower (l : Fin 512) : Fin 1024 := ⟨512 + l.val, by omega⟩

/-- The mixed row: the two heads' outputs through the output projection, gated, on top of the row. -/
def mixRow (x ga : Fin 1024 → EReal) (ya yb : Fin 512 → EReal) (w : Fin 1024 → Fin 1024 → EReal) (k : Fin 1024) : EReal :=
  x k + ga k * ((∑ l, ya l * w (upper l) k) + ∑ l, yb l * w (lower l) k)

/-- The experts' shares of a row. -/
def affinity (h : Fin 1024 → EReal) (wr : Fin 1024 → Fin 16 → EReal) : Fin 16 → EReal := softmax fun e => ∑ k, h k * wr k e

theorem pay4_apply (v0 : Vec Ideal S1x1024x512 .bf16) (v2 : Vec Ideal S512x1024 .bf16) (v5 : Vec Ideal S1x1024x512 .bf16)
    (v7 : Vec Ideal S512x1024 .bf16) (v11 : Vec Ideal S1x1024x1024 .f32) (v13 : Vec Ideal S1x1x1024 .f32) (r k : Fin 1024) :
    k0_pay4 v0 v2 v5 v7 v11 v13 (ix2 r k) = v11 (ix3 0 r k)
      + v13 (ix3 0 0 k) * ((∑ l, v0 (ix3 0 r l) * v2 (ix2 l k)) + ∑ l, v5 (ix3 0 r l) * v7 (ix2 l k)) := by
  pointwise [k0_pay4, zero_add]

theorem pay1_apply (v17 : FVec Ideal S1024x1024 .f32) (g sh sc : FVec Ideal S1x1024 .f32) (v27 : FVec Ideal S1024x1024 .f32) (r k : Fin 1024)
    (hsq : ∀ q, v27 (ix2 r q) = v17 (ix2 r q) * v17 (ix2 r q)) :
    k0_pay1 v17 g sh sc v27 (ix2 r k)
      = normMod (fun k => v17 (ix2 r k)) (fun k => g (ix2 0 k)) (fun k => sh (ix2 0 k)) (fun k => sc (ix2 0 k)) k := by
  pointwise [k0_pay1, zero_add, Ideal.ofBits_one_f32]
  simp only [hsq]
  rfl

theorem pay2_apply (v17 : FVec Ideal S1024x1024 .f32) (g sh sc : FVec Ideal S1x1024 .f32) (v27 : FVec Ideal S1024x1024 .f32) (r k : Fin 1024) :
    k0_pay2 v17 g sh sc v27 (ix3 0 r k) = k0_pay1 v17 g sh sc v27 (ix2 r k) := by
  unfold k0_pay2
  generalize k0_pay1 v17 g sh sc v27 = y
  pointwise []

theorem pay3_apply (v17 : FVec Ideal S1024x1024 .f32) (g sh sc : FVec Ideal S1x1024 .f32) (v27 : FVec Ideal S1024x1024 .f32)
    (wr : Vec Ideal S16x1024 .bf16) (r : Fin 1024) (e : Fin 16) :
    k0_pay3 v17 g sh sc v27 wr (ix3 0 e r) = softmax (fun e => ∑ k, k0_pay1 v17 g sh sc v27 (ix2 r k) * wr (ix2 e k)) e := by
  have hc (e : Fin 16) (k : Fin 1024) : k0_pay1 v17 g sh sc v27 (ix2 r k) * wr (ix2 e k) = wr (ix2 e k) * k0_pay1 v17 g sh sc v27 (ix2 r k) := mul_comm _ _
  simp only [hc]
  generalize hh : k0_pay1 v17 g sh sc v27 = h
  unfold k0_pay3
  rw [hh]
  pointwise [zero_add]
  rfl

section
variable (x0 : Vec Ideal S1x1024x1024 .f32) (x1 x2 : Vec Ideal S1x1024x512 .bf16) (x3 : Vec Ideal S1024x1024 .bf16) (x4 : Vec Ideal S1x1x1024 .f32)
  (x5 : Vec Ideal S1x1024 .f32) (x6 x7 : Vec Ideal S1x1x1024 .f32) (x8 : Vec Ideal S16x1024 .bf16)

/-- The block's mixed row `r`. -/
def mixed (r : Fin 1024) : Fin 1024 → EReal :=
  mixRow (fun k => x0 (ix3 0 r k)) (fun k => x4 (ix3 0 0 k)) (fun l => x1 (ix3 0 r l)) (fun l => x2 (ix3 0 r l)) (fun l k => x3 (ix2 l k))

/-- The block's normed row `r`. -/
def normed (r : Fin 1024) : Fin 1024 → EReal :=
  normMod (mixed x0 x1 x2 x3 x4 r) (fun k => x5 (ix2 0 k)) (fun k => x6 (ix3 0 0 k)) (fun k => x7 (ix3 0 0 k))

/-- A half of the weight's rows read out of its block. -/
theorem ld_half (o : Nat) (ho : o + 512 ≤ 1024)
    (inb : ∀ a : Fin S1024x1024.rank, (![o, 0] : Fin 2 → Nat) a + (![512, 1024] : Fin 2 → Nat) a ≤ S1024x1024.size a) (l : Fin 512) (k j : Fin 1024)
    (hj : j.val = o + l.val) :
    View.ld x3 (Rect.unit ![o, 0] ![512, 1024] inb) (ix2 l k) = x3 (ix2 j k) := by
  refine View.ld_unit_apply_of x3 _ _ inb _ _ ?_
  intro a
  match a with
  | ⟨0, _⟩ => exact hj
  | ⟨1, _⟩ => exact (Nat.zero_add _).symm

theorem pay10_apply (r k : Fin 1024) : k0_pay10 x0 x1 x2 x3 x4 x5 x6 x7 x8 (ix2 r k) = mixed x0 x1 x2 x3 x4 r k := by
  unfold k0_pay10
  simp only [View.ld_unit_zero (S := S1x1024x1024) zero3, View.ld_unit_zero (S := S1x1024x512) zero3, View.ld_unit_zero (S := S1x1x1024) zero3]
  rw [pay4_apply]
  have e0 (l : Fin 512) := ld_half x3 0 (by omega) inb_S1024x1024_S512x1024_0_0 l k (upper l) (Nat.zero_add _).symm
  have e1 (l : Fin 512) := ld_half x3 512 (by omega) inb_S1024x1024_S512x1024_512_0 l k (lower l) rfl
  refine congrArg (fun z => x0 (ix3 0 r k) + x4 (ix3 0 0 k) * z) (congrArg₂ (· + ·) ?_ ?_)
  · exact Finset.sum_congr rfl fun l _ => congrArg _ (e0 l)
  · exact Finset.sum_congr rfl fun l _ => congrArg _ (e1 l)

theorem pay14_apply (r q : Fin 1024) : k0_pay14 x0 x1 x2 x3 x4 x5 x6 x7 x8 (ix2 r q)
    = k0_pay10 x0 x1 x2 x3 x4 x5 x6 x7 x8 (ix2 r q) * k0_pay10 x0 x1 x2 x3 x4 x5 x6 x7 x8 (ix2 r q) := rfl

/-- The normed rows at an index, as every store of them reads it. -/
theorem norm_apply (r k : Fin 1024) :
    k0_pay1 (k0_pay10 x0 x1 x2 x3 x4 x5 x6 x7 x8) (k0_pay11 x0 x1 x2 x3 x4 x5 x6 x7 x8) (k0_pay12 x0 x1 x2 x3 x4 x5 x6 x7 x8)
      (k0_pay13 x0 x1 x2 x3 x4 x5 x6 x7 x8) (k0_pay14 x0 x1 x2 x3 x4 x5 x6 x7 x8) (ix2 r k) = normed x0 x1 x2 x3 x4 x5 x6 x7 r k := by
  rw [pay1_apply _ _ _ _ _ r k fun q => pay14_apply ..]
  unfold normed
  have h5 (k : Fin 1024) : k0_pay11 x0 x1 x2 x3 x4 x5 x6 x7 x8 (ix2 0 k) = x5 (ix2 0 k) := by
    unfold k0_pay11
    simp only [View.ld_unit_zero (S := S1x1024) zero2]
    pointwise [k0_pay6]
  have h6 (k : Fin 1024) : k0_pay12 x0 x1 x2 x3 x4 x5 x6 x7 x8 (ix2 0 k) = x6 (ix3 0 0 k) := by
    unfold k0_pay12
    simp only [View.ld_unit_zero (S := S1x1x1024) zero3]
    pointwise [k0_pay7]
  have h7 (k : Fin 1024) : k0_pay13 x0 x1 x2 x3 x4 x5 x6 x7 x8 (ix2 0 k) = x7 (ix3 0 0 k) := by
    unfold k0_pay13
    simp only [View.ld_unit_zero (S := S1x1x1024) zero3]
    pointwise [k0_pay8]
  simp only [pay10_apply, h5, h6, h7]

/-- The block of mixed rows. -/
theorem out9_apply (r k : Fin 1024) : out0_9 x0 x1 x2 x3 x4 x5 x6 x7 x8 (ix3 0 r k) = mixed x0 x1 x2 x3 x4 r k := by
  unfold out0_9
  rw [View.canon_unit_zero (S := S1x1024x1024) zero3, ← pay10_apply x0 x1 x2 x3 x4 x5 x6 x7 x8]
  unfold k0_pay10 k0_pay5
  generalize k0_pay4 (View.ld x1 r0_0) (View.ld x3 r0_1) (View.ld x2 r0_0) (View.ld x3 r0_2) (View.ld x0 r0_3) (View.ld x4 r0_4) = y
  pointwise []

/-- The block of normed rows. -/
theorem out10_apply (r k : Fin 1024) : out0_10 x0 x1 x2 x3 x4 x5 x6 x7 x8 (ix3 0 r k) = normed x0 x1 x2 x3 x4 x5 x6 x7 r k := by
  rw [← norm_apply x0 x1 x2 x3 x4 x5 x6 x7 x8]
  unfold out0_10
  rw [View.canon_unit_zero (S := S1x1024x1024) zero3]
  exact pay2_apply _ _ _ _ _ r k

/-- The block of the experts' shares. -/
theorem out11_apply (r : Fin 1024) (e : Fin 16) : out0_11 x0 x1 x2 x3 x4 x5 x6 x7 x8 (ix3 0 e r)
    = affinity (normed x0 x1 x2 x3 x4 x5 x6 x7 r) (fun k e => x8 (ix2 e k)) e := by
  unfold out0_11
  rw [View.canon_unit_zero (S := S1x16x1024) zero3]
  simp only [View.ld_unit_zero (S := S16x1024) zero2]
  rw [pay3_apply]
  simp only [norm_apply]
  rfl

end

end Cert.Proof.OutProj

end
-- ==== Proof.OutProj.Reference.lean ====
/- The output projection's reference, read at an index: the mixed row, its norm, and the experts' shares. -/
module

public import proofs.«01_k».proof.Proof.OutProj.Blocks
public import proofs.«01_k».proof.Proof.Gen.OutProjReferenceIdeal.Read

@[expose] public section

set_option maxRecDepth 16384

noncomputable section

namespace Cert.Proof.OutProj

open Idealize.ShloMosaic Idealize.ShloMosaic.TcCoe Cert.OutProjReferenceIdeal Cert.OutProjReferenceIdeal.Gen Cert.OutProjReferenceIdeal.Read Cert.Proof.Layer

variable (X : Vec Ideal S16x2048x1024 .f32) (Ya Yb : Vec Ideal S16x2048x512 .bf16) (W : Vec Ideal S1024x1024 .f32) (Ga : Vec Ideal S16x1024 .f32)
  (G : Vec Ideal S1024 .f32) (Sh Sc : Vec Ideal S16x1024 .f32) (Wr : Vec Ideal S1024x16 .f32) (b : Fin 16) (n : Fin 2048)

/-- The mixed row `n` of batch `b`. -/
def mixedAt : Fin 1024 → EReal :=
  mixRow (fun k => X (ix3 b n k)) (fun k => Ga (ix2 b k)) (fun l => Ya (ix3 b n l)) (fun l => Yb (ix3 b n l)) (fun l k => W (ix2 l k))

/-- The normed row `n` of batch `b`. -/
def normedAt : Fin 1024 → EReal :=
  normMod (mixedAt X Ya Yb W Ga b n) (fun k => G (ix1 k)) (fun k => Sh (ix2 b k)) (fun k => Sc (ix2 b k))

/-- The two heads' outputs side by side: the first 512 columns. -/
theorem joined_upper (l : Fin 512) : val_main_v0 (F := Ideal) Ya Yb (ix3 b n (upper l)) = Ya (ix3 b n l) := by
  unfold val_main_v0
  refine concatenate_pair_apply_left (t := S16x2048x1024) 2 Ya Yb _ (ix3 b n (upper l)) rfl (ix3 b n l) ?_
  intro a
  match a with
  | ⟨0, _⟩ => rfl
  | ⟨1, _⟩ => rfl
  | ⟨2, _⟩ => rfl

/-- The two heads' outputs side by side: the last 512 columns. -/
theorem joined_lower (l : Fin 512) : val_main_v0 (F := Ideal) Ya Yb (ix3 b n (lower l)) = Yb (ix3 b n l) := by
  unfold val_main_v0
  refine concatenate_pair_apply_right (t := S16x2048x1024) 2 Ya Yb _ (ix3 b n (lower l)) rfl rfl (ix3 b n l) ?_ ?_
  · intro a ha
    match a with
    | ⟨0, _⟩ => rfl
    | ⟨1, _⟩ => rfl
    | ⟨2, _⟩ => exact absurd rfl ha
  · exact Nat.add_comm _ _

/-- The mixed row. -/
theorem reference_mixed (k : Fin 1024) : val_main_v6 (F := Ideal) X Ya Yb W Ga (ix3 b n k) = mixedAt X Ya Yb W Ga b n k := by
  have hl (q : Fin 1024) : lidx_main_v2 (ix3 b n k) q = ix3 b n q := by
    funext a; match a with | ⟨0, _⟩ => rfl | ⟨1, _⟩ => rfl | ⟨2, _⟩ => rfl
  have hr (q : Fin 1024) : ridx_main_v2 (ix3 b n k) q = ix2 q k := by
    funext a; match a with | ⟨0, _⟩ => rfl | ⟨1, _⟩ => rfl
  have hg : idx_main_v3 (idx_main_v4 (ix3 b n k)) = ix2 b k := by
    funext a; match a with | ⟨0, _⟩ => rfl | ⟨1, _⟩ => rfl
  rw [val_main_v6_apply, val_main_v5_apply, val_main_v4_apply, val_main_v3_apply, hg, val_main_v2_apply]
  simp only [hl, hr, val_main_v1_apply]
  have hsum : (∑ q : Fin 1024, val_main_v0 (F := Ideal) Ya Yb (ix3 b n q) * W (ix2 q k))
      = (∑ l, Ya (ix3 b n l) * W (ix2 (upper l) k)) + ∑ l, Yb (ix3 b n l) * W (ix2 (lower l) k) := by
    rw [Fin.sum_univ_two_halves 512 512 rfl]
    exact congrArg₂ (· + ·) (Finset.sum_congr rfl fun l _ => congrArg (· * W (ix2 (upper l) k)) (joined_upper Ya Yb b n l))
      (Finset.sum_congr rfl fun l _ => congrArg (· * W (ix2 (lower l) k)) (joined_lower Ya Yb b n l))
  exact congrArg (fun z => X (ix3 b n k) + Ga (ix2 b k) * z) hsum

/-- The normed row. -/
theorem reference_normed (k : Fin 1024) : val_main_v27 (F := Ideal) X Ya Yb W Ga G Sh Sc (ix3 b n k) = normedAt X Ya Yb W Ga G Sh Sc b n k := by
  have hs : idx_main_v20 (idx_main_v23 (ix3 b n k)) = ix2 b k := by
    funext a; match a with | ⟨0, _⟩ => rfl | ⟨1, _⟩ => rfl
  have hs' : idx_main_v25 (idx_main_v26 (ix3 b n k)) = ix2 b k := by
    funext a; match a with | ⟨0, _⟩ => rfl | ⟨1, _⟩ => rfl
  have hg : idx_main_v17 (idx_main_v18 (ix3 b n k)) = ix1 k := by
    funext a; match a with | ⟨0, _⟩ => rfl
  have hq (q : Fin 1024) : idx_main_v8 (idx_main_v9 (idx_main_v15 (ix3 b n k))) q = ix3 b n q := by
    funext a; match a with | ⟨0, _⟩ => rfl | ⟨1, _⟩ => rfl | ⟨2, _⟩ => rfl
  rw [val_main_v27_apply, val_main_v24_apply, val_main_v19_apply, val_main_v16_apply, val_main_v15_apply, val_main_v14_apply, val_main_v13_apply,
    val_main_v12_apply, val_main_cst_1_apply, val_main_v11_apply, val_main_v10_apply, val_main_cst_0_apply, val_main_v9_apply, val_main_v8_apply,
    val_main_cst_apply, val_main_v18_apply, val_main_v17_apply, val_main_v23_apply, val_main_v22_apply, val_main_v21_apply, val_main_cst_2_apply,
    val_main_v20_apply, val_main_v26_apply, val_main_v25_apply]
  simp only [hs, hs', hg, hq, val_main_v7_apply, reference_mixed, Ideal.ofBits_def, Ideal.ofBits_one_f32, Ideal.ofBits_zero_f32]
  unfold normedAt normMod normRow rootMean
  rw [← zero_add (∑ q : Fin 1024, mixedAt X Ya Yb W Ga b n q * mixedAt X Ya Yb W Ga b n q)]
  rfl

/-- The router's score of an expert. -/
def scoreAt (e : Fin 16) : EReal := ∑ k, normedAt X Ya Yb W Ga G Sh Sc b n k * Wr (ix2 k e)

theorem reference_score (e : Fin 16) : val_main_v28 (F := Ideal) X Ya Yb W Ga G Sh Sc Wr (ix3 b n e) = scoreAt X Ya Yb W Ga G Sh Sc Wr b n e := by
  have hl (q : Fin 1024) : lidx_main_v28 (ix3 b n e) q = ix3 b n q := by
    funext a; match a with | ⟨0, _⟩ => rfl | ⟨1, _⟩ => rfl | ⟨2, _⟩ => rfl
  have hr (q : Fin 1024) : ridx_main_v28 (ix3 b n e) q = ix2 q e := by
    funext a; match a with | ⟨0, _⟩ => rfl | ⟨1, _⟩ => rfl
  rw [val_main_v28_apply]
  simp only [hl, hr, reference_normed]
  rfl

/-- The largest score of a row. -/
theorem reference_max : val_main_v29 (F := Ideal) X Ya Yb W Ga G Sh Sc Wr (ix2 b n)
    = Finset.fold max (Ideal.ofBits .f32 0xFF800000#32) (scoreAt X Ya Yb W Ga G Sh Sc Wr b n) Finset.univ := by
  have hs : S16x2048x16.Reduces [2] S16x2048 := by decide
  unfold val_main_v29
  refine (Host.reduce_eq_fold_single (α := Ideal .f32) FloatOps.maximumf (val_main_v28 (F := Ideal) X Ya Yb W Ga G Sh Sc Wr) _ _ hs h_S_ (ix2 b n)).trans ?_
  have hf : (val_main_v28 (F := Ideal) X Ya Yb W Ga G Sh Sc Wr ∘ hs.lift (ix2 b n)) = scoreAt X Ya Yb W Ga G Sh Sc Wr b n := by
    funext e
    refine (congrArg (val_main_v28 (F := Ideal) X Ya Yb W Ga G Sh Sc Wr) ?_).trans (reference_score X Ya Yb W Ga G Sh Sc Wr b n e)
    funext a
    match a with
    | ⟨0, _⟩ => rfl
    | ⟨1, _⟩ => rfl
    | ⟨2, _⟩ => rfl
  exact congrArg (fun f => Finset.fold max (Ideal.ofBits .f32 0xFF800000#32) f (Finset.univ : Finset (Fin 16))) hf

/-- The exponential of a score less the largest. -/
theorem reference_exp (e : Fin 16) : val_main_v35 (F := Ideal) X Ya Yb W Ga G Sh Sc Wr (ix3 b n e)
    = Ideal.exp (scoreAt X Ya Yb W Ga G Sh Sc Wr b n e
      - Finset.fold max (Ideal.ofBits .f32 0xFF800000#32) (scoreAt X Ya Yb W Ga G Sh Sc Wr b n) Finset.univ) := by
  have hm : idx_main_v32 (idx_main_v33 (ix3 b n e)) = ix2 b n := by
    funext a; match a with | ⟨0, _⟩ => rfl | ⟨1, _⟩ => rfl
  rw [val_main_v35_apply, val_main_v34_apply, val_main_v33_apply, val_main_v32_apply, hm, val_main_v31_apply, val_main_v30_apply,
    val_main_cst_4_apply, reference_max, reference_score]
  exact congrArg (fun z => Ideal.exp (scoreAt X Ya Yb W Ga G Sh Sc Wr b n e - z)) (max_fold _ _)

/-- The experts' shares. -/
theorem reference_affinity (e : Fin 16) : val_main_v41 (F := Ideal) X Ya Yb W Ga G Sh Sc Wr (ix3 b e n)
    = affinity (normedAt X Ya Yb W Ga G Sh Sc b n) (fun k e => Wr (ix2 k e)) e := by
  have ht : idx_main_v41 (ix3 b e n) = ix3 b n e := by
    funext a; match a with | ⟨0, _⟩ => rfl | ⟨1, _⟩ => rfl | ⟨2, _⟩ => rfl
  have hd (j : Fin 16) : idx_main_v36 (idx_main_v37 (idx_main_v38 (ix3 b n e))) j = ix3 b n j := by
    funext a; match a with | ⟨0, _⟩ => rfl | ⟨1, _⟩ => rfl | ⟨2, _⟩ => rfl
  rw [val_main_v41_apply, ht, val_main_v39_apply, val_main_v38_apply, val_main_v37_apply, val_main_v36_apply, val_main_cst_5_apply]
  simp only [hd, reference_exp, Ideal.ofBits_def, Ideal.ofBits_zero_f32, zero_add]
  rfl

end Cert.Proof.OutProj

end
-- ==== Proof.OutProj.Value.lean ====
/- The output projection: the blocks each grid point stages as parts of the arguments, the three result arrays at an index, and
   their equality with the reference's. -/
module

public import proofs.«01_k».proof.Proof.OutProj.Reference
public import proofs.«01_k».proof.Defs
public import proofs.«01_k».proof.Proof.Gen.OutProjReferenceIdeal.Run

@[expose] public section

set_option maxRecDepth 16384

noncomputable section

namespace Cert.Proof.OutProj

open Idealize.ShloMosaic Idealize.ShloMosaic.TcCoe Idealize.ShloMosaic.Tactic Idealize.SL.Sem Cert.OutProjIdeal Cert.OutProjIdeal.Gen Cert.Proof.Layer

variable (m : (ℓ : Loc nD τ sig) → Buf (Elt Ideal) ℓ) (c : Dev nD)

/-- The rows. -/
abbrev argX : Vec Ideal S16x2048x1024 .f32 := m ((c : Thread nD τ).loc main_arg0)
/-- The first heads' outputs. -/
abbrev argYa : Vec Ideal S16x2048x512 .bf16 := m ((c : Thread nD τ).loc main_arg1)
/-- The second heads' outputs. -/
abbrev argYb : Vec Ideal S16x2048x512 .bf16 := m ((c : Thread nD τ).loc main_arg2)
/-- The output projection. -/
abbrev argW : Vec Ideal S1024x1024 .f32 := m ((c : Thread nD τ).loc main_arg3)
/-- The gates. -/
abbrev argGa : Vec Ideal S16x1024 .f32 := m ((c : Thread nD τ).loc main_arg4)
/-- The gain. -/
abbrev argG : Vec Ideal S1024 .f32 := m ((c : Thread nD τ).loc main_arg5)
/-- The shifts. -/
abbrev argSh : Vec Ideal S16x1024 .f32 := m ((c : Thread nD τ).loc main_arg6)
/-- The scales. -/
abbrev argSc : Vec Ideal S16x1024 .f32 := m ((c : Thread nD τ).loc main_arg7)
/-- The router. -/
abbrev argWr : Vec Ideal S1024x16 .f32 := m ((c : Thread nD τ).loc main_arg8)

/-- The inputs' block indices at a point: batch and row block read off the point's number. -/
theorem index_in : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = t.val % 2 ∧ win0_1.index t (2 : Fin 3) = 0)
    ∧ (win0_2.index t (0 : Fin 3) = t.val / 2 ∧ win0_2.index t (1 : Fin 3) = t.val % 2 ∧ win0_2.index t (2 : Fin 3) = 0)
    ∧ (win0_3.index t (0 : Fin 2) = 0 ∧ win0_3.index t (1 : Fin 2) = 0)
    ∧ (win0_4.index t (0 : Fin 3) = t.val / 2 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = t.val / 2 ∧ win0_6.index t (1 : Fin 3) = 0 ∧ win0_6.index t (2 : Fin 3) = 0)
    ∧ (win0_7.index t (0 : Fin 3) = t.val / 2 ∧ win0_7.index t (1 : Fin 3) = 0 ∧ win0_7.index t (2 : Fin 3) = 0)
    ∧ (win0_8.index t (0 : Fin 2) = 0 ∧ win0_8.index t (1 : Fin 2) = 0) :=
  (by decide +kernel : ∀ t : Fin grid0.N, _)

/-- The results' block indices at a point. -/
theorem index_out : ∀ t : Fin cfg0.N,
    ((win0_9.index t (0 : Fin 3) = t.val / 2 ∧ win0_9.index t (1 : Fin 3) = t.val % 2 ∧ win0_9.index t (2 : Fin 3) = 0) ∧ (cfg0.win 9).flush t = true)
    ∧ ((win0_10.index t (0 : Fin 3) = t.val / 2 ∧ win0_10.index t (1 : Fin 3) = t.val % 2 ∧ win0_10.index t (2 : Fin 3) = 0) ∧ (cfg0.win 10).flush t = true)
    ∧ ((win0_11.index t (0 : Fin 3) = t.val / 2 ∧ win0_11.index t (1 : Fin 3) = 0 ∧ win0_11.index t (2 : Fin 3) = t.val % 2) ∧ (cfg0.win 11).flush t = true) :=
  (by decide +kernel : ∀ t : Fin grid0.N, _)

section
variable (t : Fin cfg0.N)

theorem iblk3_apply (l k : Fin 1024) : (iblk m c 3 t : Vec Ideal S1024x1024 .bf16) (ix2 l k) = argW m c (ix2 l k) := by
  obtain ⟨-, -, -, ⟨h0, h1⟩, -⟩ := index_in t
  have hV : V m c main_v0 = truncf (F := Ideal) .bf16 (argW m c) bitsLt_bf16_f32 := by
    unfold_abbrev_sides
    after_results
  unfold iblk
  rw [View.read_apply]
  show V m c main_v0 _ = _
  rw [hV]
  show argW m c _ = argW m c _
  congr 1
  funext a
  apply Fin.ext
  match a with
  | ⟨0, _⟩ => show win0_3.index t (0 : Fin 2) * 1024 + 1 * l.val = l.val; omega
  | ⟨1, _⟩ => show win0_3.index t (1 : Fin 2) * 1024 + 1 * k.val = k.val; omega

theorem iblk5_apply (k : Fin 1024) : (iblk m c 5 t : Vec Ideal S1x1024 .f32) (ix2 0 k) = argG m c (ix1 k) := by
  obtain ⟨-, -, -, -, -, ⟨h0, h1⟩, -⟩ := index_in t
  have hV : V m c main_v6 = shapeCast S1x1024 (argG m c) shapeCasts_S1024_S1x1024 := by
    unfold_abbrev_sides
    after_results
    rfl
  unfold iblk
  rw [View.read_apply]
  show V m c main_v6 _ = _
  rw [hV]
  refine shapeCast_apply _ shapeCasts_S1024_S1x1024 _ (ix1 k) ?_
  rw [Shape.rowMajor_val_one, Shape.rowMajor_val_two]
  show k.val = (win0_5.index t (0 : Fin 2) * 1 + 1 * 0) * 1024 + (win0_5.index t (1 : Fin 2) * 1024 + 1 * k.val)
  omega

theorem iblk8_apply (e : Fin 16) (k : Fin 1024) : (iblk m c 8 t : Vec Ideal S16x1024 .bf16) (ix2 e k) = argWr m c (ix2 k e) := by
  obtain ⟨-, -, -, -, -, -, -, -, ⟨h0, h1⟩⟩ := index_in t
  have hV : V m c main_v5 = truncf (F := Ideal) .bf16 (transpose S16x1024 [1, 0] (argWr m c) transposes_S1024x16_S16x1024_1_0) bitsLt_bf16_f32 := by
    unfold_abbrev_sides
    after_results
  unfold iblk
  rw [View.read_apply]
  show V m c main_v5 _ = _
  rw [hV]
  show transpose S16x1024 [1, 0] (argWr m c) transposes_S1024x16_S16x1024_1_0 _ = _
  refine transpose_apply [1, 0] (argWr m c) transposes_S1024x16_S16x1024_1_0 _ (ix2 k e) fun a => ?_
  match a with
  | ⟨0, _⟩ => show e.val = win0_8.index t (0 : Fin 2) * 16 + 1 * e.val; omega
  | ⟨1, _⟩ => show k.val = win0_8.index t (1 : Fin 2) * 1024 + 1 * k.val; omega

section
variable (b : Fin 16) (hb : b.val = t.val / 2)
include hb

/-- A batch's row of a table that the host lays out as one row per batch. -/
theorem table_apply (T : Vec Ideal S16x1024 .f32) (k : Fin 1024) (f : Fin 3 → Nat) (h0 : f 0 = t.val / 2) (h1 : f 1 = 0) (h2 : f 2 = 0) (i : S16x1x1024.Idx)
    (hi0 : (i 0).val = f 0 * 1 + 1 * 0) (hi1 : (i 1).val = f 1 * 1 + 1 * 0) (hi2 : (i 2).val = f 2 * 1024 + 1 * k.val) :
    shapeCast S16x1x1024 T shapeCasts_S16x1024_S16x1x1024 i = T (ix2 b k) := by
  refine shapeCast_apply _ shapeCasts_S16x1024_S16x1x1024 i (ix2 b k) ?_
  rw [Shape.rowMajor_val_two, Shape.rowMajor_val_three]
  show b.val * 1024 + k.val = ((i 0).val * 1 + (i 1).val) * 1024 + (i 2).val
  omega

theorem iblk4_apply (k : Fin 1024) : (iblk m c 4 t : Vec Ideal S1x1x1024 .f32) (ix3 0 0 k) = argGa m c (ix2 b k) := by
  obtain ⟨-, -, -, -, ⟨h0, h1, h2⟩, -⟩ := index_in t
  have hV : V m c main_v1 = shapeCast S16x1x1024 (argGa m c) shapeCasts_S16x1024_S16x1x1024 := by
    unfold_abbrev_sides
    after_results
    rfl
  unfold iblk
  rw [View.read_apply]
  show V m c main_v1 _ = _
  rw [hV]
  exact table_apply t b hb (argGa m c) k (win0_4.index t) h0 h1 h2 _ rfl rfl rfl

theorem iblk6_apply (k : Fin 1024) : (iblk m c 6 t : Vec Ideal S1x1x1024 .f32) (ix3 0 0 k) = argSh m c (ix2 b k) := by
  obtain ⟨-, -, -, -, -, -, ⟨h0, h1, h2⟩, -⟩ := index_in t
  have hV : V m c main_v2 = shapeCast S16x1x1024 (argSh m c) shapeCasts_S16x1024_S16x1x1024 := by
    unfold_abbrev_sides
    after_results
    rfl
  unfold iblk
  rw [View.read_apply]
  show V m c main_v2 _ = _
  rw [hV]
  exact table_apply t b hb (argSh m c) k (win0_6.index t) h0 h1 h2 _ rfl rfl rfl

theorem iblk7_apply (k : Fin 1024) : (iblk m c 7 t : Vec Ideal S1x1x1024 .f32) (ix3 0 0 k) = argSc m c (ix2 b k) := by
  obtain ⟨-, -, -, -, -, -, -, ⟨h0, h1, h2⟩, -⟩ := index_in t
  have hV : V m c main_v3 = shapeCast S16x1x1024 (argSc m c) shapeCasts_S16x1024_S16x1x1024 := by
    unfold_abbrev_sides
    after_results
    rfl
  unfold iblk
  rw [View.read_apply]
  show V m c main_v3 _ = _
  rw [hV]
  exact table_apply t b hb (argSc m c) k (win0_7.index t) h0 h1 h2 _ rfl rfl rfl

variable (n : Fin 2048) (r : Fin 1024) (hn : n.val = t.val % 2 * 1024 + r.val)
include hn

/-- Where a block of rows lies in its array. -/
theorem emb_eq {d : Nat} (C : Fin d) (f : Fin 3 → Nat) (h0 : f 0 = t.val / 2) (h1 : f 1 = t.val % 2) (h2 : f 2 = 0)
    (i : (⟨3, ![16, 2048, d]⟩ : Shape).Idx) (hi0 : (i 0).val = f 0 * 1 + 1 * 0) (hi1 : (i 1).val = f 1 * 1024 + 1 * r.val)
    (hi2 : (i 2).val = f 2 * d + 1 * C.val) : i = ix3 b n C := by
  rw [h2, Nat.zero_mul] at hi2
  funext a
  apply Fin.ext
  match a with
  | ⟨0, _⟩ => show (i 0).val = b.val; omega
  | ⟨1, _⟩ => show (i 1).val = n.val; omega
  | ⟨2, _⟩ => show (i 2).val = C.val; omega

theorem iblk0_apply (k : Fin 1024) : (iblk m c 0 t : Vec Ideal S1x1024x1024 .f32) (ix3 0 r k) = argX m c (ix3 b n k) := by
  obtain ⟨⟨h0, h1, h2⟩, -⟩ := index_in t
  have hV : V m c main_arg0 = argX m c := by
    unfold_abbrev_sides
    after_results
  unfold iblk
  rw [View.read_apply]
  show V m c main_arg0 _ = _
  rw [hV]
  exact congrArg (argX m c) (emb_eq t b hb n r hn k (win0_0.index t) h0 h1 h2 _ rfl rfl rfl)

theorem iblk1_apply (k : Fin 512) : (iblk m c 1 t : Vec Ideal S1x1024x512 .bf16) (ix3 0 r k) = argYa m c (ix3 b n k) := by
  obtain ⟨-, ⟨h0, h1, h2⟩, -⟩ := index_in t
  have hV : V m c main_arg1 = argYa m c := by
    unfold_abbrev_sides
    after_results
  unfold iblk
  rw [View.read_apply]
  show V m c main_arg1 _ = _
  rw [hV]
  exact congrArg (argYa m c) (emb_eq t b hb n r hn k (win0_1.index t) h0 h1 h2 _ rfl rfl rfl)

theorem iblk2_apply (k : Fin 512) : (iblk m c 2 t : Vec Ideal S1x1024x512 .bf16) (ix3 0 r k) = argYb m c (ix3 b n k) := by
  obtain ⟨-, -, ⟨h0, h1, h2⟩, -⟩ := index_in t
  have hV : V m c main_arg2 = argYb m c := by
    unfold_abbrev_sides
    after_results
  unfold iblk
  rw [View.read_apply]
  show V m c main_arg2 _ = _
  rw [hV]
  exact congrArg (argYb m c) (emb_eq t b hb n r hn k (win0_2.index t) h0 h1 h2 _ rfl rfl rfl)

/-- The staged rows' mixed row is the arguments' at the point's batch and row. -/
theorem mixed_eq : mixed (iblk m c 0 t) (iblk m c 1 t) (iblk m c 2 t) (iblk m c 3 t) (iblk m c 4 t) r
    = mixedAt (argX m c) (argYa m c) (argYb m c) (argW m c) (argGa m c) b n := by
  unfold mixed mixedAt
  simp only [iblk0_apply m c t b hb n r hn, iblk1_apply m c t b hb n r hn, iblk2_apply m c t b hb n r hn, iblk3_apply, iblk4_apply m c t b hb]

/-- The staged rows' normed row is the arguments' at the point's batch and row. -/
theorem normed_eq : normed (iblk m c 0 t) (iblk m c 1 t) (iblk m c 2 t) (iblk m c 3 t) (iblk m c 4 t) (iblk m c 5 t) (iblk m c 6 t) (iblk m c 7 t) r
    = normedAt (argX m c) (argYa m c) (argYb m c) (argW m c) (argGa m c) (argG m c) (argSh m c) (argSc m c) b n := by
  unfold normed normedAt
  rw [mixed_eq m c t b hb n r hn]
  simp only [iblk5_apply, iblk6_apply m c t b hb, iblk7_apply m c t b hb]

end

end

/-- The point that computes a row. -/
theorem point (b : Fin 16) (n : Fin 2048) : ∃ (t : Fin cfg0.N) (r : Fin 1024), b.val = t.val / 2 ∧ n.val = t.val % 2 * 1024 + r.val := by
  have hb := b.isLt
  have hn := n.isLt
  refine ⟨⟨2 * b.val + n.val / 1024, by rw [show cfg0.N = 32 from N_0]; omega⟩, ⟨n.val % 1024, Nat.mod_lt _ (by decide)⟩, ?_, ?_⟩
  · show b.val = (2 * b.val + n.val / 1024) / 2
    omega
  · show n.val = (2 * b.val + n.val / 1024) % 2 * 1024 + n.val % 1024
    omega

section
variable (b : Fin 16) (n : Fin 2048)

/-- The mixed rows at an index. -/
theorem result9_apply (k : Fin 1024) : ((dats m 0 c).arrAt 9 cfg0.N : Vec Ideal S16x2048x1024 .f32) (ix3 b n k) = mixedAt (argX m c) (argYa m c) (argYb m c) (argW m c) (argGa m c) b n k := by
  obtain ⟨t, r, hb, hn⟩ := point b n
  obtain ⟨⟨⟨h0, h1, h2⟩, hf⟩, -⟩ := index_out t
  have e := congrFun ((Value.blocks9 m c t hf).trans (Value.flushed9 m c t)) (ix3 0 r k : S1x1024x1024.Idx)
  rw [View.read_apply, emb_eq t b hb n r hn k (win0_9.index t) h0 h1 h2 (((cfg0.win 9).blk t).view.emb (ix3 0 r k : S1x1024x1024.Idx)) rfl rfl rfl] at e
  refine e.trans ((out9_apply _ _ _ _ _ _ _ _ _ r k).trans ?_)
  rw [mixed_eq m c t b hb n r hn]

/-- The normed rows at an index. -/
theorem result10_apply (k : Fin 1024) : ((dats m 0 c).arrAt 10 cfg0.N : Vec Ideal S16x2048x1024 .bf16) (ix3 b n k)
    = normedAt (argX m c) (argYa m c) (argYb m c) (argW m c) (argGa m c) (argG m c) (argSh m c) (argSc m c) b n k := by
  obtain ⟨t, r, hb, hn⟩ := point b n
  obtain ⟨-, ⟨⟨h0, h1, h2⟩, hf⟩, -⟩ := index_out t
  have e := congrFun ((Value.blocks10 m c t hf).trans (Value.flushed10 m c t)) (ix3 0 r k : S1x1024x1024.Idx)
  rw [View.read_apply, emb_eq t b hb n r hn k (win0_10.index t) h0 h1 h2 (((cfg0.win 10).blk t).view.emb (ix3 0 r k : S1x1024x1024.Idx)) rfl rfl rfl] at e
  refine e.trans ((out10_apply _ _ _ _ _ _ _ _ _ r k).trans ?_)
  rw [normed_eq m c t b hb n r hn]

/-- The experts' shares at an index. -/
theorem result11_apply (e : Fin 16) : ((dats m 0 c).arrAt 11 cfg0.N : Vec Ideal S16x16x2048 .f32) (ix3 b e n)
    = affinity (normedAt (argX m c) (argYa m c) (argYb m c) (argW m c) (argGa m c) (argG m c) (argSh m c) (argSc m c) b n) (fun k e => argWr m c (ix2 k e)) e := by
  obtain ⟨t, r, hb, hn⟩ := point b n
  obtain ⟨-, -, ⟨⟨h0, h1, h2⟩, hf⟩⟩ := index_out t
  have E := congrFun ((Value.blocks11 m c t hf).trans (Value.flushed11 m c t)) (ix3 0 e r : S1x16x1024.Idx)
  have hi : ((cfg0.win 11).blk t).view.emb (ix3 0 e r : S1x16x1024.Idx) = (ix3 b e n : S16x16x2048.Idx) := by
    funext a
    apply Fin.ext
    match a with
    | ⟨0, _⟩ => show win0_11.index t (0 : Fin 3) * 1 + 1 * 0 = b.val; omega
    | ⟨1, _⟩ => show win0_11.index t (1 : Fin 3) * 16 + 1 * e.val = e.val; omega
    | ⟨2, _⟩ => show win0_11.index t (2 : Fin 3) * 1024 + 1 * r.val = n.val; omega
  rw [View.read_apply, hi] at E
  refine E.trans ((out11_apply _ _ _ _ _ _ _ _ _ r e).trans ?_)
  rw [normed_eq m c t b hb n r hn]
  simp only [iblk8_apply]

end

/-- Every index of an array of rows is a batch, a row and a column. -/
theorem idx_eq {d0 d1 d2 : Nat} (i : (⟨3, ![d0, d1, d2]⟩ : Shape).Idx) : ∃ (b : Fin d0) (n : Fin d1) (k : Fin d2), i = ix3 b n k :=
  ⟨i 0, i 1, i 2, by funext a; match a with | ⟨0, _⟩ => rfl | ⟨1, _⟩ => rfl | ⟨2, _⟩ => rfl⟩

/-- The output projection's value claim: from equal arguments the two programs end with equal results and unchanged arguments. -/
theorem algebraic : Cert.algebraic_OutProjIdeal_OutProjReferenceIdeal := by
  intro m g m' g' _ hagree
  refine ⟨fun c => (dats m 0 c).arrAt 9 cfg0.N, fun c => (dats m 0 c).arrAt 10 cfg0.N, fun c => (dats m 0 c).arrAt 11 cfg0.N, Value.run_blocks m g, ?_⟩
  refine (θ_run Cert.OutProjReferenceIdeal.defs _ _).mono
    (fun _ h c => ⟨(h c).1.trans ?_, (h c).2.1.trans ?_, (h c).2.2.1.trans ?_, (h c).2.2.2⟩) (Cert.OutProjReferenceIdeal.Value.run m' g')
  · obtain ⟨h0, h1, h2, h3, h4, h5, h6, h7, h8⟩ := hagree c
    refine (Cert.OutProjReferenceIdeal.Read.val_main_v6_eq ..).trans ?_
    rw [h0, h1, h2, h3, h4]
    funext i
    obtain ⟨b, n, k, rfl⟩ := idx_eq (d0 := 16) (d1 := 2048) (d2 := 1024) i
    exact (reference_mixed ..).trans (result9_apply m c b n k).symm
  · obtain ⟨h0, h1, h2, h3, h4, h5, h6, h7, h8⟩ := hagree c
    refine (Cert.OutProjReferenceIdeal.Read.val_main_v40_eq ..).trans ?_
    rw [h0, h1, h2, h3, h4, h5, h6, h7]
    funext i
    obtain ⟨b, n, k, rfl⟩ := idx_eq (d0 := 16) (d1 := 2048) (d2 := 1024) i
    exact (reference_normed ..).trans (result10_apply m c b n k).symm
  · obtain ⟨h0, h1, h2, h3, h4, h5, h6, h7, h8⟩ := hagree c
    refine (Cert.OutProjReferenceIdeal.Read.val_main_v41_eq ..).trans ?_
    rw [h0, h1, h2, h3, h4, h5, h6, h7, h8]
    funext i
    obtain ⟨b, e, n, rfl⟩ := idx_eq (d0 := 16) (d1 := 16) (d2 := 2048) i
    exact (reference_affinity ..).trans (result11_apply m c b n e).symm

end Cert.Proof.OutProj

end
-- ==== Proof.Combine.Blocks.lean ====
/- The final combination: one grid point's result block, read at an index. -/
module

public import proofs.«01_k».proof.Proof.Layer.Norm
public import proofs.«01_k».proof.Proof.Gen.CombineIdeal.Value
public import Idealize.ShloMosaic.Lib.Pipeline.ValueKit
public import Idealize.ShloMosaic.Lib.Pointwise.Sums

@[expose] public section

set_option maxRecDepth 16384

noncomputable section

namespace Cert.Proof.Combine

open Idealize.ShloMosaic Idealize.ShloMosaic.TcCoe Idealize.ShloMosaic.Tactic Idealize.SL.Sem Cert.CombineIdeal Cert.CombineIdeal.Gen Cert.Proof.Layer

/-- One where the number is the slot, zero elsewhere. -/
def hit (p : BitVec 32) (s : Fin 256) : EReal := if p = BitVec.ofNat 32 s.val then 1 else 0

/-- The rows of all experts whose slot is the token's, added. -/
def chosen (p : Fin 16 → BitVec 32) (y : Fin 16 → Fin 256 → Fin 1024 → EReal) (k : Fin 1024) : EReal := ∑ e, ∑ s, hit (p e) s * y e s k

/-- The token's row with the gated sum of its experts' rows. -/
def combined (x g : Fin 1024 → EReal) (p : Fin 16 → BitVec 32) (y : Fin 16 → Fin 256 → Fin 1024 → EReal) (k : Fin 1024) : EReal := x k + g k * chosen p y k

/-- The indicator matrix of one expert's slots. -/
def hits (v : Vec Ideal S1x1024x1 .i32) : FVec Ideal S1024x256 .bf16 :=
  truncf .bf16 (select (cmpi .eq (broadcastTo S1024x256 (shapeCast S1024x1 v shapeCasts_S1x1024x1_S1024x1 : IVec S1024x1 32) broadcasts_S1024x1_S1024x256 : IVec S1024x256 32)
    (iota .tc S1024x256 32 [1] iota_S1024x256_d1_w32))
    (broadcast S1024x256 (Scalar.ofBits .f32 0x3F800000#32)) (broadcast S1024x256 (Scalar.ofBits .f32 0x00000000#32)) : FVec Ideal S1024x256 .f32) bitsLt_bf16_f32

theorem hits_apply (v : Vec Ideal S1x1024x1 .i32) (r : Fin 1024) (s : Fin 256) : hits v (ix2 r s) = hit (v (ix3 0 r 0)) s := by
  pointwise [hits, Ideal.ofBits_one_f32, Ideal.ofBits_zero_f32]
  unfold hit
  by_cases h : v (ix3 0 r 0) = BitVec.ofNat 32 s.val
  · rw [if_pos h, h]
    simp [Scalar.select, IntOp.cmpi]
  · have hb : (v (ix3 0 r 0) == BitVec.ofNat 32 s.val) = false := beq_eq_false_iff_ne.mpr h
    rw [if_neg h]
    simp [Scalar.select, IntOp.cmpi, hb]

/-- The sixteen indicator matrices, in order. -/
def pieces (p : Fin 16 → FVec Ideal S1024x256 .bf16) : List ((s : Shape) × (s.Idx → Ideal .bf16)) :=
  [⟨S1024x256, p 0⟩, ⟨S1024x256, p 1⟩, ⟨S1024x256, p 2⟩, ⟨S1024x256, p 3⟩, ⟨S1024x256, p 4⟩, ⟨S1024x256, p 5⟩, ⟨S1024x256, p 6⟩, ⟨S1024x256, p 7⟩,
    ⟨S1024x256, p 8⟩, ⟨S1024x256, p 9⟩, ⟨S1024x256, p 10⟩, ⟨S1024x256, p 11⟩, ⟨S1024x256, p 12⟩, ⟨S1024x256, p 13⟩, ⟨S1024x256, p 14⟩, ⟨S1024x256, p 15⟩]

/-- The sixteen indicator matrices side by side. -/
def joined (p : Fin 16 → FVec Ideal S1024x256 .bf16) : FVec Ideal S1024x4096 .bf16 :=
  concatenate S1024x4096 1 (pieces p)
    concatenates_S1024x256_S1024x256_S1024x256_S1024x256_S1024x256_S1024x256_S1024x256_S1024x256_S1024x256_S1024x256_S1024x256_S1024x256_S1024x256_S1024x256_S1024x256_S1024x256_S1024x4096_d1

/-- Matrices of 256 columns side by side have 256 columns each. -/
theorem widths (l : List ((s : Shape) × (s.Idx → Ideal .bf16))) (h : ∀ x ∈ l, x.1 = S1024x256) :
    ((l.map (·.1)).map fun s => if h : s.rank = S1024x4096.rank then s.size ((1 : Fin S1024x4096.rank).cast h.symm) else 0).sum = l.length * 256 := by
  induction l with
  | nil => rfl
  | cons x l ih =>
    obtain ⟨s, v⟩ := x
    obtain rfl : s = S1024x256 := h ⟨s, v⟩ (List.mem_cons_self ..)
    rw [List.map_cons, List.map_cons, List.sum_cons, ih fun y hy => h y (List.mem_cons_of_mem _ hy), List.length_cons, Nat.add_mul, Nat.add_comm]
    rfl

theorem pieces_shape (p : Fin 16 → FVec Ideal S1024x256 .bf16) : ∀ x ∈ pieces p, x.1 = S1024x256 := by
  intro x hx
  simp only [pieces, List.mem_cons, List.not_mem_nil, or_false] at hx
  rcases hx with rfl | rfl | rfl | rfl | rfl | rfl | rfl | rfl | rfl | rfl | rfl | rfl | rfl | rfl | rfl | rfl <;> rfl

theorem joined_apply (p : Fin 16 → FVec Ideal S1024x256 .bf16) (r : Fin 1024) (e : Fin 16) (s : Fin 256) (j : Fin 4096) (hj : j.val = e.val * 256 + s.val) :
    joined p (ix2 r j) = p e (ix2 r s) := by
  have hlen : (pieces p).length = 16 := rfl
  have hk : e.val < (pieces p).length := by rw [hlen]; exact e.isLt
  refine concatenate_apply_piece (t := S1024x4096) 1 (pieces p) _ (ix2 r j) e.val hk S1024x256 (p e) ?_ rfl (e.val * 256) ?_ (ix2 r s) ?_ hj.symm
  · fin_cases e <;> rfl
  · rw [widths _ fun x hx => pieces_shape p x (List.mem_of_mem_take hx), List.length_take, hlen, Nat.min_eq_left (Nat.le_of_lt e.isLt)]
  · intro b hb
    match b with
    | ⟨0, _⟩ => rfl
    | ⟨1, _⟩ => exact absurd rfl hb

/-- The token rows with their gated sums, from the joined indicator matrix. -/
def mixBlock (J : FVec Ideal S1024x4096 .bf16) (y : Vec Ideal S16x256x1024 .bf16) (x : Vec Ideal S1x1024x1024 .f32) (g : Vec Ideal S1x1x1024 .f32) : FVec Ideal S1024x1024 .f32 :=
  addf (shapeCast S1024x1024 x shapeCasts_S1x1024x1024_S1024x1024 : FVec Ideal S1024x1024 .f32)
    (mulf (broadcastTo S1024x1024 (shapeCast S1x1024 g shapeCasts_S1x1x1024_S1x1024 : FVec Ideal S1x1024 .f32) broadcasts_S1x1024_S1024x1024)
      (matmul dot_S1024x4096_S4096x1024_S1024x1024_1_0_0_1_n_n none J (shapeCast S4096x1024 y shapeCasts_S16x256x1024_S4096x1024 : FVec Ideal S4096x1024 .bf16)
        (constant S1024x1024 .f32 0x00000000#32)))

/-- The experts' rows, expert after expert. -/
theorem flat_apply (y : Vec Ideal S16x256x1024 .bf16) (e : Fin 16) (s : Fin 256) (k : Fin 1024) (j : Fin 4096) (hj : j.val = e.val * 256 + s.val) :
    (shapeCast S4096x1024 y shapeCasts_S16x256x1024_S4096x1024 : FVec Ideal S4096x1024 .bf16) (ix2 j k) = y (ix3 e s k) := by
  refine shapeCast_apply _ shapeCasts_S16x256x1024_S4096x1024 _ (ix3 e s k) ?_
  rw [Shape.rowMajor_val_three, Shape.rowMajor_val_two]
  show (e.val * 256 + s.val) * 1024 + k.val = j.val * 1024 + k.val
  rw [hj]

theorem gated_apply (M : FVec Ideal S1024x1024 .f32) (x : Vec Ideal S1x1024x1024 .f32) (g : Vec Ideal S1x1x1024 .f32) (r k : Fin 1024) :
    addf (shapeCast S1024x1024 x shapeCasts_S1x1024x1024_S1024x1024 : FVec Ideal S1024x1024 .f32)
      (mulf (broadcastTo S1024x1024 (shapeCast S1x1024 g shapeCasts_S1x1x1024_S1x1024 : FVec Ideal S1x1024 .f32) broadcasts_S1x1024_S1024x1024) M) (ix2 r k)
      = x (ix3 0 r k) + g (ix3 0 0 k) * M (ix2 r k) := by
  pointwise []

theorem mixBlock_apply (p : Fin 16 → FVec Ideal S1024x256 .bf16) (y : Vec Ideal S16x256x1024 .bf16) (x : Vec Ideal S1x1024x1024 .f32) (g : Vec Ideal S1x1x1024 .f32) (r k : Fin 1024) :
    mixBlock (joined p) y x g (ix2 r k) = x (ix3 0 r k) + g (ix3 0 0 k) * ∑ e, ∑ s, p e (ix2 r s) * y (ix3 e s k) := by
  have hm : ∀ (J : FVec Ideal S1024x4096 .bf16) (f : FVec Ideal S4096x1024 .bf16),
      matmul dot_S1024x4096_S4096x1024_S1024x1024_1_0_0_1_n_n none J f (constant S1024x1024 .f32 0x00000000#32) (ix2 r k) = ∑ j, J (ix2 r j) * f (ix2 j k) := by
    intro J f
    pointwise [zero_add]
  have hs : (∑ j : Fin 4096, joined p (ix2 r j) * (shapeCast S4096x1024 y shapeCasts_S16x256x1024_S4096x1024 : FVec Ideal S4096x1024 .bf16) (ix2 j k))
      = ∑ e, ∑ s, p e (ix2 r s) * y (ix3 e s k) := by
    rw [Fin.sum_univ_tiles 16 256 rfl]
    exact Finset.sum_congr rfl fun e _ => Finset.sum_congr rfl fun s _ => congrArg₂ (· * ·) (joined_apply p r e s _ rfl) (flat_apply y e s k _ rfl)
  rw [← hs, ← hm]
  exact gated_apply _ x g r k

/-- The rows' mean squares. -/
def meanBlock (z : FVec Ideal S1024x1024 .f32) : FVec Ideal S1024x1 .f32 :=
  divf (shapeCast S1024x1 (multiReduction .add [1] S1024 (mulf z z) 0x00000000#32 reduces_S1024x1024_S1024 (.inl rfl) rfl : FVec Ideal S1024 .f32) shapeCasts_S1024_S1024x1 : FVec Ideal S1024x1 .f32)
    (broadcast S1024x1 (Scalar.ofBits .f32 0x44800000#32))

theorem norm_apply (z : FVec Ideal S1024x1024 .f32) (g : Vec Ideal S1x1024 .f32) (r k : Fin 1024) :
    k0_pay1 z (meanBlock z) (Scalar.ofBits .f32 0x358637BD#32) g (ix3 0 r k) = normRow (fun k => z (ix2 r k)) (fun k => g (ix2 0 k)) k := by
  pointwise [k0_pay1, meanBlock, zero_add]
  rfl

section
variable (x0 : Vec Ideal S1x1024x128 .i32) (x1 : Vec Ideal S16x256x1024 .bf16) (x2 : Vec Ideal S1x1024x1024 .f32) (x3 : Vec Ideal S1x1x1024 .f32) (x4 : Vec Ideal S1x1024 .f32)

/-- Expert `e`'s lane of the slot table. -/
def lane (e : Fin 16) : Fin 128 := ⟨e.val, by omega⟩

/-- A column of the slot table read out of its block. -/
theorem ld_column (o : Nat) (inb : ∀ a : Fin S1x1024x128.rank, (![0, 0, o] : Fin 3 → Nat) a + (![1, 1024, 1] : Fin 3 → Nat) a ≤ S1x1024x128.size a) (r : Fin 1024)
    (l : Fin 128) (hl : l.val = o) : View.ld x0 (Rect.unit ![0, 0, o] ![1, 1024, 1] inb) (ix3 0 r 0) = x0 (ix3 0 r l) := by
  refine View.ld_unit_apply_of x0 _ _ inb _ _ ?_
  intro a
  match a with
  | ⟨0, _⟩ => rfl
  | ⟨1, _⟩ => exact (Nat.zero_add _).symm
  | ⟨2, _⟩ => exact hl

/-- The sixteen experts' indicator matrices. -/
def experts : Fin 16 → FVec Ideal S1024x256 .bf16 :=
  ![hits (View.ld x0 r0_0), hits (View.ld x0 r0_1), hits (View.ld x0 r0_2), hits (View.ld x0 r0_3), hits (View.ld x0 r0_4), hits (View.ld x0 r0_5),
    hits (View.ld x0 r0_6), hits (View.ld x0 r0_7), hits (View.ld x0 r0_8), hits (View.ld x0 r0_9), hits (View.ld x0 r0_10), hits (View.ld x0 r0_11),
    hits (View.ld x0 r0_12), hits (View.ld x0 r0_13), hits (View.ld x0 r0_14), hits (View.ld x0 r0_15)]

theorem experts_apply (e : Fin 16) (r : Fin 1024) (s : Fin 256) : experts x0 e (ix2 r s) = hit (x0 (ix3 0 r (lane e))) s := by
  fin_cases e <;> exact (hits_apply _ r s).trans (congrArg (hit · s) (ld_column x0 _ _ r _ rfl))

/-- The result block's mixed row `r`. -/
def mixed (r : Fin 1024) : Fin 1024 → EReal :=
  combined (fun k => x2 (ix3 0 r k)) (fun k => x3 (ix3 0 0 k)) (fun e => x0 (ix3 0 r (lane e))) (fun e s k => x1 (ix3 e s k))

/-- The result block. -/
theorem out5_apply (r k : Fin 1024) : out0_5 x0 x1 x2 x3 x4 (ix3 0 r k) = normRow (mixed x0 x1 x2 x3 r) (fun k => x4 (ix2 0 k)) k := by
  have h : out0_5 x0 x1 x2 x3 x4 = View.canon [⟨r0_17, k0_pay1 (mixBlock (joined (experts x0)) (View.ld x1 r0_16) (View.ld x2 r0_17) (View.ld x3 r0_18))
      (meanBlock (mixBlock (joined (experts x0)) (View.ld x1 r0_16) (View.ld x2 r0_17) (View.ld x3 r0_18))) (Scalar.ofBits .f32 0x358637BD#32) (View.ld x4 r0_19)⟩] := rfl
  rw [h, View.canon_unit_zero (S := S1x1024x1024) zero3]
  simp only [View.ld_unit_zero (S := S1x1024x1024) zero3, View.ld_unit_zero (S := S16x256x1024) zero3, View.ld_unit_zero (S := S1x1x1024) zero3,
    View.ld_unit_zero (S := S1x1024) zero2]
  rw [norm_apply]
  simp only [mixBlock_apply, experts_apply]
  rfl

end

end Cert.Proof.Combine

end
-- ==== Proof.Combine.Reference.lean ====
/- The final combination: the reference's result, read at an index. -/
module

public import proofs.«01_k».proof.Proof.Combine.Blocks
public import proofs.«01_k».proof.Proof.Gen.CombineReferenceIdeal.Read

@[expose] public section

set_option maxRecDepth 16384

noncomputable section

namespace Cert.Proof.Combine

open Idealize.ShloMosaic Idealize.ShloMosaic.TcCoe Idealize.ShloMosaic.Tactic Idealize.SL.Sem Cert.CombineReferenceIdeal Cert.CombineReferenceIdeal.Read Cert.Proof.Layer

variable (P : Vec Ideal S16x2048x128 .i32) (Y : Vec Ideal S16x4096x1024 .bf16) (X : Vec Ideal S16x2048x1024 .f32) (Ga : Vec Ideal S16x1024 .f32)
  (G : Vec Ideal S1024 .f32) (b : Fin 16) (n : Fin 2048)

/-- Row `s` of batch `b` among an expert's rows. -/
def rowOf (b : Fin 16) (s : Fin 256) : Fin 4096 := ⟨b.val * 256 + s.val, by omega⟩

/-- Token `n`'s row with its experts' rows. -/
def mixedAt : Fin 1024 → EReal :=
  combined (fun k => X (ix3 b n k)) (fun k => Ga (ix2 b k)) (fun e => P (ix3 b n (lane e))) (fun e s k => Y (ix3 e (rowOf b s) k))

theorem reference_hit (e : Fin 16) (s : Fin 256) : val_main_v11 (F := Ideal) P (ix4 b e n s) = hit (P (ix3 b n (lane e))) s := by
  have hi : idx_main_v0 (idx_main_v1 (idx_main_v5 (idx_main_v8 (ix4 b e n s)))) = ix3 b n (lane e) := by
    funext a; match a with | ⟨0, _⟩ => rfl | ⟨1, _⟩ => rfl | ⟨2, _⟩ => rfl
  rw [val_main_v11_apply, val_main_v10_apply, val_main_v8_apply, val_main_v5_apply, val_main_v1_apply, val_main_v0_apply, hi, val_main_v9_apply,
    val_main_v7_apply, val_main_v6_apply]
  show FloatOps.uitofp (F := Ideal) .f32 (IntOp.cmpi .eq (P (ix3 b n (lane e))) (BitVec.ofNat 32 s.val)) = _
  unfold hit
  by_cases h : P (ix3 b n (lane e)) = BitVec.ofNat 32 s.val
  · rw [if_pos h, h]
    simp only [IntOp.cmpi, beq_self_eq_true]
    show (((1 : Nat) : ℝ) : EReal) = 1
    simp
  · have hb : (P (ix3 b n (lane e)) == BitVec.ofNat 32 s.val) = false := beq_eq_false_iff_ne.mpr h
    rw [if_neg h]
    simp only [IntOp.cmpi, hb]
    show (((0 : Nat) : ℝ) : EReal) = 0
    simp

theorem reference_row (e : Fin 16) (s : Fin 256) (k : Fin 1024) : val_main_v4 (F := Ideal) Y (ix4 b e s k) = Y (ix3 e (rowOf b s) k) := by
  rw [val_main_v4_apply, val_main_v3_apply, val_main_v2_apply]
  refine congrArg Y ?_
  funext a
  apply Fin.ext
  have hb := b.isLt
  have hs := s.isLt
  have he := e.isLt
  have hk := k.isLt
  match a with
  | ⟨0, _⟩ => show (((e.val * 16 + b.val) * 256 + s.val) * 1024 + k.val) / 4194304 = e.val; omega
  | ⟨1, _⟩ => show (((e.val * 16 + b.val) * 256 + s.val) * 1024 + k.val) / 1024 % 4096 = b.val * 256 + s.val; omega
  | ⟨2, _⟩ => show (((e.val * 16 + b.val) * 256 + s.val) * 1024 + k.val) % 1024 = k.val; omega

theorem product_apply (L : FVec Ideal S16x16x2048x256 .f32) (R : FVec Ideal S16x16x256x1024 .f32) (k : Fin 1024) :
    Host.dotGeneral dot_S16x16x2048x256_S16x16x256x1024_S16x2048x1024_31_21_2_3_0_0 none L R (ix3 b n k)
      = ∑ s, ∑ e, L (ix4 b e n s) * R (ix4 b e s k) := by
  pointwise []

theorem reference_chosen (k : Fin 1024) : val_main_v12 (F := Ideal) P Y (ix3 b n k)
    = chosen (fun e => P (ix3 b n (lane e))) (fun e s k => Y (ix3 e (rowOf b s) k)) k := by
  unfold val_main_v12 chosen
  rw [product_apply, Finset.sum_comm]
  exact Finset.sum_congr rfl fun e _ => Finset.sum_congr rfl fun s _ => congrArg₂ (· * ·) (reference_hit P b n e s) (reference_row Y b e s k)

theorem reference_mixed (k : Fin 1024) : val_main_v16 (F := Ideal) P Y X Ga (ix3 b n k) = mixedAt P Y X Ga b n k := by
  have hg : idx_main_v13 (idx_main_v14 (ix3 b n k)) = ix2 b k := by
    funext a; match a with | ⟨0, _⟩ => rfl | ⟨1, _⟩ => rfl
  rw [val_main_v16_apply, val_main_v15_apply, val_main_v14_apply, val_main_v13_apply, hg, reference_chosen]
  rfl

/-- The result row. -/
theorem reference_apply (k : Fin 1024) : val_main_v29 (F := Ideal) P Y X Ga G (ix3 b n k) = normRow (mixedAt P Y X Ga b n) (fun k => G (ix1 k)) k := by
  have hg : idx_main_v27 (idx_main_v28 (ix3 b n k)) = ix1 k := by
    funext a; match a with | ⟨0, _⟩ => rfl
  have hq (q : Fin 1024) : idx_main_v18 (idx_main_v19 (idx_main_v25 (ix3 b n k))) q = ix3 b n q := by
    funext a; match a with | ⟨0, _⟩ => rfl | ⟨1, _⟩ => rfl | ⟨2, _⟩ => rfl
  rw [val_main_v29_apply, val_main_v28_apply, val_main_v27_apply, hg, val_main_v26_apply, val_main_v25_apply, val_main_v24_apply, val_main_v23_apply,
    val_main_v22_apply, val_main_cst_1_apply, val_main_v21_apply, val_main_v20_apply, val_main_cst_0_apply, val_main_v19_apply, val_main_v18_apply,
    val_main_cst_apply]
  simp only [hq, val_main_v17_apply, reference_mixed, Ideal.ofBits_def, Ideal.ofBits_zero_f32]
  unfold normRow rootMean
  rw [← zero_add (∑ q : Fin 1024, mixedAt P Y X Ga b n q * mixedAt P Y X Ga b n q)]
  rfl

end Cert.Proof.Combine

end
-- ==== Proof.Combine.Value.lean ====
/- The final combination: the blocks each grid point stages as parts of the arguments, the result array at an index, and its equality
   with the reference's. -/
module

public import proofs.«01_k».proof.Proof.Combine.Reference
public import proofs.«01_k».proof.Defs
public import proofs.«01_k».proof.Proof.Gen.CombineReferenceIdeal.Run

@[expose] public section

set_option maxRecDepth 16384

noncomputable section

namespace Cert.Proof.Combine

open Idealize.ShloMosaic Idealize.ShloMosaic.TcCoe Idealize.ShloMosaic.Tactic Idealize.SL.Sem Cert.CombineIdeal Cert.CombineIdeal.Gen Cert.Proof.Layer

variable (m : (ℓ : Loc nD τ sig) → Buf (Elt Ideal) ℓ) (c : Dev nD)

/-- The slot table. -/
abbrev argP : Vec Ideal S16x2048x128 .i32 := m ((c : Thread nD τ).loc main_arg0)
/-- The experts' rows. -/
abbrev argY : Vec Ideal S16x4096x1024 .bf16 := m ((c : Thread nD τ).loc main_arg1)
/-- The rows. -/
abbrev argX : Vec Ideal S16x2048x1024 .f32 := m ((c : Thread nD τ).loc main_arg2)
/-- The gates. -/
abbrev argGa : Vec Ideal S16x1024 .f32 := m ((c : Thread nD τ).loc main_arg3)
/-- The gain. -/
abbrev argG : Vec Ideal S1024 .f32 := m ((c : Thread nD τ).loc main_arg4)

/-- The windows' block indices at a point: batch and row block read off the point's number. -/
theorem index_facts : ∀ t : Fin cfg0.N,
    (win0_0.index t (0 : Fin 3) = t.val / 2 ∧ win0_0.index t (1 : Fin 3) = t.val % 2 ∧ win0_0.index t (2 : Fin 3) = 0) ∧ (win0_1.index t (0 : Fin 3) = 0 ∧ win0_1.index t (1 : Fin 3) = t.val / 2 ∧ win0_1.index t (2 : Fin 3) = 0)
    ∧ (win0_2.index t (0 : Fin 3) = t.val / 2 ∧ win0_2.index t (1 : Fin 3) = t.val % 2 ∧ win0_2.index t (2 : Fin 3) = 0) ∧ (win0_3.index t (0 : Fin 3) = t.val / 2 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 3) = t.val / 2 ∧ win0_5.index t (1 : Fin 3) = t.val % 2 ∧ win0_5.index t (2 : Fin 3) = 0) ∧ (cfg0.win 5).flush t = true :=
  (by decide +kernel : ∀ t : Fin grid0.N, _)

section
variable (t : Fin cfg0.N)

theorem iblk4_apply (k : Fin 1024) : (iblk m c 4 t : Vec Ideal S1x1024 .f32) (ix2 0 k) = argG m c (ix1 k) := by
  obtain ⟨-, -, -, -, ⟨h0, h1⟩, -⟩ := index_facts t
  have hV : V m c main_v1 = shapeCast S1x1024 (argG m c) shapeCasts_S1024_S1x1024 := by
    unfold_abbrev_sides
    after_results
    rfl
  unfold iblk
  rw [View.read_apply]
  show V m c main_v1 _ = _
  rw [hV]
  refine shapeCast_apply _ shapeCasts_S1024_S1x1024 _ (ix1 k) ?_
  rw [Shape.rowMajor_val_one, Shape.rowMajor_val_two]
  show k.val = (win0_4.index t (0 : Fin 2) * 1 + 1 * 0) * 1024 + (win0_4.index t (1 : Fin 2) * 1024 + 1 * k.val)
  omega

section
variable (b : Fin 16) (hb : b.val = t.val / 2)
include hb

theorem iblk3_apply (k : Fin 1024) : (iblk m c 3 t : Vec Ideal S1x1x1024 .f32) (ix3 0 0 k) = argGa m c (ix2 b k) := by
  obtain ⟨-, -, -, ⟨h0, h1, h2⟩, -⟩ := index_facts t
  have hV : V m c main_v0 = shapeCast S16x1x1024 (argGa m c) shapeCasts_S16x1024_S16x1x1024 := by
    unfold_abbrev_sides
    after_results
    rfl
  unfold iblk
  rw [View.read_apply]
  show V m c main_v0 _ = _
  rw [hV]
  refine shapeCast_apply _ shapeCasts_S16x1024_S16x1x1024 _ (ix2 b k) ?_
  rw [Shape.rowMajor_val_two, Shape.rowMajor_val_three]
  show b.val * 1024 + k.val = ((win0_3.index t (0 : Fin 3) * 1 + 1 * 0) * 1 + (win0_3.index t (1 : Fin 3) * 1 + 1 * 0)) * 1024 + (win0_3.index t (2 : Fin 3) * 1024 + 1 * k.val)
  omega

theorem iblk1_apply (e : Fin 16) (s : Fin 256) (k : Fin 1024) : (iblk m c 1 t : Vec Ideal S16x256x1024 .bf16) (ix3 e s k) = argY m c (ix3 e (rowOf b s) k) := by
  obtain ⟨-, ⟨h0, h1, h2⟩, -⟩ := index_facts t
  have hV : V m c main_arg1 = argY m c := by
    unfold_abbrev_sides
    after_results
  unfold iblk
  rw [View.read_apply]
  show V m c main_arg1 _ = _
  rw [hV]
  refine congrArg (argY m c) ?_
  funext a
  apply Fin.ext
  match a with
  | ⟨0, _⟩ => show win0_1.index t (0 : Fin 3) * 16 + 1 * e.val = e.val; omega
  | ⟨1, _⟩ => show win0_1.index t (1 : Fin 3) * 256 + 1 * s.val = b.val * 256 + s.val; omega
  | ⟨2, _⟩ => show win0_1.index t (2 : Fin 3) * 1024 + 1 * k.val = k.val; omega

variable (n : Fin 2048) (r : Fin 1024) (hn : n.val = t.val % 2 * 1024 + r.val)
include hn

/-- Where a block of rows lies in its array. -/
theorem emb_eq {d : Nat} (C : Fin d) (f : Fin 3 → Nat) (h0 : f 0 = t.val / 2) (h1 : f 1 = t.val % 2) (h2 : f 2 = 0)
    (i : (⟨3, ![16, 2048, d]⟩ : Shape).Idx) (hi0 : (i 0).val = f 0 * 1 + 1 * 0) (hi1 : (i 1).val = f 1 * 1024 + 1 * r.val)
    (hi2 : (i 2).val = f 2 * d + 1 * C.val) : i = ix3 b n C := by
  rw [h2, Nat.zero_mul] at hi2
  funext a
  apply Fin.ext
  match a with
  | ⟨0, _⟩ => show (i 0).val = b.val; omega
  | ⟨1, _⟩ => show (i 1).val = n.val; omega
  | ⟨2, _⟩ => show (i 2).val = C.val; omega

theorem iblk0_apply (k : Fin 128) : (iblk m c 0 t : Vec Ideal S1x1024x128 .i32) (ix3 0 r k) = argP m c (ix3 b n k) := by
  obtain ⟨⟨h0, h1, h2⟩, -⟩ := index_facts t
  have hV : V m c main_arg0 = argP m c := by
    unfold_abbrev_sides
    after_results
  unfold iblk
  rw [View.read_apply]
  show V m c main_arg0 _ = _
  rw [hV]
  exact congrArg (argP m c) (emb_eq t b hb n r hn k (win0_0.index t) h0 h1 h2 _ rfl rfl rfl)

theorem iblk2_apply (k : Fin 1024) : (iblk m c 2 t : Vec Ideal S1x1024x1024 .f32) (ix3 0 r k) = argX m c (ix3 b n k) := by
  obtain ⟨-, -, ⟨h0, h1, h2⟩, -⟩ := index_facts t
  have hV : V m c main_arg2 = argX m c := by
    unfold_abbrev_sides
    after_results
  unfold iblk
  rw [View.read_apply]
  show V m c main_arg2 _ = _
  rw [hV]
  exact congrArg (argX m c) (emb_eq t b hb n r hn k (win0_2.index t) h0 h1 h2 _ rfl rfl rfl)

/-- The staged rows' mixed row is the arguments' at the point's batch and row. -/
theorem mixed_eq : mixed (iblk m c 0 t) (iblk m c 1 t) (iblk m c 2 t) (iblk m c 3 t) r = mixedAt (argP m c) (argY m c) (argX m c) (argGa m c) b n := by
  unfold mixed mixedAt
  simp only [iblk0_apply m c t b hb n r hn, iblk1_apply m c t b hb, iblk2_apply m c t b hb n r hn, iblk3_apply m c t b hb]

end

end

/-- The point that computes a row. -/
theorem point (b : Fin 16) (n : Fin 2048) : ∃ (t : Fin cfg0.N) (r : Fin 1024), b.val = t.val / 2 ∧ n.val = t.val % 2 * 1024 + r.val := by
  have hb := b.isLt
  have hn := n.isLt
  refine ⟨⟨2 * b.val + n.val / 1024, by rw [show cfg0.N = 32 from N_0]; omega⟩, ⟨n.val % 1024, Nat.mod_lt _ (by decide)⟩, ?_, ?_⟩
  · show b.val = (2 * b.val + n.val / 1024) / 2
    omega
  · show n.val = (2 * b.val + n.val / 1024) % 2 * 1024 + n.val % 1024
    omega

/-- The result at an index. -/
theorem result_apply (b : Fin 16) (n : Fin 2048) (k : Fin 1024) : ((dats m 0 c).arrAt 5 cfg0.N : Vec Ideal S16x2048x1024 .f32) (ix3 b n k)
    = normRow (mixedAt (argP m c) (argY m c) (argX m c) (argGa m c) b n) (fun k => argG m c (ix1 k)) k := by
  obtain ⟨t, r, hb, hn⟩ := point b n
  obtain ⟨-, -, -, -, -, ⟨h0, h1, h2⟩, hf⟩ := index_facts t
  have e := congrFun ((Value.blocks5 m c t hf).trans (Value.flushed5 m c t)) (ix3 0 r k : S1x1024x1024.Idx)
  rw [View.read_apply, emb_eq t b hb n r hn k (win0_5.index t) h0 h1 h2 (((cfg0.win 5).blk t).view.emb (ix3 0 r k : S1x1024x1024.Idx)) rfl rfl rfl] at e
  refine e.trans ((out5_apply _ _ _ _ _ r k).trans ?_)
  rw [mixed_eq m c t b hb n r hn]
  simp only [iblk4_apply]

/-- Every index of an array of rows is a batch, a row and a column. -/
theorem idx_eq {d0 d1 d2 : Nat} (i : (⟨3, ![d0, d1, d2]⟩ : Shape).Idx) : ∃ (b : Fin d0) (n : Fin d1) (k : Fin d2), i = ix3 b n k :=
  ⟨i 0, i 1, i 2, by funext a; match a with | ⟨0, _⟩ => rfl | ⟨1, _⟩ => rfl | ⟨2, _⟩ => rfl⟩

/-- The final combination's value claim: from equal arguments the two programs end with equal results and unchanged arguments. -/
theorem algebraic : Cert.algebraic_CombineIdeal_CombineReferenceIdeal := by
  intro m g m' g' _ hagree
  refine ⟨fun c => (dats m 0 c).arrAt 5 cfg0.N, Value.run_blocks m g, ?_⟩
  refine (θ_run Cert.CombineReferenceIdeal.defs _ _).mono (fun _ h c => ⟨(h c).1.trans ?_, (h c).2⟩) (Cert.CombineReferenceIdeal.Value.run m' g')
  obtain ⟨h0, h1, h2, h3, h4⟩ := hagree c
  refine (Cert.CombineReferenceIdeal.Read.val_main_v29_eq ..).trans ?_
  rw [h0, h1, h2, h3, h4]
  funext i
  obtain ⟨b, n, k, rfl⟩ := idx_eq (d0 := 16) (d1 := 2048) (d2 := 1024) i
  exact (reference_apply ..).trans (result_apply m c b n k).symm

end Cert.Proof.Combine

end
-- ==== Proof.AttnProj.Blocks.lean ====
/- The attention's input projection: one grid point's result block, read at an index. -/
module

public import proofs.«01_k».proof.Proof.Layer.Norm
public import proofs.«01_k».proof.Proof.Gen.AttnProjIdeal.Value
public import Idealize.ShloMosaic.Lib.Pipeline.ValueKit

@[expose] public section

set_option maxRecDepth 16384

noncomputable section

namespace Cert.Proof.AttnProj

open Idealize.ShloMosaic Idealize.ShloMosaic.TcCoe Idealize.ShloMosaic.Tactic Idealize.SL.Sem Cert.AttnProjIdeal Cert.AttnProjIdeal.Gen Cert.Proof.Layer

/-- A row times one column of the projection. -/
def proj (h : Fin 1024 → EReal) (w : Fin 1024 → Fin 3072 → EReal) (j : Fin 3072) : EReal := ∑ k, h k * w k j

/-- Column `C` of the projection's group of 512 that starts at `o`. -/
def part (o : Nat) (ho : o + 512 ≤ 3072) (C : Fin 512) : Fin 3072 := ⟨o + C.val, by omega⟩

/-- Entry `n` of a group's slice of 128 columns that starts at `s`. -/
def at_ (s n : Nat) (h : s + n < 512) : Fin 512 := ⟨s + n, h⟩

/-- The factor on the queries: the inverse root of the head width and the change of base of the exponential, as one number. -/
def qScale : EReal := Ideal.ofBits .f32 0x3E38AA3B#32

/-- A column's lane in the tables of the angles, which repeat every 128 columns. -/
def lane (C : Fin 3072) : Fin 128 := ⟨C.val % 128, Nat.mod_lt _ (by decide)⟩

/-- The other half of a column's pair of coordinates: 16 columns on in the first half of each 32, 16 back in the second. -/
def partner (C : Fin 3072) : Fin 3072 := ⟨if C.val % 32 < 16 then (C.val + 16) % 3072 else C.val - 16, by split <;> omega⟩

/-- A column turned by its angle, whose sine carries the sign of the column's half. -/
def turned (z : Fin 3072 → EReal) (c s : Fin 128 → EReal) (C : Fin 3072) : EReal := z C * c (lane C) + z (partner C) * s (lane C)

/-- Column `C` of the result: the six groups of 512 are the plain queries, the turned queries (both scaled), the plain keys, the turned
    keys and the two groups of values. -/
def result (z : Fin 3072 → EReal) (c s : Fin 128 → EReal) (C : Fin 3072) : EReal :=
  if C.val < 512 then z C * qScale else if C.val < 1024 then turned z c s C * qScale else if C.val < 1536 then z C
    else if C.val < 2048 then turned z c s C else z C

theorem result_query (z : Fin 3072 → EReal) (c s : Fin 128 → EReal) (C : Fin 3072) (h : C.val < 512) : result z c s C = z C * qScale := if_pos h

theorem result_turned_query (z : Fin 3072 → EReal) (c s : Fin 128 → EReal) (C : Fin 3072) (h : 512 ≤ C.val ∧ C.val < 1024) :
    result z c s C = turned z c s C * qScale := by
  unfold result
  rw [if_neg (by omega), if_pos h.2]

theorem result_turned_key (z : Fin 3072 → EReal) (c s : Fin 128 → EReal) (C : Fin 3072) (h : 1536 ≤ C.val ∧ C.val < 2048) :
    result z c s C = turned z c s C := by
  unfold result
  rw [if_neg (by omega), if_neg (by omega), if_neg (by omega), if_pos h.2]

theorem result_plain (z : Fin 3072 → EReal) (c s : Fin 128 → EReal) (C : Fin 3072) (h : (1024 ≤ C.val ∧ C.val < 1536) ∨ 2048 ≤ C.val) :
    result z c s C = z C := by
  unfold result
  rw [if_neg (by omega), if_neg (by omega)]
  by_cases h' : C.val < 1536
  · rw [if_pos h']
  · rw [if_neg h', if_neg (by omega)]

/-- The lane mask: whether a lane is in the first half of its 32. -/
theorem mask_eq : ∀ q : Fin 128, IntOp.cmpi .slt (IntOp.andi (BitVec.ofNat 32 q.val) 31#32) 16#32 = if q.val % 32 < 16 then 1#1 else 0#1 := by
  decide

/-- The choice the kernel makes lane by lane. -/
theorem select_mask (q : Fin 128) (a b : EReal) :
    Scalar.select (IntOp.cmpi .slt (IntOp.andi (BitVec.ofNat 32 q.val) 31#32) 16#32) a b = if q.val % 32 < 16 then a else b := by
  rw [mask_eq]
  split <;> rfl

section
variable (x0 : Vec Ideal S1x1024x1024 .f32) (x1 : Vec Ideal S1x1024 .f32) (x2 x3 : Vec Ideal S1x1x1024 .f32) (x4 : Vec Ideal S1024x3072 .bf16)
  (x5 x6 : Vec Ideal S1024x128 .f32)

/-- The normed row `r` of a block. -/
def row (r : Fin 1024) : Fin 1024 → EReal :=
  normMod (fun k => x0 (ix3 0 r k)) (fun k => x1 (ix2 0 k)) (fun k => x2 (ix3 0 0 k)) (fun k => x3 (ix3 0 0 k))

theorem pay4_apply (r k : Fin 1024) : k0_pay4 x0 x1 x2 x3 (ix2 r k) = row x0 x1 x2 x3 r k := by
  pointwise [k0_pay4, zero_add, Ideal.ofBits_one_f32]
  rfl

theorem pay44_apply (r k : Fin 1024) : k0_pay44 x0 x1 x2 x3 x4 x5 x6 (ix2 r k) = row x0 x1 x2 x3 r k := by
  unfold k0_pay44
  simp only [View.ld_unit_zero (S := S1x1024x1024) zero3, View.ld_unit_zero (S := S1x1024) zero2, View.ld_unit_zero (S := S1x1x1024) zero3]
  exact pay4_apply x0 x1 x2 x3 r k

/-- A group of 512 columns read out of the projection's block. -/
theorem ld_part (o : Nat) (ho : o + 512 ≤ 3072)
    (inb : ∀ a : Fin S1024x3072.rank, (![0, o] : Fin 2 → Nat) a + (![1024, 512] : Fin 2 → Nat) a ≤ S1024x3072.size a) (k : Fin 1024) (C : Fin 512) :
    View.ld x4 (Rect.unit ![0, o] ![1024, 512] inb) (ix2 k C) = x4 (ix2 k (part o ho C)) := by
  refine View.ld_unit_apply_of x4 _ _ inb _ _ ?_
  intro a
  match a with
  | ⟨0, _⟩ => exact (Nat.zero_add _).symm
  | ⟨1, _⟩ => rfl

/-- The projection of row `r`, at a column. -/
def rowProj (r : Fin 1024) : Fin 3072 → EReal := proj (row x0 x1 x2 x3 r) fun k j => x4 (ix2 k j)

/-- The result block at row `r`, column `C`. -/
def blockVal (r : Fin 1024) (C : Fin 3072) : EReal :=
  result (rowProj x0 x1 x2 x3 x4 r) (fun l => x5 (ix2 r l)) (fun l => x6 (ix2 r l)) C

/-- A group's product holds the projection's columns of the group. -/
theorem group_apply (o : Nat) (ho : o + 512 ≤ 3072)
    (inb : ∀ a : Fin S1024x3072.rank, (![0, o] : Fin 2 → Nat) a + (![1024, 512] : Fin 2 → Nat) a ≤ S1024x3072.size a)
    (h : FVec Ideal S1024x1024 .bf16) (hh : ∀ r k, h (ix2 r k) = row x0 x1 x2 x3 r k) (Z : FVec Ideal S1024x512 .f32)
    (hZ : ∀ r C, Z (ix2 r C) = ∑ k : Fin 1024, h (ix2 r k) * View.ld x4 (Rect.unit ![0, o] ![1024, 512] inb) (ix2 k C)) (r : Fin 1024) (C : Fin 512) :
    Z (ix2 r C) = rowProj x0 x1 x2 x3 x4 r (part o ho C) := by
  rw [hZ]
  unfold rowProj proj
  exact Finset.sum_congr rfl fun k _ => congrArg₂ (· * ·) (hh r k) (ld_part x4 o ho inb k C)

/-- A store of 128 columns holds `v` wherever it reaches, given that its entries do. -/
theorem tile_of (off : Nat) (W : FVec Ideal S1x1024x128 .bf16) (r : Fin 1024) (C : Fin 3072) (v : EReal)
    (hW : ∀ q : Fin 128, C.val = off + q.val → W (ix3 0 r q) = v) :
    View.TileAt (Val := Elt Ideal) (e := .bf16) (ix3 0 r C : S1x1024x3072.Idx) ![0, 0, off] ![1, 1024, 128] W v := by
  intro x hx
  obtain ⟨p, q, rfl⟩ : ∃ (p : Fin 1024) (q : Fin 128), x = (ix3 (0 : Fin 1) p q : S1x1024x128.Idx) :=
    ⟨x 1, x 2, by
      funext a
      match a with
      | ⟨0, _⟩ => exact Subsingleton.elim (α := Fin 1) _ _
      | ⟨1, _⟩ => rfl
      | ⟨2, _⟩ => rfl⟩
  have hr : r.val = 0 + p.val := hx 1
  have hC : C.val = off + q.val := hx 2
  obtain rfl : r = p := Fin.ext (hr.trans (Nat.zero_add _))
  exact hW q hC

/-- What a turned slice holds at lane `q` of row `r`. -/
def turnedLane (Z : FVec Ideal S1024x512 .f32) (s : Nat) (hs : s + 128 ≤ 512) (r : Fin 1024) (c d : Vec Ideal S1024x128 .f32) (q : Fin 128) : EReal :=
  Z (ix2 r (at_ s q.val (by omega))) * c (ix2 r q)
    + Scalar.select (IntOp.cmpi .slt (IntOp.andi (BitVec.ofNat 32 q.val) 31#32) 16#32)
        (Z (ix2 r (at_ s ((q.val + 128 - 112) % 128) (by omega)))) (Z (ix2 r (at_ s ((q.val + 128 - 16) % 128) (by omega)))) * d (ix2 r q)

section
variable (Z : FVec Ideal S1024x512 .f32) (o : Nat) (ho : o + 512 ≤ 3072)
  (hZ : ∀ (r : Fin 1024) (C : Fin 512), Z (ix2 r C) = rowProj x0 x1 x2 x3 x4 r (part o ho C))
  (s : Nat) (hs : s + 128 ≤ 512) (W : FVec Ideal S1x1024x128 .bf16) (r : Fin 1024) (C : Fin 3072)
include hZ

/-- A slice of the plain keys or of the values. -/
theorem plain_tile (off : Nat) (hoff : off = o + s) (ho' : o = 1024 ∨ 2048 ≤ o)
    (hW : ∀ q : Fin 128, W (ix3 0 r q) = Z (ix2 r (at_ s q.val (by omega)))) :
    View.TileAt (Val := Elt Ideal) (e := .bf16) (ix3 0 r C : S1x1024x3072.Idx) ![0, 0, off] ![1, 1024, 128] W (blockVal x0 x1 x2 x3 x4 x5 x6 r C) := by
  refine tile_of off W r C _ fun q hq => ?_
  subst hoff
  have hC : part o ho (at_ s q.val (by omega)) = C := Fin.ext (by show o + (s + q.val) = C.val; omega)
  rw [hW, hZ, hC]
  exact (result_plain _ _ _ C (by omega)).symm

/-- A slice of the plain queries. -/
theorem query_tile (off : Nat) (hoff : off = o + s) (ho' : o = 0)
    (hW : ∀ q : Fin 128, W (ix3 0 r q) = Z (ix2 r (at_ s q.val (by omega))) * qScale) :
    View.TileAt (Val := Elt Ideal) (e := .bf16) (ix3 0 r C : S1x1024x3072.Idx) ![0, 0, off] ![1, 1024, 128] W (blockVal x0 x1 x2 x3 x4 x5 x6 r C) := by
  refine tile_of off W r C _ fun q hq => ?_
  subst hoff
  have hC : part o ho (at_ s q.val (by omega)) = C := Fin.ext (by show o + (s + q.val) = C.val; omega)
  rw [hW, hZ, hC]
  exact (result_query _ _ _ C (by omega)).symm

/-- A turned slice's lane is the turned column. -/
theorem turnedLane_eq (q : Fin 128) (hq : C.val = o + s + q.val) (hmod : (o + s) % 128 = 0) :
    turnedLane Z s hs r x5 x6 q = turned (rowProj x0 x1 x2 x3 x4 r) (fun l => x5 (ix2 r l)) (fun l => x6 (ix2 r l)) C := by
  unfold turnedLane turned
  have hC : part o ho (at_ s q.val (by omega)) = C := Fin.ext (by show o + (s + q.val) = C.val; omega)
  have hl : lane C = q := Fin.ext (by show C.val % 128 = q.val; have := q.isLt; omega)
  rw [select_mask, hZ, hZ, hZ, hC, hl]
  refine congrArg (fun z : EReal => rowProj x0 x1 x2 x3 x4 r C * x5 (ix2 r q) + z * x6 (ix2 r q)) ?_
  have hmod' : C.val % 32 = q.val % 32 := by omega
  by_cases h : q.val % 32 < 16
  · rw [if_pos h]
    refine congrArg _ (Fin.ext ?_)
    show o + (s + (q.val + 128 - 112) % 128) = if C.val % 32 < 16 then (C.val + 16) % 3072 else C.val - 16
    have := q.isLt
    rw [if_pos (by omega)]
    omega
  · rw [if_neg h]
    refine congrArg _ (Fin.ext ?_)
    show o + (s + (q.val + 128 - 16) % 128) = if C.val % 32 < 16 then (C.val + 16) % 3072 else C.val - 16
    have := q.isLt
    rw [if_neg (by omega)]
    omega

/-- A slice of the turned keys. -/
theorem turned_key_tile (off : Nat) (hoff : off = o + s) (ho' : o = 1536) (hmod : s % 128 = 0)
    (hW : ∀ q : Fin 128, W (ix3 0 r q) = turnedLane Z s hs r x5 x6 q) :
    View.TileAt (Val := Elt Ideal) (e := .bf16) (ix3 0 r C : S1x1024x3072.Idx) ![0, 0, off] ![1, 1024, 128] W (blockVal x0 x1 x2 x3 x4 x5 x6 r C) := by
  refine tile_of off W r C _ fun q hq => ?_
  subst hoff
  rw [hW, turnedLane_eq x0 x1 x2 x3 x4 x5 x6 Z o ho hZ s hs r C q hq (by omega)]
  exact (result_turned_key _ _ _ C (by omega)).symm

/-- A slice of the turned queries. -/
theorem turned_query_tile (off : Nat) (hoff : off = o + s) (ho' : o = 512) (hmod : s % 128 = 0)
    (hW : ∀ q : Fin 128, W (ix3 0 r q) = turnedLane Z s hs r x5 x6 q * qScale) :
    View.TileAt (Val := Elt Ideal) (e := .bf16) (ix3 0 r C : S1x1024x3072.Idx) ![0, 0, off] ![1, 1024, 128] W (blockVal x0 x1 x2 x3 x4 x5 x6 r C) := by
  refine tile_of off W r C _ fun q hq => ?_
  subst hoff
  rw [hW, turnedLane_eq x0 x1 x2 x3 x4 x5 x6 Z o ho hZ s hs r C q hq (by omega)]
  exact (result_turned_query _ _ _ C (by omega)).symm

end

end

/-! What each store holds: one statement per store, in the order of the columns. -/

theorem piece0 (x0 : Vec Ideal S1x1024x1024 .f32) (x1 : Vec Ideal S1x1024 .f32) (x2 x3 : Vec Ideal S1x1x1024 .f32) (w : Vec Ideal S1024x512 .bf16) (r : Fin 1024) (q : Fin 128) : k0_pay7 (k0_pay6 x0 x1 x2 x3 w) (ix3 0 r q) = k0_pay5 x0 x1 x2 x3 w (ix2 r (at_ 0 q.val (by omega))) * qScale := by
  pointwise [k0_pay7, k0_pay6]
  simp only [at_, Nat.zero_add]
  rfl

theorem piece1 (Z : FVec Ideal S1024x512 .f32) (r : Fin 1024) (q : Fin 128) : k0_pay8 Z (ix3 0 r q) = Z (ix2 r (at_ 128 q.val (by omega))) * qScale := by
  pointwise [k0_pay8]
  rfl

theorem piece2 (Z : FVec Ideal S1024x512 .f32) (r : Fin 1024) (q : Fin 128) : k0_pay9 Z (ix3 0 r q) = Z (ix2 r (at_ 256 q.val (by omega))) * qScale := by
  pointwise [k0_pay9]
  rfl

theorem piece3 (Z : FVec Ideal S1024x512 .f32) (r : Fin 1024) (q : Fin 128) : k0_pay10 Z (ix3 0 r q) = Z (ix2 r (at_ 384 q.val (by omega))) * qScale := by
  pointwise [k0_pay10]
  rfl

theorem piece4 (h : FVec Ideal S1024x1024 .bf16) (w : Vec Ideal S1024x512 .bf16) (c d : Vec Ideal S1024x128 .f32) (r : Fin 1024) (q : Fin 128) : k0_pay16 (k0_pay12 h w) (k0_pay13 c) (k0_pay14 d) k0_pay15 (ix3 0 r q) = turnedLane (k0_pay11 h w) 0 (by decide) r c d q * qScale := by
  pointwise [k0_pay16, k0_pay12, k0_pay13, k0_pay14, k0_pay15, turnedLane]
  simp only [at_, Nat.zero_add]
  rfl

theorem piece5 (Z : FVec Ideal S1024x512 .f32) (c d : Vec Ideal S1024x128 .f32) (r : Fin 1024) (q : Fin 128) : k0_pay17 Z c d (ix3 0 r q) = turnedLane (Z) 128 (by decide) r c d q * qScale := by
  pointwise [k0_pay17, turnedLane]
  rfl

theorem piece6 (Z : FVec Ideal S1024x512 .f32) (c d : Vec Ideal S1024x128 .f32) (r : Fin 1024) (q : Fin 128) : k0_pay20 (k0_pay18 Z) (k0_pay19 c) d (ix3 0 r q) = turnedLane (Z) 256 (by decide) r c d q * qScale := by
  pointwise [k0_pay20, k0_pay18, k0_pay19, turnedLane]
  rfl

theorem piece7 (Z : FVec Ideal S1024x512 .f32) (c d : Vec Ideal S1024x128 .f32) (r : Fin 1024) (q : Fin 128) : k0_pay22 (k0_pay21 Z c d) (ix3 0 r q) = turnedLane (Z) 384 (by decide) r c d q * qScale := by
  pointwise [k0_pay22, k0_pay21, turnedLane]
  rfl

theorem piece8 (h : FVec Ideal S1024x1024 .bf16) (w : Vec Ideal S1024x512 .bf16) (r : Fin 1024) (q : Fin 128) : k0_pay24 h w (ix3 0 r q) = k0_pay23 h w (ix2 r (at_ 0 q.val (by omega))) := by
  pointwise [k0_pay24]
  simp only [at_, Nat.zero_add]

theorem piece9 (h : FVec Ideal S1024x1024 .bf16) (w : Vec Ideal S1024x512 .bf16) (r : Fin 1024) (q : Fin 128) : k0_pay25 h w (ix3 0 r q) = k0_pay23 h w (ix2 r (at_ 128 q.val (by omega))) := by
  pointwise [k0_pay25]
  rfl

theorem piece10 (h : FVec Ideal S1024x1024 .bf16) (w : Vec Ideal S1024x512 .bf16) (r : Fin 1024) (q : Fin 128) : k0_pay26 h w (ix3 0 r q) = k0_pay23 h w (ix2 r (at_ 256 q.val (by omega))) := by
  pointwise [k0_pay26]
  rfl

theorem piece11 (h : FVec Ideal S1024x1024 .bf16) (w : Vec Ideal S1024x512 .bf16) (r : Fin 1024) (q : Fin 128) : k0_pay27 h w (ix3 0 r q) = k0_pay23 h w (ix2 r (at_ 384 q.val (by omega))) := by
  pointwise [k0_pay27]
  rfl

theorem piece12 (h : FVec Ideal S1024x1024 .bf16) (w : Vec Ideal S1024x512 .bf16) (c d : Vec Ideal S1024x128 .f32) (r : Fin 1024) (q : Fin 128) : k0_pay31 (k0_pay29 h w) (k0_pay30 c) d (ix3 0 r q) = turnedLane (k0_pay28 h w) 0 (by decide) r c d q := by
  pointwise [k0_pay31, k0_pay29, k0_pay30, turnedLane]
  simp only [at_, Nat.zero_add]

theorem piece13 (Z : FVec Ideal S1024x512 .f32) (c d : Vec Ideal S1024x128 .f32) (r : Fin 1024) (q : Fin 128) : k0_pay32 Z c d (ix3 0 r q) = turnedLane (Z) 128 (by decide) r c d q := by
  pointwise [k0_pay32, turnedLane]
  rfl

theorem piece14 (Z : FVec Ideal S1024x512 .f32) (c d : Vec Ideal S1024x128 .f32) (r : Fin 1024) (q : Fin 128) : k0_pay34 (k0_pay33 Z) c d (ix3 0 r q) = turnedLane (Z) 256 (by decide) r c d q := by
  pointwise [k0_pay34, k0_pay33, turnedLane]
  rfl

theorem piece15 (Z : FVec Ideal S1024x512 .f32) (c d : Vec Ideal S1024x128 .f32) (r : Fin 1024) (q : Fin 128) : k0_pay35 Z c d (ix3 0 r q) = turnedLane (Z) 384 (by decide) r c d q := by
  pointwise [k0_pay35, turnedLane]
  rfl

theorem piece16 (h : FVec Ideal S1024x1024 .bf16) (w : Vec Ideal S1024x512 .bf16) (r : Fin 1024) (q : Fin 128) : k0_pay37 h w (ix3 0 r q) = k0_pay36 h w (ix2 r (at_ 0 q.val (by omega))) := by
  pointwise [k0_pay37]
  simp only [at_, Nat.zero_add]

theorem piece17 (h : FVec Ideal S1024x1024 .bf16) (w : Vec Ideal S1024x512 .bf16) (r : Fin 1024) (q : Fin 128) : k0_pay38 h w (ix3 0 r q) = k0_pay36 h w (ix2 r (at_ 128 q.val (by omega))) := by
  pointwise [k0_pay38]
  rfl

theorem piece18 (h : FVec Ideal S1024x1024 .bf16) (w : Vec Ideal S1024x512 .bf16) (r : Fin 1024) (q : Fin 128) : k0_pay39 h w (ix3 0 r q) = k0_pay36 h w (ix2 r (at_ 256 q.val (by omega))) := by
  pointwise [k0_pay39]
  rfl

theorem piece19 (h : FVec Ideal S1024x1024 .bf16) (w : Vec Ideal S1024x512 .bf16) (r : Fin 1024) (q : Fin 128) : k0_pay40 h w (ix3 0 r q) = k0_pay36 h w (ix2 r (at_ 384 q.val (by omega))) := by
  pointwise [k0_pay40]
  rfl

theorem piece20 (h : FVec Ideal S1024x1024 .bf16) (w : Vec Ideal S1024x512 .bf16) (r : Fin 1024) (q : Fin 128) : k0_pay42 h w (ix3 0 r q) = k0_pay41 h w (ix2 r (at_ 0 q.val (by omega))) := by
  pointwise [k0_pay42]
  simp only [at_, Nat.zero_add]

theorem piece21 (h : FVec Ideal S1024x1024 .bf16) (w : Vec Ideal S1024x512 .bf16) (r : Fin 1024) (q : Fin 128) : k0_pay1 (k0_pay43 h w) (ix3 0 r q) = k0_pay41 h w (ix2 r (at_ 128 q.val (by omega))) := by
  pointwise [k0_pay1, k0_pay43]
  rfl

theorem piece22 (Z : FVec Ideal S1024x512 .f32) (r : Fin 1024) (q : Fin 128) : k0_pay2 Z (ix3 0 r q) = Z (ix2 r (at_ 256 q.val (by omega))) := by
  pointwise [k0_pay2]
  rfl

theorem piece23 (Z : FVec Ideal S1024x512 .f32) (r : Fin 1024) (q : Fin 128) : k0_pay3 Z (ix3 0 r q) = Z (ix2 r (at_ 384 q.val (by omega))) := by
  pointwise [k0_pay3]
  rfl

theorem product11 (h : FVec Ideal S1024x1024 .bf16) (w : Vec Ideal S1024x512 .bf16) (r : Fin 1024) (C : Fin 512) : k0_pay11 h w (ix2 r C) = ∑ k : Fin 1024, h (ix2 r k) * w (ix2 k C) := by
  pointwise [k0_pay11, zero_add]

theorem product23 (h : FVec Ideal S1024x1024 .bf16) (w : Vec Ideal S1024x512 .bf16) (r : Fin 1024) (C : Fin 512) : k0_pay23 h w (ix2 r C) = ∑ k : Fin 1024, h (ix2 r k) * w (ix2 k C) := by
  pointwise [k0_pay23, zero_add]

theorem product28 (h : FVec Ideal S1024x1024 .bf16) (w : Vec Ideal S1024x512 .bf16) (r : Fin 1024) (C : Fin 512) : k0_pay28 h w (ix2 r C) = ∑ k : Fin 1024, h (ix2 r k) * w (ix2 k C) := by
  pointwise [k0_pay28, zero_add]

theorem product36 (h : FVec Ideal S1024x1024 .bf16) (w : Vec Ideal S1024x512 .bf16) (r : Fin 1024) (C : Fin 512) : k0_pay36 h w (ix2 r C) = ∑ k : Fin 1024, h (ix2 r k) * w (ix2 k C) := by
  pointwise [k0_pay36, zero_add]

theorem product41 (h : FVec Ideal S1024x1024 .bf16) (w : Vec Ideal S1024x512 .bf16) (r : Fin 1024) (C : Fin 512) : k0_pay41 h w (ix2 r C) = ∑ k : Fin 1024, h (ix2 r k) * w (ix2 k C) := by
  pointwise [k0_pay41, zero_add]

theorem product5 (x0 : Vec Ideal S1x1024x1024 .f32) (x1 : Vec Ideal S1x1024 .f32) (x2 x3 : Vec Ideal S1x1x1024 .f32) (w : Vec Ideal S1024x512 .bf16) (r : Fin 1024) (C : Fin 512) :
    k0_pay5 x0 x1 x2 x3 w (ix2 r C) = ∑ k : Fin 1024, k0_pay4 x0 x1 x2 x3 (ix2 r k) * w (ix2 k C) := by
  pointwise [k0_pay5, zero_add]

section
variable (x0 : Vec Ideal S1x1024x1024 .f32) (x1 : Vec Ideal S1x1024 .f32) (x2 x3 : Vec Ideal S1x1x1024 .f32) (x4 : Vec Ideal S1024x3072 .bf16)
  (x5 x6 : Vec Ideal S1024x128 .f32)

/-- The result block at an index. -/
theorem out_apply (r : Fin 1024) (C : Fin 3072) : out0_7 x0 x1 x2 x3 x4 x5 x6 (ix3 0 r C) = blockVal x0 x1 x2 x3 x4 x5 x6 r C := by
  unfold out0_7 k0_pay45 k0_pay46 k0_pay47 k0_pay48
  have hh := pay44_apply x0 x1 x2 x3 x4 x5 x6
  revert hh
  generalize k0_pay44 x0 x1 x2 x3 x4 x5 x6 = h
  intro hh
  refine View.canon_eq_of_allAt _ _ _ (cover0_7 _ _ _ _ _ _ _ _ _ _ _ _ _ _ _ _ _ _ _ _ _ _ _ _ _) ?_
  simp only [View.ld_unit_zero (S := S1x1024x1024) zero3, View.ld_unit_zero (S := S1x1024) zero2, View.ld_unit_zero (S := S1x1x1024) zero3,
    View.ld_unit_zero (S := S1024x128) zero2]
  have g0 := group_apply x0 x1 x2 x3 x4 0 (by decide) inb_S1024x3072_S1024x512_0_0 (k0_pay4 x0 x1 x2 x3) (pay4_apply x0 x1 x2 x3) (k0_pay5 x0 x1 x2 x3 (View.ld x4 r0_3)) (product5 x0 x1 x2 x3 _)
  have g1 := group_apply x0 x1 x2 x3 x4 512 (by decide) inb_S1024x3072_S1024x512_0_512 h hh (k0_pay11 h (View.ld x4 r0_8)) (product11 h _)
  have g2 := group_apply x0 x1 x2 x3 x4 1024 (by decide) inb_S1024x3072_S1024x512_0_1024 h hh (k0_pay23 h (View.ld x4 r0_14)) (product23 h _)
  have g3 := group_apply x0 x1 x2 x3 x4 1536 (by decide) inb_S1024x3072_S1024x512_0_1536 h hh (k0_pay28 h (View.ld x4 r0_19)) (product28 h _)
  have g4 := group_apply x0 x1 x2 x3 x4 2048 (by decide) inb_S1024x3072_S1024x512_0_2048 h hh (k0_pay36 h (View.ld x4 r0_24)) (product36 h _)
  have g5 := group_apply x0 x1 x2 x3 x4 2560 (by decide) inb_S1024x3072_S1024x512_0_2560 h hh (k0_pay41 h (View.ld x4 r0_29)) (product41 h _)
  refine View.allAt_cons_unit _ _ _ _ _ (plain_tile x0 x1 x2 x3 x4 x5 x6 _ 2560 (by decide) g5 384 (by decide) _ r C 2944 rfl (by decide) (piece23 _ r)) ?_
  refine View.allAt_cons_unit _ _ _ _ _ (plain_tile x0 x1 x2 x3 x4 x5 x6 _ 2560 (by decide) g5 256 (by decide) _ r C 2816 rfl (by decide) (piece22 _ r)) ?_
  refine View.allAt_cons_unit _ _ _ _ _ (plain_tile x0 x1 x2 x3 x4 x5 x6 _ 2560 (by decide) g5 128 (by decide) _ r C 2688 rfl (by decide) (piece21 h _ r)) ?_
  refine View.allAt_cons_unit _ _ _ _ _ (plain_tile x0 x1 x2 x3 x4 x5 x6 _ 2560 (by decide) g5 0 (by decide) _ r C 2560 rfl (by decide) (piece20 h _ r)) ?_
  refine View.allAt_cons_unit _ _ _ _ _ (plain_tile x0 x1 x2 x3 x4 x5 x6 _ 2048 (by decide) g4 384 (by decide) _ r C 2432 rfl (by decide) (piece19 h _ r)) ?_
  refine View.allAt_cons_unit _ _ _ _ _ (plain_tile x0 x1 x2 x3 x4 x5 x6 _ 2048 (by decide) g4 256 (by decide) _ r C 2304 rfl (by decide) (piece18 h _ r)) ?_
  refine View.allAt_cons_unit _ _ _ _ _ (plain_tile x0 x1 x2 x3 x4 x5 x6 _ 2048 (by decide) g4 128 (by decide) _ r C 2176 rfl (by decide) (piece17 h _ r)) ?_
  refine View.allAt_cons_unit _ _ _ _ _ (plain_tile x0 x1 x2 x3 x4 x5 x6 _ 2048 (by decide) g4 0 (by decide) _ r C 2048 rfl (by decide) (piece16 h _ r)) ?_
  refine View.allAt_cons_unit _ _ _ _ _ (turned_key_tile x0 x1 x2 x3 x4 x5 x6 _ 1536 (by decide) g3 384 (by decide) _ r C 1920 rfl rfl rfl (piece15 _ x5 x6 r)) ?_
  refine View.allAt_cons_unit _ _ _ _ _ (turned_key_tile x0 x1 x2 x3 x4 x5 x6 _ 1536 (by decide) g3 256 (by decide) _ r C 1792 rfl rfl rfl (piece14 _ x5 x6 r)) ?_
  refine View.allAt_cons_unit _ _ _ _ _ (turned_key_tile x0 x1 x2 x3 x4 x5 x6 _ 1536 (by decide) g3 128 (by decide) _ r C 1664 rfl rfl rfl (piece13 _ x5 x6 r)) ?_
  refine View.allAt_cons_unit _ _ _ _ _ (turned_key_tile x0 x1 x2 x3 x4 x5 x6 _ 1536 (by decide) g3 0 (by decide) _ r C 1536 rfl rfl rfl (piece12 h _ x5 x6 r)) ?_
  refine View.allAt_cons_unit _ _ _ _ _ (plain_tile x0 x1 x2 x3 x4 x5 x6 _ 1024 (by decide) g2 384 (by decide) _ r C 1408 rfl (by decide) (piece11 h _ r)) ?_
  refine View.allAt_cons_unit _ _ _ _ _ (plain_tile x0 x1 x2 x3 x4 x5 x6 _ 1024 (by decide) g2 256 (by decide) _ r C 1280 rfl (by decide) (piece10 h _ r)) ?_
  refine View.allAt_cons_unit _ _ _ _ _ (plain_tile x0 x1 x2 x3 x4 x5 x6 _ 1024 (by decide) g2 128 (by decide) _ r C 1152 rfl (by decide) (piece9 h _ r)) ?_
  refine View.allAt_cons_unit _ _ _ _ _ (plain_tile x0 x1 x2 x3 x4 x5 x6 _ 1024 (by decide) g2 0 (by decide) _ r C 1024 rfl (by decide) (piece8 h _ r)) ?_
  refine View.allAt_cons_unit _ _ _ _ _ (turned_query_tile x0 x1 x2 x3 x4 x5 x6 _ 512 (by decide) g1 384 (by decide) _ r C 896 rfl rfl rfl (piece7 _ x5 x6 r)) ?_
  refine View.allAt_cons_unit _ _ _ _ _ (turned_query_tile x0 x1 x2 x3 x4 x5 x6 _ 512 (by decide) g1 256 (by decide) _ r C 768 rfl rfl rfl (piece6 _ x5 x6 r)) ?_
  refine View.allAt_cons_unit _ _ _ _ _ (turned_query_tile x0 x1 x2 x3 x4 x5 x6 _ 512 (by decide) g1 128 (by decide) _ r C 640 rfl rfl rfl (piece5 _ x5 x6 r)) ?_
  refine View.allAt_cons_unit _ _ _ _ _ (turned_query_tile x0 x1 x2 x3 x4 x5 x6 _ 512 (by decide) g1 0 (by decide) _ r C 512 rfl rfl rfl (piece4 h _ x5 x6 r)) ?_
  refine View.allAt_cons_unit _ _ _ _ _ (query_tile x0 x1 x2 x3 x4 x5 x6 _ 0 (by decide) g0 384 (by decide) _ r C 384 rfl rfl (piece3 _ r)) ?_
  refine View.allAt_cons_unit _ _ _ _ _ (query_tile x0 x1 x2 x3 x4 x5 x6 _ 0 (by decide) g0 256 (by decide) _ r C 256 rfl rfl (piece2 _ r)) ?_
  refine View.allAt_cons_unit _ _ _ _ _ (query_tile x0 x1 x2 x3 x4 x5 x6 _ 0 (by decide) g0 128 (by decide) _ r C 128 rfl rfl (piece1 _ r)) ?_
  exact View.allAt_cons_unit _ _ _ _ _ (query_tile x0 x1 x2 x3 x4 x5 x6 _ 0 (by decide) g0 0 (by decide) _ r C 0 rfl rfl (piece0 x0 x1 x2 x3 _ r)) (View.allAt_nil _ _)

end

end Cert.Proof.AttnProj

end
-- ==== Proof.AttnProj.Reference.lean ====
/- The attention's input projection: the reference's result at an index. -/
module

public import proofs.«01_k».proof.Proof.AttnProj.Blocks
public import proofs.«01_k».proof.Proof.Gen.AttnProjReferenceIdeal.Read

@[expose] public section

set_option maxRecDepth 16384

noncomputable section

namespace Cert.Proof.AttnProj

open Idealize.ShloMosaic Idealize.ShloMosaic.TcCoe Idealize.ShloMosaic.Tactic Idealize.SL.Sem Cert.AttnProjReferenceIdeal Cert.AttnProjReferenceIdeal.Gen Cert.AttnProjReferenceIdeal.Read Cert.Proof.Layer

/-- The cosines by lane: every head's first 32 lanes turn by the row, the next 32 by the column, each 16 angles twice. -/
def cosTab (cr cc : Fin 16 → EReal) (l : Fin 128) : EReal :=
  if l.val % 64 < 32 then cr ⟨l.val % 16, Nat.mod_lt _ (by decide)⟩ else cc ⟨l.val % 16, Nat.mod_lt _ (by decide)⟩

/-- The sines by lane, negative on the first half of every 32. -/
def sinTab (sr sc : Fin 16 → EReal) (l : Fin 128) : EReal :=
  if l.val % 32 < 16 then -cosTab sr sc l else cosTab sr sc l

section
variable (z : Fin 3072 → EReal) (cr sr cc sc : Fin 16 → EReal) (C C' : Fin 3072) (j : Fin 16)

theorem cosTab_row (h : C.val % 64 < 32) (hj : C.val % 16 = j.val) : cosTab cr cc (lane C) = cr j := by
  unfold cosTab lane
  rw [if_pos (by show C.val % 128 % 64 < 32; omega)]
  exact congrArg cr (Fin.ext (by show C.val % 128 % 16 = j.val; omega))

theorem cosTab_col (h : ¬C.val % 64 < 32) (hj : C.val % 16 = j.val) : cosTab cr cc (lane C) = cc j := by
  unfold cosTab lane
  rw [if_neg (by show ¬C.val % 128 % 64 < 32; omega)]
  exact congrArg cc (Fin.ext (by show C.val % 128 % 16 = j.val; omega))

theorem sinTab_first (h : C.val % 32 < 16) : sinTab sr sc (lane C) = -cosTab sr sc (lane C) := by
  unfold sinTab lane
  rw [if_pos (by show C.val % 128 % 32 < 16; omega)]

theorem sinTab_second (h : ¬C.val % 32 < 16) : sinTab sr sc (lane C) = cosTab sr sc (lane C) := by
  unfold sinTab lane
  rw [if_neg (by show ¬C.val % 128 % 32 < 16; omega)]

theorem partner_first (h : C.val % 32 < 16) (h' : C'.val = C.val + 16) : partner C = C' := by
  unfold partner
  refine Fin.ext ?_
  show (if C.val % 32 < 16 then (C.val + 16) % 3072 else C.val - 16) = C'.val
  rw [if_pos h]
  have := C'.isLt
  omega

theorem partner_second (h : ¬C.val % 32 < 16) (h' : C.val = C'.val + 16) : partner C = C' := by
  unfold partner
  refine Fin.ext ?_
  show (if C.val % 32 < 16 then (C.val + 16) % 3072 else C.val - 16) = C'.val
  rw [if_neg h]
  omega

/-- The turned column in the first 16 lanes of a head: the difference, by the row's angle. -/
theorem turned0 (hj : C.val % 64 = j.val) (h' : C'.val = C.val + 16) :
    turned z (cosTab cr cc) (sinTab sr sc) C = z C * cr j - z C' * sr j := by
  have hjl := j.isLt
  unfold turned
  rw [partner_first C C' (by omega) h', sinTab_first _ _ _ (by omega), cosTab_row _ _ C j (by omega) (by omega), cosTab_row _ _ C j (by omega) (by omega), mul_neg, ← sub_eq_add_neg]

/-- The turned column in the next 16 lanes: the sum, by the row's angle. -/
theorem turned1 (hj : C.val % 64 = 16 + j.val) (h' : C.val = C'.val + 16) :
    turned z (cosTab cr cc) (sinTab sr sc) C = z C' * sr j + z C * cr j := by
  have hjl := j.isLt
  unfold turned
  rw [partner_second C C' (by omega) h', sinTab_second _ _ _ (by omega), cosTab_row _ _ C j (by omega) (by omega), cosTab_row _ _ C j (by omega) (by omega), add_comm]

/-- The turned column in the third 16 lanes: the difference, by the column's angle. -/
theorem turned2 (hj : C.val % 64 = 32 + j.val) (h' : C'.val = C.val + 16) :
    turned z (cosTab cr cc) (sinTab sr sc) C = z C * cc j - z C' * sc j := by
  have hjl := j.isLt
  unfold turned
  rw [partner_first C C' (by omega) h', sinTab_first _ _ _ (by omega), cosTab_col _ _ C j (by omega) (by omega), cosTab_col _ _ C j (by omega) (by omega), mul_neg, ← sub_eq_add_neg]

/-- The turned column in the last 16 lanes: the sum, by the column's angle. -/
theorem turned3 (hj : C.val % 64 = 48 + j.val) (h' : C.val = C'.val + 16) :
    turned z (cosTab cr cc) (sinTab sr sc) C = z C' * sc j + z C * cc j := by
  have hjl := j.isLt
  unfold turned
  rw [partner_second C C' (by omega) h', sinTab_second _ _ _ (by omega), cosTab_col _ _ C j (by omega) (by omega), cosTab_col _ _ C j (by omega) (by omega), add_comm]

end

/-- Lane `o + j` of a head of 64. -/
def quarter (o : Nat) (ho : o + 16 ≤ 64) (j : Fin 16) : Fin 64 := ⟨o + j.val, by omega⟩

/-- Lane `o + j` of half a head. -/
def eighth (o : Nat) (ho : o + 16 ≤ 32) (j : Fin 16) : Fin 32 := ⟨o + j.val, by omega⟩

/-- Column `e` of head `g` in a group of 512. -/
def headCol (g : Fin 8) (e : Fin 64) : Fin 512 := ⟨g.val * 64 + e.val, by omega⟩

section
variable (X : Vec Ideal S16x2048x1024 .f32) (G : Vec Ideal S1024 .f32) (Sh Sc : Vec Ideal S16x1024 .f32) (W : Vec Ideal S1024x3072 .f32)
  (Cr Sr Cc Sn : Vec Ideal S2048x16 .f32)

/-- Column `j` of the projection of row `n` of batch `b`. -/
def column (b : Fin 16) (n : Fin 2048) (j : Fin 3072) : EReal :=
  proj (normMod (fun k => X (ix3 b n k)) (fun k => G (ix1 k)) (fun k => Sh (ix2 b k)) (fun k => Sc (ix2 b k))) (fun k j => W (ix2 k j)) j

/-- The reference's projection at an index. -/
theorem reference_column (b : Fin 16) (n : Fin 2048) (j : Fin 3072) :
    val_main_v21 (F := Ideal) X G Sh Sc W (ix3 b n j) = column X G Sh Sc W b n j := by
  have hl (k : Fin 1024) : lidx_main_v21 (ix3 b n j) k = ix3 b n k := by
    funext a; match a with | ⟨0, _⟩ => rfl | ⟨1, _⟩ => rfl | ⟨2, _⟩ => rfl
  have hr (k : Fin 1024) : ridx_main_v21 (ix3 b n j) k = ix2 k j := by
    funext a; match a with | ⟨0, _⟩ => rfl | ⟨1, _⟩ => rfl
  have hs (k : Fin 1024) : idx_main_v13 (idx_main_v16 (ix3 b n k)) = ix2 b k := by
    funext a; match a with | ⟨0, _⟩ => rfl | ⟨1, _⟩ => rfl
  have hs' (k : Fin 1024) : idx_main_v18 (idx_main_v19 (ix3 b n k)) = ix2 b k := by
    funext a; match a with | ⟨0, _⟩ => rfl | ⟨1, _⟩ => rfl
  have hg (k : Fin 1024) : idx_main_v10 (idx_main_v11 (ix3 b n k)) = ix1 k := by
    funext a; match a with | ⟨0, _⟩ => rfl
  have hq (k q : Fin 1024) : idx_main_v1 (idx_main_v2 (idx_main_v8 (ix3 b n k))) q = ix3 b n q := by
    funext a; match a with | ⟨0, _⟩ => rfl | ⟨1, _⟩ => rfl | ⟨2, _⟩ => rfl
  rw [val_main_v21_apply]
  unfold column proj
  refine Finset.sum_congr rfl fun k _ => ?_
  rw [hl, hr]
  refine congrArg (· * W (ix2 k j)) ?_
  rw [val_main_v20_apply, val_main_v17_apply, val_main_v12_apply, val_main_v9_apply, val_main_v8_apply, val_main_v7_apply, val_main_v6_apply,
    val_main_v5_apply, val_main_cst_1_apply, val_main_v4_apply, val_main_v3_apply, val_main_cst_0_apply, val_main_v2_apply, val_main_v1_apply,
    val_main_cst_apply, val_main_v11_apply, val_main_v10_apply, val_main_v16_apply, val_main_v15_apply, val_main_v14_apply, val_main_cst_2_apply,
    val_main_v13_apply, val_main_v19_apply, val_main_v18_apply]
  simp only [hs, hs', hg, hq, val_main_v0_apply, Ideal.ofBits_def, Ideal.ofBits_one_f32, Ideal.ofBits_zero_f32]
  unfold normMod normRow rootMean
  rw [← zero_add (∑ q : Fin 1024, X (ix3 b n q) * X (ix3 b n q))]
  rfl

/-! The turned querys. -/

section
variable (b : Fin 16) (n : Fin 2048) (g : Fin 8) (j : Fin 16)

/-- The querys' group split in heads. -/
theorem query_split (e : Fin 64) : val_main_v30 (F := Ideal) X G Sh Sc W (ix4 b n g e) = column X G Sh Sc W b n (part 512 (by decide) (headCol g e)) := by
  have hi : idx_main_v23 (idx_main_v30 (ix4 b n g e)) = ix3 b n (part 512 (by decide) (headCol g e)) := by
    have h0 := b.isLt
    have h1 := n.isLt
    have h2 := g.isLt
    have h3 := e.isLt
    funext a
    apply Fin.ext
    match a with
    | ⟨0, _⟩ => show (((b.val * 2048 + n.val) * 8 + g.val) * 64 + e.val) / 1048576 = b.val; omega
    | ⟨1, _⟩ => show (((b.val * 2048 + n.val) * 8 + g.val) * 64 + e.val) / 512 % 2048 = n.val; omega
    | ⟨2, _⟩ => show 512 + (((b.val * 2048 + n.val) * 8 + g.val) * 64 + e.val) % 512 = 512 + (g.val * 64 + e.val); omega
  rw [val_main_v30_apply, val_main_v23_apply, hi, reference_column]

theorem query_row_first : idx_main_v31 (idx_main_v35 (ix4 b n g j)) = ix4 b n g (quarter 0 (by decide) j) := by
  funext a
  match a with
  | ⟨0, _⟩ => rfl
  | ⟨1, _⟩ => rfl
  | ⟨2, _⟩ => rfl
  | ⟨3, _⟩ => apply Fin.ext; show j.val = 0 + j.val; omega

theorem query_row_second : idx_main_v31 (idx_main_v36 (ix4 b n g j)) = ix4 b n g (quarter 16 (by decide) j) := by
  funext a
  match a with
  | ⟨0, _⟩ => rfl
  | ⟨1, _⟩ => rfl
  | ⟨2, _⟩ => rfl
  | ⟨3, _⟩ => apply Fin.ext; show 16 + j.val = 16 + j.val; omega

theorem query_col_first : idx_main_v32 (idx_main_v54 (ix4 b n g j)) = ix4 b n g (quarter 32 (by decide) j) := by
  funext a
  match a with
  | ⟨0, _⟩ => rfl
  | ⟨1, _⟩ => rfl
  | ⟨2, _⟩ => rfl
  | ⟨3, _⟩ => apply Fin.ext; show 32 + j.val = 32 + j.val; omega

theorem query_col_second : idx_main_v32 (idx_main_v55 (ix4 b n g j)) = ix4 b n g (quarter 48 (by decide) j) := by
  funext a
  match a with
  | ⟨0, _⟩ => rfl
  | ⟨1, _⟩ => rfl
  | ⟨2, _⟩ => rfl
  | ⟨3, _⟩ => apply Fin.ext; show 32 + (16 + j.val) = 48 + j.val; omega

theorem query_quarter0 : val_main_v43 (F := Ideal) X G Sh Sc W Cr Sr (ix4 b n g j)
    = column X G Sh Sc W b n (part 512 (by decide) (headCol g (quarter 0 (by decide) j))) * Cr (ix2 n j)
      - column X G Sh Sc W b n (part 512 (by decide) (headCol g (quarter 16 (by decide) j))) * Sr (ix2 n j) := by
  have h1 : idx_main_v33 (idx_main_v37 (idx_main_v38 (ix4 b n g j))) = ix2 n j := by
    funext a; match a with | ⟨0, _⟩ => rfl | ⟨1, _⟩ => rfl
  have h2 : idx_main_v34 (idx_main_v40 (idx_main_v41 (ix4 b n g j))) = ix2 n j := by
    funext a; match a with | ⟨0, _⟩ => rfl | ⟨1, _⟩ => rfl
  rw [← query_split X G Sh Sc W, ← query_split X G Sh Sc W, val_main_v43_apply, val_main_v39_apply, val_main_v42_apply, val_main_v35_apply, val_main_v36_apply, val_main_v31_apply, val_main_v31_apply, query_row_first, query_row_second,
    val_main_v38_apply, val_main_v37_apply, val_main_v33_apply, h1, val_main_v41_apply, val_main_v40_apply, val_main_v34_apply, h2]
  rfl

theorem query_quarter1 : val_main_v50 (F := Ideal) X G Sh Sc W Cr Sr (ix4 b n g j)
    = column X G Sh Sc W b n (part 512 (by decide) (headCol g (quarter 0 (by decide) j))) * Sr (ix2 n j)
      + column X G Sh Sc W b n (part 512 (by decide) (headCol g (quarter 16 (by decide) j))) * Cr (ix2 n j) := by
  have h1 : idx_main_v34 (idx_main_v44 (idx_main_v45 (ix4 b n g j))) = ix2 n j := by
    funext a; match a with | ⟨0, _⟩ => rfl | ⟨1, _⟩ => rfl
  have h2 : idx_main_v33 (idx_main_v47 (idx_main_v48 (ix4 b n g j))) = ix2 n j := by
    funext a; match a with | ⟨0, _⟩ => rfl | ⟨1, _⟩ => rfl
  rw [← query_split X G Sh Sc W, ← query_split X G Sh Sc W, val_main_v50_apply, val_main_v46_apply, val_main_v49_apply, val_main_v35_apply, val_main_v36_apply, val_main_v31_apply, val_main_v31_apply, query_row_first, query_row_second,
    val_main_v45_apply, val_main_v44_apply, val_main_v34_apply, h1, val_main_v48_apply, val_main_v47_apply, val_main_v33_apply, h2]
  rfl

theorem query_quarter2 : val_main_v62 (F := Ideal) X G Sh Sc W Cc Sn (ix4 b n g j)
    = column X G Sh Sc W b n (part 512 (by decide) (headCol g (quarter 32 (by decide) j))) * Cc (ix2 n j)
      - column X G Sh Sc W b n (part 512 (by decide) (headCol g (quarter 48 (by decide) j))) * Sn (ix2 n j) := by
  have h1 : idx_main_v52 (idx_main_v56 (idx_main_v57 (ix4 b n g j))) = ix2 n j := by
    funext a; match a with | ⟨0, _⟩ => rfl | ⟨1, _⟩ => rfl
  have h2 : idx_main_v53 (idx_main_v59 (idx_main_v60 (ix4 b n g j))) = ix2 n j := by
    funext a; match a with | ⟨0, _⟩ => rfl | ⟨1, _⟩ => rfl
  rw [← query_split X G Sh Sc W, ← query_split X G Sh Sc W, val_main_v62_apply, val_main_v58_apply, val_main_v61_apply, val_main_v54_apply, val_main_v55_apply, val_main_v32_apply, val_main_v32_apply, query_col_first, query_col_second,
    val_main_v57_apply, val_main_v56_apply, val_main_v52_apply, h1, val_main_v60_apply, val_main_v59_apply, val_main_v53_apply, h2]
  rfl

theorem query_quarter3 : val_main_v69 (F := Ideal) X G Sh Sc W Cc Sn (ix4 b n g j)
    = column X G Sh Sc W b n (part 512 (by decide) (headCol g (quarter 32 (by decide) j))) * Sn (ix2 n j)
      + column X G Sh Sc W b n (part 512 (by decide) (headCol g (quarter 48 (by decide) j))) * Cc (ix2 n j) := by
  have h1 : idx_main_v53 (idx_main_v63 (idx_main_v64 (ix4 b n g j))) = ix2 n j := by
    funext a; match a with | ⟨0, _⟩ => rfl | ⟨1, _⟩ => rfl
  have h2 : idx_main_v52 (idx_main_v66 (idx_main_v67 (ix4 b n g j))) = ix2 n j := by
    funext a; match a with | ⟨0, _⟩ => rfl | ⟨1, _⟩ => rfl
  rw [← query_split X G Sh Sc W, ← query_split X G Sh Sc W, val_main_v69_apply, val_main_v65_apply, val_main_v68_apply, val_main_v54_apply, val_main_v55_apply, val_main_v32_apply, val_main_v32_apply, query_col_first, query_col_second,
    val_main_v64_apply, val_main_v63_apply, val_main_v53_apply, h1, val_main_v67_apply, val_main_v66_apply, val_main_v52_apply, h2]
  rfl

theorem query_row_left : val_main_v51 (F := Ideal) X G Sh Sc W Cr Sr (ix4 b n g (eighth 0 (by decide) j)) = val_main_v43 (F := Ideal) X G Sh Sc W Cr Sr (ix4 b n g j) := by
  unfold val_main_v51
  refine concatenate_pair_apply_left (t := S16x2048x8x32) 3 (val_main_v43 (F := Ideal) X G Sh Sc W Cr Sr) (val_main_v50 (F := Ideal) X G Sh Sc W Cr Sr) _ (ix4 b n g (eighth 0 (by decide) j)) rfl (ix4 b n g j) ?_
  intro a
  match a with
  | ⟨0, _⟩ => rfl
  | ⟨1, _⟩ => rfl
  | ⟨2, _⟩ => rfl
  | ⟨3, _⟩ => show j.val = 0 + j.val; omega

theorem query_row_right : val_main_v51 (F := Ideal) X G Sh Sc W Cr Sr (ix4 b n g (eighth 16 (by decide) j)) = val_main_v50 (F := Ideal) X G Sh Sc W Cr Sr (ix4 b n g j) := by
  unfold val_main_v51
  refine concatenate_pair_apply_right (t := S16x2048x8x32) 3 (val_main_v43 (F := Ideal) X G Sh Sc W Cr Sr) (val_main_v50 (F := Ideal) X G Sh Sc W Cr Sr) _ (ix4 b n g (eighth 16 (by decide) j)) rfl rfl (ix4 b n g j) ?_ ?_
  · intro a ha
    match a with
    | ⟨0, _⟩ => rfl
    | ⟨1, _⟩ => rfl
    | ⟨2, _⟩ => rfl
    | ⟨3, _⟩ => exact absurd rfl ha
  · show j.val + 16 = 16 + j.val; omega

theorem query_col_left : val_main_v70 (F := Ideal) X G Sh Sc W Cc Sn (ix4 b n g (eighth 0 (by decide) j)) = val_main_v62 (F := Ideal) X G Sh Sc W Cc Sn (ix4 b n g j) := by
  unfold val_main_v70
  refine concatenate_pair_apply_left (t := S16x2048x8x32) 3 (val_main_v62 (F := Ideal) X G Sh Sc W Cc Sn) (val_main_v69 (F := Ideal) X G Sh Sc W Cc Sn) _ (ix4 b n g (eighth 0 (by decide) j)) rfl (ix4 b n g j) ?_
  intro a
  match a with
  | ⟨0, _⟩ => rfl
  | ⟨1, _⟩ => rfl
  | ⟨2, _⟩ => rfl
  | ⟨3, _⟩ => show j.val = 0 + j.val; omega

theorem query_col_right : val_main_v70 (F := Ideal) X G Sh Sc W Cc Sn (ix4 b n g (eighth 16 (by decide) j)) = val_main_v69 (F := Ideal) X G Sh Sc W Cc Sn (ix4 b n g j) := by
  unfold val_main_v70
  refine concatenate_pair_apply_right (t := S16x2048x8x32) 3 (val_main_v62 (F := Ideal) X G Sh Sc W Cc Sn) (val_main_v69 (F := Ideal) X G Sh Sc W Cc Sn) _ (ix4 b n g (eighth 16 (by decide) j)) rfl rfl (ix4 b n g j) ?_ ?_
  · intro a ha
    match a with
    | ⟨0, _⟩ => rfl
    | ⟨1, _⟩ => rfl
    | ⟨2, _⟩ => rfl
    | ⟨3, _⟩ => exact absurd rfl ha
  · show j.val + 16 = 16 + j.val; omega

theorem query_lanes0 : val_main_v71 (F := Ideal) X G Sh Sc W Cr Sr Cc Sn (ix4 b n g (quarter 0 (by decide) j)) = val_main_v51 (F := Ideal) X G Sh Sc W Cr Sr (ix4 b n g (eighth 0 (by decide) j)) := by
  unfold val_main_v71
  refine concatenate_pair_apply_left (t := S16x2048x8x64) 3 (val_main_v51 (F := Ideal) X G Sh Sc W Cr Sr) (val_main_v70 (F := Ideal) X G Sh Sc W Cc Sn) _ (ix4 b n g (quarter 0 (by decide) j)) rfl (ix4 b n g (eighth 0 (by decide) j)) ?_
  intro a
  match a with
  | ⟨0, _⟩ => rfl
  | ⟨1, _⟩ => rfl
  | ⟨2, _⟩ => rfl
  | ⟨3, _⟩ => rfl

theorem query_lanes1 : val_main_v71 (F := Ideal) X G Sh Sc W Cr Sr Cc Sn (ix4 b n g (quarter 16 (by decide) j)) = val_main_v51 (F := Ideal) X G Sh Sc W Cr Sr (ix4 b n g (eighth 16 (by decide) j)) := by
  unfold val_main_v71
  refine concatenate_pair_apply_left (t := S16x2048x8x64) 3 (val_main_v51 (F := Ideal) X G Sh Sc W Cr Sr) (val_main_v70 (F := Ideal) X G Sh Sc W Cc Sn) _ (ix4 b n g (quarter 16 (by decide) j)) rfl (ix4 b n g (eighth 16 (by decide) j)) ?_
  intro a
  match a with
  | ⟨0, _⟩ => rfl
  | ⟨1, _⟩ => rfl
  | ⟨2, _⟩ => rfl
  | ⟨3, _⟩ => rfl

theorem query_lanes2 : val_main_v71 (F := Ideal) X G Sh Sc W Cr Sr Cc Sn (ix4 b n g (quarter 32 (by decide) j)) = val_main_v70 (F := Ideal) X G Sh Sc W Cc Sn (ix4 b n g (eighth 0 (by decide) j)) := by
  unfold val_main_v71
  refine concatenate_pair_apply_right (t := S16x2048x8x64) 3 (val_main_v51 (F := Ideal) X G Sh Sc W Cr Sr) (val_main_v70 (F := Ideal) X G Sh Sc W Cc Sn) _ (ix4 b n g (quarter 32 (by decide) j)) rfl rfl (ix4 b n g (eighth 0 (by decide) j)) ?_ ?_
  · intro a ha
    match a with
    | ⟨0, _⟩ => rfl
    | ⟨1, _⟩ => rfl
    | ⟨2, _⟩ => rfl
    | ⟨3, _⟩ => exact absurd rfl ha
  · show 0 + j.val + 32 = 32 + j.val; omega

theorem query_lanes3 : val_main_v71 (F := Ideal) X G Sh Sc W Cr Sr Cc Sn (ix4 b n g (quarter 48 (by decide) j)) = val_main_v70 (F := Ideal) X G Sh Sc W Cc Sn (ix4 b n g (eighth 16 (by decide) j)) := by
  unfold val_main_v71
  refine concatenate_pair_apply_right (t := S16x2048x8x64) 3 (val_main_v51 (F := Ideal) X G Sh Sc W Cr Sr) (val_main_v70 (F := Ideal) X G Sh Sc W Cc Sn) _ (ix4 b n g (quarter 48 (by decide) j)) rfl rfl (ix4 b n g (eighth 16 (by decide) j)) ?_ ?_
  · intro a ha
    match a with
    | ⟨0, _⟩ => rfl
    | ⟨1, _⟩ => rfl
    | ⟨2, _⟩ => rfl
    | ⟨3, _⟩ => exact absurd rfl ha
  · show 16 + j.val + 32 = 48 + j.val; omega

end

/-- The turned querys at an index. -/
theorem query_turned (b : Fin 16) (n : Fin 2048) (C : Fin 512) : val_main_v72 (F := Ideal) X G Sh Sc W Cr Sr Cc Sn (ix3 b n C)
    = turned (column X G Sh Sc W b n) (cosTab (fun j => Cr (ix2 n j)) fun j => Cc (ix2 n j)) (sinTab (fun j => Sr (ix2 n j)) fun j => Sn (ix2 n j))
        (part 512 (by decide) C) := by
  have h2 := C.isLt
  have hi : idx_main_v72 (ix3 b n C) = ix4 b n ⟨C.val / 64, by omega⟩ ⟨C.val % 64, by omega⟩ := by
    have h0 := b.isLt
    have h1 := n.isLt
    funext a
    apply Fin.ext
    match a with
    | ⟨0, _⟩ => show ((b.val * 2048 + n.val) * 512 + C.val) / 1048576 = b.val; omega
    | ⟨1, _⟩ => show ((b.val * 2048 + n.val) * 512 + C.val) / 512 % 2048 = n.val; omega
    | ⟨2, _⟩ => show ((b.val * 2048 + n.val) * 512 + C.val) / 64 % 8 = C.val / 64; omega
    | ⟨3, _⟩ => show ((b.val * 2048 + n.val) * 512 + C.val) % 64 = C.val % 64; omega
  rw [val_main_v72_apply, hi]
  have hj : C.val % 16 < 16 := by omega
  have hq : C.val % 64 / 16 = 0 ∨ C.val % 64 / 16 = 1 ∨ C.val % 64 / 16 = 2 ∨ C.val % 64 / 16 = 3 := by omega
  rcases hq with hq | hq | hq | hq
  · have he : (⟨C.val % 64, by omega⟩ : Fin 64) = quarter 0 (by decide) ⟨C.val % 16, hj⟩ := Fin.ext (by show C.val % 64 = 0 + C.val % 16; omega)
    have hC : part 512 (by decide) (headCol ⟨C.val / 64, by omega⟩ (quarter 0 (by decide) ⟨C.val % 16, hj⟩)) = part 512 (by decide) C :=
      Fin.ext (by show 512 + (C.val / 64 * 64 + (0 + C.val % 16)) = 512 + C.val; omega)
    rw [he, query_lanes0, query_row_left, query_quarter0, hC]
    exact (turned0 (column X G Sh Sc W b n) (fun j => Cr (ix2 n j)) (fun j => Sr (ix2 n j)) (fun j => Cc (ix2 n j)) (fun j => Sn (ix2 n j)) (part 512 (by decide) C) (part 512 (by decide) (headCol ⟨C.val / 64, by omega⟩ (quarter 16 (by decide) ⟨C.val % 16, hj⟩))) ⟨C.val % 16, hj⟩ (by show (512 + C.val) % 64 = C.val % 16; omega)
      (by show 512 + (C.val / 64 * 64 + (16 + C.val % 16)) = 512 + C.val + 16; omega)).symm
  · have he : (⟨C.val % 64, by omega⟩ : Fin 64) = quarter 16 (by decide) ⟨C.val % 16, hj⟩ := Fin.ext (by show C.val % 64 = 16 + C.val % 16; omega)
    have hC : part 512 (by decide) (headCol ⟨C.val / 64, by omega⟩ (quarter 16 (by decide) ⟨C.val % 16, hj⟩)) = part 512 (by decide) C :=
      Fin.ext (by show 512 + (C.val / 64 * 64 + (16 + C.val % 16)) = 512 + C.val; omega)
    rw [he, query_lanes1, query_row_right, query_quarter1, hC]
    exact (turned1 (column X G Sh Sc W b n) (fun j => Cr (ix2 n j)) (fun j => Sr (ix2 n j)) (fun j => Cc (ix2 n j)) (fun j => Sn (ix2 n j)) (part 512 (by decide) C) (part 512 (by decide) (headCol ⟨C.val / 64, by omega⟩ (quarter 0 (by decide) ⟨C.val % 16, hj⟩))) ⟨C.val % 16, hj⟩ (by show (512 + C.val) % 64 = 16 + C.val % 16; omega)
      (by show 512 + C.val = 512 + (C.val / 64 * 64 + (0 + C.val % 16)) + 16; omega)).symm
  · have he : (⟨C.val % 64, by omega⟩ : Fin 64) = quarter 32 (by decide) ⟨C.val % 16, hj⟩ := Fin.ext (by show C.val % 64 = 32 + C.val % 16; omega)
    have hC : part 512 (by decide) (headCol ⟨C.val / 64, by omega⟩ (quarter 32 (by decide) ⟨C.val % 16, hj⟩)) = part 512 (by decide) C :=
      Fin.ext (by show 512 + (C.val / 64 * 64 + (32 + C.val % 16)) = 512 + C.val; omega)
    rw [he, query_lanes2, query_col_left, query_quarter2, hC]
    exact (turned2 (column X G Sh Sc W b n) (fun j => Cr (ix2 n j)) (fun j => Sr (ix2 n j)) (fun j => Cc (ix2 n j)) (fun j => Sn (ix2 n j)) (part 512 (by decide) C) (part 512 (by decide) (headCol ⟨C.val / 64, by omega⟩ (quarter 48 (by decide) ⟨C.val % 16, hj⟩))) ⟨C.val % 16, hj⟩ (by show (512 + C.val) % 64 = 32 + C.val % 16; omega)
      (by show 512 + (C.val / 64 * 64 + (48 + C.val % 16)) = 512 + C.val + 16; omega)).symm
  · have he : (⟨C.val % 64, by omega⟩ : Fin 64) = quarter 48 (by decide) ⟨C.val % 16, hj⟩ := Fin.ext (by show C.val % 64 = 48 + C.val % 16; omega)
    have hC : part 512 (by decide) (headCol ⟨C.val / 64, by omega⟩ (quarter 48 (by decide) ⟨C.val % 16, hj⟩)) = part 512 (by decide) C :=
      Fin.ext (by show 512 + (C.val / 64 * 64 + (48 + C.val % 16)) = 512 + C.val; omega)
    rw [he, query_lanes3, query_col_right, query_quarter3, hC]
    exact (turned3 (column X G Sh Sc W b n) (fun j => Cr (ix2 n j)) (fun j => Sr (ix2 n j)) (fun j => Cc (ix2 n j)) (fun j => Sn (ix2 n j)) (part 512 (by decide) C) (part 512 (by decide) (headCol ⟨C.val / 64, by omega⟩ (quarter 32 (by decide) ⟨C.val % 16, hj⟩))) ⟨C.val % 16, hj⟩ (by show (512 + C.val) % 64 = 48 + C.val % 16; omega)
      (by show 512 + C.val = 512 + (C.val / 64 * 64 + (32 + C.val % 16)) + 16; omega)).symm

/-! The turned keys. -/

section
variable (b : Fin 16) (n : Fin 2048) (g : Fin 8) (j : Fin 16)

/-- The keys' group split in heads. -/
theorem key_split (e : Fin 64) : val_main_v75 (F := Ideal) X G Sh Sc W (ix4 b n g e) = column X G Sh Sc W b n (part 1536 (by decide) (headCol g e)) := by
  have hi : idx_main_v25 (idx_main_v75 (ix4 b n g e)) = ix3 b n (part 1536 (by decide) (headCol g e)) := by
    have h0 := b.isLt
    have h1 := n.isLt
    have h2 := g.isLt
    have h3 := e.isLt
    funext a
    apply Fin.ext
    match a with
    | ⟨0, _⟩ => show (((b.val * 2048 + n.val) * 8 + g.val) * 64 + e.val) / 1048576 = b.val; omega
    | ⟨1, _⟩ => show (((b.val * 2048 + n.val) * 8 + g.val) * 64 + e.val) / 512 % 2048 = n.val; omega
    | ⟨2, _⟩ => show 1536 + (((b.val * 2048 + n.val) * 8 + g.val) * 64 + e.val) % 512 = 1536 + (g.val * 64 + e.val); omega
  rw [val_main_v75_apply, val_main_v25_apply, hi, reference_column]

theorem key_row_first : idx_main_v76 (idx_main_v80 (ix4 b n g j)) = ix4 b n g (quarter 0 (by decide) j) := by
  funext a
  match a with
  | ⟨0, _⟩ => rfl
  | ⟨1, _⟩ => rfl
  | ⟨2, _⟩ => rfl
  | ⟨3, _⟩ => apply Fin.ext; show j.val = 0 + j.val; omega

theorem key_row_second : idx_main_v76 (idx_main_v81 (ix4 b n g j)) = ix4 b n g (quarter 16 (by decide) j) := by
  funext a
  match a with
  | ⟨0, _⟩ => rfl
  | ⟨1, _⟩ => rfl
  | ⟨2, _⟩ => rfl
  | ⟨3, _⟩ => apply Fin.ext; show 16 + j.val = 16 + j.val; omega

theorem key_col_first : idx_main_v77 (idx_main_v99 (ix4 b n g j)) = ix4 b n g (quarter 32 (by decide) j) := by
  funext a
  match a with
  | ⟨0, _⟩ => rfl
  | ⟨1, _⟩ => rfl
  | ⟨2, _⟩ => rfl
  | ⟨3, _⟩ => apply Fin.ext; show 32 + j.val = 32 + j.val; omega

theorem key_col_second : idx_main_v77 (idx_main_v100 (ix4 b n g j)) = ix4 b n g (quarter 48 (by decide) j) := by
  funext a
  match a with
  | ⟨0, _⟩ => rfl
  | ⟨1, _⟩ => rfl
  | ⟨2, _⟩ => rfl
  | ⟨3, _⟩ => apply Fin.ext; show 32 + (16 + j.val) = 48 + j.val; omega

theorem key_quarter0 : val_main_v88 (F := Ideal) X G Sh Sc W Cr Sr (ix4 b n g j)
    = column X G Sh Sc W b n (part 1536 (by decide) (headCol g (quarter 0 (by decide) j))) * Cr (ix2 n j)
      - column X G Sh Sc W b n (part 1536 (by decide) (headCol g (quarter 16 (by decide) j))) * Sr (ix2 n j) := by
  have h1 : idx_main_v78 (idx_main_v82 (idx_main_v83 (ix4 b n g j))) = ix2 n j := by
    funext a; match a with | ⟨0, _⟩ => rfl | ⟨1, _⟩ => rfl
  have h2 : idx_main_v79 (idx_main_v85 (idx_main_v86 (ix4 b n g j))) = ix2 n j := by
    funext a; match a with | ⟨0, _⟩ => rfl | ⟨1, _⟩ => rfl
  rw [← key_split X G Sh Sc W, ← key_split X G Sh Sc W, val_main_v88_apply, val_main_v84_apply, val_main_v87_apply, val_main_v80_apply, val_main_v81_apply, val_main_v76_apply, val_main_v76_apply, key_row_first, key_row_second,
    val_main_v83_apply, val_main_v82_apply, val_main_v78_apply, h1, val_main_v86_apply, val_main_v85_apply, val_main_v79_apply, h2]
  rfl

theorem key_quarter1 : val_main_v95 (F := Ideal) X G Sh Sc W Cr Sr (ix4 b n g j)
    = column X G Sh Sc W b n (part 1536 (by decide) (headCol g (quarter 0 (by decide) j))) * Sr (ix2 n j)
      + column X G Sh Sc W b n (part 1536 (by decide) (headCol g (quarter 16 (by decide) j))) * Cr (ix2 n j) := by
  have h1 : idx_main_v79 (idx_main_v89 (idx_main_v90 (ix4 b n g j))) = ix2 n j := by
    funext a; match a with | ⟨0, _⟩ => rfl | ⟨1, _⟩ => rfl
  have h2 : idx_main_v78 (idx_main_v92 (idx_main_v93 (ix4 b n g j))) = ix2 n j := by
    funext a; match a with | ⟨0, _⟩ => rfl | ⟨1, _⟩ => rfl
  rw [← key_split X G Sh Sc W, ← key_split X G Sh Sc W, val_main_v95_apply, val_main_v91_apply, val_main_v94_apply, val_main_v80_apply, val_main_v81_apply, val_main_v76_apply, val_main_v76_apply, key_row_first, key_row_second,
    val_main_v90_apply, val_main_v89_apply, val_main_v79_apply, h1, val_main_v93_apply, val_main_v92_apply, val_main_v78_apply, h2]
  rfl

theorem key_quarter2 : val_main_v107 (F := Ideal) X G Sh Sc W Cc Sn (ix4 b n g j)
    = column X G Sh Sc W b n (part 1536 (by decide) (headCol g (quarter 32 (by decide) j))) * Cc (ix2 n j)
      - column X G Sh Sc W b n (part 1536 (by decide) (headCol g (quarter 48 (by decide) j))) * Sn (ix2 n j) := by
  have h1 : idx_main_v97 (idx_main_v101 (idx_main_v102 (ix4 b n g j))) = ix2 n j := by
    funext a; match a with | ⟨0, _⟩ => rfl | ⟨1, _⟩ => rfl
  have h2 : idx_main_v98 (idx_main_v104 (idx_main_v105 (ix4 b n g j))) = ix2 n j := by
    funext a; match a with | ⟨0, _⟩ => rfl | ⟨1, _⟩ => rfl
  rw [← key_split X G Sh Sc W, ← key_split X G Sh Sc W, val_main_v107_apply, val_main_v103_apply, val_main_v106_apply, val_main_v99_apply, val_main_v100_apply, val_main_v77_apply, val_main_v77_apply, key_col_first, key_col_second,
    val_main_v102_apply, val_main_v101_apply, val_main_v97_apply, h1, val_main_v105_apply, val_main_v104_apply, val_main_v98_apply, h2]
  rfl

theorem key_quarter3 : val_main_v114 (F := Ideal) X G Sh Sc W Cc Sn (ix4 b n g j)
    = column X G Sh Sc W b n (part 1536 (by decide) (headCol g (quarter 32 (by decide) j))) * Sn (ix2 n j)
      + column X G Sh Sc W b n (part 1536 (by decide) (headCol g (quarter 48 (by decide) j))) * Cc (ix2 n j) := by
  have h1 : idx_main_v98 (idx_main_v108 (idx_main_v109 (ix4 b n g j))) = ix2 n j := by
    funext a; match a with | ⟨0, _⟩ => rfl | ⟨1, _⟩ => rfl
  have h2 : idx_main_v97 (idx_main_v111 (idx_main_v112 (ix4 b n g j))) = ix2 n j := by
    funext a; match a with | ⟨0, _⟩ => rfl | ⟨1, _⟩ => rfl
  rw [← key_split X G Sh Sc W, ← key_split X G Sh Sc W, val_main_v114_apply, val_main_v110_apply, val_main_v113_apply, val_main_v99_apply, val_main_v100_apply, val_main_v77_apply, val_main_v77_apply, key_col_first, key_col_second,
    val_main_v109_apply, val_main_v108_apply, val_main_v98_apply, h1, val_main_v112_apply, val_main_v111_apply, val_main_v97_apply, h2]
  rfl

theorem key_row_left : val_main_v96 (F := Ideal) X G Sh Sc W Cr Sr (ix4 b n g (eighth 0 (by decide) j)) = val_main_v88 (F := Ideal) X G Sh Sc W Cr Sr (ix4 b n g j) := by
  unfold val_main_v96
  refine concatenate_pair_apply_left (t := S16x2048x8x32) 3 (val_main_v88 (F := Ideal) X G Sh Sc W Cr Sr) (val_main_v95 (F := Ideal) X G Sh Sc W Cr Sr) _ (ix4 b n g (eighth 0 (by decide) j)) rfl (ix4 b n g j) ?_
  intro a
  match a with
  | ⟨0, _⟩ => rfl
  | ⟨1, _⟩ => rfl
  | ⟨2, _⟩ => rfl
  | ⟨3, _⟩ => show j.val = 0 + j.val; omega

theorem key_row_right : val_main_v96 (F := Ideal) X G Sh Sc W Cr Sr (ix4 b n g (eighth 16 (by decide) j)) = val_main_v95 (F := Ideal) X G Sh Sc W Cr Sr (ix4 b n g j) := by
  unfold val_main_v96
  refine concatenate_pair_apply_right (t := S16x2048x8x32) 3 (val_main_v88 (F := Ideal) X G Sh Sc W Cr Sr) (val_main_v95 (F := Ideal) X G Sh Sc W Cr Sr) _ (ix4 b n g (eighth 16 (by decide) j)) rfl rfl (ix4 b n g j) ?_ ?_
  · intro a ha
    match a with
    | ⟨0, _⟩ => rfl
    | ⟨1, _⟩ => rfl
    | ⟨2, _⟩ => rfl
    | ⟨3, _⟩ => exact absurd rfl ha
  · show j.val + 16 = 16 + j.val; omega

theorem key_col_left : val_main_v115 (F := Ideal) X G Sh Sc W Cc Sn (ix4 b n g (eighth 0 (by decide) j)) = val_main_v107 (F := Ideal) X G Sh Sc W Cc Sn (ix4 b n g j) := by
  unfold val_main_v115
  refine concatenate_pair_apply_left (t := S16x2048x8x32) 3 (val_main_v107 (F := Ideal) X G Sh Sc W Cc Sn) (val_main_v114 (F := Ideal) X G Sh Sc W Cc Sn) _ (ix4 b n g (eighth 0 (by decide) j)) rfl (ix4 b n g j) ?_
  intro a
  match a with
  | ⟨0, _⟩ => rfl
  | ⟨1, _⟩ => rfl
  | ⟨2, _⟩ => rfl
  | ⟨3, _⟩ => show j.val = 0 + j.val; omega

theorem key_col_right : val_main_v115 (F := Ideal) X G Sh Sc W Cc Sn (ix4 b n g (eighth 16 (by decide) j)) = val_main_v114 (F := Ideal) X G Sh Sc W Cc Sn (ix4 b n g j) := by
  unfold val_main_v115
  refine concatenate_pair_apply_right (t := S16x2048x8x32) 3 (val_main_v107 (F := Ideal) X G Sh Sc W Cc Sn) (val_main_v114 (F := Ideal) X G Sh Sc W Cc Sn) _ (ix4 b n g (eighth 16 (by decide) j)) rfl rfl (ix4 b n g j) ?_ ?_
  · intro a ha
    match a with
    | ⟨0, _⟩ => rfl
    | ⟨1, _⟩ => rfl
    | ⟨2, _⟩ => rfl
    | ⟨3, _⟩ => exact absurd rfl ha
  · show j.val + 16 = 16 + j.val; omega

theorem key_lanes0 : val_main_v116 (F := Ideal) X G Sh Sc W Cr Sr Cc Sn (ix4 b n g (quarter 0 (by decide) j)) = val_main_v96 (F := Ideal) X G Sh Sc W Cr Sr (ix4 b n g (eighth 0 (by decide) j)) := by
  unfold val_main_v116
  refine concatenate_pair_apply_left (t := S16x2048x8x64) 3 (val_main_v96 (F := Ideal) X G Sh Sc W Cr Sr) (val_main_v115 (F := Ideal) X G Sh Sc W Cc Sn) _ (ix4 b n g (quarter 0 (by decide) j)) rfl (ix4 b n g (eighth 0 (by decide) j)) ?_
  intro a
  match a with
  | ⟨0, _⟩ => rfl
  | ⟨1, _⟩ => rfl
  | ⟨2, _⟩ => rfl
  | ⟨3, _⟩ => rfl

theorem key_lanes1 : val_main_v116 (F := Ideal) X G Sh Sc W Cr Sr Cc Sn (ix4 b n g (quarter 16 (by decide) j)) = val_main_v96 (F := Ideal) X G Sh Sc W Cr Sr (ix4 b n g (eighth 16 (by decide) j)) := by
  unfold val_main_v116
  refine concatenate_pair_apply_left (t := S16x2048x8x64) 3 (val_main_v96 (F := Ideal) X G Sh Sc W Cr Sr) (val_main_v115 (F := Ideal) X G Sh Sc W Cc Sn) _ (ix4 b n g (quarter 16 (by decide) j)) rfl (ix4 b n g (eighth 16 (by decide) j)) ?_
  intro a
  match a with
  | ⟨0, _⟩ => rfl
  | ⟨1, _⟩ => rfl
  | ⟨2, _⟩ => rfl
  | ⟨3, _⟩ => rfl

theorem key_lanes2 : val_main_v116 (F := Ideal) X G Sh Sc W Cr Sr Cc Sn (ix4 b n g (quarter 32 (by decide) j)) = val_main_v115 (F := Ideal) X G Sh Sc W Cc Sn (ix4 b n g (eighth 0 (by decide) j)) := by
  unfold val_main_v116
  refine concatenate_pair_apply_right (t := S16x2048x8x64) 3 (val_main_v96 (F := Ideal) X G Sh Sc W Cr Sr) (val_main_v115 (F := Ideal) X G Sh Sc W Cc Sn) _ (ix4 b n g (quarter 32 (by decide) j)) rfl rfl (ix4 b n g (eighth 0 (by decide) j)) ?_ ?_
  · intro a ha
    match a with
    | ⟨0, _⟩ => rfl
    | ⟨1, _⟩ => rfl
    | ⟨2, _⟩ => rfl
    | ⟨3, _⟩ => exact absurd rfl ha
  · show 0 + j.val + 32 = 32 + j.val; omega

theorem key_lanes3 : val_main_v116 (F := Ideal) X G Sh Sc W Cr Sr Cc Sn (ix4 b n g (quarter 48 (by decide) j)) = val_main_v115 (F := Ideal) X G Sh Sc W Cc Sn (ix4 b n g (eighth 16 (by decide) j)) := by
  unfold val_main_v116
  refine concatenate_pair_apply_right (t := S16x2048x8x64) 3 (val_main_v96 (F := Ideal) X G Sh Sc W Cr Sr) (val_main_v115 (F := Ideal) X G Sh Sc W Cc Sn) _ (ix4 b n g (quarter 48 (by decide) j)) rfl rfl (ix4 b n g (eighth 16 (by decide) j)) ?_ ?_
  · intro a ha
    match a with
    | ⟨0, _⟩ => rfl
    | ⟨1, _⟩ => rfl
    | ⟨2, _⟩ => rfl
    | ⟨3, _⟩ => exact absurd rfl ha
  · show 16 + j.val + 32 = 48 + j.val; omega

end

/-- The turned keys at an index. -/
theorem key_turned (b : Fin 16) (n : Fin 2048) (C : Fin 512) : val_main_v117 (F := Ideal) X G Sh Sc W Cr Sr Cc Sn (ix3 b n C)
    = turned (column X G Sh Sc W b n) (cosTab (fun j => Cr (ix2 n j)) fun j => Cc (ix2 n j)) (sinTab (fun j => Sr (ix2 n j)) fun j => Sn (ix2 n j))
        (part 1536 (by decide) C) := by
  have h2 := C.isLt
  have hi : idx_main_v117 (ix3 b n C) = ix4 b n ⟨C.val / 64, by omega⟩ ⟨C.val % 64, by omega⟩ := by
    have h0 := b.isLt
    have h1 := n.isLt
    funext a
    apply Fin.ext
    match a with
    | ⟨0, _⟩ => show ((b.val * 2048 + n.val) * 512 + C.val) / 1048576 = b.val; omega
    | ⟨1, _⟩ => show ((b.val * 2048 + n.val) * 512 + C.val) / 512 % 2048 = n.val; omega
    | ⟨2, _⟩ => show ((b.val * 2048 + n.val) * 512 + C.val) / 64 % 8 = C.val / 64; omega
    | ⟨3, _⟩ => show ((b.val * 2048 + n.val) * 512 + C.val) % 64 = C.val % 64; omega
  rw [val_main_v117_apply, hi]
  have hj : C.val % 16 < 16 := by omega
  have hq : C.val % 64 / 16 = 0 ∨ C.val % 64 / 16 = 1 ∨ C.val % 64 / 16 = 2 ∨ C.val % 64 / 16 = 3 := by omega
  rcases hq with hq | hq | hq | hq
  · have he : (⟨C.val % 64, by omega⟩ : Fin 64) = quarter 0 (by decide) ⟨C.val % 16, hj⟩ := Fin.ext (by show C.val % 64 = 0 + C.val % 16; omega)
    have hC : part 1536 (by decide) (headCol ⟨C.val / 64, by omega⟩ (quarter 0 (by decide) ⟨C.val % 16, hj⟩)) = part 1536 (by decide) C :=
      Fin.ext (by show 1536 + (C.val / 64 * 64 + (0 + C.val % 16)) = 1536 + C.val; omega)
    rw [he, key_lanes0, key_row_left, key_quarter0, hC]
    exact (turned0 (column X G Sh Sc W b n) (fun j => Cr (ix2 n j)) (fun j => Sr (ix2 n j)) (fun j => Cc (ix2 n j)) (fun j => Sn (ix2 n j)) (part 1536 (by decide) C) (part 1536 (by decide) (headCol ⟨C.val / 64, by omega⟩ (quarter 16 (by decide) ⟨C.val % 16, hj⟩))) ⟨C.val % 16, hj⟩ (by show (1536 + C.val) % 64 = C.val % 16; omega)
      (by show 1536 + (C.val / 64 * 64 + (16 + C.val % 16)) = 1536 + C.val + 16; omega)).symm
  · have he : (⟨C.val % 64, by omega⟩ : Fin 64) = quarter 16 (by decide) ⟨C.val % 16, hj⟩ := Fin.ext (by show C.val % 64 = 16 + C.val % 16; omega)
    have hC : part 1536 (by decide) (headCol ⟨C.val / 64, by omega⟩ (quarter 16 (by decide) ⟨C.val % 16, hj⟩)) = part 1536 (by decide) C :=
      Fin.ext (by show 1536 + (C.val / 64 * 64 + (16 + C.val % 16)) = 1536 + C.val; omega)
    rw [he, key_lanes1, key_row_right, key_quarter1, hC]
    exact (turned1 (column X G Sh Sc W b n) (fun j => Cr (ix2 n j)) (fun j => Sr (ix2 n j)) (fun j => Cc (ix2 n j)) (fun j => Sn (ix2 n j)) (part 1536 (by decide) C) (part 1536 (by decide) (headCol ⟨C.val / 64, by omega⟩ (quarter 0 (by decide) ⟨C.val % 16, hj⟩))) ⟨C.val % 16, hj⟩ (by show (1536 + C.val) % 64 = 16 + C.val % 16; omega)
      (by show 1536 + C.val = 1536 + (C.val / 64 * 64 + (0 + C.val % 16)) + 16; omega)).symm
  · have he : (⟨C.val % 64, by omega⟩ : Fin 64) = quarter 32 (by decide) ⟨C.val % 16, hj⟩ := Fin.ext (by show C.val % 64 = 32 + C.val % 16; omega)
    have hC : part 1536 (by decide) (headCol ⟨C.val / 64, by omega⟩ (quarter 32 (by decide) ⟨C.val % 16, hj⟩)) = part 1536 (by decide) C :=
      Fin.ext (by show 1536 + (C.val / 64 * 64 + (32 + C.val % 16)) = 1536 + C.val; omega)
    rw [he, key_lanes2, key_col_left, key_quarter2, hC]
    exact (turned2 (column X G Sh Sc W b n) (fun j => Cr (ix2 n j)) (fun j => Sr (ix2 n j)) (fun j => Cc (ix2 n j)) (fun j => Sn (ix2 n j)) (part 1536 (by decide) C) (part 1536 (by decide) (headCol ⟨C.val / 64, by omega⟩ (quarter 48 (by decide) ⟨C.val % 16, hj⟩))) ⟨C.val % 16, hj⟩ (by show (1536 + C.val) % 64 = 32 + C.val % 16; omega)
      (by show 1536 + (C.val / 64 * 64 + (48 + C.val % 16)) = 1536 + C.val + 16; omega)).symm
  · have he : (⟨C.val % 64, by omega⟩ : Fin 64) = quarter 48 (by decide) ⟨C.val % 16, hj⟩ := Fin.ext (by show C.val % 64 = 48 + C.val % 16; omega)
    have hC : part 1536 (by decide) (headCol ⟨C.val / 64, by omega⟩ (quarter 48 (by decide) ⟨C.val % 16, hj⟩)) = part 1536 (by decide) C :=
      Fin.ext (by show 1536 + (C.val / 64 * 64 + (48 + C.val % 16)) = 1536 + C.val; omega)
    rw [he, key_lanes3, key_col_right, key_quarter3, hC]
    exact (turned3 (column X G Sh Sc W b n) (fun j => Cr (ix2 n j)) (fun j => Sr (ix2 n j)) (fun j => Cc (ix2 n j)) (fun j => Sn (ix2 n j)) (part 1536 (by decide) C) (part 1536 (by decide) (headCol ⟨C.val / 64, by omega⟩ (quarter 32 (by decide) ⟨C.val % 16, hj⟩))) ⟨C.val % 16, hj⟩ (by show (1536 + C.val) % 64 = 48 + C.val % 16; omega)
      (by show 1536 + C.val = 1536 + (C.val / 64 * 64 + (32 + C.val % 16)) + 16; omega)).symm

/-- The six groups of the result. -/
def groups : List ((s : Shape) × (s.Idx → EReal)) :=
  [⟨S16x2048x512, val_main_v29 (F := Ideal) X G Sh Sc W⟩, ⟨S16x2048x512, val_main_v74 (F := Ideal) X G Sh Sc W Cr Sr Cc Sn⟩, ⟨S16x2048x512, val_main_v24 (F := Ideal) X G Sh Sc W⟩, ⟨S16x2048x512, val_main_v117 (F := Ideal) X G Sh Sc W Cr Sr Cc Sn⟩, ⟨S16x2048x512, val_main_v26 (F := Ideal) X G Sh Sc W⟩, ⟨S16x2048x512, val_main_v27 (F := Ideal) X G Sh Sc W⟩]

theorem joined_eq : val_main_v118 (F := Ideal) X G Sh Sc W Cr Sr Cc Sn = concatenate S16x2048x3072 2 (groups X G Sh Sc W Cr Sr Cc Sn) concatenates_S16x2048x512_S16x2048x512_S16x2048x512_S16x2048x512_S16x2048x512_S16x2048x512_S16x2048x3072_d2 := rfl

section
variable (b : Fin 16) (n : Fin 2048) (C : Fin 512)

theorem joined0 : val_main_v118 (F := Ideal) X G Sh Sc W Cr Sr Cc Sn (ix3 b n (part 0 (by decide) C)) = val_main_v29 (F := Ideal) X G Sh Sc W (ix3 b n C) := by
  rw [joined_eq]
  refine concatenate_apply_piece (t := S16x2048x3072) 2 (groups X G Sh Sc W Cr Sr Cc Sn) concatenates_S16x2048x512_S16x2048x512_S16x2048x512_S16x2048x512_S16x2048x512_S16x2048x512_S16x2048x3072_d2 (ix3 b n (part 0 (by decide) C)) 0 (by simp [groups]) S16x2048x512 _ rfl rfl 0 rfl (ix3 b n C) ?_ rfl
  intro a ha
  match a with
  | ⟨0, _⟩ => rfl
  | ⟨1, _⟩ => rfl
  | ⟨2, _⟩ => exact absurd rfl ha

theorem joined1 : val_main_v118 (F := Ideal) X G Sh Sc W Cr Sr Cc Sn (ix3 b n (part 512 (by decide) C)) = val_main_v74 (F := Ideal) X G Sh Sc W Cr Sr Cc Sn (ix3 b n C) := by
  rw [joined_eq]
  refine concatenate_apply_piece (t := S16x2048x3072) 2 (groups X G Sh Sc W Cr Sr Cc Sn) concatenates_S16x2048x512_S16x2048x512_S16x2048x512_S16x2048x512_S16x2048x512_S16x2048x512_S16x2048x3072_d2 (ix3 b n (part 512 (by decide) C)) 1 (by simp [groups]) S16x2048x512 _ rfl rfl 512 rfl (ix3 b n C) ?_ rfl
  intro a ha
  match a with
  | ⟨0, _⟩ => rfl
  | ⟨1, _⟩ => rfl
  | ⟨2, _⟩ => exact absurd rfl ha

theorem joined2 : val_main_v118 (F := Ideal) X G Sh Sc W Cr Sr Cc Sn (ix3 b n (part 1024 (by decide) C)) = val_main_v24 (F := Ideal) X G Sh Sc W (ix3 b n C) := by
  rw [joined_eq]
  refine concatenate_apply_piece (t := S16x2048x3072) 2 (groups X G Sh Sc W Cr Sr Cc Sn) concatenates_S16x2048x512_S16x2048x512_S16x2048x512_S16x2048x512_S16x2048x512_S16x2048x512_S16x2048x3072_d2 (ix3 b n (part 1024 (by decide) C)) 2 (by simp [groups]) S16x2048x512 _ rfl rfl 1024 rfl (ix3 b n C) ?_ rfl
  intro a ha
  match a with
  | ⟨0, _⟩ => rfl
  | ⟨1, _⟩ => rfl
  | ⟨2, _⟩ => exact absurd rfl ha

theorem joined3 : val_main_v118 (F := Ideal) X G Sh Sc W Cr Sr Cc Sn (ix3 b n (part 1536 (by decide) C)) = val_main_v117 (F := Ideal) X G Sh Sc W Cr Sr Cc Sn (ix3 b n C) := by
  rw [joined_eq]
  refine concatenate_apply_piece (t := S16x2048x3072) 2 (groups X G Sh Sc W Cr Sr Cc Sn) concatenates_S16x2048x512_S16x2048x512_S16x2048x512_S16x2048x512_S16x2048x512_S16x2048x512_S16x2048x3072_d2 (ix3 b n (part 1536 (by decide) C)) 3 (by simp [groups]) S16x2048x512 _ rfl rfl 1536 rfl (ix3 b n C) ?_ rfl
  intro a ha
  match a with
  | ⟨0, _⟩ => rfl
  | ⟨1, _⟩ => rfl
  | ⟨2, _⟩ => exact absurd rfl ha

theorem joined4 : val_main_v118 (F := Ideal) X G Sh Sc W Cr Sr Cc Sn (ix3 b n (part 2048 (by decide) C)) = val_main_v26 (F := Ideal) X G Sh Sc W (ix3 b n C) := by
  rw [joined_eq]
  refine concatenate_apply_piece (t := S16x2048x3072) 2 (groups X G Sh Sc W Cr Sr Cc Sn) concatenates_S16x2048x512_S16x2048x512_S16x2048x512_S16x2048x512_S16x2048x512_S16x2048x512_S16x2048x3072_d2 (ix3 b n (part 2048 (by decide) C)) 4 (by simp [groups]) S16x2048x512 _ rfl rfl 2048 rfl (ix3 b n C) ?_ rfl
  intro a ha
  match a with
  | ⟨0, _⟩ => rfl
  | ⟨1, _⟩ => rfl
  | ⟨2, _⟩ => exact absurd rfl ha

theorem joined5 : val_main_v118 (F := Ideal) X G Sh Sc W Cr Sr Cc Sn (ix3 b n (part 2560 (by decide) C)) = val_main_v27 (F := Ideal) X G Sh Sc W (ix3 b n C) := by
  rw [joined_eq]
  refine concatenate_apply_piece (t := S16x2048x3072) 2 (groups X G Sh Sc W Cr Sr Cc Sn) concatenates_S16x2048x512_S16x2048x512_S16x2048x512_S16x2048x512_S16x2048x512_S16x2048x512_S16x2048x3072_d2 (ix3 b n (part 2560 (by decide) C)) 5 (by simp [groups]) S16x2048x512 _ rfl rfl 2560 rfl (ix3 b n C) ?_ rfl
  intro a ha
  match a with
  | ⟨0, _⟩ => rfl
  | ⟨1, _⟩ => rfl
  | ⟨2, _⟩ => exact absurd rfl ha

theorem slice22 : val_main_v22 (F := Ideal) X G Sh Sc W (ix3 b n C) = column X G Sh Sc W b n (part 0 (by decide) C) := by
  have hi : idx_main_v22 (ix3 b n C) = ix3 b n (part 0 (by decide) C) := by
    funext a
    match a with
    | ⟨0, _⟩ => rfl
    | ⟨1, _⟩ => rfl
    | ⟨2, _⟩ => apply Fin.ext; show C.val = 0 + C.val; omega
  rw [val_main_v22_apply, hi, reference_column]

theorem slice24 : val_main_v24 (F := Ideal) X G Sh Sc W (ix3 b n C) = column X G Sh Sc W b n (part 1024 (by decide) C) := by
  have hi : idx_main_v24 (ix3 b n C) = ix3 b n (part 1024 (by decide) C) := by
    funext a
    match a with
    | ⟨0, _⟩ => rfl
    | ⟨1, _⟩ => rfl
    | ⟨2, _⟩ => rfl
  rw [val_main_v24_apply, hi, reference_column]

theorem slice26 : val_main_v26 (F := Ideal) X G Sh Sc W (ix3 b n C) = column X G Sh Sc W b n (part 2048 (by decide) C) := by
  have hi : idx_main_v26 (ix3 b n C) = ix3 b n (part 2048 (by decide) C) := by
    funext a
    match a with
    | ⟨0, _⟩ => rfl
    | ⟨1, _⟩ => rfl
    | ⟨2, _⟩ => rfl
  rw [val_main_v26_apply, hi, reference_column]

theorem slice27 : val_main_v27 (F := Ideal) X G Sh Sc W (ix3 b n C) = column X G Sh Sc W b n (part 2560 (by decide) C) := by
  have hi : idx_main_v27 (ix3 b n C) = ix3 b n (part 2560 (by decide) C) := by
    funext a
    match a with
    | ⟨0, _⟩ => rfl
    | ⟨1, _⟩ => rfl
    | ⟨2, _⟩ => rfl
  rw [val_main_v27_apply, hi, reference_column]

theorem group0 : val_main_v118 (F := Ideal) X G Sh Sc W Cr Sr Cc Sn (ix3 b n (part 0 (by decide) C))
    = result (column X G Sh Sc W b n) (cosTab (fun j => Cr (ix2 n j)) fun j => Cc (ix2 n j)) (sinTab (fun j => Sr (ix2 n j)) fun j => Sn (ix2 n j)) (part 0 (by decide) C) := by
  have hl := C.isLt
  rw [joined0, val_main_v29_apply, slice22, val_main_v28_apply, val_main_cst_3_apply]
  exact (result_query _ _ _ _ (by show 0 + C.val < 512; omega)).symm

theorem group1 : val_main_v118 (F := Ideal) X G Sh Sc W Cr Sr Cc Sn (ix3 b n (part 512 (by decide) C))
    = result (column X G Sh Sc W b n) (cosTab (fun j => Cr (ix2 n j)) fun j => Cc (ix2 n j)) (sinTab (fun j => Sr (ix2 n j)) fun j => Sn (ix2 n j)) (part 512 (by decide) C) := by
  have hl := C.isLt
  rw [joined1, val_main_v74_apply, query_turned, val_main_v73_apply, val_main_cst_4_apply]
  exact (result_turned_query _ _ _ _ (by show 512 ≤ 512 + C.val ∧ 512 + C.val < 1024; omega)).symm

theorem group2 : val_main_v118 (F := Ideal) X G Sh Sc W Cr Sr Cc Sn (ix3 b n (part 1024 (by decide) C))
    = result (column X G Sh Sc W b n) (cosTab (fun j => Cr (ix2 n j)) fun j => Cc (ix2 n j)) (sinTab (fun j => Sr (ix2 n j)) fun j => Sn (ix2 n j)) (part 1024 (by decide) C) := by
  have hl := C.isLt
  rw [joined2, slice24]
  exact (result_plain _ _ _ _ (by show (1024 ≤ 1024 + C.val ∧ 1024 + C.val < 1536) ∨ 2048 ≤ 1024 + C.val; omega)).symm

theorem group3 : val_main_v118 (F := Ideal) X G Sh Sc W Cr Sr Cc Sn (ix3 b n (part 1536 (by decide) C))
    = result (column X G Sh Sc W b n) (cosTab (fun j => Cr (ix2 n j)) fun j => Cc (ix2 n j)) (sinTab (fun j => Sr (ix2 n j)) fun j => Sn (ix2 n j)) (part 1536 (by decide) C) := by
  have hl := C.isLt
  rw [joined3, key_turned]
  exact (result_turned_key _ _ _ _ (by show 1536 ≤ 1536 + C.val ∧ 1536 + C.val < 2048; omega)).symm

theorem group4 : val_main_v118 (F := Ideal) X G Sh Sc W Cr Sr Cc Sn (ix3 b n (part 2048 (by decide) C))
    = result (column X G Sh Sc W b n) (cosTab (fun j => Cr (ix2 n j)) fun j => Cc (ix2 n j)) (sinTab (fun j => Sr (ix2 n j)) fun j => Sn (ix2 n j)) (part 2048 (by decide) C) := by
  have hl := C.isLt
  rw [joined4, slice26]
  exact (result_plain _ _ _ _ (by show (1024 ≤ 2048 + C.val ∧ 2048 + C.val < 1536) ∨ 2048 ≤ 2048 + C.val; omega)).symm

theorem group5 : val_main_v118 (F := Ideal) X G Sh Sc W Cr Sr Cc Sn (ix3 b n (part 2560 (by decide) C))
    = result (column X G Sh Sc W b n) (cosTab (fun j => Cr (ix2 n j)) fun j => Cc (ix2 n j)) (sinTab (fun j => Sr (ix2 n j)) fun j => Sn (ix2 n j)) (part 2560 (by decide) C) := by
  have hl := C.isLt
  rw [joined5, slice27]
  exact (result_plain _ _ _ _ (by show (1024 ≤ 2560 + C.val ∧ 2560 + C.val < 1536) ∨ 2048 ≤ 2560 + C.val; omega)).symm

end

/-- The reference's result at an index. -/
theorem reference_apply (b : Fin 16) (n : Fin 2048) (C : Fin 3072) : val_main_v119 (F := Ideal) X G Sh Sc W Cr Sr Cc Sn (ix3 b n C)
    = result (column X G Sh Sc W b n) (cosTab (fun j => Cr (ix2 n j)) fun j => Cc (ix2 n j)) (sinTab (fun j => Sr (ix2 n j)) fun j => Sn (ix2 n j)) C := by
  have hl := C.isLt
  rw [val_main_v119_apply]
  show val_main_v118 (F := Ideal) X G Sh Sc W Cr Sr Cc Sn (ix3 b n C) = _
  have hC : C.val / 512 = 0 ∨ C.val / 512 = 1 ∨ C.val / 512 = 2 ∨ C.val / 512 = 3 ∨ C.val / 512 = 4 ∨ C.val / 512 = 5 := by omega
  have hlt : C.val % 512 < 512 := by omega
  rcases hC with h | h | h | h | h | h
  · have e : C = part 0 (by decide) ⟨C.val % 512, hlt⟩ := Fin.ext (by show C.val = 0 + C.val % 512; omega)
    rw [e]
    exact group0 X G Sh Sc W Cr Sr Cc Sn b n _
  · have e : C = part 512 (by decide) ⟨C.val % 512, hlt⟩ := Fin.ext (by show C.val = 512 + C.val % 512; omega)
    rw [e]
    exact group1 X G Sh Sc W Cr Sr Cc Sn b n _
  · have e : C = part 1024 (by decide) ⟨C.val % 512, hlt⟩ := Fin.ext (by show C.val = 1024 + C.val % 512; omega)
    rw [e]
    exact group2 X G Sh Sc W Cr Sr Cc Sn b n _
  · have e : C = part 1536 (by decide) ⟨C.val % 512, hlt⟩ := Fin.ext (by show C.val = 1536 + C.val % 512; omega)
    rw [e]
    exact group3 X G Sh Sc W Cr Sr Cc Sn b n _
  · have e : C = part 2048 (by decide) ⟨C.val % 512, hlt⟩ := Fin.ext (by show C.val = 2048 + C.val % 512; omega)
    rw [e]
    exact group4 X G Sh Sc W Cr Sr Cc Sn b n _
  · have e : C = part 2560 (by decide) ⟨C.val % 512, hlt⟩ := Fin.ext (by show C.val = 2560 + C.val % 512; omega)
    rw [e]
    exact group5 X G Sh Sc W Cr Sr Cc Sn b n _

end

end Cert.Proof.AttnProj

end
-- ==== Proof.AttnProj.Value.lean ====
/- The attention's input projection: the blocks each grid point stages as parts of the arguments, the result array at an index, and
   its equality with the reference's. -/
module

public import proofs.«01_k».proof.Proof.AttnProj.Reference
public import proofs.«01_k».proof.Defs
public import proofs.«01_k».proof.Proof.Gen.AttnProjReferenceIdeal.Run

@[expose] public section

set_option maxRecDepth 16384

noncomputable section

namespace Cert.Proof.AttnProj

open Idealize.ShloMosaic Idealize.ShloMosaic.TcCoe Idealize.ShloMosaic.Tactic Idealize.SL.Sem Cert.AttnProjIdeal Cert.AttnProjIdeal.Gen Cert.Proof.Layer

variable (m : (ℓ : Loc nD τ sig) → Buf (Elt Ideal) ℓ) (c : Dev nD)

/-- The rows. -/
abbrev argX : Vec Ideal S16x2048x1024 .f32 := m ((c : Thread nD τ).loc main_arg0)
/-- The gain. -/
abbrev argG : Vec Ideal S1024 .f32 := m ((c : Thread nD τ).loc main_arg1)
/-- The shifts. -/
abbrev argSh : Vec Ideal S16x1024 .f32 := m ((c : Thread nD τ).loc main_arg2)
/-- The scales. -/
abbrev argSc : Vec Ideal S16x1024 .f32 := m ((c : Thread nD τ).loc main_arg3)
/-- The projection. -/
abbrev argW : Vec Ideal S1024x3072 .f32 := m ((c : Thread nD τ).loc main_arg4)

/-- The cosines of the row angles. -/
abbrev argCr : Vec Ideal S2048x16 .f32 := m ((c : Thread nD τ).loc main_arg5)
/-- The sines of the row angles. -/
abbrev argSr : Vec Ideal S2048x16 .f32 := m ((c : Thread nD τ).loc main_arg6)
/-- The cosines of the column angles. -/
abbrev argCc : Vec Ideal S2048x16 .f32 := m ((c : Thread nD τ).loc main_arg7)
/-- The sines of the column angles. -/
abbrev argSn : Vec Ideal S2048x16 .f32 := m ((c : Thread nD τ).loc main_arg8)

/-- One head's cosines in turn: the row's twice, the column's twice. -/
def cosParts : List ((s : Shape) × (s.Idx → EReal)) := [⟨S2048x16, argCr m c⟩, ⟨S2048x16, argCr m c⟩, ⟨S2048x16, argCc m c⟩, ⟨S2048x16, argCc m c⟩]
/-- One head's sines in turn, the first of each pair negated. -/
def sinParts : List ((s : Shape) × (s.Idx → EReal)) :=
  [⟨S2048x16, fun i => -argSr m c i⟩, ⟨S2048x16, argSr m c⟩, ⟨S2048x16, fun i => -argSn m c i⟩, ⟨S2048x16, argSn m c⟩]

/-- One head's cosines. -/
def cosHead : S2048x64.Idx → EReal := concatenate S2048x64 1 (cosParts m c) concatenates_S2048x16_S2048x16_S2048x16_S2048x16_S2048x64_d1
/-- One head's sines. -/
def sinHead : S2048x64.Idx → EReal := concatenate S2048x64 1 (sinParts m c) concatenates_S2048x16_S2048x16_S2048x16_S2048x16_S2048x64_d1

open StableHlo in
/-- The staged cosines. -/
theorem V_main_v7 : V m c main_v7 = (concatenate S2048x128 1 [⟨S2048x64, cosHead m c⟩, ⟨S2048x64, cosHead m c⟩] concatenates_S2048x64_S2048x64_S2048x128_d1 : S2048x128.Idx → EReal) := by
  unfold_abbrev_sides
  simp only [after_cons, after_nil]
  rw [reshape_result_ne]; rotate_left; decide
  rw [binary_result_ne]; rotate_left; decide
  rw [binary_result]
  repeat (first
    | rw [nary4_result]
    | (rw [reshape_result_ne]; rotate_left; decide)
    | (rw [unary_result_ne]; rotate_left; decide)
    | (rw [nary_result_ne]; rotate_left; decide))
  rfl

open StableHlo in
/-- The staged sines. -/
theorem V_main_v8 : V m c main_v8 = (concatenate S2048x128 1 [⟨S2048x64, sinHead m c⟩, ⟨S2048x64, sinHead m c⟩] concatenates_S2048x64_S2048x64_S2048x128_d1 : S2048x128.Idx → EReal) := by
  unfold_abbrev_sides
  simp only [after_cons, after_nil]
  rw [reshape_result_ne]; rotate_left; decide
  rw [binary_result]
  repeat (first
    | rw [nary4_result]
    | rw [unary_result]
    | (rw [binary_result_ne]; rotate_left; decide)
    | (rw [reshape_result_ne]; rotate_left; decide)
    | (rw [unary_result_ne]; rotate_left; decide)
    | (rw [nary_result_ne]; rotate_left; decide))
  rfl

theorem cosHead0 (n : Fin 2048) (j : Fin 16) : cosHead m c (ix2 n (quarter 0 (by decide) j)) = argCr m c (ix2 n j) := by
  unfold cosHead
  refine concatenate_apply_piece (t := S2048x64) 1 (cosParts m c) concatenates_S2048x16_S2048x16_S2048x16_S2048x16_S2048x64_d1 (ix2 n (quarter 0 (by decide) j)) 0 (by simp [cosParts]) S2048x16 _ rfl rfl 0 rfl (ix2 n j) ?_ rfl
  intro a ha
  match a with
  | ⟨0, _⟩ => rfl
  | ⟨1, _⟩ => exact absurd rfl ha

theorem cosHead1 (n : Fin 2048) (j : Fin 16) : cosHead m c (ix2 n (quarter 16 (by decide) j)) = argCr m c (ix2 n j) := by
  unfold cosHead
  refine concatenate_apply_piece (t := S2048x64) 1 (cosParts m c) concatenates_S2048x16_S2048x16_S2048x16_S2048x16_S2048x64_d1 (ix2 n (quarter 16 (by decide) j)) 1 (by simp [cosParts]) S2048x16 _ rfl rfl 16 rfl (ix2 n j) ?_ rfl
  intro a ha
  match a with
  | ⟨0, _⟩ => rfl
  | ⟨1, _⟩ => exact absurd rfl ha

theorem cosHead2 (n : Fin 2048) (j : Fin 16) : cosHead m c (ix2 n (quarter 32 (by decide) j)) = argCc m c (ix2 n j) := by
  unfold cosHead
  refine concatenate_apply_piece (t := S2048x64) 1 (cosParts m c) concatenates_S2048x16_S2048x16_S2048x16_S2048x16_S2048x64_d1 (ix2 n (quarter 32 (by decide) j)) 2 (by simp [cosParts]) S2048x16 _ rfl rfl 32 rfl (ix2 n j) ?_ rfl
  intro a ha
  match a with
  | ⟨0, _⟩ => rfl
  | ⟨1, _⟩ => exact absurd rfl ha

theorem cosHead3 (n : Fin 2048) (j : Fin 16) : cosHead m c (ix2 n (quarter 48 (by decide) j)) = argCc m c (ix2 n j) := by
  unfold cosHead
  refine concatenate_apply_piece (t := S2048x64) 1 (cosParts m c) concatenates_S2048x16_S2048x16_S2048x16_S2048x16_S2048x64_d1 (ix2 n (quarter 48 (by decide) j)) 3 (by simp [cosParts]) S2048x16 _ rfl rfl 48 rfl (ix2 n j) ?_ rfl
  intro a ha
  match a with
  | ⟨0, _⟩ => rfl
  | ⟨1, _⟩ => exact absurd rfl ha

theorem sinHead0 (n : Fin 2048) (j : Fin 16) : sinHead m c (ix2 n (quarter 0 (by decide) j)) = -argSr m c (ix2 n j) := by
  unfold sinHead
  refine concatenate_apply_piece (t := S2048x64) 1 (sinParts m c) concatenates_S2048x16_S2048x16_S2048x16_S2048x16_S2048x64_d1 (ix2 n (quarter 0 (by decide) j)) 0 (by simp [sinParts]) S2048x16 _ rfl rfl 0 rfl (ix2 n j) ?_ rfl
  intro a ha
  match a with
  | ⟨0, _⟩ => rfl
  | ⟨1, _⟩ => exact absurd rfl ha

theorem sinHead1 (n : Fin 2048) (j : Fin 16) : sinHead m c (ix2 n (quarter 16 (by decide) j)) = argSr m c (ix2 n j) := by
  unfold sinHead
  refine concatenate_apply_piece (t := S2048x64) 1 (sinParts m c) concatenates_S2048x16_S2048x16_S2048x16_S2048x16_S2048x64_d1 (ix2 n (quarter 16 (by decide) j)) 1 (by simp [sinParts]) S2048x16 _ rfl rfl 16 rfl (ix2 n j) ?_ rfl
  intro a ha
  match a with
  | ⟨0, _⟩ => rfl
  | ⟨1, _⟩ => exact absurd rfl ha

theorem sinHead2 (n : Fin 2048) (j : Fin 16) : sinHead m c (ix2 n (quarter 32 (by decide) j)) = -argSn m c (ix2 n j) := by
  unfold sinHead
  refine concatenate_apply_piece (t := S2048x64) 1 (sinParts m c) concatenates_S2048x16_S2048x16_S2048x16_S2048x16_S2048x64_d1 (ix2 n (quarter 32 (by decide) j)) 2 (by simp [sinParts]) S2048x16 _ rfl rfl 32 rfl (ix2 n j) ?_ rfl
  intro a ha
  match a with
  | ⟨0, _⟩ => rfl
  | ⟨1, _⟩ => exact absurd rfl ha

theorem sinHead3 (n : Fin 2048) (j : Fin 16) : sinHead m c (ix2 n (quarter 48 (by decide) j)) = argSn m c (ix2 n j) := by
  unfold sinHead
  refine concatenate_apply_piece (t := S2048x64) 1 (sinParts m c) concatenates_S2048x16_S2048x16_S2048x16_S2048x16_S2048x64_d1 (ix2 n (quarter 48 (by decide) j)) 3 (by simp [sinParts]) S2048x16 _ rfl rfl 48 rfl (ix2 n j) ?_ rfl
  intro a ha
  match a with
  | ⟨0, _⟩ => rfl
  | ⟨1, _⟩ => exact absurd rfl ha

/-- One head's cosines are the lane table's. -/
theorem cosHead_apply (n : Fin 2048) (l : Fin 128) : cosHead m c (ix2 n ⟨l.val % 64, Nat.mod_lt _ (by decide)⟩)
    = cosTab (fun j => argCr m c (ix2 n j)) (fun j => argCc m c (ix2 n j)) l := by
  have hl := l.isLt
  have hj : l.val % 16 < 16 := by omega
  have hq : l.val % 64 / 16 = 0 ∨ l.val % 64 / 16 = 1 ∨ l.val % 64 / 16 = 2 ∨ l.val % 64 / 16 = 3 := by omega
  rcases hq with hq | hq | hq | hq
  · have e : (⟨l.val % 64, Nat.mod_lt _ (by decide)⟩ : Fin 64) = quarter 0 (by decide) ⟨l.val % 16, hj⟩ := Fin.ext (by show l.val % 64 = 0 + l.val % 16; omega)
    rw [e, cosHead0]
    unfold cosTab
    rw [if_pos (by omega)]
  · have e : (⟨l.val % 64, Nat.mod_lt _ (by decide)⟩ : Fin 64) = quarter 16 (by decide) ⟨l.val % 16, hj⟩ := Fin.ext (by show l.val % 64 = 16 + l.val % 16; omega)
    rw [e, cosHead1]
    unfold cosTab
    rw [if_pos (by omega)]
  · have e : (⟨l.val % 64, Nat.mod_lt _ (by decide)⟩ : Fin 64) = quarter 32 (by decide) ⟨l.val % 16, hj⟩ := Fin.ext (by show l.val % 64 = 32 + l.val % 16; omega)
    rw [e, cosHead2]
    unfold cosTab
    rw [if_neg (by omega)]
  · have e : (⟨l.val % 64, Nat.mod_lt _ (by decide)⟩ : Fin 64) = quarter 48 (by decide) ⟨l.val % 16, hj⟩ := Fin.ext (by show l.val % 64 = 48 + l.val % 16; omega)
    rw [e, cosHead3]
    unfold cosTab
    rw [if_neg (by omega)]

/-- The staged cosines, at a lane. -/
theorem cos_apply (n : Fin 2048) (l : Fin 128) : (V m c main_v7 : Vec Ideal S2048x128 .f32) (ix2 n l)
    = cosTab (fun j => argCr m c (ix2 n j)) (fun j => argCc m c (ix2 n j)) l := by
  rw [V_main_v7, ← cosHead_apply]
  have hl := l.isLt
  by_cases h : l.val < 64
  · refine concatenate_pair_apply_left (t := S2048x128) 1 (cosHead m c) (cosHead m c) _ (ix2 n l) rfl (ix2 n ⟨l.val % 64, Nat.mod_lt _ (by decide)⟩) ?_
    intro a
    match a with
    | ⟨0, _⟩ => rfl
    | ⟨1, _⟩ => show l.val % 64 = l.val; omega
  · refine concatenate_pair_apply_right (t := S2048x128) 1 (cosHead m c) (cosHead m c) _ (ix2 n l) rfl rfl (ix2 n ⟨l.val % 64, Nat.mod_lt _ (by decide)⟩) ?_ ?_
    · intro a ha
      match a with
      | ⟨0, _⟩ => rfl
      | ⟨1, _⟩ => exact absurd rfl ha
    · show l.val % 64 + 64 = l.val
      omega

/-- One head's sines are the lane table's. -/
theorem sinHead_apply (n : Fin 2048) (l : Fin 128) : sinHead m c (ix2 n ⟨l.val % 64, Nat.mod_lt _ (by decide)⟩)
    = sinTab (fun j => argSr m c (ix2 n j)) (fun j => argSn m c (ix2 n j)) l := by
  have hl := l.isLt
  have hj : l.val % 16 < 16 := by omega
  have hq : l.val % 64 / 16 = 0 ∨ l.val % 64 / 16 = 1 ∨ l.val % 64 / 16 = 2 ∨ l.val % 64 / 16 = 3 := by omega
  rcases hq with hq | hq | hq | hq
  · have e : (⟨l.val % 64, Nat.mod_lt _ (by decide)⟩ : Fin 64) = quarter 0 (by decide) ⟨l.val % 16, hj⟩ := Fin.ext (by show l.val % 64 = 0 + l.val % 16; omega)
    rw [e, sinHead0]
    unfold sinTab cosTab
    rw [if_pos (by omega), if_pos (by omega)]
  · have e : (⟨l.val % 64, Nat.mod_lt _ (by decide)⟩ : Fin 64) = quarter 16 (by decide) ⟨l.val % 16, hj⟩ := Fin.ext (by show l.val % 64 = 16 + l.val % 16; omega)
    rw [e, sinHead1]
    unfold sinTab cosTab
    rw [if_neg (by omega), if_pos (by omega)]
  · have e : (⟨l.val % 64, Nat.mod_lt _ (by decide)⟩ : Fin 64) = quarter 32 (by decide) ⟨l.val % 16, hj⟩ := Fin.ext (by show l.val % 64 = 32 + l.val % 16; omega)
    rw [e, sinHead2]
    unfold sinTab cosTab
    rw [if_pos (by omega), if_neg (by omega)]
  · have e : (⟨l.val % 64, Nat.mod_lt _ (by decide)⟩ : Fin 64) = quarter 48 (by decide) ⟨l.val % 16, hj⟩ := Fin.ext (by show l.val % 64 = 48 + l.val % 16; omega)
    rw [e, sinHead3]
    unfold sinTab cosTab
    rw [if_neg (by omega), if_neg (by omega)]

/-- The staged sines, at a lane. -/
theorem sin_apply (n : Fin 2048) (l : Fin 128) : (V m c main_v8 : Vec Ideal S2048x128 .f32) (ix2 n l)
    = sinTab (fun j => argSr m c (ix2 n j)) (fun j => argSn m c (ix2 n j)) l := by
  rw [V_main_v8, ← sinHead_apply]
  have hl := l.isLt
  by_cases h : l.val < 64
  · refine concatenate_pair_apply_left (t := S2048x128) 1 (sinHead m c) (sinHead m c) _ (ix2 n l) rfl (ix2 n ⟨l.val % 64, Nat.mod_lt _ (by decide)⟩) ?_
    intro a
    match a with
    | ⟨0, _⟩ => rfl
    | ⟨1, _⟩ => show l.val % 64 = l.val; omega
  · refine concatenate_pair_apply_right (t := S2048x128) 1 (sinHead m c) (sinHead m c) _ (ix2 n l) rfl rfl (ix2 n ⟨l.val % 64, Nat.mod_lt _ (by decide)⟩) ?_ ?_
    · intro a ha
      match a with
      | ⟨0, _⟩ => rfl
      | ⟨1, _⟩ => exact absurd rfl ha
    · show l.val % 64 + 64 = l.val
      omega

/-- Every window's block indices at a point: batch and row block read off the point's number. -/
theorem index_facts : ∀ t : Fin cfg0.N,
    (win0_0.index t (0 : Fin 3) = t.val / 2 ∧ win0_0.index t (1 : Fin 3) = t.val % 2 ∧ win0_0.index t (2 : Fin 3) = 0)
    ∧ (win0_1.index t (0 : Fin 2) = 0 ∧ win0_1.index t (1 : Fin 2) = 0)
    ∧ (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = t.val % 2 ∧ win0_5.index t (1 : Fin 2) = 0)
    ∧ (win0_6.index t (0 : Fin 2) = t.val % 2 ∧ win0_6.index t (1 : Fin 2) = 0)
    ∧ ((win0_7.index t (0 : Fin 3) = t.val / 2 ∧ win0_7.index t (1 : Fin 3) = t.val % 2 ∧ win0_7.index t (2 : Fin 3) = 0) ∧ (cfg0.win 7).flush t = true) :=
  (by decide +kernel : ∀ t : Fin grid0.N, _)

section
variable (t : Fin cfg0.N)

theorem iblk1_apply (k : Fin 1024) : (iblk m c 1 t : Vec Ideal S1x1024 .f32) (ix2 0 k) = argG m c (ix1 k) := by
  obtain ⟨-, ⟨h0, h1⟩, -⟩ := index_facts t
  have hV : V m c main_v9 = shapeCast S1x1024 (argG m c) shapeCasts_S1024_S1x1024 := by
    unfold_abbrev_sides
    after_results
    rfl
  unfold iblk
  rw [View.read_apply]
  show V m c main_v9 _ = _
  rw [hV]
  refine shapeCast_apply _ shapeCasts_S1024_S1x1024 _ (ix1 k) ?_
  rw [Shape.rowMajor_val_one, Shape.rowMajor_val_two]
  show k.val = (win0_1.index t (0 : Fin 2) * 1 + 1 * 0) * 1024 + (win0_1.index t (1 : Fin 2) * 1024 + 1 * k.val)
  omega

theorem iblk4_apply (k : Fin 1024) (j : Fin 3072) : (iblk m c 4 t : Vec Ideal S1024x3072 .bf16) (ix2 k j) = argW m c (ix2 k j) := by
  obtain ⟨-, -, -, -, ⟨h0, h1⟩, -⟩ := index_facts t
  have hV : V m c main_v6 = truncf (F := Ideal) .bf16 (argW m c) bitsLt_bf16_f32 := by
    unfold_abbrev_sides
    after_results
  unfold iblk
  rw [View.read_apply]
  show V m c main_v6 _ = _
  rw [hV]
  show argW m c _ = argW m c _
  congr 1
  funext a
  apply Fin.ext
  match a with
  | ⟨0, _⟩ => show win0_4.index t (0 : Fin 2) * 1024 + 1 * k.val = k.val; omega
  | ⟨1, _⟩ => show win0_4.index t (1 : Fin 2) * 3072 + 1 * j.val = j.val; omega

section
variable (b : Fin 16) (hb : b.val = t.val / 2)
include hb

theorem iblk2_apply (k : Fin 1024) : (iblk m c 2 t : Vec Ideal S1x1x1024 .f32) (ix3 0 0 k) = argSh m c (ix2 b k) := by
  obtain ⟨-, -, ⟨h0, h1, h2⟩, -⟩ := index_facts t
  have hV : V m c main_v4 = shapeCast S16x1x1024 (argSh m c) shapeCasts_S16x1024_S16x1x1024 := by
    unfold_abbrev_sides
    after_results
    rfl
  unfold iblk
  rw [View.read_apply]
  show V m c main_v4 _ = _
  rw [hV]
  refine shapeCast_apply _ shapeCasts_S16x1024_S16x1x1024 _ (ix2 b k) ?_
  rw [Shape.rowMajor_val_two, Shape.rowMajor_val_three]
  show b.val * 1024 + k.val = ((win0_2.index t (0 : Fin 3) * 1 + 1 * 0) * 1 + (win0_2.index t (1 : Fin 3) * 1 + 1 * 0)) * 1024 + (win0_2.index t (2 : Fin 3) * 1024 + 1 * k.val)
  omega

theorem iblk3_apply (k : Fin 1024) : (iblk m c 3 t : Vec Ideal S1x1x1024 .f32) (ix3 0 0 k) = argSc m c (ix2 b k) := by
  obtain ⟨-, -, -, ⟨h0, h1, h2⟩, -⟩ := index_facts t
  have hV : V m c main_v5 = shapeCast S16x1x1024 (argSc m c) shapeCasts_S16x1024_S16x1x1024 := by
    unfold_abbrev_sides
    after_results
    rfl
  unfold iblk
  rw [View.read_apply]
  show V m c main_v5 _ = _
  rw [hV]
  refine shapeCast_apply _ shapeCasts_S16x1024_S16x1x1024 _ (ix2 b k) ?_
  rw [Shape.rowMajor_val_two, Shape.rowMajor_val_three]
  show b.val * 1024 + k.val = ((win0_3.index t (0 : Fin 3) * 1 + 1 * 0) * 1 + (win0_3.index t (1 : Fin 3) * 1 + 1 * 0)) * 1024 + (win0_3.index t (2 : Fin 3) * 1024 + 1 * k.val)
  omega

variable (n : Fin 2048) (r : Fin 1024) (hn : n.val = t.val % 2 * 1024 + r.val)
include hn

theorem iblk0_apply (k : Fin 1024) : (iblk m c 0 t : Vec Ideal S1x1024x1024 .f32) (ix3 0 r k) = argX m c (ix3 b n k) := by
  obtain ⟨⟨h0, h1, h2⟩, -⟩ := index_facts t
  unfold iblk
  rw [View.read_apply]
  have hV : V m c main_arg0 = argX m c := by
    unfold_abbrev_sides
    after_results
  show V m c main_arg0 _ = _
  rw [hV]
  show argX m c _ = argX m c _
  congr 1
  funext a
  apply Fin.ext
  match a with
  | ⟨0, _⟩ => show win0_0.index t (0 : Fin 3) * 1 + 1 * 0 = b.val; omega
  | ⟨1, _⟩ => show win0_0.index t (1 : Fin 3) * 1024 + 1 * r.val = n.val; omega
  | ⟨2, _⟩ => show win0_0.index t (2 : Fin 3) * 1024 + 1 * k.val = k.val; omega

omit hb in
theorem iblk5_apply (l : Fin 128) : (iblk m c 5 t : Vec Ideal S1024x128 .f32) (ix2 r l)
    = cosTab (fun j => argCr m c (ix2 n j)) (fun j => argCc m c (ix2 n j)) l := by
  obtain ⟨-, -, -, -, -, ⟨h0, h1⟩, -⟩ := index_facts t
  rw [← cos_apply]
  unfold iblk
  rw [View.read_apply]
  show V m c main_v7 _ = V m c main_v7 _
  congr 1
  funext a
  apply Fin.ext
  match a with
  | ⟨0, _⟩ => show win0_5.index t (0 : Fin 2) * 1024 + 1 * r.val = n.val; omega
  | ⟨1, _⟩ => show win0_5.index t (1 : Fin 2) * 128 + 1 * l.val = l.val; omega

omit hb in
theorem iblk6_apply (l : Fin 128) : (iblk m c 6 t : Vec Ideal S1024x128 .f32) (ix2 r l)
    = sinTab (fun j => argSr m c (ix2 n j)) (fun j => argSn m c (ix2 n j)) l := by
  obtain ⟨-, -, -, -, -, -, ⟨h0, h1⟩, -⟩ := index_facts t
  rw [← sin_apply]
  unfold iblk
  rw [View.read_apply]
  show V m c main_v8 _ = V m c main_v8 _
  congr 1
  funext a
  apply Fin.ext
  match a with
  | ⟨0, _⟩ => show win0_6.index t (0 : Fin 2) * 1024 + 1 * r.val = n.val; omega
  | ⟨1, _⟩ => show win0_6.index t (1 : Fin 2) * 128 + 1 * l.val = l.val; omega

/-- The staged blocks' result is the arguments' at the point's batch and row. -/
theorem block_apply (C : Fin 3072) :
    blockVal (iblk m c 0 t) (iblk m c 1 t) (iblk m c 2 t) (iblk m c 3 t) (iblk m c 4 t) (iblk m c 5 t) (iblk m c 6 t) r C
      = result (column (argX m c) (argG m c) (argSh m c) (argSc m c) (argW m c) b n) (cosTab (fun j => argCr m c (ix2 n j)) fun j => argCc m c (ix2 n j))
      (sinTab (fun j => argSr m c (ix2 n j)) fun j => argSn m c (ix2 n j)) C := by
  have hz : rowProj (iblk m c 0 t) (iblk m c 1 t) (iblk m c 2 t) (iblk m c 3 t) (iblk m c 4 t) r
      = column (argX m c) (argG m c) (argSh m c) (argSc m c) (argW m c) b n := by
    funext j
    unfold rowProj row column
    simp only [iblk0_apply m c t b hb n r hn, iblk1_apply, iblk2_apply m c t b hb, iblk3_apply m c t b hb, iblk4_apply]
  unfold blockVal
  rw [hz]
  simp only [iblk5_apply m c t n r hn, iblk6_apply m c t n r hn]

/-- Where a block of the result lies in its array. -/
theorem emb_eq (C : Fin 3072) (f : Fin 3 → Nat) (h0 : f 0 = t.val / 2) (h1 : f 1 = t.val % 2) (h2 : f 2 = 0) (i : S16x2048x3072.Idx)
    (hi0 : (i 0).val = f 0 * 1 + 1 * 0) (hi1 : (i 1).val = f 1 * 1024 + 1 * r.val) (hi2 : (i 2).val = f 2 * 3072 + 1 * C.val) : i = ix3 b n C := by
  funext a
  apply Fin.ext
  match a with
  | ⟨0, _⟩ => show (i 0).val = b.val; omega
  | ⟨1, _⟩ => show (i 1).val = n.val; omega
  | ⟨2, _⟩ => show (i 2).val = C.val; omega

end

end

/-- The point that computes a row. -/
theorem point (b : Fin 16) (n : Fin 2048) : ∃ (t : Fin cfg0.N) (r : Fin 1024), b.val = t.val / 2 ∧ n.val = t.val % 2 * 1024 + r.val := by
  have hb := b.isLt
  have hn := n.isLt
  refine ⟨⟨2 * b.val + n.val / 1024, by rw [show cfg0.N = 32 from N_0]; omega⟩, ⟨n.val % 1024, Nat.mod_lt _ (by decide)⟩, ?_, ?_⟩
  · show b.val = (2 * b.val + n.val / 1024) / 2
    omega
  · show n.val = (2 * b.val + n.val / 1024) % 2 * 1024 + n.val % 1024
    omega

/-- The result at an index. -/
theorem result_apply (b : Fin 16) (n : Fin 2048) (C : Fin 3072) : ((dats m 0 c).arrAt 7 cfg0.N : Vec Ideal S16x2048x3072 .bf16) (ix3 b n C)
    = result (column (argX m c) (argG m c) (argSh m c) (argSc m c) (argW m c) b n) (cosTab (fun j => argCr m c (ix2 n j)) fun j => argCc m c (ix2 n j))
      (sinTab (fun j => argSr m c (ix2 n j)) fun j => argSn m c (ix2 n j)) C := by
  obtain ⟨t, r, hb, hn⟩ := point b n
  obtain ⟨-, -, -, -, -, -, -, ⟨⟨h0, h1, h2⟩, hf⟩⟩ := index_facts t
  have e := congrFun ((Value.blocks7 m c t hf).trans (Value.flushed7 m c t)) (ix3 0 r C : S1x1024x3072.Idx)
  rw [View.read_apply, emb_eq t b hb n r hn C (win0_7.index t) h0 h1 h2 (((cfg0.win 7).blk t).view.emb (ix3 0 r C : S1x1024x3072.Idx)) rfl rfl rfl] at e
  exact e.trans ((out_apply _ _ _ _ _ _ _ r C).trans (block_apply m c t b hb n r hn C))

/-- Every index of the result is a batch, a row and a column. -/
theorem idx_eq (i : S16x2048x3072.Idx) : ∃ (b : Fin 16) (n : Fin 2048) (C : Fin 3072), i = ix3 b n C :=
  ⟨i 0, i 1, i 2, by funext a; match a with | ⟨0, _⟩ => rfl | ⟨1, _⟩ => rfl | ⟨2, _⟩ => rfl⟩

/-- The projection's value claim: from equal arguments the two programs end with equal results and unchanged arguments. -/
theorem algebraic : Cert.algebraic_AttnProjIdeal_AttnProjReferenceIdeal := by
  intro m g m' g' _ hagree
  refine ⟨fun c => (dats m 0 c).arrAt 7 cfg0.N, Value.run_blocks m g, ?_⟩
  refine (θ_run Cert.AttnProjReferenceIdeal.defs _ _).mono
    (fun _ h c => ⟨(h c).1.trans ?_, (h c).2⟩) (Cert.AttnProjReferenceIdeal.Value.run m' g')
  obtain ⟨h0, h1, h2, h3, h4, h5, h6, h7, h8⟩ := hagree c
  refine (Cert.AttnProjReferenceIdeal.Read.val_main_v119_eq ..).trans ?_
  rw [h0, h1, h2, h3, h4, h5, h6, h7, h8]
  funext i
  obtain ⟨b, n, C, rfl⟩ := idx_eq i
  exact (reference_apply ..).trans (result_apply m c b n C).symm

end Cert.Proof.AttnProj

end
-- ==== Proof.Modulation.Value.lean ====
/- The modulation: one grid point's block, the blocks it stages as parts of the arguments, the result array at an index, and its
   equality with the reference's. -/
module

public import proofs.«01_k».proof.Proof.Layer.Norm
public import proofs.«01_k».proof.Defs
public import proofs.«01_k».proof.Proof.Gen.ModulationIdeal.Value
public import proofs.«01_k».proof.Proof.Gen.ModulationReferenceIdeal.Run
public import proofs.«01_k».proof.Proof.Gen.ModulationReferenceIdeal.Read
public import Idealize.ShloMosaic.Lib.Pipeline.ValueKit

@[expose] public section

set_option maxRecDepth 16384

noncomputable section

namespace Cert.Proof.Modulation

open Idealize.ShloMosaic Idealize.ShloMosaic.TcCoe Idealize.ShloMosaic.Tactic Idealize.SL.Sem Cert.ModulationIdeal Cert.ModulationIdeal.Gen Cert.Proof.Layer

/-- A number times its logistic. -/
def silu (a : EReal) : EReal := a * logistic a

/-- A row of conditions, each times its logistic, against one column of weights, and the column's bias. -/
def modulated (x w : Fin 1024 → EReal) (b : EReal) : EReal := (∑ k, silu (x k) * w k) + b

/-- The result block at an index. -/
theorem out_apply (x0 : Vec Ideal S24x1024 .f32) (x1 : Vec Ideal S1024x1024 .f32) (x2 : Vec Ideal S1x1024 .f32) (r : Fin 24) (C : Fin 1024) :
    out0_3 x0 x1 x2 (ix2 r C) = modulated (fun k => x0 (ix2 r k)) (fun k => x1 (ix2 k C)) (x2 (ix2 0 C)) := by
  have h : k0_pay1 x0 x1 x2 (ix2 r C) = modulated (fun k => x0 (ix2 r k)) (fun k => x1 (ix2 k C)) (x2 (ix2 0 C)) := by
    pointwise [k0_pay1, zero_add, Ideal.ofBits_one_f32]
    rfl
  unfold out0_3
  rw [View.canon_unit_zero (S := S24x1024) zero2]
  simp only [View.ld_unit_zero (S := S24x1024) zero2, View.ld_unit_zero (S := S1024x1024) zero2, View.ld_unit_zero (S := S1x1024) zero2]
  exact h

section
variable (A : Vec Ideal S16x1024 .f32) (B : Vec Ideal S1024 .f32) (W : Vec Ideal S1024x6144 .f32) (D : Vec Ideal S6144 .f32)

/-- The rows of conditions: the batch's, the context's, and rows of zeros. -/
abbrev rows : Vec Ideal S24x1024 .f32 := Cert.ModulationReferenceIdeal.Read.val_main_v2 (F := Ideal) A B

/-- The modulation at a row and a column. -/
def value (r : Fin 24) (C : Fin 6144) : EReal := modulated (fun k => rows A B (ix2 r k)) (fun k => W (ix2 k C)) (D (ix1 C))

open Cert.ModulationReferenceIdeal.Read in
/-- The reference's result at an index. -/
theorem reference_apply (r : Fin 24) (C : Fin 6144) : val_main_v7 (F := Ideal) A B W D (ix2 r C) = value A B W D r C := by
  have hl (k : Fin 1024) : lidx_main_v4 (ix2 r C) k = ix2 r k := by
    funext a; match a with | ⟨0, _⟩ => rfl | ⟨1, _⟩ => rfl
  have hr (k : Fin 1024) : ridx_main_v4 (ix2 r C) k = ix2 k C := by
    funext a; match a with | ⟨0, _⟩ => rfl | ⟨1, _⟩ => rfl
  have hd : idx_main_v5 (idx_main_v6 (ix2 r C)) = ix1 C := by
    funext a; match a with | ⟨0, _⟩ => rfl
  rw [val_main_v7_apply, val_main_v6_apply, val_main_v5_apply, hd, val_main_v4_apply]
  unfold value modulated
  refine congrArg (fun z : EReal => z + D (ix1 C)) (Finset.sum_congr rfl fun k _ => ?_)
  rw [hl, hr, val_main_v3_apply, val_main_call0_v5_apply, val_main_call0_v4_apply, val_main_call0_cst_0_apply, val_main_call0_v3_apply,
    val_main_call0_v2_apply, val_main_call0_cst_apply, val_main_call0_v1_apply, val_main_call0_v0_apply]
  unfold silu Layer.logistic
  rw [zero_sub]
  simp only [Ideal.ofBits_def, Ideal.ofBits_one_f32]
  rfl

end

variable (m : (ℓ : Loc nD τ sig) → Buf (Elt Ideal) ℓ) (c : Dev nD)

/-- The batch's conditions. -/
abbrev argA : Vec Ideal S16x1024 .f32 := m ((c : Thread nD τ).loc main_arg0)
/-- The context's condition. -/
abbrev argB : Vec Ideal S1024 .f32 := m ((c : Thread nD τ).loc main_arg1)
/-- The weights. -/
abbrev argW : Vec Ideal S1024x6144 .f32 := m ((c : Thread nD τ).loc main_arg2)
/-- The biases. -/
abbrev argD : Vec Ideal S6144 .f32 := m ((c : Thread nD τ).loc main_arg3)

open StableHlo in
/-- The staged rows of conditions are the reference's. -/
theorem V_rows : V m c main_v2 = rows (argA m c) (argB m c) := by
  unfold_abbrev_sides
  simp only [after_cons, after_nil]
  rw [reshape_result_ne]; rotate_left; decide
  rw [nary_result]
  rfl

/-- Every window's block indices at a point: the group of columns is the point's number. -/
theorem index_facts : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ ((win0_3.index t (0 : Fin 2) = 0 ∧ win0_3.index t (1 : Fin 2) = t.val) ∧ (cfg0.win 3).flush t = true) :=
  (by decide +kernel : ∀ t : Fin grid0.N, _)

section
variable (t : Fin cfg0.N)

theorem iblk0_apply (r : Fin 24) (k : Fin 1024) : (iblk m c 0 t : Vec Ideal S24x1024 .f32) (ix2 r k) = rows (argA m c) (argB m c) (ix2 r k) := by
  obtain ⟨⟨h0, h1⟩, -⟩ := index_facts t
  unfold iblk
  rw [View.read_apply]
  show V m c main_v2 _ = _
  rw [V_rows]
  refine congrArg (rows (argA m c) (argB m c)) ?_
  funext a
  apply Fin.ext
  match a with
  | ⟨0, _⟩ => show win0_0.index t (0 : Fin 2) * 24 + 1 * r.val = r.val; omega
  | ⟨1, _⟩ => show win0_0.index t (1 : Fin 2) * 1024 + 1 * k.val = k.val; omega

variable (J : Fin 6144) (C : Fin 1024) (hJ : J.val = t.val * 1024 + C.val)
include hJ

theorem iblk1_apply (k : Fin 1024) : (iblk m c 1 t : Vec Ideal S1024x1024 .f32) (ix2 k C) = argW m c (ix2 k J) := by
  obtain ⟨-, ⟨h0, h1⟩, -⟩ := index_facts t
  have hV : V m c main_arg2 = argW m c := by
    unfold_abbrev_sides
    after_results
  unfold iblk
  rw [View.read_apply]
  show V m c main_arg2 _ = _
  rw [hV]
  refine congrArg (argW m c) ?_
  funext a
  apply Fin.ext
  match a with
  | ⟨0, _⟩ => show win0_1.index t (0 : Fin 2) * 1024 + 1 * k.val = k.val; omega
  | ⟨1, _⟩ => show win0_1.index t (1 : Fin 2) * 1024 + 1 * C.val = J.val; omega

theorem iblk2_apply : (iblk m c 2 t : Vec Ideal S1x1024 .f32) (ix2 0 C) = argD m c (ix1 J) := by
  obtain ⟨-, -, ⟨h0, h1⟩, -⟩ := index_facts t
  have hV : V m c main_v3 = shapeCast S1x6144 (argD m c) shapeCasts_S6144_S1x6144 := by
    unfold_abbrev_sides
    after_results
    rfl
  unfold iblk
  rw [View.read_apply]
  show V m c main_v3 _ = _
  rw [hV]
  refine shapeCast_apply _ shapeCasts_S6144_S1x6144 _ (ix1 J) ?_
  rw [Shape.rowMajor_val_one, Shape.rowMajor_val_two]
  show J.val = (win0_2.index t (0 : Fin 2) * 1 + 1 * 0) * 6144 + (win0_2.index t (1 : Fin 2) * 1024 + 1 * C.val)
  omega

end

/-- The result at an index. -/
theorem result_apply (r : Fin 24) (J : Fin 6144) : ((dats m 0 c).arrAt 3 cfg0.N : Vec Ideal S24x6144 .f32) (ix2 r J)
    = value (argA m c) (argB m c) (argW m c) (argD m c) r J := by
  have hJ := J.isLt
  obtain ⟨t, C, hC⟩ : ∃ (t : Fin cfg0.N) (C : Fin 1024), J.val = t.val * 1024 + C.val :=
    ⟨⟨J.val / 1024, by rw [show cfg0.N = 6 from N_0]; omega⟩, ⟨J.val % 1024, Nat.mod_lt _ (by decide)⟩, by
      show J.val = J.val / 1024 * 1024 + J.val % 1024
      omega⟩
  obtain ⟨-, -, -, ⟨⟨h0, h1⟩, hf⟩⟩ := index_facts t
  have e := congrFun ((Value.blocks3 m c t hf).trans (Value.flushed3 m c t)) (ix2 r C : S24x1024.Idx)
  have hi : ((cfg0.win 3).blk t).view.emb (ix2 r C : S24x1024.Idx) = (ix2 r J : S24x6144.Idx) := by
    funext a
    apply Fin.ext
    match a with
    | ⟨0, _⟩ => show win0_3.index t (0 : Fin 2) * 24 + 1 * r.val = r.val; omega
    | ⟨1, _⟩ => show win0_3.index t (1 : Fin 2) * 1024 + 1 * C.val = J.val; omega
  rw [View.read_apply, hi] at e
  refine e.trans ((out_apply _ _ _ r C).trans ?_)
  unfold value
  simp only [iblk0_apply, iblk1_apply m c t J C hC, iblk2_apply m c t J C hC]

/-- Every index of the result is a row and a column. -/
theorem idx_eq (i : S24x6144.Idx) : ∃ (r : Fin 24) (C : Fin 6144), i = ix2 r C :=
  ⟨i 0, i 1, by funext a; match a with | ⟨0, _⟩ => rfl | ⟨1, _⟩ => rfl⟩

/-- The modulation's value claim: from equal arguments the two programs end with equal results and unchanged arguments. -/
theorem algebraic : Cert.algebraic_ModulationIdeal_ModulationReferenceIdeal := by
  intro m g m' g' _ hagree
  refine ⟨fun c => (dats m 0 c).arrAt 3 cfg0.N, Value.run_blocks m g, ?_⟩
  refine (θ_run Cert.ModulationReferenceIdeal.defs _ _).mono
    (fun _ h c => ⟨(h c).1.trans ?_, (h c).2⟩) (Cert.ModulationReferenceIdeal.Value.run m' g')
  obtain ⟨h0, h1, h2, h3⟩ := hagree c
  refine (Cert.ModulationReferenceIdeal.Read.val_main_v7_eq ..).trans ?_
  rw [h0, h1, h2, h3]
  funext i
  obtain ⟨r, C, rfl⟩ := idx_eq i
  exact (reference_apply ..).trans (result_apply m c r C).symm

end Cert.Proof.Modulation

end
-- ==== Proof.CtxProj.Blocks.lean ====
/- The context rows' projection: one grid point's result block, read at an index. -/
module

public import proofs.«01_k».proof.Proof.Layer.Norm
public import proofs.«01_k».proof.Proof.Gen.CtxProjIdeal.Value
public import Idealize.ShloMosaic.Lib.Pipeline.ValueKit

@[expose] public section

set_option maxRecDepth 16384

noncomputable section

namespace Cert.Proof.CtxProj

open Idealize.ShloMosaic Idealize.ShloMosaic.TcCoe Idealize.ShloMosaic.Tactic Idealize.SL.Sem Cert.CtxProjIdeal Cert.CtxProjIdeal.Gen Cert.Proof.Layer

/-- A row times one column of the projection. -/
def proj (h : Fin 1024 → EReal) (w : Fin 1024 → Fin 2048 → EReal) (j : Fin 2048) : EReal := ∑ k, h k * w k j

/-- Column `C` of the projection's group of 512 that starts at `o`. -/
def part (o : Nat) (ho : o + 512 ≤ 2048) (C : Fin 512) : Fin 2048 := ⟨o + C.val, by omega⟩

/-- Entry `n` of a group's slice of 128 columns that starts at `s`. -/
def at_ (s n : Nat) (h : s + n < 512) : Fin 512 := ⟨s + n, h⟩

section
variable (x0 : Vec Ideal S1x256x1024 .f32) (x1 : Vec Ideal S1x1024 .f32) (x2 x3 : Vec Ideal S1x1x1024 .f32) (x4 : Vec Ideal S1024x2048 .bf16)
  (x5 x6 : Vec Ideal S256x128 .f32)

/-- The normed row `r` of a block. -/
def row (r : Fin 256) : Fin 1024 → EReal :=
  normMod (fun k => x0 (ix3 0 r k)) (fun k => x1 (ix2 0 k)) (fun k => x2 (ix3 0 0 k)) (fun k => x3 (ix3 0 0 k))

theorem pay5_apply (r : Fin 256) (k : Fin 1024) : k0_pay5 x0 x1 x2 x3 (ix2 r k) = row x0 x1 x2 x3 r k := by
  pointwise [k0_pay5, zero_add, Ideal.ofBits_one_f32]
  rfl

theorem pay25_apply (r : Fin 256) (k : Fin 1024) : k0_pay25 x0 x1 x2 x3 x4 x5 x6 (ix2 r k) = row x0 x1 x2 x3 r k := by
  unfold k0_pay25
  simp only [View.ld_unit_zero (S := S1x256x1024) zero3, View.ld_unit_zero (S := S1x1024) zero2, View.ld_unit_zero (S := S1x1x1024) zero3]
  exact pay5_apply x0 x1 x2 x3 r k

/-- A group of 512 columns read out of the projection's block. -/
theorem ld_part (o : Nat) (ho : o + 512 ≤ 2048)
    (inb : ∀ a : Fin S1024x2048.rank, (![0, o] : Fin 2 → Nat) a + (![1024, 512] : Fin 2 → Nat) a ≤ S1024x2048.size a) (k : Fin 1024) (C : Fin 512) :
    View.ld x4 (Rect.unit ![0, o] ![1024, 512] inb) (ix2 k C) = x4 (ix2 k (part o ho C)) := by
  refine View.ld_unit_apply_of x4 _ _ inb _ _ ?_
  intro a
  match a with
  | ⟨0, _⟩ => exact (Nat.zero_add _).symm
  | ⟨1, _⟩ => rfl

/-- The projection of row `r`, at a column. -/
def rowProj (r : Fin 256) : Fin 2048 → EReal := proj (row x0 x1 x2 x3 r) fun k j => x4 (ix2 k j)

/-- A group's product holds the projection's columns of the group. -/
theorem group_apply (o : Nat) (ho : o + 512 ≤ 2048)
    (inb : ∀ a : Fin S1024x2048.rank, (![0, o] : Fin 2 → Nat) a + (![1024, 512] : Fin 2 → Nat) a ≤ S1024x2048.size a)
    (h : FVec Ideal S256x1024 .bf16) (hh : ∀ r k, h (ix2 r k) = row x0 x1 x2 x3 r k) (Z : FVec Ideal S256x512 .f32)
    (hZ : ∀ r C, Z (ix2 r C) = ∑ k : Fin 1024, h (ix2 r k) * View.ld x4 (Rect.unit ![0, o] ![1024, 512] inb) (ix2 k C)) (r : Fin 256) (C : Fin 512) :
    Z (ix2 r C) = rowProj x0 x1 x2 x3 x4 r (part o ho C) := by
  rw [hZ]
  unfold rowProj proj
  exact Finset.sum_congr rfl fun k _ => congrArg₂ (· * ·) (hh r k) (ld_part x4 o ho inb k C)

/-- A store of 128 columns of a group holds the projection wherever it reaches. -/
theorem group_tile (Z : FVec Ideal S256x512 .f32) (o : Nat) (ho : o + 512 ≤ 2048)
    (hZ : ∀ (r : Fin 256) (C : Fin 512), Z (ix2 r C) = rowProj x0 x1 x2 x3 x4 r (part o ho C))
    (s : Nat) (hs : s + 128 ≤ 512) (W : FVec Ideal S1x256x128 .bf16) (r : Fin 256) (C : Fin 2048) (off : Nat) (hoff : off = o + s)
    (hW : ∀ q : Fin 128, W (ix3 0 r q) = Z (ix2 r (at_ s q.val (by omega)))) :
    View.TileAt (Val := Elt Ideal) (e := .bf16) (ix3 0 r C : S1x256x2048.Idx) ![0, 0, off] ![1, 256, 128] W (rowProj x0 x1 x2 x3 x4 r C) := by
  intro x hx
  obtain ⟨p, q, rfl⟩ : ∃ (p : Fin 256) (q : Fin 128), x = (ix3 (0 : Fin 1) p q : S1x256x128.Idx) :=
    ⟨x 1, x 2, by
      funext a
      match a with
      | ⟨0, _⟩ => exact Subsingleton.elim (α := Fin 1) _ _
      | ⟨1, _⟩ => rfl
      | ⟨2, _⟩ => rfl⟩
  have hr : r.val = 0 + p.val := hx 1
  have hq : C.val = off + q.val := hx 2
  obtain rfl : r = p := Fin.ext (hr.trans (Nat.zero_add _))
  subst hoff
  have hC : part o ho (at_ s q.val (by omega)) = C := Fin.ext (by show o + (s + q.val) = C.val; omega)
  rw [hW, hZ, hC]

end

/-! What each store holds: one statement per store, in the order of the columns. -/

theorem piece0 (x0 : Vec Ideal S1x256x1024 .f32) (x1 : Vec Ideal S1x1024 .f32) (x2 x3 : Vec Ideal S1x1x1024 .f32) (w : Vec Ideal S1024x512 .bf16) (r : Fin 256) (q : Fin 128) : k0_pay7 x0 x1 x2 x3 w (ix3 0 r q) = (k0_pay6 x0 x1 x2 x3 w) (ix2 r (at_ 0 q.val (by omega))) := by
  pointwise [k0_pay7]
  simp only [at_, Nat.zero_add]

theorem piece1 (x0 : Vec Ideal S1x256x1024 .f32) (x1 : Vec Ideal S1x1024 .f32) (x2 x3 : Vec Ideal S1x1x1024 .f32) (w : Vec Ideal S1024x512 .bf16) (r : Fin 256) (q : Fin 128) : k0_pay9 (k0_pay8 x0 x1 x2 x3 w) (ix3 0 r q) = (k0_pay6 x0 x1 x2 x3 w) (ix2 r (at_ 128 q.val (by omega))) := by
  pointwise [k0_pay9, k0_pay8]
  rfl

theorem piece2 (Z : FVec Ideal S256x512 .f32) (r : Fin 256) (q : Fin 128) : k0_pay10 Z (ix3 0 r q) = Z (ix2 r (at_ 256 q.val (by omega))) := by
  pointwise [k0_pay10]
  rfl

theorem piece3 (Z : FVec Ideal S256x512 .f32) (r : Fin 256) (q : Fin 128) : k0_pay11 Z (ix3 0 r q) = Z (ix2 r (at_ 384 q.val (by omega))) := by
  pointwise [k0_pay11]
  rfl

theorem piece4 (h : FVec Ideal S256x1024 .bf16) (w : Vec Ideal S1024x512 .bf16) (r : Fin 256) (q : Fin 128) : k0_pay13 h w (ix3 0 r q) = (k0_pay12 h w) (ix2 r (at_ 0 q.val (by omega))) := by
  pointwise [k0_pay13]
  simp only [at_, Nat.zero_add]

theorem piece5 (h : FVec Ideal S256x1024 .bf16) (w : Vec Ideal S1024x512 .bf16) (r : Fin 256) (q : Fin 128) : k0_pay14 h w (ix3 0 r q) = (k0_pay12 h w) (ix2 r (at_ 128 q.val (by omega))) := by
  pointwise [k0_pay14]
  rfl

theorem piece6 (h : FVec Ideal S256x1024 .bf16) (w : Vec Ideal S1024x512 .bf16) (r : Fin 256) (q : Fin 128) : k0_pay15 h w (ix3 0 r q) = (k0_pay12 h w) (ix2 r (at_ 256 q.val (by omega))) := by
  pointwise [k0_pay15]
  rfl

theorem piece7 (h : FVec Ideal S256x1024 .bf16) (w : Vec Ideal S1024x512 .bf16) (r : Fin 256) (q : Fin 128) : k0_pay17 (k0_pay16 h w) (ix3 0 r q) = (k0_pay12 h w) (ix2 r (at_ 384 q.val (by omega))) := by
  pointwise [k0_pay17, k0_pay16]
  rfl

theorem piece8 (h : FVec Ideal S256x1024 .bf16) (w : Vec Ideal S1024x512 .bf16) (r : Fin 256) (q : Fin 128) : k0_pay19 h w (ix3 0 r q) = (k0_pay18 h w) (ix2 r (at_ 0 q.val (by omega))) := by
  pointwise [k0_pay19]
  simp only [at_, Nat.zero_add]

theorem piece9 (h : FVec Ideal S256x1024 .bf16) (w : Vec Ideal S1024x512 .bf16) (r : Fin 256) (q : Fin 128) : k0_pay20 h w (ix3 0 r q) = (k0_pay18 h w) (ix2 r (at_ 128 q.val (by omega))) := by
  pointwise [k0_pay20]
  rfl

theorem piece10 (h : FVec Ideal S256x1024 .bf16) (w : Vec Ideal S1024x512 .bf16) (r : Fin 256) (q : Fin 128) : k0_pay21 h w (ix3 0 r q) = (k0_pay18 h w) (ix2 r (at_ 256 q.val (by omega))) := by
  pointwise [k0_pay21]
  rfl

theorem piece11 (h : FVec Ideal S256x1024 .bf16) (w : Vec Ideal S1024x512 .bf16) (r : Fin 256) (q : Fin 128) : k0_pay22 h w (ix3 0 r q) = (k0_pay18 h w) (ix2 r (at_ 384 q.val (by omega))) := by
  pointwise [k0_pay22]
  rfl

theorem piece12 (h : FVec Ideal S256x1024 .bf16) (w : Vec Ideal S1024x512 .bf16) (r : Fin 256) (q : Fin 128) : k0_pay1 (k0_pay24 h w) (ix3 0 r q) = (k0_pay23 h w) (ix2 r (at_ 0 q.val (by omega))) := by
  pointwise [k0_pay1, k0_pay24]
  simp only [at_, Nat.zero_add]

theorem piece13 (Z : FVec Ideal S256x512 .f32) (r : Fin 256) (q : Fin 128) : k0_pay2 Z (ix3 0 r q) = Z (ix2 r (at_ 128 q.val (by omega))) := by
  pointwise [k0_pay2]
  rfl

theorem piece14 (Z : FVec Ideal S256x512 .f32) (r : Fin 256) (q : Fin 128) : k0_pay3 Z (ix3 0 r q) = Z (ix2 r (at_ 256 q.val (by omega))) := by
  pointwise [k0_pay3]
  rfl

theorem piece15 (Z : FVec Ideal S256x512 .f32) (r : Fin 256) (q : Fin 128) : k0_pay4 Z (ix3 0 r q) = Z (ix2 r (at_ 384 q.val (by omega))) := by
  pointwise [k0_pay4]
  rfl

theorem product12 (h : FVec Ideal S256x1024 .bf16) (w : Vec Ideal S1024x512 .bf16) (r : Fin 256) (C : Fin 512) : k0_pay12 h w (ix2 r C) = ∑ k : Fin 1024, h (ix2 r k) * w (ix2 k C) := by
  pointwise [k0_pay12, zero_add]

theorem product18 (h : FVec Ideal S256x1024 .bf16) (w : Vec Ideal S1024x512 .bf16) (r : Fin 256) (C : Fin 512) : k0_pay18 h w (ix2 r C) = ∑ k : Fin 1024, h (ix2 r k) * w (ix2 k C) := by
  pointwise [k0_pay18, zero_add]

theorem product23 (h : FVec Ideal S256x1024 .bf16) (w : Vec Ideal S1024x512 .bf16) (r : Fin 256) (C : Fin 512) : k0_pay23 h w (ix2 r C) = ∑ k : Fin 1024, h (ix2 r k) * w (ix2 k C) := by
  pointwise [k0_pay23, zero_add]

theorem product6 (x0 : Vec Ideal S1x256x1024 .f32) (x1 : Vec Ideal S1x1024 .f32) (x2 x3 : Vec Ideal S1x1x1024 .f32) (w : Vec Ideal S1024x512 .bf16) (r : Fin 256) (C : Fin 512) :
    k0_pay6 x0 x1 x2 x3 w (ix2 r C) = ∑ k : Fin 1024, k0_pay5 x0 x1 x2 x3 (ix2 r k) * w (ix2 k C) := by
  pointwise [k0_pay6, zero_add]

section
variable (x0 : Vec Ideal S1x256x1024 .f32) (x1 : Vec Ideal S1x1024 .f32) (x2 x3 : Vec Ideal S1x1x1024 .f32) (x4 : Vec Ideal S1024x2048 .bf16)
  (x5 x6 : Vec Ideal S256x128 .f32)

/-- The result block at an index. -/
theorem out_apply (r : Fin 256) (C : Fin 2048) : out0_7 x0 x1 x2 x3 x4 x5 x6 (ix3 0 r C) = rowProj x0 x1 x2 x3 x4 r C := by
  unfold out0_7 k0_pay26 k0_pay27
  have hh := pay25_apply x0 x1 x2 x3 x4 x5 x6
  revert hh
  generalize k0_pay25 x0 x1 x2 x3 x4 x5 x6 = h
  intro hh
  refine View.canon_eq_of_allAt _ _ _ (cover0_7 _ _ _ _ _ _ _ _ _ _ _ _ _ _ _ _ _) ?_
  simp only [View.ld_unit_zero (S := S1x256x1024) zero3, View.ld_unit_zero (S := S1x1024) zero2, View.ld_unit_zero (S := S1x1x1024) zero3]
  have g0 := group_apply x0 x1 x2 x3 x4 0 (by decide) inb_S1024x2048_S1024x512_0_0 (k0_pay5 x0 x1 x2 x3) (pay5_apply x0 x1 x2 x3) (k0_pay6 x0 x1 x2 x3 (View.ld x4 r0_3)) (product6 x0 x1 x2 x3 _)
  have g1 := group_apply x0 x1 x2 x3 x4 512 (by decide) inb_S1024x2048_S1024x512_0_512 h hh (k0_pay12 h (View.ld x4 r0_8)) (product12 h _)
  have g2 := group_apply x0 x1 x2 x3 x4 1024 (by decide) inb_S1024x2048_S1024x512_0_1024 h hh (k0_pay18 h (View.ld x4 r0_13)) (product18 h _)
  have g3 := group_apply x0 x1 x2 x3 x4 1536 (by decide) inb_S1024x2048_S1024x512_0_1536 h hh (k0_pay23 h (View.ld x4 r0_18)) (product23 h _)
  refine View.allAt_cons_unit _ _ _ _ _ (group_tile x0 x1 x2 x3 x4 _ 1536 (by decide) g3 384 (by decide) _ r C 1920 rfl (piece15 _ r)) ?_
  refine View.allAt_cons_unit _ _ _ _ _ (group_tile x0 x1 x2 x3 x4 _ 1536 (by decide) g3 256 (by decide) _ r C 1792 rfl (piece14 _ r)) ?_
  refine View.allAt_cons_unit _ _ _ _ _ (group_tile x0 x1 x2 x3 x4 _ 1536 (by decide) g3 128 (by decide) _ r C 1664 rfl (piece13 _ r)) ?_
  refine View.allAt_cons_unit _ _ _ _ _ (group_tile x0 x1 x2 x3 x4 _ 1536 (by decide) g3 0 (by decide) _ r C 1536 rfl (piece12 h _ r)) ?_
  refine View.allAt_cons_unit _ _ _ _ _ (group_tile x0 x1 x2 x3 x4 _ 1024 (by decide) g2 384 (by decide) _ r C 1408 rfl (piece11 h _ r)) ?_
  refine View.allAt_cons_unit _ _ _ _ _ (group_tile x0 x1 x2 x3 x4 _ 1024 (by decide) g2 256 (by decide) _ r C 1280 rfl (piece10 h _ r)) ?_
  refine View.allAt_cons_unit _ _ _ _ _ (group_tile x0 x1 x2 x3 x4 _ 1024 (by decide) g2 128 (by decide) _ r C 1152 rfl (piece9 h _ r)) ?_
  refine View.allAt_cons_unit _ _ _ _ _ (group_tile x0 x1 x2 x3 x4 _ 1024 (by decide) g2 0 (by decide) _ r C 1024 rfl (piece8 h _ r)) ?_
  refine View.allAt_cons_unit _ _ _ _ _ (group_tile x0 x1 x2 x3 x4 _ 512 (by decide) g1 384 (by decide) _ r C 896 rfl (piece7 h _ r)) ?_
  refine View.allAt_cons_unit _ _ _ _ _ (group_tile x0 x1 x2 x3 x4 _ 512 (by decide) g1 256 (by decide) _ r C 768 rfl (piece6 h _ r)) ?_
  refine View.allAt_cons_unit _ _ _ _ _ (group_tile x0 x1 x2 x3 x4 _ 512 (by decide) g1 128 (by decide) _ r C 640 rfl (piece5 h _ r)) ?_
  refine View.allAt_cons_unit _ _ _ _ _ (group_tile x0 x1 x2 x3 x4 _ 512 (by decide) g1 0 (by decide) _ r C 512 rfl (piece4 h _ r)) ?_
  refine View.allAt_cons_unit _ _ _ _ _ (group_tile x0 x1 x2 x3 x4 _ 0 (by decide) g0 384 (by decide) _ r C 384 rfl (piece3 _ r)) ?_
  refine View.allAt_cons_unit _ _ _ _ _ (group_tile x0 x1 x2 x3 x4 _ 0 (by decide) g0 256 (by decide) _ r C 256 rfl (piece2 _ r)) ?_
  refine View.allAt_cons_unit _ _ _ _ _ (group_tile x0 x1 x2 x3 x4 _ 0 (by decide) g0 128 (by decide) _ r C 128 rfl (piece1 x0 x1 x2 x3 _ r)) ?_
  exact View.allAt_cons_unit _ _ _ _ _ (group_tile x0 x1 x2 x3 x4 _ 0 (by decide) g0 0 (by decide) _ r C 0 rfl (piece0 x0 x1 x2 x3 _ r)) (View.allAt_nil _ _)

end

end Cert.Proof.CtxProj

end
-- ==== Proof.CtxProj.Value.lean ====
/- The context rows' projection: the blocks each grid point stages as parts of the arguments, the result array at an index, and its
   equality with the reference's. -/
module

public import proofs.«01_k».proof.Proof.CtxProj.Blocks
public import proofs.«01_k».proof.Defs
public import proofs.«01_k».proof.Proof.Gen.CtxProjReferenceIdeal.Run
public import proofs.«01_k».proof.Proof.Gen.CtxProjReferenceIdeal.Read

@[expose] public section

set_option maxRecDepth 16384

noncomputable section

namespace Cert.Proof.CtxProj

open Idealize.ShloMosaic Idealize.ShloMosaic.TcCoe Idealize.ShloMosaic.Tactic Idealize.SL.Sem Cert.CtxProjIdeal Cert.CtxProjIdeal.Gen Cert.Proof.Layer

section
variable (X : Vec Ideal S16x256x1024 .f32) (G : Vec Ideal S1024 .f32) (Sh Sc : Vec Ideal S1024 .f32) (W : Vec Ideal S1024x3072 .f32)

/-- A kept column of the projection: the first two groups of 512 are left out. -/
def kept (j : Fin 2048) : Fin 3072 := ⟨1024 + j.val, by omega⟩

/-- Column `j` of the projection of row `n` of batch `b`. -/
def column (b : Fin 16) (n : Fin 256) (j : Fin 2048) : EReal :=
  proj (normMod (fun k => X (ix3 b n k)) (fun k => G (ix1 k)) (fun k => Sh (ix1 k)) (fun k => Sc (ix1 k))) (fun k j => W (ix2 k (kept j))) j

open Cert.CtxProjReferenceIdeal.Read in
/-- The reference's result at an index. -/
theorem reference_apply (b : Fin 16) (n : Fin 256) (j : Fin 2048) :
    val_main_v25 (F := Ideal) X G Sh Sc W (ix3 b n j) = column X G Sh Sc W b n j := by
  have hl (k : Fin 1024) : lidx_main_v24 (ix3 b n j) k = ix3 b n k := by
    funext a; match a with | ⟨0, _⟩ => rfl | ⟨1, _⟩ => rfl | ⟨2, _⟩ => rfl
  have hr (k : Fin 1024) : ridx_main_v24 (ix3 b n j) k = ix2 k j := by
    funext a; match a with | ⟨0, _⟩ => rfl | ⟨1, _⟩ => rfl
  have hw (k : Fin 1024) : idx_main_v23 (ix2 k j) = ix2 k (kept j) := by
    funext a; match a with | ⟨0, _⟩ => rfl | ⟨1, _⟩ => rfl
  have hs (k : Fin 1024) : idx_main_v13 (idx_main_v16 (idx_main_v17 (ix3 b n k))) = ix1 k := by
    funext a; match a with | ⟨0, _⟩ => rfl
  have hs' (k : Fin 1024) : idx_main_v19 (idx_main_v20 (idx_main_v21 (ix3 b n k))) = ix1 k := by
    funext a; match a with | ⟨0, _⟩ => rfl
  have hg (k : Fin 1024) : idx_main_v10 (idx_main_v11 (ix3 b n k)) = ix1 k := by
    funext a; match a with | ⟨0, _⟩ => rfl
  have hq (k q : Fin 1024) : idx_main_v1 (idx_main_v2 (idx_main_v8 (ix3 b n k))) q = ix3 b n q := by
    funext a; match a with | ⟨0, _⟩ => rfl | ⟨1, _⟩ => rfl | ⟨2, _⟩ => rfl
  rw [val_main_v25_apply]
  show val_main_v24 (F := Ideal) X G Sh Sc W (ix3 b n j) = _
  rw [val_main_v24_apply]
  unfold column proj
  refine Finset.sum_congr rfl fun k _ => ?_
  rw [hl, hr, val_main_v23_apply, hw]
  refine congrArg (· * W (ix2 k (kept j))) ?_
  rw [val_main_v22_apply, val_main_v18_apply, val_main_v12_apply, val_main_v9_apply, val_main_v8_apply, val_main_v7_apply, val_main_v6_apply,
    val_main_v5_apply, val_main_cst_1_apply, val_main_v4_apply, val_main_v3_apply, val_main_cst_0_apply, val_main_v2_apply, val_main_v1_apply,
    val_main_cst_apply, val_main_v11_apply, val_main_v10_apply, val_main_v17_apply, val_main_v16_apply, val_main_v15_apply, val_main_v14_apply,
    val_main_cst_2_apply, val_main_v13_apply, val_main_v21_apply, val_main_v20_apply, val_main_v19_apply]
  simp only [hs, hs', hg, hq, val_main_v0_apply, Ideal.ofBits_def, Ideal.ofBits_one_f32, Ideal.ofBits_zero_f32]
  unfold normMod normRow rootMean
  rw [← zero_add (∑ q : Fin 1024, X (ix3 b n q) * X (ix3 b n q))]
  rfl

end

variable (m : (ℓ : Loc nD τ sig) → Buf (Elt Ideal) ℓ) (c : Dev nD)

/-- The rows. -/
abbrev argX : Vec Ideal S16x256x1024 .f32 := m ((c : Thread nD τ).loc main_arg0)
/-- The gain. -/
abbrev argG : Vec Ideal S1024 .f32 := m ((c : Thread nD τ).loc main_arg1)
/-- The shift. -/
abbrev argSh : Vec Ideal S1024 .f32 := m ((c : Thread nD τ).loc main_arg2)
/-- The scale. -/
abbrev argSc : Vec Ideal S1024 .f32 := m ((c : Thread nD τ).loc main_arg3)
/-- The projection. -/
abbrev argW : Vec Ideal S1024x3072 .f32 := m ((c : Thread nD τ).loc main_arg4)

/-- Every window's block indices at a point: the batch is the point's number. -/
theorem index_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 2) = 0 ∧ win0_4.index t (1 : Fin 2) = 0)
    ∧ ((win0_7.index t (0 : Fin 3) = t.val ∧ win0_7.index t (1 : Fin 3) = 0 ∧ win0_7.index t (2 : Fin 3) = 0) ∧ (cfg0.win 7).flush t = true) :=
  (by decide +kernel : ∀ t : Fin grid0.N, _)

section
variable (t : Fin cfg0.N)

theorem iblk1_apply (k : Fin 1024) : (iblk m c 1 t : Vec Ideal S1x1024 .f32) (ix2 0 k) = argG m c (ix1 k) := by
  obtain ⟨-, ⟨h0, h1⟩, -⟩ := index_facts t
  have hV : V m c main_v6 = shapeCast S1x1024 (argG m c) shapeCasts_S1024_S1x1024 := by
    unfold_abbrev_sides
    after_results
    rfl
  unfold iblk
  rw [View.read_apply]
  show V m c main_v6 _ = _
  rw [hV]
  refine shapeCast_apply _ shapeCasts_S1024_S1x1024 _ (ix1 k) ?_
  rw [Shape.rowMajor_val_one, Shape.rowMajor_val_two]
  show k.val = (win0_1.index t (0 : Fin 2) * 1 + 1 * 0) * 1024 + (win0_1.index t (1 : Fin 2) * 1024 + 1 * k.val)
  omega

theorem iblk2_apply (k : Fin 1024) : (iblk m c 2 t : Vec Ideal S1x1x1024 .f32) (ix3 0 0 k) = argSh m c (ix1 k) := by
  obtain ⟨-, -, ⟨h0, h1, h2⟩, -⟩ := index_facts t
  have hV : V m c main_v1 = broadcastInDim S16x1x1024 ![0, 1, 2] bcast_S1x1x1024_S16x1x1024_0_1_2 (shapeCast S1x1x1024 (argSh m c) shapeCasts_S1024_S1x1x1024 : S1x1x1024.Idx → EReal) := by
    unfold_abbrev_sides
    after_results
    rfl
  unfold iblk
  rw [View.read_apply]
  show V m c main_v1 _ = _
  rw [hV]
  refine (broadcastInDim_apply _ bcast_S1x1x1024_S16x1x1024_0_1_2 _ _ (ix3 0 0 k) ?_).trans ?_
  · intro a
    match a with
    | ⟨0, _⟩ => rfl
    | ⟨1, _⟩ => rfl
    | ⟨2, _⟩ =>
      show k.val = if (1024 : Nat) = 1 then 0 else win0_2.index t (2 : Fin 3) * 1024 + 1 * k.val
      rw [if_neg (by decide)]
      omega
  · refine shapeCast_apply _ shapeCasts_S1024_S1x1x1024 _ (ix1 k) ?_
    rw [Shape.rowMajor_val_one, Shape.rowMajor_val_three]
    show k.val = (0 * 1 + 0) * 1024 + k.val
    omega

theorem iblk3_apply (k : Fin 1024) : (iblk m c 3 t : Vec Ideal S1x1x1024 .f32) (ix3 0 0 k) = argSc m c (ix1 k) := by
  obtain ⟨-, -, -, ⟨h0, h1, h2⟩, -⟩ := index_facts t
  have hV : V m c main_v3 = broadcastInDim S16x1x1024 ![0, 1, 2] bcast_S1x1x1024_S16x1x1024_0_1_2 (shapeCast S1x1x1024 (argSc m c) shapeCasts_S1024_S1x1x1024 : S1x1x1024.Idx → EReal) := by
    unfold_abbrev_sides
    after_results
    rfl
  unfold iblk
  rw [View.read_apply]
  show V m c main_v3 _ = _
  rw [hV]
  refine (broadcastInDim_apply _ bcast_S1x1x1024_S16x1x1024_0_1_2 _ _ (ix3 0 0 k) ?_).trans ?_
  · intro a
    match a with
    | ⟨0, _⟩ => rfl
    | ⟨1, _⟩ => rfl
    | ⟨2, _⟩ =>
      show k.val = if (1024 : Nat) = 1 then 0 else win0_3.index t (2 : Fin 3) * 1024 + 1 * k.val
      rw [if_neg (by decide)]
      omega
  · refine shapeCast_apply _ shapeCasts_S1024_S1x1x1024 _ (ix1 k) ?_
    rw [Shape.rowMajor_val_one, Shape.rowMajor_val_three]
    show k.val = (0 * 1 + 0) * 1024 + k.val
    omega

theorem iblk4_apply (k : Fin 1024) (j : Fin 2048) : (iblk m c 4 t : Vec Ideal S1024x2048 .bf16) (ix2 k j) = argW m c (ix2 k (kept j)) := by
  obtain ⟨-, -, -, -, ⟨h0, h1⟩, -⟩ := index_facts t
  have hV : V m c main_v5 = extractStridedSlice S1024x2048 ![0, 1024] (truncf (F := Ideal) .bf16 (argW m c) bitsLt_bf16_f32) slices_S1024x3072_S1024x2048_0_1024 := by
    unfold_abbrev_sides
    after_results
  unfold iblk
  rw [View.read_apply]
  show V m c main_v5 _ = _
  rw [hV]
  refine extractStridedSlice_apply ![0, 1024] (truncf (F := Ideal) .bf16 (argW m c) bitsLt_bf16_f32) slices_S1024x3072_S1024x2048_0_1024 _ (ix2 k (kept j)) ?_
  intro a
  match a with
  | ⟨0, _⟩ => show k.val = 0 + (win0_4.index t (0 : Fin 2) * 1024 + 1 * k.val); omega
  | ⟨1, _⟩ => show 1024 + j.val = 1024 + (win0_4.index t (1 : Fin 2) * 2048 + 1 * j.val); omega

section
variable (b : Fin 16) (hb : b.val = t.val) (n : Fin 256)
include hb

theorem iblk0_apply (k : Fin 1024) : (iblk m c 0 t : Vec Ideal S1x256x1024 .f32) (ix3 0 n k) = argX m c (ix3 b n k) := by
  obtain ⟨⟨h0, h1, h2⟩, -⟩ := index_facts t
  unfold iblk
  rw [View.read_apply]
  have hV : V m c main_arg0 = argX m c := by
    unfold_abbrev_sides
    after_results
  show V m c main_arg0 _ = _
  rw [hV]
  show argX m c _ = argX m c _
  congr 1
  funext a
  apply Fin.ext
  match a with
  | ⟨0, _⟩ => show win0_0.index t (0 : Fin 3) * 1 + 1 * 0 = b.val; omega
  | ⟨1, _⟩ => show win0_0.index t (1 : Fin 3) * 256 + 1 * n.val = n.val; omega
  | ⟨2, _⟩ => show win0_0.index t (2 : Fin 3) * 1024 + 1 * k.val = k.val; omega

/-- The staged rows' projection is the arguments' at the point's batch. -/
theorem proj_apply (j : Fin 2048) : rowProj (iblk m c 0 t) (iblk m c 1 t) (iblk m c 2 t) (iblk m c 3 t) (iblk m c 4 t) n j
    = column (argX m c) (argG m c) (argSh m c) (argSc m c) (argW m c) b n j := by
  unfold rowProj row column
  simp only [iblk0_apply m c t b hb n, iblk1_apply, iblk2_apply, iblk3_apply, iblk4_apply]

/-- Where a block of the result lies in its array. -/
theorem emb_eq (C : Fin 2048) (f : Fin 3 → Nat) (h0 : f 0 = t.val) (h1 : f 1 = 0) (h2 : f 2 = 0) (i : S16x256x2048.Idx)
    (hi0 : (i 0).val = f 0 * 1 + 1 * 0) (hi1 : (i 1).val = f 1 * 256 + 1 * n.val) (hi2 : (i 2).val = f 2 * 2048 + 1 * C.val) : i = ix3 b n C := by
  funext a
  apply Fin.ext
  match a with
  | ⟨0, _⟩ => show (i 0).val = b.val; omega
  | ⟨1, _⟩ => show (i 1).val = n.val; omega
  | ⟨2, _⟩ => show (i 2).val = C.val; omega

end

end

/-- The result at an index. -/
theorem result_apply (b : Fin 16) (n : Fin 256) (C : Fin 2048) : ((dats m 0 c).arrAt 7 cfg0.N : Vec Ideal S16x256x2048 .bf16) (ix3 b n C)
    = column (argX m c) (argG m c) (argSh m c) (argSc m c) (argW m c) b n C := by
  obtain ⟨t, hb⟩ : ∃ t : Fin cfg0.N, b.val = t.val := ⟨⟨b.val, by rw [show cfg0.N = 16 from N_0]; exact b.isLt⟩, rfl⟩
  obtain ⟨-, -, -, -, -, ⟨⟨h0, h1, h2⟩, hf⟩⟩ := index_facts t
  have e := congrFun ((Value.blocks7 m c t hf).trans (Value.flushed7 m c t)) (ix3 0 n C : S1x256x2048.Idx)
  rw [View.read_apply, emb_eq t b hb n C (win0_7.index t) h0 h1 h2 (((cfg0.win 7).blk t).view.emb (ix3 0 n C : S1x256x2048.Idx)) rfl rfl rfl] at e
  exact e.trans ((out_apply _ _ _ _ _ _ _ n C).trans (proj_apply m c t b hb n C))

/-- Every index of the result is a batch, a row and a column. -/
theorem idx_eq (i : S16x256x2048.Idx) : ∃ (b : Fin 16) (n : Fin 256) (C : Fin 2048), i = ix3 b n C :=
  ⟨i 0, i 1, i 2, by funext a; match a with | ⟨0, _⟩ => rfl | ⟨1, _⟩ => rfl | ⟨2, _⟩ => rfl⟩

/-- The projection's value claim: from equal arguments the two programs end with equal results and unchanged arguments. -/
theorem algebraic : Cert.algebraic_CtxProjIdeal_CtxProjReferenceIdeal := by
  intro m g m' g' _ hagree
  refine ⟨fun c => (dats m 0 c).arrAt 7 cfg0.N, Value.run_blocks m g, ?_⟩
  refine (θ_run Cert.CtxProjReferenceIdeal.defs _ _).mono
    (fun _ h c => ⟨(h c).1.trans ?_, (h c).2⟩) (Cert.CtxProjReferenceIdeal.Value.run m' g')
  obtain ⟨h0, h1, h2, h3, h4, -⟩ := hagree c
  refine (Cert.CtxProjReferenceIdeal.Read.val_main_v25_eq ..).trans ?_
  rw [h0, h1, h2, h3, h4]
  funext i
  obtain ⟨b, n, C, rfl⟩ := idx_eq i
  exact (reference_apply ..).trans (result_apply m c b n C).symm

end Cert.Proof.CtxProj

end
-- ==== Proof.CombineInner.Value.lean ====
/- The first layer's combination: the blocks each grid point stages as parts of the arguments, the result array at an index, and its
   equality with the reference's. The rows are mixed as in the final combination; no norm follows. -/
module

public import proofs.«01_k».proof.Proof.Combine.Value
public import proofs.«01_k».proof.Defs
public import proofs.«01_k».proof.Proof.Gen.CombineInnerReferenceIdeal.Run
public import proofs.«01_k».proof.Proof.Gen.CombineInnerReferenceIdeal.Read
public import proofs.«01_k».proof.Proof.Gen.CombineInnerIdeal.Value

@[expose] public section

set_option maxRecDepth 16384

noncomputable section

namespace Cert.Proof.CombineInner

open Idealize.ShloMosaic Idealize.ShloMosaic.TcCoe Idealize.ShloMosaic.Tactic Idealize.SL.Sem Cert.CombineInnerIdeal Cert.CombineInnerIdeal.Gen Cert.Proof.Layer
open Cert.Proof.Combine (joined experts experts_apply mixBlock mixBlock_apply mixed mixedAt rowOf reference_mixed idx_eq)

theorem pay1_apply (z : FVec Ideal S1024x1024 .f32) (r k : Fin 1024) : k0_pay1 z (ix3 0 r k) = z (ix2 r k) := by
  pointwise [k0_pay1]

/-- The result block. -/
theorem out5_apply (x0 : Vec Ideal S1x1024x128 .i32) (x1 : Vec Ideal S16x256x1024 .bf16) (x2 : Vec Ideal S1x1024x1024 .f32) (x3 : Vec Ideal S1x1x1024 .f32)
    (x4 : Vec Ideal S1x1024 .f32) (r k : Fin 1024) : out0_5 x0 x1 x2 x3 x4 (ix3 0 r k) = mixed x0 x1 x2 x3 r k := by
  have h : out0_5 x0 x1 x2 x3 x4 = View.canon [⟨r0_17, k0_pay1 (mixBlock (joined (experts x0)) (View.ld x1 r0_16) (View.ld x2 r0_17) (View.ld x3 r0_18))⟩] := rfl
  rw [h, View.canon_unit_zero (S := S1x1024x1024) zero3]
  simp only [View.ld_unit_zero (S := S1x1024x1024) zero3, View.ld_unit_zero (S := S16x256x1024) zero3, View.ld_unit_zero (S := S1x1x1024) zero3]
  rw [pay1_apply]
  simp only [mixBlock_apply, experts_apply]
  rfl

variable (m : (ℓ : Loc nD τ sig) → Buf (Elt Ideal) ℓ) (c : Dev nD)

/-- The slot table. -/
abbrev argP : Vec Ideal S16x2048x128 .i32 := m ((c : Thread nD τ).loc main_arg0)
/-- The experts' rows. -/
abbrev argY : Vec Ideal S16x4096x1024 .bf16 := m ((c : Thread nD τ).loc main_arg1)
/-- The rows. -/
abbrev argX : Vec Ideal S16x2048x1024 .f32 := m ((c : Thread nD τ).loc main_arg2)
/-- The gates. -/
abbrev argGa : Vec Ideal S16x1024 .f32 := m ((c : Thread nD τ).loc main_arg3)
/-- The windows' block indices at a point: batch and row block read off the point's number. -/
theorem index_facts : ∀ t : Fin cfg0.N,
    (win0_0.index t (0 : Fin 3) = t.val / 2 ∧ win0_0.index t (1 : Fin 3) = t.val % 2 ∧ win0_0.index t (2 : Fin 3) = 0) ∧ (win0_1.index t (0 : Fin 3) = 0 ∧ win0_1.index t (1 : Fin 3) = t.val / 2 ∧ win0_1.index t (2 : Fin 3) = 0)
    ∧ (win0_2.index t (0 : Fin 3) = t.val / 2 ∧ win0_2.index t (1 : Fin 3) = t.val % 2 ∧ win0_2.index t (2 : Fin 3) = 0) ∧ (win0_3.index t (0 : Fin 3) = t.val / 2 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 3) = t.val / 2 ∧ win0_5.index t (1 : Fin 3) = t.val % 2 ∧ win0_5.index t (2 : Fin 3) = 0) ∧ (cfg0.win 5).flush t = true :=
  (by decide +kernel : ∀ t : Fin grid0.N, _)

section
variable (t : Fin cfg0.N)

section
variable (b : Fin 16) (hb : b.val = t.val / 2)
include hb

theorem iblk3_apply (k : Fin 1024) : (iblk m c 3 t : Vec Ideal S1x1x1024 .f32) (ix3 0 0 k) = argGa m c (ix2 b k) := by
  obtain ⟨-, -, -, ⟨h0, h1, h2⟩, -⟩ := index_facts t
  have hV : V m c main_v0 = shapeCast S16x1x1024 (argGa m c) shapeCasts_S16x1024_S16x1x1024 := by
    unfold_abbrev_sides
    after_results
    rfl
  unfold iblk
  rw [View.read_apply]
  show V m c main_v0 _ = _
  rw [hV]
  refine shapeCast_apply _ shapeCasts_S16x1024_S16x1x1024 _ (ix2 b k) ?_
  rw [Shape.rowMajor_val_two, Shape.rowMajor_val_three]
  show b.val * 1024 + k.val = ((win0_3.index t (0 : Fin 3) * 1 + 1 * 0) * 1 + (win0_3.index t (1 : Fin 3) * 1 + 1 * 0)) * 1024 + (win0_3.index t (2 : Fin 3) * 1024 + 1 * k.val)
  omega

theorem iblk1_apply (e : Fin 16) (s : Fin 256) (k : Fin 1024) : (iblk m c 1 t : Vec Ideal S16x256x1024 .bf16) (ix3 e s k) = argY m c (ix3 e (rowOf b s) k) := by
  obtain ⟨-, ⟨h0, h1, h2⟩, -⟩ := index_facts t
  have hV : V m c main_arg1 = argY m c := by
    unfold_abbrev_sides
    after_results
  unfold iblk
  rw [View.read_apply]
  show V m c main_arg1 _ = _
  rw [hV]
  refine congrArg (argY m c) ?_
  funext a
  apply Fin.ext
  match a with
  | ⟨0, _⟩ => show win0_1.index t (0 : Fin 3) * 16 + 1 * e.val = e.val; omega
  | ⟨1, _⟩ => show win0_1.index t (1 : Fin 3) * 256 + 1 * s.val = b.val * 256 + s.val; omega
  | ⟨2, _⟩ => show win0_1.index t (2 : Fin 3) * 1024 + 1 * k.val = k.val; omega

variable (n : Fin 2048) (r : Fin 1024) (hn : n.val = t.val % 2 * 1024 + r.val)
include hn

/-- Where a block of rows lies in its array. -/
theorem emb_eq {d : Nat} (C : Fin d) (f : Fin 3 → Nat) (h0 : f 0 = t.val / 2) (h1 : f 1 = t.val % 2) (h2 : f 2 = 0)
    (i : (⟨3, ![16, 2048, d]⟩ : Shape).Idx) (hi0 : (i 0).val = f 0 * 1 + 1 * 0) (hi1 : (i 1).val = f 1 * 1024 + 1 * r.val)
    (hi2 : (i 2).val = f 2 * d + 1 * C.val) : i = ix3 b n C := by
  rw [h2, Nat.zero_mul] at hi2
  funext a
  apply Fin.ext
  match a with
  | ⟨0, _⟩ => show (i 0).val = b.val; omega
  | ⟨1, _⟩ => show (i 1).val = n.val; omega
  | ⟨2, _⟩ => show (i 2).val = C.val; omega

theorem iblk0_apply (k : Fin 128) : (iblk m c 0 t : Vec Ideal S1x1024x128 .i32) (ix3 0 r k) = argP m c (ix3 b n k) := by
  obtain ⟨⟨h0, h1, h2⟩, -⟩ := index_facts t
  have hV : V m c main_arg0 = argP m c := by
    unfold_abbrev_sides
    after_results
  unfold iblk
  rw [View.read_apply]
  show V m c main_arg0 _ = _
  rw [hV]
  exact congrArg (argP m c) (emb_eq t b hb n r hn k (win0_0.index t) h0 h1 h2 _ rfl rfl rfl)

theorem iblk2_apply (k : Fin 1024) : (iblk m c 2 t : Vec Ideal S1x1024x1024 .f32) (ix3 0 r k) = argX m c (ix3 b n k) := by
  obtain ⟨-, -, ⟨h0, h1, h2⟩, -⟩ := index_facts t
  have hV : V m c main_arg2 = argX m c := by
    unfold_abbrev_sides
    after_results
  unfold iblk
  rw [View.read_apply]
  show V m c main_arg2 _ = _
  rw [hV]
  exact congrArg (argX m c) (emb_eq t b hb n r hn k (win0_2.index t) h0 h1 h2 _ rfl rfl rfl)

/-- The staged rows' mixed row is the arguments' at the point's batch and row. -/
theorem mixed_eq : mixed (iblk m c 0 t) (iblk m c 1 t) (iblk m c 2 t) (iblk m c 3 t) r = mixedAt (argP m c) (argY m c) (argX m c) (argGa m c) b n := by
  unfold mixed mixedAt
  simp only [iblk0_apply m c t b hb n r hn, iblk1_apply m c t b hb, iblk2_apply m c t b hb n r hn, iblk3_apply m c t b hb]

end

end

/-- The point that computes a row. -/
theorem point (b : Fin 16) (n : Fin 2048) : ∃ (t : Fin cfg0.N) (r : Fin 1024), b.val = t.val / 2 ∧ n.val = t.val % 2 * 1024 + r.val := by
  have hb := b.isLt
  have hn := n.isLt
  refine ⟨⟨2 * b.val + n.val / 1024, by rw [show cfg0.N = 32 from N_0]; omega⟩, ⟨n.val % 1024, Nat.mod_lt _ (by decide)⟩, ?_, ?_⟩
  · show b.val = (2 * b.val + n.val / 1024) / 2
    omega
  · show n.val = (2 * b.val + n.val / 1024) % 2 * 1024 + n.val % 1024
    omega

/-- The result at an index. -/
theorem result_apply (b : Fin 16) (n : Fin 2048) (k : Fin 1024) : ((dats m 0 c).arrAt 5 cfg0.N : Vec Ideal S16x2048x1024 .f32) (ix3 b n k)
    = mixedAt (argP m c) (argY m c) (argX m c) (argGa m c) b n k := by
  obtain ⟨t, r, hb, hn⟩ := point b n
  obtain ⟨-, -, -, -, -, ⟨h0, h1, h2⟩, hf⟩ := index_facts t
  have e := congrFun ((Value.blocks5 m c t hf).trans (Value.flushed5 m c t)) (ix3 0 r k : S1x1024x1024.Idx)
  rw [View.read_apply, emb_eq t b hb n r hn k (win0_5.index t) h0 h1 h2 (((cfg0.win 5).blk t).view.emb (ix3 0 r k : S1x1024x1024.Idx)) rfl rfl rfl] at e
  refine e.trans ((out5_apply _ _ _ _ _ r k).trans ?_)
  rw [mixed_eq m c t b hb n r hn]

open Cert.CombineInnerReferenceIdeal.Read in
/-- The reference's result at an index: the final combination's mixed row. -/
theorem reference_apply (P : Vec Ideal S16x2048x128 .i32) (Y : Vec Ideal S16x4096x1024 .bf16) (X : Vec Ideal S16x2048x1024 .f32) (Ga : Vec Ideal S16x1024 .f32)
    (b : Fin 16) (n : Fin 2048) (k : Fin 1024) : val_main_v16 (F := Ideal) P Y X Ga (ix3 b n k) = mixedAt P Y X Ga b n k := by
  have h : val_main_v16 (F := Ideal) P Y X Ga = Cert.CombineReferenceIdeal.Read.val_main_v16 (F := Ideal) P Y X Ga := rfl
  rw [h, reference_mixed]

/-- The combination's value claim: from equal arguments the two programs end with equal results and unchanged arguments. -/
theorem algebraic : Cert.algebraic_CombineInnerIdeal_CombineInnerReferenceIdeal := by
  intro m g m' g' _ hagree
  refine ⟨fun c => (dats m 0 c).arrAt 5 cfg0.N, Value.run_blocks m g, ?_⟩
  refine (θ_run Cert.CombineInnerReferenceIdeal.defs _ _).mono (fun _ h c => ⟨(h c).1.trans ?_, (h c).2⟩) (Cert.CombineInnerReferenceIdeal.Value.run m' g')
  obtain ⟨h0, h1, h2, h3, -⟩ := hagree c
  refine (Cert.CombineInnerReferenceIdeal.Read.val_main_v16_eq ..).trans ?_
  rw [h0, h1, h2, h3]
  funext i
  obtain ⟨b, n, k, rfl⟩ := idx_eq (d0 := 16) (d1 := 2048) (d2 := 1024) i
  exact (reference_apply ..).trans (result_apply m c b n k).symm

end Cert.Proof.CombineInner

end
-- ==== Proof.lean ====
/- The certificate: every claim about the stated calls, put together from the calls' own modules. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.ConvProj
public import proofs.«01_k».proof.Proof.Gen.ConvProj.Skeleton
public import proofs.«01_k».proof.Proof.Gen.ConvProj.Launch
public import proofs.«01_k».proof.Proof.Gen.ConvProj.Points
public import proofs.«01_k».proof.Proof.Gen.ConvProj.Frame
public import proofs.«01_k».proof.Proof.Gen.ConvProjIdeal
public import proofs.«01_k».proof.Proof.Gen.ConvProjIdeal.Skeleton
public import proofs.«01_k».proof.Proof.Gen.ConvProjIdeal.Launch
public import proofs.«01_k».proof.Proof.Gen.ConvProjIdeal.Points
public import proofs.«01_k».proof.Proof.Gen.ConvProjIdeal.Frame
public import proofs.«01_k».proof.Proof.Gen.ConvProjReferenceIdeal
public import proofs.«01_k».proof.Proof.Gen.ConvProjIdeal.Value
public import proofs.«01_k».proof.Proof.Gen.ConvProjReferenceIdeal.Read
public import proofs.«01_k».proof.Proof.Gen.ConvProjReferenceIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjReferenceIdeal
public import proofs.«01_k».proof.Proof.Gen.OutProjIdeal.Value
public import proofs.«01_k».proof.Proof.Gen.OutProjReferenceIdeal.Read
public import proofs.«01_k».proof.Proof.Gen.OutProjReferenceIdeal.Run
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineReferenceIdeal
public import proofs.«01_k».proof.Proof.Gen.CombineIdeal.Value
public import proofs.«01_k».proof.Proof.Gen.CombineReferenceIdeal.Read
public import proofs.«01_k».proof.Proof.Gen.CombineReferenceIdeal.Run
public import proofs.«01_k».proof.Proof.Gen.AttnProj
public import proofs.«01_k».proof.Proof.Gen.AttnProj.Skeleton
public import proofs.«01_k».proof.Proof.Gen.AttnProj.Launch
public import proofs.«01_k».proof.Proof.Gen.AttnProj.Points
public import proofs.«01_k».proof.Proof.Gen.AttnProj.Frame
public import proofs.«01_k».proof.Proof.Gen.AttnProjIdeal
public import proofs.«01_k».proof.Proof.Gen.AttnProjIdeal.Skeleton
public import proofs.«01_k».proof.Proof.Gen.AttnProjIdeal.Launch
public import proofs.«01_k».proof.Proof.Gen.AttnProjIdeal.Points
public import proofs.«01_k».proof.Proof.Gen.AttnProjIdeal.Frame
public import proofs.«01_k».proof.Proof.Gen.AttnProjReferenceIdeal
public import proofs.«01_k».proof.Proof.Gen.AttnProjIdeal.Value
public import proofs.«01_k».proof.Proof.Gen.AttnProjReferenceIdeal.Read
public import proofs.«01_k».proof.Proof.Gen.AttnProjReferenceIdeal.Run
public import Idealize.ShloMosaic.Adequacy
public import Idealize.ShloMosaic.Init
public import proofs.«01_k».proof.Proof.Gen.KernelIdeal.Value
public import proofs.«01_k».proof.Proof.Gen.FfnIdeal.Value
public import proofs.«01_k».proof.Proof.Gen.ReferenceIdeal.Read
public import proofs.«01_k».proof.Proof.Gen.FfnReferenceIdeal.Read
public import proofs.«01_k».proof.Proof.Gen.ReferenceIdeal.Run
public import proofs.«01_k».proof.Proof.Gen.FfnReferenceIdeal.Run
public import proofs.«01_k».proof.Proof.Ffn.Value
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationReferenceIdeal
public import proofs.«01_k».proof.Proof.Gen.ModulationIdeal.Value
public import proofs.«01_k».proof.Proof.Gen.ModulationReferenceIdeal.Read
public import proofs.«01_k».proof.Proof.Gen.ModulationReferenceIdeal.Run
public import proofs.«01_k».proof.Proof.Gen.CtxProj
public import proofs.«01_k».proof.Proof.Gen.CtxProj.Skeleton
public import proofs.«01_k».proof.Proof.Gen.CtxProj.Launch
public import proofs.«01_k».proof.Proof.Gen.CtxProj.Points
public import proofs.«01_k».proof.Proof.Gen.CtxProj.Frame
public import proofs.«01_k».proof.Proof.Gen.CtxProjIdeal
public import proofs.«01_k».proof.Proof.Gen.CtxProjIdeal.Skeleton
public import proofs.«01_k».proof.Proof.Gen.CtxProjIdeal.Launch
public import proofs.«01_k».proof.Proof.Gen.CtxProjIdeal.Points
public import proofs.«01_k».proof.Proof.Gen.CtxProjIdeal.Frame
public import proofs.«01_k».proof.Proof.Gen.CtxProjReferenceIdeal
public import proofs.«01_k».proof.Proof.Gen.CtxProjIdeal.Value
public import proofs.«01_k».proof.Proof.Gen.CtxProjReferenceIdeal.Read
public import proofs.«01_k».proof.Proof.Gen.CtxProjReferenceIdeal.Run
public import proofs.«01_k».proof.Proof.Gen.CombineInner
public import proofs.«01_k».proof.Proof.Gen.CombineInner.Skeleton
public import proofs.«01_k».proof.Proof.Gen.CombineInner.Launch
public import proofs.«01_k».proof.Proof.Gen.CombineInner.Points
public import proofs.«01_k».proof.Proof.Gen.CombineInner.Frame
public import proofs.«01_k».proof.Proof.Gen.CombineInnerIdeal
public import proofs.«01_k».proof.Proof.Gen.CombineInnerIdeal.Skeleton
public import proofs.«01_k».proof.Proof.Gen.CombineInnerIdeal.Launch
public import proofs.«01_k».proof.Proof.Gen.CombineInnerIdeal.Points
public import proofs.«01_k».proof.Proof.Gen.CombineInnerIdeal.Frame
public import proofs.«01_k».proof.Proof.Gen.CombineInnerReferenceIdeal
public import proofs.«01_k».proof.Proof.Gen.CombineInnerIdeal.Value
public import proofs.«01_k».proof.Proof.Gen.CombineInnerReferenceIdeal.Read
public import proofs.«01_k».proof.Proof.Gen.CombineInnerReferenceIdeal.Run
public import proofs.«01_k».proof.Proof.Diff.Value
public import proofs.«01_k».proof.Proof.ConvProj.Value
public import proofs.«01_k».proof.Proof.OutProj.Value
public import proofs.«01_k».proof.Proof.Combine.Value
public import proofs.«01_k».proof.Proof.AttnProj.Value
public import proofs.«01_k».proof.Proof.Modulation.Value
public import proofs.«01_k».proof.Proof.CtxProj.Value
public import proofs.«01_k».proof.Proof.CombineInner.Value

@[expose] public section

noncomputable section

namespace Cert.Proof

open Idealize.ShloMosaic Idealize.SL.Sem Cert.Kernel

/-- The attention reference's frame: its run keeps the arguments, and it declares no semaphore. -/
theorem frame_reference : Cert.quiescent_ReferenceIdeal := fun m ρ _ =>
  (θ_run _ _ _).mono (fun r h => ⟨fun c => (h c).2, Idealize.ShloMosaic.sem_eq_zero_of_no_sems (by decide) r.2⟩) (Cert.ReferenceIdeal.Value.run m ρ)

/-- The expert layer's reference's frame: its run keeps the arguments, and it declares no semaphore. -/
theorem frame_ffn_reference : Cert.quiescent_FfnReferenceIdeal := fun m ρ _ =>
  (θ_run _ _ _).mono (fun r h => ⟨fun c => (h c).2, Idealize.ShloMosaic.sem_eq_zero_of_no_sems (by decide) r.2⟩) (Cert.FfnReferenceIdeal.Value.run m ρ)

/-- The convolution projection's reference's frame: its run keeps the arguments, and it declares no semaphore. -/
theorem frame_convProj_reference : Cert.quiescent_ConvProjReferenceIdeal := fun m ρ _ =>
  (θ_run _ _ _).mono (fun r h => ⟨fun c => (h c).2.2.2, Idealize.ShloMosaic.sem_eq_zero_of_no_sems (by decide) r.2⟩) (Cert.ConvProjReferenceIdeal.Value.run m ρ)

/-- The output projection's reference's frame: its run keeps the arguments, and it declares no semaphore. -/
theorem frame_outProj_reference : Cert.quiescent_OutProjReferenceIdeal := fun m ρ _ =>
  (θ_run _ _ _).mono (fun r h => ⟨fun c => (h c).2.2.2, Idealize.ShloMosaic.sem_eq_zero_of_no_sems (by decide) r.2⟩) (Cert.OutProjReferenceIdeal.Value.run m ρ)

/-- The combination's reference's frame: its run keeps the arguments, and it declares no semaphore. -/
theorem frame_combine_reference : Cert.quiescent_CombineReferenceIdeal := fun m ρ _ =>
  (θ_run _ _ _).mono (fun r h => ⟨fun c => (h c).2, Idealize.ShloMosaic.sem_eq_zero_of_no_sems (by decide) r.2⟩) (Cert.CombineReferenceIdeal.Value.run m ρ)

/-- The attention projection's reference's frame: its run keeps the arguments, and it declares no semaphore. -/
theorem frame_attnProj_reference : Cert.quiescent_AttnProjReferenceIdeal := fun m ρ _ =>
  (θ_run _ _ _).mono (fun r h => ⟨fun c => (h c).2, Idealize.ShloMosaic.sem_eq_zero_of_no_sems (by decide) r.2⟩) (Cert.AttnProjReferenceIdeal.Value.run m ρ)

/-- The modulation's reference's frame: its run keeps the arguments, and it declares no semaphore. -/
theorem frame_modulation_reference : Cert.quiescent_ModulationReferenceIdeal := fun m ρ _ =>
  (θ_run _ _ _).mono (fun r h => ⟨fun c => (h c).2, Idealize.ShloMosaic.sem_eq_zero_of_no_sems (by decide) r.2⟩) (Cert.ModulationReferenceIdeal.Value.run m ρ)

/-- The context rows' projection's reference's frame: its run keeps the arguments, and it declares no semaphore. -/
theorem frame_ctxProj_reference : Cert.quiescent_CtxProjReferenceIdeal := fun m ρ _ =>
  (θ_run _ _ _).mono (fun r h => ⟨fun c => (h c).2, Idealize.ShloMosaic.sem_eq_zero_of_no_sems (by decide) r.2⟩) (Cert.CtxProjReferenceIdeal.Value.run m ρ)

/-- The first layer's combination's reference's frame: its run keeps the arguments, and it declares no semaphore. -/
theorem frame_combineInner_reference : Cert.quiescent_CombineInnerReferenceIdeal := fun m ρ _ =>
  (θ_run _ _ _).mono (fun r h => ⟨fun c => (h c).2, Idealize.ShloMosaic.sem_eq_zero_of_no_sems (by decide) r.2⟩) (Cert.CombineInnerReferenceIdeal.Value.run m ρ)

/-- All the claims. -/
theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.ConvProj.Gen.facts, Cert.ConvProjIdeal.Gen.facts, Cert.ConvProjReferenceIdeal.Gen.facts, Cert.OutProj.Gen.facts, Cert.OutProjIdeal.Gen.facts, Cert.OutProjReferenceIdeal.Gen.facts, Cert.Combine.Gen.facts, Cert.CombineIdeal.Gen.facts, Cert.CombineReferenceIdeal.Gen.facts, Cert.AttnProj.Gen.facts, Cert.AttnProjIdeal.Gen.facts, Cert.AttnProjReferenceIdeal.Gen.facts, Cert.Modulation.Gen.facts, Cert.ModulationIdeal.Gen.facts, Cert.ModulationReferenceIdeal.Gen.facts, Cert.CtxProj.Gen.facts, Cert.CtxProjIdeal.Gen.facts, Cert.CtxProjReferenceIdeal.Gen.facts, Cert.CombineInner.Gen.facts, Cert.CombineInnerIdeal.Gen.facts, Cert.CombineInnerReferenceIdeal.Gen.facts,
  Cert.Proof.Diff.pre_facts,
  fun m ρ _ => Cert.Kernel.Gen.frame m ρ, fun m ρ _ => Cert.KernelIdeal.Gen.frame m ρ, fun m ρ _ => Cert.KernelIdeal.Gen.frame m ρ, frame_reference,
  fun m ρ _ => frame_reference m ρ trivial,
  fun m ρ _ => Cert.Ffn.Gen.frame m ρ, fun m ρ _ => Cert.FfnIdeal.Gen.frame m ρ, frame_ffn_reference,
  fun m ρ _ => Cert.ConvProj.Gen.frame m ρ, fun m ρ _ => Cert.ConvProjIdeal.Gen.frame m ρ, frame_convProj_reference,
  fun m ρ _ => Cert.OutProj.Gen.frame m ρ, fun m ρ _ => Cert.OutProjIdeal.Gen.frame m ρ, frame_outProj_reference,
  fun m ρ _ => Cert.Combine.Gen.frame m ρ, fun m ρ _ => Cert.CombineIdeal.Gen.frame m ρ, frame_combine_reference,
  fun m ρ _ => Cert.AttnProj.Gen.frame m ρ, fun m ρ _ => Cert.AttnProjIdeal.Gen.frame m ρ, frame_attnProj_reference,
  fun m ρ _ => Cert.Modulation.Gen.frame m ρ, fun m ρ _ => Cert.ModulationIdeal.Gen.frame m ρ, frame_modulation_reference,
  fun m ρ _ => Cert.CtxProj.Gen.frame m ρ, fun m ρ _ => Cert.CtxProjIdeal.Gen.frame m ρ, frame_ctxProj_reference,
  fun m ρ _ => Cert.CombineInner.Gen.frame m ρ, fun m ρ _ => Cert.CombineInnerIdeal.Gen.frame m ρ, frame_combineInner_reference,
  trivial, Cert.Proof.Diff.algebraic, trivial, Cert.Proof.Ffn.algebraic, trivial, Cert.Proof.ConvProj.algebraic, trivial, Cert.Proof.OutProj.algebraic, trivial, Cert.Proof.Combine.algebraic, trivial, Cert.Proof.AttnProj.algebraic, trivial, Cert.Proof.Modulation.algebraic, trivial, Cert.Proof.CtxProj.algebraic, trivial, Cert.Proof.CombineInner.algebraic⟩

end Cert.Proof

end
